-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def Pre_ReferenceHIdeal (m : (ℓ : Loc Cert.ReferenceHIdeal.nD Cert.ReferenceHIdeal.τ Cert.ReferenceHIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1))
      ∧ r.2.sem = fun _ => 0)

def quiescent_ReferenceHIdeal [hReferenceHIdeal : Cert.ReferenceHIdeal.Facts] : Prop :=
  ∀ (m : (ℓ : Loc Cert.ReferenceHIdeal.nD Cert.ReferenceHIdeal.τ Cert.ReferenceHIdeal.sig) → Buf (Elt Ideal) ℓ) (g : Dev Cert.ReferenceHIdeal.nD → PrngReg), Pre_ReferenceHIdeal m →
    θ_run (Cert.ReferenceHIdeal.defs (F := Ideal)) (onTc (τ := Cert.ReferenceHIdeal.τ) (Cert.ReferenceHIdeal.main (F := Ideal))) ⟨m, fun _ => 0, g⟩ (fun r => (∀ c : Dev Cert.ReferenceHIdeal.nD,
      r.2.mem ((c.tc : Thread Cert.ReferenceHIdeal.nD Cert.ReferenceHIdeal.τ).loc Cert.ReferenceHIdeal.main_arg0) = m ((c.tc : Thread Cert.ReferenceHIdeal.nD Cert.ReferenceHIdeal.τ).loc Cert.ReferenceHIdeal.main_arg0)
      ∧ r.2.mem ((c.tc : Thread Cert.ReferenceHIdeal.nD Cert.ReferenceHIdeal.τ).loc Cert.ReferenceHIdeal.main_arg1) = m ((c.tc : Thread Cert.ReferenceHIdeal.nD Cert.ReferenceHIdeal.τ).loc Cert.ReferenceHIdeal.main_arg1))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3)
      ∧ r.2.mem ((c.tc : Thread Cert.KernelC.nD Cert.KernelC.τ).loc Cert.KernelC.main_arg4) = m ((c.tc : Thread Cert.KernelC.nD Cert.KernelC.τ).loc Cert.KernelC.main_arg4)
      ∧ r.2.mem ((c.tc : Thread Cert.KernelC.nD Cert.KernelC.τ).loc Cert.KernelC.main_arg5) = m ((c.tc : Thread Cert.KernelC.nD Cert.KernelC.τ).loc Cert.KernelC.main_arg5)
      ∧ r.2.mem ((c.tc : Thread Cert.KernelC.nD Cert.KernelC.τ).loc Cert.KernelC.main_arg6) = m ((c.tc : Thread Cert.KernelC.nD Cert.KernelC.τ).loc Cert.KernelC.main_arg6))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
      ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3)
      ∧ r.2.mem ((c.tc : Thread Cert.ReferenceCIdeal.nD Cert.ReferenceCIdeal.τ).loc Cert.ReferenceCIdeal.main_arg4) = m ((c.tc : Thread Cert.ReferenceCIdeal.nD Cert.ReferenceCIdeal.τ).loc Cert.ReferenceCIdeal.main_arg4)
      ∧ r.2.mem ((c.tc : Thread Cert.ReferenceCIdeal.nD Cert.ReferenceCIdeal.τ).loc Cert.ReferenceCIdeal.main_arg5) = m ((c.tc : Thread Cert.ReferenceCIdeal.nD Cert.ReferenceCIdeal.τ).loc Cert.ReferenceCIdeal.main_arg5)
      ∧ r.2.mem ((c.tc : Thread Cert.ReferenceCIdeal.nD Cert.ReferenceCIdeal.τ).loc Cert.ReferenceCIdeal.main_arg6) = m ((c.tc : Thread Cert.ReferenceCIdeal.nD Cert.ReferenceCIdeal.τ).loc Cert.ReferenceCIdeal.main_arg6))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_KernelH_KernelHIdeal : Prop :=
  True

def algebraic_KernelHIdeal_ReferenceHIdeal [hKernelHIdeal : Cert.KernelHIdeal.Facts] [hReferenceHIdeal : Cert.ReferenceHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg)
    (m' : (ℓ : Loc Cert.ReferenceHIdeal.nD Cert.ReferenceHIdeal.τ Cert.ReferenceHIdeal.sig) → Buf (Elt Ideal) ℓ) (g' : Dev Cert.ReferenceHIdeal.nD → PrngReg), Pre_KernelHIdeal m →
    (∀ c : Dev Cert.KernelHIdeal.nD,
      m' ((c.tc : Thread Cert.ReferenceHIdeal.nD Cert.ReferenceHIdeal.τ).loc Cert.ReferenceHIdeal.main_arg0) = m ((c.tc : Thread Cert.KernelHIdeal.nD Cert.KernelHIdeal.τ).loc Cert.KernelHIdeal.main_arg0)
      ∧ m' ((c.tc : Thread Cert.ReferenceHIdeal.nD Cert.ReferenceHIdeal.τ).loc Cert.ReferenceHIdeal.main_arg1) = m ((c.tc : Thread Cert.KernelHIdeal.nD Cert.KernelHIdeal.τ).loc Cert.KernelHIdeal.main_arg1)) →
    ∃ (v0 : (c : Dev Cert.KernelHIdeal.nD) → Buf (Elt Ideal) ((c.tc : Thread Cert.KernelHIdeal.nD Cert.KernelHIdeal.τ).loc Cert.KernelHIdeal.main_v1_0)) (v1 : (c : Dev Cert.KernelHIdeal.nD) → Buf (Elt Ideal) ((c.tc : Thread Cert.KernelHIdeal.nD Cert.KernelHIdeal.τ).loc Cert.KernelHIdeal.main_v1_1)),
      θ_run (Cert.KernelHIdeal.defs (F := Ideal)) (onTc (τ := Cert.KernelHIdeal.τ) (Cert.KernelHIdeal.main (F := Ideal))) ⟨m, fun _ => 0, g⟩ (fun r => ∀ c : Dev Cert.KernelHIdeal.nD,
          r.2.mem ((c.tc : Thread Cert.KernelHIdeal.nD Cert.KernelHIdeal.τ).loc Cert.KernelHIdeal.main_v1_0) = v0 c
          ∧ r.2.mem ((c.tc : Thread Cert.KernelHIdeal.nD Cert.KernelHIdeal.τ).loc Cert.KernelHIdeal.main_v1_1) = v1 c
          ∧ r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
          ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1))
      ∧ θ_run (Cert.ReferenceHIdeal.defs (F := Ideal)) (onTc (τ := Cert.ReferenceHIdeal.τ) (Cert.ReferenceHIdeal.main (F := Ideal))) ⟨m', fun _ => 0, g'⟩ (fun r => ∀ c : Dev Cert.ReferenceHIdeal.nD,
          r.2.mem ((c.tc : Thread Cert.ReferenceHIdeal.nD Cert.ReferenceHIdeal.τ).loc Cert.ReferenceHIdeal.main_v1_0) = v0 c
          ∧ r.2.mem ((c.tc : Thread Cert.ReferenceHIdeal.nD Cert.ReferenceHIdeal.τ).loc Cert.ReferenceHIdeal.main_v1_1) = v1 c
          ∧ r.2.mem ((c.tc : Thread Cert.ReferenceHIdeal.nD Cert.ReferenceHIdeal.τ).loc Cert.ReferenceHIdeal.main_arg0) = m' ((c.tc : Thread Cert.ReferenceHIdeal.nD Cert.ReferenceHIdeal.τ).loc Cert.ReferenceHIdeal.main_arg0)
          ∧ r.2.mem ((c.tc : Thread Cert.ReferenceHIdeal.nD Cert.ReferenceHIdeal.τ).loc Cert.ReferenceHIdeal.main_arg1) = m' ((c.tc : Thread Cert.ReferenceHIdeal.nD Cert.ReferenceHIdeal.τ).loc Cert.ReferenceHIdeal.main_arg1))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
      ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)
      ∧ m' ((c.tc : Thread Cert.ReferenceCIdeal.nD Cert.ReferenceCIdeal.τ).loc Cert.ReferenceCIdeal.main_arg4) = m ((c.tc : Thread Cert.KernelCIdeal.nD Cert.KernelCIdeal.τ).loc Cert.KernelCIdeal.main_arg4)
      ∧ m' ((c.tc : Thread Cert.ReferenceCIdeal.nD Cert.ReferenceCIdeal.τ).loc Cert.ReferenceCIdeal.main_arg5) = m ((c.tc : Thread Cert.KernelCIdeal.nD Cert.KernelCIdeal.τ).loc Cert.KernelCIdeal.main_arg5)
      ∧ m' ((c.tc : Thread Cert.ReferenceCIdeal.nD Cert.ReferenceCIdeal.τ).loc Cert.ReferenceCIdeal.main_arg6) = m ((c.tc : Thread Cert.KernelCIdeal.nD Cert.KernelCIdeal.τ).loc Cert.KernelCIdeal.main_arg6)) →
    ∃ (v0 : (c : Dev Cert.KernelCIdeal.nD) → Buf (Elt Ideal) ((c.tc : Thread Cert.KernelCIdeal.nD Cert.KernelCIdeal.τ).loc Cert.KernelCIdeal.main_v1_0)) (v1 : (c : Dev Cert.KernelCIdeal.nD) → Buf (Elt Ideal) ((c.tc : Thread Cert.KernelCIdeal.nD Cert.KernelCIdeal.τ).loc Cert.KernelCIdeal.main_v1_1)) (v2 : (c : Dev Cert.KernelCIdeal.nD) → Buf (Elt Ideal) ((c.tc : Thread Cert.KernelCIdeal.nD Cert.KernelCIdeal.τ).loc Cert.KernelCIdeal.main_v1_2)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v1_0) = v0 c
          ∧ r.2.mem ((c.tc : Thread Cert.KernelCIdeal.nD Cert.KernelCIdeal.τ).loc Cert.KernelCIdeal.main_v1_1) = v1 c
          ∧ r.2.mem ((c.tc : Thread Cert.KernelCIdeal.nD Cert.KernelCIdeal.τ).loc Cert.KernelCIdeal.main_v1_2) = v2 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
          ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
          ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
          ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
          ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v1_0) = v0 c
          ∧ r.2.mem ((c.tc : Thread Cert.ReferenceCIdeal.nD Cert.ReferenceCIdeal.τ).loc Cert.ReferenceCIdeal.main_v1_1) = v1 c
          ∧ r.2.mem ((c.tc : Thread Cert.ReferenceCIdeal.nD Cert.ReferenceCIdeal.τ).loc Cert.ReferenceCIdeal.main_v1_2) = v2 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2)
          ∧ r.2.mem ((c.tc : Thread Cert.ReferenceCIdeal.nD Cert.ReferenceCIdeal.τ).loc Cert.ReferenceCIdeal.main_arg3) = m' ((c.tc : Thread Cert.ReferenceCIdeal.nD Cert.ReferenceCIdeal.τ).loc Cert.ReferenceCIdeal.main_arg3)
          ∧ r.2.mem ((c.tc : Thread Cert.ReferenceCIdeal.nD Cert.ReferenceCIdeal.τ).loc Cert.ReferenceCIdeal.main_arg4) = m' ((c.tc : Thread Cert.ReferenceCIdeal.nD Cert.ReferenceCIdeal.τ).loc Cert.ReferenceCIdeal.main_arg4)
          ∧ r.2.mem ((c.tc : Thread Cert.ReferenceCIdeal.nD Cert.ReferenceCIdeal.τ).loc Cert.ReferenceCIdeal.main_arg5) = m' ((c.tc : Thread Cert.ReferenceCIdeal.nD Cert.ReferenceCIdeal.τ).loc Cert.ReferenceCIdeal.main_arg5)
          ∧ r.2.mem ((c.tc : Thread Cert.ReferenceCIdeal.nD Cert.ReferenceCIdeal.τ).loc Cert.ReferenceCIdeal.main_arg6) = m' ((c.tc : Thread Cert.ReferenceCIdeal.nD Cert.ReferenceCIdeal.τ).loc Cert.ReferenceCIdeal.main_arg6))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)) →
    ∃ (v0 : (c : Dev Cert.KernelOIdeal.nD) → Buf (Elt Ideal) ((c.tc : Thread Cert.KernelOIdeal.nD Cert.KernelOIdeal.τ).loc Cert.KernelOIdeal.main_v0_0)) (v1 : (c : Dev Cert.KernelOIdeal.nD) → Buf (Elt Ideal) ((c.tc : Thread Cert.KernelOIdeal.nD Cert.KernelOIdeal.τ).loc Cert.KernelOIdeal.main_v0_1)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0_0) = v0 c
          ∧ r.2.mem ((c.tc : Thread Cert.KernelOIdeal.nD Cert.KernelOIdeal.τ).loc Cert.KernelOIdeal.main_v0_1) = v1 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v0_0) = v0 c
          ∧ r.2.mem ((c.tc : Thread Cert.ReferenceOIdeal.nD Cert.ReferenceOIdeal.τ).loc Cert.ReferenceOIdeal.main_v0_1) = v1 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0))

def Claim : Prop :=
  ∃ (hKernel : Cert.Kernel.Facts) (hKernelIdeal : Cert.KernelIdeal.Facts) (hReferenceIdeal : Cert.ReferenceIdeal.Facts) (hKernelH : Cert.KernelH.Facts) (hKernelHIdeal : Cert.KernelHIdeal.Facts) (hReferenceHIdeal : Cert.ReferenceHIdeal.Facts) (hKernelC : Cert.KernelC.Facts) (hKernelCIdeal : Cert.KernelCIdeal.Facts) (hReferenceCIdeal : Cert.ReferenceCIdeal.Facts) (hKernelO : Cert.KernelO.Facts) (hKernelOIdeal : Cert.KernelOIdeal.Facts) (hReferenceOIdeal : Cert.ReferenceOIdeal.Facts),
    quiescent_Kernel (hKernel := hKernel)
    ∧ quiescent_KernelIdeal (hKernelIdeal := hKernelIdeal)
    ∧ quiescent_ReferenceIdeal (hReferenceIdeal := hReferenceIdeal)
    ∧ quiescent_KernelH (hKernelH := hKernelH)
    ∧ quiescent_KernelHIdeal (hKernelHIdeal := hKernelHIdeal)
    ∧ quiescent_ReferenceHIdeal (hReferenceHIdeal := hReferenceHIdeal)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelO (hKernelO := hKernelO)
    ∧ quiescent_KernelOIdeal (hKernelOIdeal := hKernelOIdeal)
    ∧ quiescent_ReferenceOIdeal (hReferenceOIdeal := hReferenceOIdeal)
    ∧ preserves_Kernel_KernelIdeal
    ∧ algebraic_KernelIdeal_ReferenceIdeal (hKernelIdeal := hKernelIdeal) (hReferenceIdeal := hReferenceIdeal)
    ∧ preserves_KernelH_KernelHIdeal
    ∧ algebraic_KernelHIdeal_ReferenceHIdeal (hKernelHIdeal := hKernelHIdeal) (hReferenceHIdeal := hReferenceHIdeal)
    ∧ preserves_KernelC_KernelCIdeal
    ∧ algebraic_KernelCIdeal_ReferenceCIdeal (hKernelCIdeal := hKernelCIdeal) (hReferenceCIdeal := hReferenceCIdeal)
    ∧ preserves_KernelO_KernelOIdeal
    ∧ algebraic_KernelOIdeal_ReferenceOIdeal (hKernelOIdeal := hKernelOIdeal) (hReferenceOIdeal := hReferenceOIdeal)
-- ==== Kernel.lean ====
abbrev S24x3072 : Shape := ⟨2, ![24, 3072]⟩
abbrev S3072 : Shape := ⟨1, ![3072]⟩
abbrev S12 : Shape := ⟨1, ![12]⟩
abbrev S3072x6144 : Shape := ⟨2, ![3072, 6144]⟩
abbrev S6144 : Shape := ⟨1, ![6144]⟩
abbrev S6144x3072 : Shape := ⟨2, ![6144, 3072]⟩
abbrev S1x3072 : Shape := ⟨2, ![1, 3072]⟩
abbrev S1x6144 : Shape := ⟨2, ![1, 6144]⟩
abbrev S1x24 : Shape := ⟨2, ![1, 24]⟩
abbrev S24x6144 : Shape := ⟨2, ![24, 6144]⟩
abbrev S16x3072x512 : Shape := ⟨3, ![16, 3072, 512]⟩
abbrev S32x3072 : Shape := ⟨2, ![32, 3072]⟩
abbrev S32x6144 : Shape := ⟨2, ![32, 6144]⟩
abbrev S48x24x128 : Shape := ⟨3, ![48, 24, 128]⟩
abbrev S16 : Shape := ⟨1, ![16]⟩
abbrev S1 : Shape := ⟨1, ![1]⟩
abbrev S_ : Shape := ⟨0, ![]⟩
abbrev S1x3072x512 : Shape := ⟨3, ![1, 3072, 512]⟩
abbrev S3072x512 : Shape := ⟨2, ![3072, 512]⟩
abbrev S24x128 : Shape := ⟨2, ![24, 128]⟩
abbrev S24x512 : Shape := ⟨2, ![24, 512]⟩
abbrev S24 : Shape := ⟨1, ![24]⟩
abbrev S24x1 : Shape := ⟨2, ![24, 1]⟩
abbrev S1x512 : Shape := ⟨2, ![1, 512]⟩
abbrev S8x512 : Shape := ⟨2, ![8, 512]⟩
abbrev S32x512 : Shape := ⟨2, ![32, 512]⟩
abbrev S1x24x128 : Shape := ⟨3, ![1, 24, 128]⟩
abbrev S8x128 : Shape := ⟨2, ![8, 128]⟩
abbrev S32x128 : Shape := ⟨2, ![32, 128]⟩
abbrev S128x24 : Shape := ⟨2, ![128, 24]⟩

abbrev nBuf : Space → Nat
  | .hbm => 18
  | .vmem => 15
  | .smem => 1
  | _ => 0

abbrev bufTy : (tb : Table) → Fin (tcTables nBuf tb) → BufTy
  | .hbm, ⟨0, _⟩ => ⟨S24x3072, .f32⟩
  | .hbm, ⟨1, _⟩ => ⟨S3072, .f32⟩
  | .hbm, ⟨2, _⟩ => ⟨S12, .f32⟩
  | .hbm, ⟨3, _⟩ => ⟨S3072x6144, .fp8e4m3⟩
  | .hbm, ⟨4, _⟩ => ⟨S6144, .f32⟩
  | .hbm, ⟨5, _⟩ => ⟨S3072x6144, .fp8e4m3⟩
  | .hbm, ⟨6, _⟩ => ⟨S6144, .f32⟩
  | .hbm, ⟨7, _⟩ => ⟨S6144x3072, .fp8e4m3⟩
  | .hbm, ⟨8, _⟩ => ⟨S3072, .f32⟩
  | .hbm, ⟨9, _⟩ => ⟨S1x3072, .f32⟩
  | .hbm, ⟨10, _⟩ => ⟨S1x6144, .f32⟩
  | .hbm, ⟨11, _⟩ => ⟨S1x6144, .f32⟩
  | .hbm, ⟨12, _⟩ => ⟨S1x3072, .f32⟩
  | .hbm, ⟨13, _⟩ => ⟨S24x3072, .bf16⟩
  | .hbm, ⟨14, _⟩ => ⟨S24x3072, .fp8e4m3⟩
  | .hbm, ⟨15, _⟩ => ⟨S1x24, .f32⟩
  | .hbm, ⟨16, _⟩ => ⟨S24x6144, .fp8e4m3⟩
  | .hbm, ⟨17, _⟩ => ⟨S1x24, .f32⟩
  | .local _ .vmem, ⟨0, _⟩ => ⟨S1x3072, .f32⟩
  | .local _ .vmem, ⟨1, _⟩ => ⟨S1x6144, .f32⟩
  | .local _ .vmem, ⟨2, _⟩ => ⟨S1x6144, .f32⟩
  | .local _ .vmem, ⟨3, _⟩ => ⟨S1x3072, .f32⟩
  | .local _ .vmem, ⟨4, _⟩ => ⟨S24x3072, .f32⟩
  | .local _ .vmem, ⟨5, _⟩ => ⟨S24x3072, .bf16⟩
  | .local _ .vmem, ⟨6, _⟩ => ⟨S24x3072, .fp8e4m3⟩
  | .local _ .vmem, ⟨7, _⟩ => ⟨S1x24, .f32⟩
  | .local _ .vmem, ⟨8, _⟩ => ⟨S24x6144, .fp8e4m3⟩
  | .local _ .vmem, ⟨9, _⟩ => ⟨S1x24, .f32⟩
  | .local _ .vmem, ⟨10, _⟩ => ⟨S16x3072x512, .fp8e4m3⟩
  | .local _ .vmem, ⟨11, _⟩ => ⟨S32x3072, .fp8e4m3⟩
  | .local _ .vmem, ⟨12, _⟩ => ⟨S32x6144, .fp8e4m3⟩
  | .local _ .vmem, ⟨13, _⟩ => ⟨S24x3072, .f32⟩
  | .local _ .vmem, ⟨14, _⟩ => ⟨S48x24x128, .f32⟩
  | .local _ .smem, ⟨0, _⟩ => ⟨S12, .f32⟩
  | _, _ => ⟨S24x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_170 : BitVec 32 := 0#32
  let c12_i32_171 : BitVec 32 := 12#32
  let v354 : BitVec 32 := Scalar.addi c0_i32_170 c12_i32_171
  let c1_i32_172 : BitVec 32 := 1#32
  ⟨c0_i32_170, v354, c1_i32_172⟩
def k0_off1 (k0_t1 : Fin k0_t1_loop.trips) : Fin 1 → Nat :=
  let c2_i32_492 : BitVec 32 := 2#32
  let c0_i32_170 : BitVec 32 := 0#32
  let c1_i32_172 : BitVec 32 := 1#32
  let arg21 : BitVec 32 := Scf.iv c0_i32_170 c1_i32_172 k0_t1
  let v1057 : BitVec 32 := Scalar.muli c2_i32_492 arg21
  let c16_i32 : BitVec 32 := 16#32
  let v1058 : BitVec 32 := Scalar.remsi v1057 c16_i32
  ![v1058.toNat]
def k0_off2 (k0_t1 : Fin k0_t1_loop.trips) : Fin 3 → Nat :=
  let c2_i32_492 : BitVec 32 := 2#32
  let c0_i32_170 : BitVec 32 := 0#32
  let c1_i32_172 : BitVec 32 := 1#32
  let arg21 : BitVec 32 := Scf.iv c0_i32_170 c1_i32_172 k0_t1
  let v1057 : BitVec 32 := Scalar.muli c2_i32_492 arg21
  let c16_i32 : BitVec 32 := 16#32
  let v1058 : BitVec 32 := Scalar.remsi v1057 c16_i32
  let c0_i32_493 : BitVec 32 := 0#32
  let c0_i32_494 : BitVec 32 := 0#32
  ![v1058.toNat, 0, 0]
def k0_off3 (k0_t1 : Fin k0_t1_loop.trips) : Fin 3 → Nat :=
  let c2_i32_492 : BitVec 32 := 2#32
  let c0_i32_170 : BitVec 32 := 0#32
  let c1_i32_172 : BitVec 32 := 1#32
  let arg21 : BitVec 32 := Scf.iv c0_i32_170 c1_i32_172 k0_t1
  let v1057 : BitVec 32 := Scalar.muli c2_i32_492 arg21
  let c16_i32 : BitVec 32 := 16#32
  let v1058 : BitVec 32 := Scalar.remsi v1057 c16_i32
  let v1064 : Index := Scalar.indexCast v1058
  let c0_497 : Index := 0#32
  let c0_498 : Index := 0#32
  ![v1064.toNat, 0, 0]
def k0_off4 (k0_t1 : Fin k0_t1_loop.trips) : Fin 1 → Nat :=
  let c2_i32_500 : BitVec 32 := 2#32
  let c0_i32_170 : BitVec 32 := 0#32
  let c1_i32_172 : BitVec 32 := 1#32
  let arg21 : BitVec 32 := Scf.iv c0_i32_170 c1_i32_172 k0_t1
  let v1069 : BitVec 32 := Scalar.muli c2_i32_500 arg21
  let c1_i32_501 : BitVec 32 := 1#32
  let v1070 : BitVec 32 := Scalar.addi v1069 c1_i32_501
  let c16_i32_502 : BitVec 32 := 16#32
  let v1071 : BitVec 32 := Scalar.remsi v1070 c16_i32_502
  ![v1071.toNat]
def k0_off5 (k0_t1 : Fin k0_t1_loop.trips) : Fin 3 → Nat :=
  let c2_i32_500 : BitVec 32 := 2#32
  let c0_i32_170 : BitVec 32 := 0#32
  let c1_i32_172 : BitVec 32 := 1#32
  let arg21 : BitVec 32 := Scf.iv c0_i32_170 c1_i32_172 k0_t1
  let v1069 : BitVec 32 := Scalar.muli c2_i32_500 arg21
  let c1_i32_501 : BitVec 32 := 1#32
  let v1070 : BitVec 32 := Scalar.addi v1069 c1_i32_501
  let c16_i32_502 : BitVec 32 := 16#32
  let v1071 : BitVec 32 := Scalar.remsi v1070 c16_i32_502
  let c0_i32_503 : BitVec 32 := 0#32
  let c0_i32_504 : BitVec 32 := 0#32
  ![v1071.toNat, 0, 0]
def k0_off6 (k0_t1 : Fin k0_t1_loop.trips) : Fin 3 → Nat :=
  let c2_i32_500 : BitVec 32 := 2#32
  let c0_i32_170 : BitVec 32 := 0#32
  let c1_i32_172 : BitVec 32 := 1#32
  let arg21 : BitVec 32 := Scf.iv c0_i32_170 c1_i32_172 k0_t1
  let v1069 : BitVec 32 := Scalar.muli c2_i32_500 arg21
  let c1_i32_501 : BitVec 32 := 1#32
  let v1070 : BitVec 32 := Scalar.addi v1069 c1_i32_501
  let c16_i32_502 : BitVec 32 := 16#32
  let v1071 : BitVec 32 := Scalar.remsi v1070 c16_i32_502
  let v1077 : Index := Scalar.indexCast v1071
  let c0_507 : Index := 0#32
  let c0_508 : Index := 0#32
  ![v1077.toNat, 0, 0]
def k0_cond1 (k0_t1 : Fin k0_t1_loop.trips) : BitVec 1 :=
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let c12_i32_511 : BitVec 32 := 12#32
  let v1083 : BitVec 1 := Scalar.cmpi .slt v1082 c12_i32_511
  let v1084 : BitVec 32 := Scalar.extui v1083
  let c0_i32_512 : BitVec 32 := 0#32
  let v1085 : BitVec 1 := Scalar.cmpi .ne v1084 c0_i32_512
  v1085

def k0_mult1 (k0_t1 : Fin k0_t1_loop.trips) : BitVec 32 :=
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let c512_i32_534 : BitVec 32 := 512#32
  let v1148 : BitVec 32 := Scalar.muli v1082 c512_i32_534
  v1148
def k0_off7 (k0_t1 : Fin k0_t1_loop.trips) : Fin 1 → Nat :=
  let c2_i32_535 : BitVec 32 := 2#32
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let v1150 : BitVec 32 := Scalar.muli c2_i32_535 v1082
  let c16_i32_536 : BitVec 32 := 16#32
  let v1151 : BitVec 32 := Scalar.remsi v1150 c16_i32_536
  ![v1151.toNat]
def k0_off8 (k0_t1 : Fin k0_t1_loop.trips) : Fin 3 → Nat :=
  let c2_i32_535 : BitVec 32 := 2#32
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let v1150 : BitVec 32 := Scalar.muli c2_i32_535 v1082
  let c16_i32_536 : BitVec 32 := 16#32
  let v1151 : BitVec 32 := Scalar.remsi v1150 c16_i32_536
  let c0_i32_537 : BitVec 32 := 0#32
  let c0_i32_538 : BitVec 32 := 0#32
  ![v1151.toNat, 0, 0]
def k0_off9 (k0_t1 : Fin k0_t1_loop.trips) : Fin 2 → Nat :=
  let c0_i32_539 : BitVec 32 := 0#32
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let c512_i32_534 : BitVec 32 := 512#32
  let v1148 : BitVec 32 := Scalar.muli v1082 c512_i32_534
  let v1149 : BitVec 32 := v1148
  ![0, v1149.toNat]
def k0_off10 (k0_t1 : Fin k0_t1_loop.trips) : Fin 1 → Nat :=
  let c2_i32_540 : BitVec 32 := 2#32
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let v1157 : BitVec 32 := Scalar.muli c2_i32_540 v1082
  let c1_i32_541 : BitVec 32 := 1#32
  let v1158 : BitVec 32 := Scalar.addi v1157 c1_i32_541
  let c16_i32_542 : BitVec 32 := 16#32
  let v1159 : BitVec 32 := Scalar.remsi v1158 c16_i32_542
  ![v1159.toNat]
def k0_off11 (k0_t1 : Fin k0_t1_loop.trips) : Fin 3 → Nat :=
  let c2_i32_540 : BitVec 32 := 2#32
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let v1157 : BitVec 32 := Scalar.muli c2_i32_540 v1082
  let c1_i32_541 : BitVec 32 := 1#32
  let v1158 : BitVec 32 := Scalar.addi v1157 c1_i32_541
  let c16_i32_542 : BitVec 32 := 16#32
  let v1159 : BitVec 32 := Scalar.remsi v1158 c16_i32_542
  let c0_i32_543 : BitVec 32 := 0#32
  let c0_i32_544 : BitVec 32 := 0#32
  ![v1159.toNat, 0, 0]
def k0_cond2 (k0_t1 : Fin k0_t1_loop.trips) : BitVec 1 :=
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let c12_i32_513 : BitVec 32 := 12#32
  let v1086 : BitVec 1 := Scalar.cmpi .sge v1082 c12_i32_513
  let c18_i32 : BitVec 32 := 18#32
  let v1087 : BitVec 1 := Scalar.cmpi .slt v1082 c18_i32
  let v1088 : BitVec 1 := Scalar.andi v1086 v1087
  let v1089 : BitVec 32 := Scalar.extui v1088
  let c0_i32_514 : BitVec 32 := 0#32
  let v1090 : BitVec 1 := Scalar.cmpi .ne v1089 c0_i32_514
  v1090

def k0_mult2 (k0_t1 : Fin k0_t1_loop.trips) : BitVec 32 :=
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let c12_i32_534 : BitVec 32 := 12#32
  let v1148 : BitVec 32 := Scalar.subi v1082 c12_i32_534
  let c512_i32_535 : BitVec 32 := 512#32
  let v1149 : BitVec 32 := Scalar.muli v1148 c512_i32_535
  v1149
def k0_off12 (k0_t1 : Fin k0_t1_loop.trips) : Fin 1 → Nat :=
  let c2_i32_536 : BitVec 32 := 2#32
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let v1151 : BitVec 32 := Scalar.muli c2_i32_536 v1082
  let c16_i32_537 : BitVec 32 := 16#32
  let v1152 : BitVec 32 := Scalar.remsi v1151 c16_i32_537
  ![v1152.toNat]
def k0_off13 (k0_t1 : Fin k0_t1_loop.trips) : Fin 3 → Nat :=
  let c2_i32_536 : BitVec 32 := 2#32
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let v1151 : BitVec 32 := Scalar.muli c2_i32_536 v1082
  let c16_i32_537 : BitVec 32 := 16#32
  let v1152 : BitVec 32 := Scalar.remsi v1151 c16_i32_537
  let c0_i32_538 : BitVec 32 := 0#32
  let c0_i32_539 : BitVec 32 := 0#32
  ![v1152.toNat, 0, 0]
def k0_off14 (k0_t1 : Fin k0_t1_loop.trips) : Fin 2 → Nat :=
  let c0_i32_540 : BitVec 32 := 0#32
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let c12_i32_534 : BitVec 32 := 12#32
  let v1148 : BitVec 32 := Scalar.subi v1082 c12_i32_534
  let c512_i32_535 : BitVec 32 := 512#32
  let v1149 : BitVec 32 := Scalar.muli v1148 c512_i32_535
  let v1150 : BitVec 32 := v1149
  ![0, v1150.toNat]
def k0_off15 (k0_t1 : Fin k0_t1_loop.trips) : Fin 1 → Nat :=
  let c2_i32_541 : BitVec 32 := 2#32
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let v1158 : BitVec 32 := Scalar.muli c2_i32_541 v1082
  let c1_i32_542 : BitVec 32 := 1#32
  let v1159 : BitVec 32 := Scalar.addi v1158 c1_i32_542
  let c16_i32_543 : BitVec 32 := 16#32
  let v1160 : BitVec 32 := Scalar.remsi v1159 c16_i32_543
  ![v1160.toNat]
def k0_off16 (k0_t1 : Fin k0_t1_loop.trips) : Fin 3 → Nat :=
  let c2_i32_541 : BitVec 32 := 2#32
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let v1158 : BitVec 32 := Scalar.muli c2_i32_541 v1082
  let c1_i32_542 : BitVec 32 := 1#32
  let v1159 : BitVec 32 := Scalar.addi v1158 c1_i32_542
  let c16_i32_543 : BitVec 32 := 16#32
  let v1160 : BitVec 32 := Scalar.remsi v1159 c16_i32_543
  let c0_i32_544 : BitVec 32 := 0#32
  let c0_i32_545 : BitVec 32 := 0#32
  ![v1160.toNat, 0, 0]
def k0_off17 (k0_t1 : Fin k0_t1_loop.trips) : Fin 2 → Nat :=
  let c3072_i32_546 : BitVec 32 := 3072#32
  let c0_i32_170 : BitVec 32 := 0#32
  let c1_i32_172 : BitVec 32 := 1#32
  let arg21 : BitVec 32 := Scf.iv c0_i32_170 c1_i32_172 k0_t1
  let c8_i32_510 : BitVec 32 := 8#32
  let v1082 : BitVec 32 := Scalar.addi arg21 c8_i32_510
  let c12_i32_534 : BitVec 32 := 12#32
  let v1148 : BitVec 32 := Scalar.subi v1082 c12_i32_534
  let c512_i32_535 : BitVec 32 := 512#32
  let v1149 : BitVec 32 := Scalar.muli v1148 c512_i32_535
  let v1150 : BitVec 32 := v1149
  ![3072, v1150.toNat]
def k0_mult3 (k0_t1 : Fin k0_t1_loop.trips) : BitVec 32 :=
  let c0_i32_170 : BitVec 32 := 0#32
  let c1_i32_172 : BitVec 32 := 1#32
  let arg21 : BitVec 32 := Scf.iv c0_i32_170 c1_i32_172 k0_t1
  let c512_i32_515 : BitVec 32 := 512#32
  let v1091 : BitVec 32 := Scalar.muli arg21 c512_i32_515
  v1091
def k0_off18 (k0_t1 : Fin k0_t1_loop.trips) : Fin 2 → Nat :=
  let c0_516 : Index := 0#32
  let c0_i32_170 : BitVec 32 := 0#32
  let c1_i32_172 : BitVec 32 := 1#32
  let arg21 : BitVec 32 := Scf.iv c0_i32_170 c1_i32_172 k0_t1
  let c512_i32_515 : BitVec 32 := 512#32
  let v1091 : BitVec 32 := Scalar.muli arg21 c512_i32_515
  let v1092 : BitVec 32 := v1091
  let v1095 : Index := Scalar.indexCast v1092
  ![0, v1095.toNat]
def k0_off19 (k0_t1 : Fin k0_t1_loop.trips) (c0_i32_519 : BitVec 32) : Fin 3 → Nat :=
  let c0_i32_170 : BitVec 32 := 0#32
  let c1_i32_172 : BitVec 32 := 1#32
  let arg21 : BitVec 32 := Scf.iv c0_i32_170 c1_i32_172 k0_t1
  let c4_i32_518 : BitVec 32 := 4#32
  let v1113 : BitVec 32 := Scalar.muli arg21 c4_i32_518
  let v1114 : BitVec 32 := Scalar.addi v1113 c0_i32_519
  let v1115 : Index := Scalar.indexCast v1114
  let c0_520 : Index := 0#32
  let c0_521 : Index := 0#32
  ![v1115.toNat, 0, 0]
@[reducible] def k0_t2_loop : Scf.Loop 32 :=
  let c0_i32_479 : BitVec 32 := 0#32
  let c6_i32_480 : BitVec 32 := 6#32
  let v1038 : BitVec 32 := Scalar.addi c0_i32_479 c6_i32_480
  let c1_i32_481 : BitVec 32 := 1#32
  ⟨c0_i32_479, v1038, c1_i32_481⟩
def k0_off20 (k0_t2 : Fin k0_t2_loop.trips) : Fin 1 → Nat :=
  let c24_i32 : BitVec 32 := 24#32
  let c2_i32_492 : BitVec 32 := 2#32
  let c0_i32_491 : BitVec 32 := 0#32
  let c0_i32_479 : BitVec 32 := 0#32
  let c1_i32_481 : BitVec 32 := 1#32
  let arg21 : BitVec 32 := Scf.iv c0_i32_479 c1_i32_481 k0_t2
  let c1_i32_490 : BitVec 32 := 1#32
  let v1056 : BitVec 32 := Scalar.muli arg21 c1_i32_490
  let v1057 : BitVec 32 := Scalar.addi c0_i32_491 v1056
  let v1058 : BitVec 32 := Scalar.muli c2_i32_492 v1057
  let v1059 : BitVec 32 := Scalar.addi c24_i32 v1058
  let c16_i32 : BitVec 32 := 16#32
  let v1061 : BitVec 32 := Scalar.remsi v1059 c16_i32
  ![v1061.toNat]
def k0_off21 (k0_t2 : Fin k0_t2_loop.trips) : Fin 3 → Nat :=
  let c24_i32 : BitVec 32 := 24#32
  let c2_i32_492 : BitVec 32 := 2#32
  let c0_i32_491 : BitVec 32 := 0#32
  let c0_i32_479 : BitVec 32 := 0#32
  let c1_i32_481 : BitVec 32 := 1#32
  let arg21 : BitVec 32 := Scf.iv c0_i32_479 c1_i32_481 k0_t2
  let c1_i32_490 : BitVec 32 := 1#32
  let v1056 : BitVec 32 := Scalar.muli arg21 c1_i32_490
  let v1057 : BitVec 32 := Scalar.addi c0_i32_491 v1056
  let v1058 : BitVec 32 := Scalar.muli c2_i32_492 v1057
  let v1059 : BitVec 32 := Scalar.addi c24_i32 v1058
  let c16_i32 : BitVec 32 := 16#32
  let v1061 : BitVec 32 := Scalar.remsi v1059 c16_i32
  let c0_i32_495 : BitVec 32 := 0#32
  let c0_i32_496 : BitVec 32 := 0#32
  ![v1061.toNat, 0, 0]
def k0_off22 (k0_t2 : Fin k0_t2_loop.trips) : Fin 3 → Nat :=
  let c24_i32 : BitVec 32 := 24#32
  let c2_i32_492 : BitVec 32 := 2#32
  let c0_i32_491 : BitVec 32 := 0#32
  let c0_i32_479 : BitVec 32 := 0#32
  let c1_i32_481 : BitVec 32 := 1#32
  let arg21 : BitVec 32 := Scf.iv c0_i32_479 c1_i32_481 k0_t2
  let c1_i32_490 : BitVec 32 := 1#32
  let v1056 : BitVec 32 := Scalar.muli arg21 c1_i32_490
  let v1057 : BitVec 32 := Scalar.addi c0_i32_491 v1056
  let v1058 : BitVec 32 := Scalar.muli c2_i32_492 v1057
  let v1059 : BitVec 32 := Scalar.addi c24_i32 v1058
  let c16_i32 : BitVec 32 := 16#32
  let v1061 : BitVec 32 := Scalar.remsi v1059 c16_i32
  let v1067 : Index := Scalar.indexCast v1061
  let c0_499 : Index := 0#32
  let c0_500 : Index := 0#32
  ![v1067.toNat, 0, 0]
def k0_off23 (k0_t2 : Fin k0_t2_loop.trips) : Fin 1 → Nat :=
  let c24_i32 : BitVec 32 := 24#32
  let c2_i32_492 : BitVec 32 := 2#32
  let c0_i32_491 : BitVec 32 := 0#32
  let c0_i32_479 : BitVec 32 := 0#32
  let c1_i32_481 : BitVec 32 := 1#32
  let arg21 : BitVec 32 := Scf.iv c0_i32_479 c1_i32_481 k0_t2
  let c1_i32_490 : BitVec 32 := 1#32
  let v1056 : BitVec 32 := Scalar.muli arg21 c1_i32_490
  let v1057 : BitVec 32 := Scalar.addi c0_i32_491 v1056
  let v1058 : BitVec 32 := Scalar.muli c2_i32_492 v1057
  let v1059 : BitVec 32 := Scalar.addi c24_i32 v1058
  let c1_i32_504 : BitVec 32 := 1#32
  let v1072 : BitVec 32 := Scalar.addi v1059 c1_i32_504
  let c16_i32_505 : BitVec 32 := 16#32
  let v1073 : BitVec 32 := Scalar.remsi v1072 c16_i32_505
  ![v1073.toNat]
def k0_off24 (k0_t2 : Fin k0_t2_loop.trips) : Fin 3 → Nat :=
  let c24_i32 : BitVec 32 := 24#32
  let c2_i32_492 : BitVec 32 := 2#32
  let c0_i32_491 : BitVec 32 := 0#32
  let c0_i32_479 : BitVec 32 := 0#32
  let c1_i32_481 : BitVec 32 := 1#32
  let arg21 : BitVec 32 := Scf.iv c0_i32_479 c1_i32_481 k0_t2
  let c1_i32_490 : BitVec 32 := 1#32
  let v1056 : BitVec 32 := Scalar.muli arg21 c1_i32_490
  let v1057 : BitVec 32 := Scalar.addi c0_i32_491 v1056
  let v1058 : BitVec 32 := Scalar.muli c2_i32_492 v1057
  let v1059 : BitVec 32 := Scalar.addi c24_i32 v1058
  let c1_i32_504 : BitVec 32 := 1#32
  let v1072 : BitVec 32 := Scalar.addi v1059 c1_i32_504
  let c16_i32_505 : BitVec 32 := 16#32
  let v1073 : BitVec 32 := Scalar.remsi v1072 c16_i32_505
  let c0_i32_506 : BitVec 32 := 0#32
  let c0_i32_507 : BitVec 32 := 0#32
  ![v1073.toNat, 0, 0]
def k0_off25 (k0_t2 : Fin k0_t2_loop.trips) : Fin 3 → Nat :=
  let c24_i32 : BitVec 32 := 24#32
  let c2_i32_492 : BitVec 32 := 2#32
  let c0_i32_491 : BitVec 32 := 0#32
  let c0_i32_479 : BitVec 32 := 0#32
  let c1_i32_481 : BitVec 32 := 1#32
  let arg21 : BitVec 32 := Scf.iv c0_i32_479 c1_i32_481 k0_t2
  let c1_i32_490 : BitVec 32 := 1#32
  let v1056 : BitVec 32 := Scalar.muli arg21 c1_i32_490
  let v1057 : BitVec 32 := Scalar.addi c0_i32_491 v1056
  let v1058 : BitVec 32 := Scalar.muli c2_i32_492 v1057
  let v1059 : BitVec 32 := Scalar.addi c24_i32 v1058
  let c1_i32_504 : BitVec 32 := 1#32
  let v1072 : BitVec 32 := Scalar.addi v1059 c1_i32_504
  let c16_i32_505 : BitVec 32 := 16#32
  let v1073 : BitVec 32 := Scalar.remsi v1072 c16_i32_505
  let v1079 : Index := Scalar.indexCast v1073
  let c0_510 : Index := 0#32
  let c0_511 : Index := 0#32
  ![v1079.toNat, 0, 0]
def k0_mult4 (k0_t2 : Fin k0_t2_loop.trips) : BitVec 32 :=
  let c0_i32_491 : BitVec 32 := 0#32
  let c0_i32_479 : BitVec 32 := 0#32
  let c1_i32_481 : BitVec 32 := 1#32
  let arg21 : BitVec 32 := Scf.iv c0_i32_479 c1_i32_481 k0_t2
  let c1_i32_490 : BitVec 32 := 1#32
  let v1056 : BitVec 32 := Scalar.muli arg21 c1_i32_490
  let v1057 : BitVec 32 := Scalar.addi c0_i32_491 v1056
  let c512_i32_513 : BitVec 32 := 512#32
  let v1084 : BitVec 32 := Scalar.muli v1057 c512_i32_513
  v1084
def k0_off26 (k0_t2 : Fin k0_t2_loop.trips) : Fin 2 → Nat :=
  let c0_514 : Index := 0#32
  let c0_i32_491 : BitVec 32 := 0#32
  let c0_i32_479 : BitVec 32 := 0#32
  let c1_i32_481 : BitVec 32 := 1#32
  let arg21 : BitVec 32 := Scf.iv c0_i32_479 c1_i32_481 k0_t2
  let c1_i32_490 : BitVec 32 := 1#32
  let v1056 : BitVec 32 := Scalar.muli arg21 c1_i32_490
  let v1057 : BitVec 32 := Scalar.addi c0_i32_491 v1056
  let c512_i32_513 : BitVec 32 := 512#32
  let v1084 : BitVec 32 := Scalar.muli v1057 c512_i32_513
  let v1085 : BitVec 32 := v1084
  let v1086 : Index := Scalar.indexCast v1085
  ![0, v1086.toNat]
def k0_off27 (k0_t2 : Fin k0_t2_loop.trips) : Fin 2 → Nat :=
  let c0_515 : Index := 0#32
  let c0_i32_491 : BitVec 32 := 0#32
  let c0_i32_479 : BitVec 32 := 0#32
  let c1_i32_481 : BitVec 32 := 1#32
  let arg21 : BitVec 32 := Scf.iv c0_i32_479 c1_i32_481 k0_t2
  let c1_i32_490 : BitVec 32 := 1#32
  let v1056 : BitVec 32 := Scalar.muli arg21 c1_i32_490
  let v1057 : BitVec 32 := Scalar.addi c0_i32_491 v1056
  let c512_i32_513 : BitVec 32 := 512#32
  let v1084 : BitVec 32 := Scalar.muli v1057 c512_i32_513
  let v1085 : BitVec 32 := v1084
  let v1091 : Index := Scalar.indexCast v1085
  ![0, v1091.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x3072 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S24x6144 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x24 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S24x3072 : Shape := ⟨2, ![24, 3072]⟩
abbrev S3072 : Shape := ⟨1, ![3072]⟩
abbrev S12 : Shape := ⟨1, ![12]⟩
abbrev S3072x6144 : Shape := ⟨2, ![3072, 6144]⟩
abbrev S6144 : Shape := ⟨1, ![6144]⟩
abbrev S6144x3072 : Shape := ⟨2, ![6144, 3072]⟩
abbrev S1x3072 : Shape := ⟨2, ![1, 3072]⟩
abbrev S1x6144 : Shape := ⟨2, ![1, 6144]⟩
abbrev S1x24 : Shape := ⟨2, ![1, 24]⟩
abbrev S24x6144 : Shape := ⟨2, ![24, 6144]⟩
abbrev S1 : Shape := ⟨1, ![1]⟩
abbrev S24 : Shape := ⟨1, ![24]⟩
abbrev S24x1 : Shape := ⟨2, ![24, 1]⟩

abbrev nBuf : Space → Nat
  | .hbm => 18
  | .vmem => 13
  | .smem => 1
  | _ => 0

abbrev bufTy : (tb : Table) → Fin (tcTables nBuf tb) → BufTy
  | .hbm, ⟨0, _⟩ => ⟨S24x3072, .f32⟩
  | .hbm, ⟨1, _⟩ => ⟨S3072, .f32⟩
  | .hbm, ⟨2, _⟩ => ⟨S12, .f32⟩
  | .hbm, ⟨3, _⟩ => ⟨S3072x6144, .fp8e4m3⟩
  | .hbm, ⟨4, _⟩ => ⟨S6144, .f32⟩
  | .hbm, ⟨5, _⟩ => ⟨S3072x6144, .fp8e4m3⟩
  | .hbm, ⟨6, _⟩ => ⟨S6144, .f32⟩
  | .hbm, ⟨7, _⟩ => ⟨S6144x3072, .fp8e4m3⟩
  | .hbm, ⟨8, _⟩ => ⟨S3072, .f32⟩
  | .hbm, ⟨9, _⟩ => ⟨S1x3072, .f32⟩
  | .hbm, ⟨10, _⟩ => ⟨S1x6144, .f32⟩
  | .hbm, ⟨11, _⟩ => ⟨S1x6144, .f32⟩
  | .hbm, ⟨12, _⟩ => ⟨S1x3072, .f32⟩
  | .hbm, ⟨13, _⟩ => ⟨S24x3072, .bf16⟩
  | .hbm, ⟨14, _⟩ => ⟨S24x3072, .fp8e4m3⟩
  | .hbm, ⟨15, _⟩ => ⟨S1x24, .f32⟩
  | .hbm, ⟨16, _⟩ => ⟨S24x6144, .fp8e4m3⟩
  | .hbm, ⟨17, _⟩ => ⟨S1x24, .f32⟩
  | .local _ .vmem, ⟨0, _⟩ => ⟨S24x3072, .f32⟩
  | .local _ .vmem, ⟨1, _⟩ => ⟨S1x3072, .f32⟩
  | .local _ .vmem, ⟨2, _⟩ => ⟨S3072x6144, .fp8e4m3⟩
  | .local _ .vmem, ⟨3, _⟩ => ⟨S1x6144, .f32⟩
  | .local _ .vmem, ⟨4, _⟩ => ⟨S3072x6144, .fp8e4m3⟩
  | .local _ .vmem, ⟨5, _⟩ => ⟨S1x6144, .f32⟩
  | .local _ .vmem, ⟨6, _⟩ => ⟨S6144x3072, .fp8e4m3⟩
  | .local _ .vmem, ⟨7, _⟩ => ⟨S1x3072, .f32⟩
  | .local _ .vmem, ⟨8, _⟩ => ⟨S24x3072, .bf16⟩
  | .local _ .vmem, ⟨9, _⟩ => ⟨S24x3072, .fp8e4m3⟩
  | .local _ .vmem, ⟨10, _⟩ => ⟨S1x24, .f32⟩
  | .local _ .vmem, ⟨11, _⟩ => ⟨S24x6144, .fp8e4m3⟩
  | .local _ .vmem, ⟨12, _⟩ => ⟨S1x24, .f32⟩
  | .local _ .smem, ⟨0, _⟩ => ⟨S12, .f32⟩
  | _, _ => ⟨S24x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x6144 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x3072 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x3072 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x24 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S24x6144 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x24 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== KernelH.lean ====
abbrev S24x3072 : Shape := ⟨2, ![24, 3072]⟩
abbrev S3072 : Shape := ⟨1, ![3072]⟩
abbrev S1x3072 : Shape := ⟨2, ![1, 3072]⟩
abbrev S1x24 : Shape := ⟨2, ![1, 24]⟩
abbrev S32x3072 : Shape := ⟨2, ![32, 3072]⟩
abbrev S24x128 : Shape := ⟨2, ![24, 128]⟩
abbrev S24x512 : Shape := ⟨2, ![24, 512]⟩
abbrev S24 : Shape := ⟨1, ![24]⟩
abbrev S24x1 : Shape := ⟨2, ![24, 1]⟩
abbrev S1x512 : Shape := ⟨2, ![1, 512]⟩
abbrev S8x512 : Shape := ⟨2, ![8, 512]⟩
abbrev S32x512 : Shape := ⟨2, ![32, 512]⟩
abbrev S128x24 : Shape := ⟨2, ![128, 24]⟩

abbrev nBuf : Space → Nat
  | .hbm => 5
  | .vmem => 6
  | .smem => 0
  | _ => 0

abbrev bufTy : (tb : Table) → Fin (tcTables nBuf tb) → BufTy
  | .hbm, ⟨0, _⟩ => ⟨S24x3072, .bf16⟩
  | .hbm, ⟨1, _⟩ => ⟨S3072, .f32⟩
  | .hbm, ⟨2, _⟩ => ⟨S1x3072, .f32⟩
  | .hbm, ⟨3, _⟩ => ⟨S24x3072, .fp8e4m3⟩
  | .hbm, ⟨4, _⟩ => ⟨S1x24, .f32⟩
  | .local _ .vmem, ⟨0, _⟩ => ⟨S24x3072, .bf16⟩
  | .local _ .vmem, ⟨1, _⟩ => ⟨S1x3072, .f32⟩
  | .local _ .vmem, ⟨2, _⟩ => ⟨S24x3072, .fp8e4m3⟩
  | .local _ .vmem, ⟨3, _⟩ => ⟨S1x24, .f32⟩
  | .local _ .vmem, ⟨4, _⟩ => ⟨S32x3072, .fp8e4m3⟩
  | .local _ .vmem, ⟨5, _⟩ => ⟨S24x3072, .f32⟩
  | _, _ => ⟨S24x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceHIdeal.lean ====
abbrev S24x3072 : Shape := ⟨2, ![24, 3072]⟩
abbrev S3072 : Shape := ⟨1, ![3072]⟩
abbrev S1x3072 : Shape := ⟨2, ![1, 3072]⟩
abbrev S1x24 : Shape := ⟨2, ![1, 24]⟩
abbrev S24 : Shape := ⟨1, ![24]⟩
abbrev S24x1 : Shape := ⟨2, ![24, 1]⟩

abbrev nBuf : Space → Nat
  | .hbm => 5
  | .vmem => 4
  | .smem => 0
  | _ => 0

abbrev bufTy : (tb : Table) → Fin (tcTables nBuf tb) → BufTy
  | .hbm, ⟨0, _⟩ => ⟨S24x3072, .bf16⟩
  | .hbm, ⟨1, _⟩ => ⟨S3072, .f32⟩
  | .hbm, ⟨2, _⟩ => ⟨S1x3072, .f32⟩
  | .hbm, ⟨3, _⟩ => ⟨S24x3072, .fp8e4m3⟩
  | .hbm, ⟨4, _⟩ => ⟨S1x24, .f32⟩
  | .local _ .vmem, ⟨0, _⟩ => ⟨S24x3072, .bf16⟩
  | .local _ .vmem, ⟨1, _⟩ => ⟨S1x3072, .f32⟩
  | .local _ .vmem, ⟨2, _⟩ => ⟨S24x3072, .fp8e4m3⟩
  | .local _ .vmem, ⟨3, _⟩ => ⟨S1x24, .f32⟩
  | _, _ => ⟨S24x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S24x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelC.lean ====
abbrev S37x24x128 : Shape := ⟨3, ![37, 24, 128]⟩
abbrev S12 : Shape := ⟨1, ![12]⟩
abbrev S24x1x64 : Shape := ⟨3, ![24, 1, 64]⟩
abbrev S1 : Shape := ⟨1, ![1]⟩
abbrev S24x3x2048 : Shape := ⟨3, ![24, 3, 2048]⟩
abbrev S3x24x2048 : Shape := ⟨3, ![3, 24, 2048]⟩
abbrev S24x128 : Shape := ⟨2, ![24, 128]⟩
abbrev S24x64 : Shape := ⟨2, ![24, 64]⟩
abbrev S1x24x128 : Shape := ⟨3, ![1, 24, 128]⟩
abbrev S1x24x2048 : Shape := ⟨3, ![1, 24, 2048]⟩
abbrev S24x2048 : Shape := ⟨2, ![24, 2048]⟩

abbrev nBuf : Space → Nat
  | .hbm => 11
  | .vmem => 7
  | .smem => 3
  | _ => 0

abbrev bufTy : (tb : Table) → Fin (tcTables nBuf tb) → BufTy
  | .hbm, ⟨0, _⟩ => ⟨S37x24x128, .f32⟩
  | .hbm, ⟨1, _⟩ => ⟨S12, .f32⟩
  | .hbm, ⟨2, _⟩ => ⟨S24x1x64, .f32⟩
  | .hbm, ⟨3, _⟩ => ⟨S24x1x64, .f32⟩
  | .hbm, ⟨4, _⟩ => ⟨S1, .f32⟩
  | .hbm, ⟨5, _⟩ => ⟨S1, .f32⟩
  | .hbm, ⟨6, _⟩ => ⟨S24x3x2048, .f32⟩
  | .hbm, ⟨7, _⟩ => ⟨S3x24x2048, .f32⟩
  | .hbm, ⟨8, _⟩ => ⟨S3x24x2048, .f32⟩
  | .hbm, ⟨9, _⟩ => ⟨S24x128, .fp8e4m3⟩
  | .hbm, ⟨10, _⟩ => ⟨S24x128, .fp8e4m3⟩
  | .local _ .vmem, ⟨0, _⟩ => ⟨S37x24x128, .f32⟩
  | .local _ .vmem, ⟨1, _⟩ => ⟨S24x1x64, .f32⟩
  | .local _ .vmem, ⟨2, _⟩ => ⟨S24x1x64, .f32⟩
  | .local _ .vmem, ⟨3, _⟩ => ⟨S3x24x2048, .f32⟩
  | .local _ .vmem, ⟨4, _⟩ => ⟨S3x24x2048, .f32⟩
  | .local _ .vmem, ⟨5, _⟩ => ⟨S24x128, .fp8e4m3⟩
  | .local _ .vmem, ⟨6, _⟩ => ⟨S24x128, .fp8e4m3⟩
  | .local _ .smem, ⟨0, _⟩ => ⟨S12, .f32⟩
  | .local _ .smem, ⟨1, _⟩ => ⟨S1, .f32⟩
  | .local _ .smem, ⟨2, _⟩ => ⟨S1, .f32⟩
  | _, _ => ⟨S37x24x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S37x24x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x24x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x24x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S24x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceCIdeal.lean ====
abbrev S37x24x128 : Shape := ⟨3, ![37, 24, 128]⟩
abbrev S12 : Shape := ⟨1, ![12]⟩
abbrev S24x1x64 : Shape := ⟨3, ![24, 1, 64]⟩
abbrev S1 : Shape := ⟨1, ![1]⟩
abbrev S24x3x2048 : Shape := ⟨3, ![24, 3, 2048]⟩
abbrev S3x24x2048 : Shape := ⟨3, ![3, 24, 2048]⟩
abbrev S24x128 : Shape := ⟨2, ![24, 128]⟩
abbrev S1x24x128 : Shape := ⟨3, ![1, 24, 128]⟩
abbrev S24x64 : Shape := ⟨2, ![24, 64]⟩
abbrev S16x24x128 : Shape := ⟨3, ![16, 24, 128]⟩
abbrev S24x16x128 : Shape := ⟨3, ![24, 16, 128]⟩
abbrev S24x2048 : Shape := ⟨2, ![24, 2048]⟩
abbrev S1x24x2048 : Shape := ⟨3, ![1, 24, 2048]⟩

abbrev nBuf : Space → Nat
  | .hbm => 11
  | .vmem => 7
  | .smem => 3
  | _ => 0

abbrev bufTy : (tb : Table) → Fin (tcTables nBuf tb) → BufTy
  | .hbm, ⟨0, _⟩ => ⟨S37x24x128, .f32⟩
  | .hbm, ⟨1, _⟩ => ⟨S12, .f32⟩
  | .hbm, ⟨2, _⟩ => ⟨S24x1x64, .f32⟩
  | .hbm, ⟨3, _⟩ => ⟨S24x1x64, .f32⟩
  | .hbm, ⟨4, _⟩ => ⟨S1, .f32⟩
  | .hbm, ⟨5, _⟩ => ⟨S1, .f32⟩
  | .hbm, ⟨6, _⟩ => ⟨S24x3x2048, .f32⟩
  | .hbm, ⟨7, _⟩ => ⟨S3x24x2048, .f32⟩
  | .hbm, ⟨8, _⟩ => ⟨S3x24x2048, .f32⟩
  | .hbm, ⟨9, _⟩ => ⟨S24x128, .fp8e4m3⟩
  | .hbm, ⟨10, _⟩ => ⟨S24x128, .fp8e4m3⟩
  | .local _ .vmem, ⟨0, _⟩ => ⟨S37x24x128, .f32⟩
  | .local _ .vmem, ⟨1, _⟩ => ⟨S24x1x64, .f32⟩
  | .local _ .vmem, ⟨2, _⟩ => ⟨S24x1x64, .f32⟩
  | .local _ .vmem, ⟨3, _⟩ => ⟨S3x24x2048, .f32⟩
  | .local _ .vmem, ⟨4, _⟩ => ⟨S3x24x2048, .f32⟩
  | .local _ .vmem, ⟨5, _⟩ => ⟨S24x128, .fp8e4m3⟩
  | .local _ .vmem, ⟨6, _⟩ => ⟨S24x128, .fp8e4m3⟩
  | .local _ .smem, ⟨0, _⟩ => ⟨S12, .f32⟩
  | .local _ .smem, ⟨1, _⟩ => ⟨S1, .f32⟩
  | .local _ .smem, ⟨2, _⟩ => ⟨S1, .f32⟩
  | _, _ => ⟨S37x24x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S37x24x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x24x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x24x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelO.lean ====
abbrev S24x8x128 : Shape := ⟨3, ![24, 8, 128]⟩
abbrev S24x768 : Shape := ⟨2, ![24, 768]⟩
abbrev S1x24 : Shape := ⟨2, ![1, 24]⟩
abbrev S32x768 : Shape := ⟨2, ![32, 768]⟩
abbrev S24x128 : Shape := ⟨2, ![24, 128]⟩
abbrev S24x1x128 : Shape := ⟨3, ![24, 1, 128]⟩
abbrev S24 : Shape := ⟨1, ![24]⟩
abbrev S24x1 : Shape := ⟨2, ![24, 1]⟩
abbrev S8x128 : Shape := ⟨2, ![8, 128]⟩
abbrev S32x128 : Shape := ⟨2, ![32, 128]⟩
abbrev S128x24 : Shape := ⟨2, ![128, 24]⟩

abbrev nBuf : Space → Nat
  | .hbm => 3
  | .vmem => 4
  | .smem => 0
  | _ => 0

abbrev bufTy : (tb : Table) → Fin (tcTables nBuf tb) → BufTy
  | .hbm, ⟨0, _⟩ => ⟨S24x8x128, .f32⟩
  | .hbm, ⟨1, _⟩ => ⟨S24x768, .fp8e4m3⟩
  | .hbm, ⟨2, _⟩ => ⟨S1x24, .f32⟩
  | .local _ .vmem, ⟨0, _⟩ => ⟨S24x8x128, .f32⟩
  | .local _ .vmem, ⟨1, _⟩ => ⟨S24x768, .fp8e4m3⟩
  | .local _ .vmem, ⟨2, _⟩ => ⟨S1x24, .f32⟩
  | .local _ .vmem, ⟨3, _⟩ => ⟨S32x768, .fp8e4m3⟩
  | _, _ => ⟨S24x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S24x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceOIdeal.lean ====
abbrev S24x8x128 : Shape := ⟨3, ![24, 8, 128]⟩
abbrev S24x768 : Shape := ⟨2, ![24, 768]⟩
abbrev S1x24 : Shape := ⟨2, ![1, 24]⟩
abbrev S24x6x128 : Shape := ⟨3, ![24, 6, 128]⟩
abbrev S24 : Shape := ⟨1, ![24]⟩
abbrev S24x1 : Shape := ⟨2, ![24, 1]⟩

abbrev nBuf : Space → Nat
  | .hbm => 3
  | .vmem => 3
  | .smem => 0
  | _ => 0

abbrev bufTy : (tb : Table) → Fin (tcTables nBuf tb) → BufTy
  | .hbm, ⟨0, _⟩ => ⟨S24x8x128, .f32⟩
  | .hbm, ⟨1, _⟩ => ⟨S24x768, .fp8e4m3⟩
  | .hbm, ⟨2, _⟩ => ⟨S1x24, .f32⟩
  | .local _ .vmem, ⟨0, _⟩ => ⟨S24x8x128, .f32⟩
  | .local _ .vmem, ⟨1, _⟩ => ⟨S24x768, .fp8e4m3⟩
  | .local _ .vmem, ⟨2, _⟩ => ⟨S1x24, .f32⟩
  | _, _ => ⟨S24x8x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S24x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.RingIdeal.lean ====
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Transfers
public import Idealize.ShloMosaic.Lib.Ring
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The ring of slabs, its semaphores and the three weight matrices left in HBM. -/
abbrev slabs : Memref sig .tc .vmem S16x3072x512 .fp8e4m3 := Memref.whole cc0_scratch0
abbrev sems : DmaSems sig S16 := cc0_scratch5
abbrev hb7 : Memref sig .tc .hbm S3072x6144 .fp8e4m3 := Memref.whole main_arg3
abbrev hb8 : Memref sig .tc .hbm S3072x6144 .fp8e4m3 := Memref.whole main_arg5
abbrev hb9 : Memref sig .tc .hbm S6144x3072 .fp8e4m3 := Memref.whole main_arg7

/-- That a cell, a slot, a block of the gate or up matrix, a block of the down matrix lie inside their arrays. -/
abbrev In1 (o : Fin 1 → ℕ) : Prop := ∀ a, o a + S1.size a ≤ S16.size a
abbrev In3 (o : Fin 3 → ℕ) : Prop := ∀ a, o a + S1x3072x512.size a ≤ S16x3072x512.size a
abbrev InG (o : Fin 2 → ℕ) : Prop := ∀ a, o a + S3072x512.size a ≤ S3072x6144.size a
abbrev InD (o : Fin 2 → ℕ) : Prop := ∀ a, o a + S3072x512.size a ≤ S6144x3072.size a

/-- The semaphore cell at an offset. -/
abbrev cell (o : Fin 1 → ℕ) (h : In1 o) : SemLoc sig :=
  SemLoc.dma ((sems.slice (Rect.unit (s := S16) o S1.size h)).squeeze S_ squeezes_S1_S_).sem
/-- The slot of the ring at an offset. -/
abbrev slot (o : Fin 3 → ℕ) (h : In3 o) : Memref sig .tc .vmem S3072x512 .fp8e4m3 :=
  (slabs.slice (Rect.unit (s := S16x3072x512) o S1x3072x512.size h) (fun _ => rfl)).squeeze S3072x512 squeezes_S1x3072x512_S3072x512
/-- The block of the gate, up and down matrix at an offset. -/
abbrev src7 (o : Fin 2 → ℕ) (h : InG o) : Memref sig .tc .hbm S3072x512 .fp8e4m3 :=
  hb7.slice (Rect.unit (s := S3072x6144) o S3072x512.size h) (fun _ => rfl)
abbrev src8 (o : Fin 2 → ℕ) (h : InG o) : Memref sig .tc .hbm S3072x512 .fp8e4m3 :=
  hb8.slice (Rect.unit (s := S3072x6144) o S3072x512.size h) (fun _ => rfl)
abbrev src9 (o : Fin 2 → ℕ) (h : InD o) : Memref sig .tc .hbm S3072x512 .fp8e4m3 :=
  hb9.slice (Rect.unit (s := S6144x3072) o S3072x512.size h) (fun _ => rfl)

/-- Contents of the three matrices on a core. -/
abbrev C7 (c : Dev nD) := Buf (Elt F) (hb7.view.loc (c : Thread nD τ))
abbrev C8 (c : Dev nD) := Buf (Elt F) (hb8.view.loc (c : Thread nD τ))
abbrev C9 (c : Dev nD) := Buf (Elt F) (hb9.view.loc (c : Thread nD τ))

/-- The read token of each matrix that pair `j` of slots holds, on a set of elements. -/
abbrev tok7 (c : Dev nD) (j : Fin 8) (S : Finset (Idx (hb7.view.loc (c : Thread nD τ)))) (f : C7 (F := F) c) : sProp 𝕄 :=
  hb7.view.loc (c : Thread nD τ) ↦[S]{Transfers.shareTok fullShare 8 j} f
abbrev tok8 (c : Dev nD) (j : Fin 8) (S : Finset (Idx (hb8.view.loc (c : Thread nD τ)))) (f : C8 (F := F) c) : sProp 𝕄 :=
  hb8.view.loc (c : Thread nD τ) ↦[S]{Transfers.shareTok fullShare 8 j} f
abbrev tok9 (c : Dev nD) (j : Fin 8) (S : Finset (Idx (hb9.view.loc (c : Thread nD τ)))) (f : C9 (F := F) c) : sProp 𝕄 :=
  hb9.view.loc (c : Thread nD τ) ↦[S]{Transfers.shareTok fullShare 8 j} f

/-- One slab on its way: the flight into the slot, delivering the slot filled and the lent elements `T` back. -/
abbrev Fl (c : Dev nD) (o1 : Fin 1 → ℕ) (h1 : In1 o1)
    (o3 : Fin 3 → ℕ) (h3 : In3 o3) (p : Vec F S3072x512 .fp8e4m3) (T : sProp 𝕄) : sProp 𝕄 :=
  iprop(∃ f, Transfers.Flight (countersEmb (U := Pipeline.UD sig nD τ)) (c : Thread nD τ) (cell o1 h1) () 49152
      iprop(((slot o3 h3).view.loc (c : Thread nD τ) ↦[(slot o3 h3).view.set]{fullShare}
              (slot o3 h3).view.writes (Elt F) f [⟨Rect.whole S3072x512, ReadAs.same.apply p⟩]) ∗ T))

/-- A pair of slots in flight with a gate block and an up block. -/
abbrev FlyA (c : Dev nD) (f7 : C7 (F := F) c) (f8 : C8 (F := F) c) (f9 : C9 (F := F) c) (j : Fin 8)
    (o1 : Fin 1 → ℕ) (h1 : In1 o1) (o1' : Fin 1 → ℕ) (h1' : In1 o1') (o3 : Fin 3 → ℕ) (h3 : In3 o3) (o3' : Fin 3 → ℕ) (h3' : In3 o3') (o : Fin 2 → ℕ) (h : InG o) : sProp 𝕄 :=
  iprop(Fl c o1 h1 o3 h3 ((src7 o h).view.read (Elt F) f7) (tok7 c j (src7 o h).view.set f7)
    ∗ Fl c o1' h1' o3' h3' ((src8 o h).view.read (Elt F) f8) (tok8 c j (src8 o h).view.set f8)
    ∗ tok7 c j (Finset.univ \ (src7 o h).view.set) f7 ∗ tok8 c j (Finset.univ \ (src8 o h).view.set) f8 ∗ tok9 c j Finset.univ f9)

/-- A pair of slots in flight with the two halves of a down block. -/
abbrev FlyB (c : Dev nD) (f7 : C7 (F := F) c) (f8 : C8 (F := F) c) (f9 : C9 (F := F) c) (j : Fin 8)
    (o1 : Fin 1 → ℕ) (h1 : In1 o1) (o1' : Fin 1 → ℕ) (h1' : In1 o1') (o3 : Fin 3 → ℕ) (h3 : In3 o3) (o3' : Fin 3 → ℕ) (h3' : In3 o3') (o : Fin 2 → ℕ) (h : InD o) (o' : Fin 2 → ℕ) (h' : InD o') : sProp 𝕄 :=
  iprop(Fl c o1 h1 o3 h3 ((src9 o h).view.read (Elt F) f9) (tok9 c j (src9 o h).view.set f9)
    ∗ Fl c o1' h1' o3' h3' ((src9 o' h').view.read (Elt F) f9) (tok9 c j (src9 o' h').view.set f9)
    ∗ tok7 c j Finset.univ f7 ∗ tok8 c j Finset.univ f8 ∗ tok9 c j ((Finset.univ \ (src9 o h).view.set) \ (src9 o' h').view.set) f9)

/-- A pair of slots at rest. -/
abbrev Rest (c : Dev nD) (f7 : C7 (F := F) c) (f8 : C8 (F := F) c) (f9 : C9 (F := F) c) (j : Fin 8)
    (o1 : Fin 1 → ℕ) (h1 : In1 o1) (o1' : Fin 1 → ℕ) (h1' : In1 o1') (o3 : Fin 3 → ℕ) (h3 : In3 o3) (o3' : Fin 3 → ℕ) (h3' : In3 o3') : sProp 𝕄 :=
  iprop(semVal ((c : Thread nD τ), cell o1 h1) 0 ∗ semVal ((c : Thread nD τ), cell o1' h1') 0
    ∗ (∃ f, (slot o3 h3).view.loc (c : Thread nD τ) ↦[(slot o3 h3).view.set]{fullShare} f)
    ∗ (∃ f, (slot o3' h3').view.loc (c : Thread nD τ) ↦[(slot o3' h3').view.set]{fullShare} f)
    ∗ tok7 c j Finset.univ f7 ∗ tok8 c j Finset.univ f8 ∗ tok9 c j Finset.univ f9)

end Cert.KernelIdeal.Hand

end
-- ==== Proof.TripIdeal.lean ====
module

public import proofs.«01_k».proof.Proof.RingIdeal
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Transfers
public import Idealize.ShloMosaic.Lib.Ring
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- A slot or a cell at rest, spelled at an equal offset. -/
theorem slot_cast (c : Dev nD) {o o' : Fin 3 → ℕ} (e : o = o') (h : In3 o) (h' : In3 o') (f : Buf (Elt F) ((slot o h).view.loc (c : Thread nD τ))) :
    ((slot o h).view.loc (c : Thread nD τ) ↦[(slot o h).view.set]{fullShare} f : sProp 𝕄)
      ⊢ iprop(∃ f', (slot o' h').view.loc (c : Thread nD τ) ↦[(slot o' h').view.set]{fullShare} f') := by
  subst e; iintro H; iexists f; iexact H

theorem cell_cast (c : Dev nD) {o o' : Fin 1 → ℕ} (e : o = o') (h : In1 o) (h' : In1 o') :
    (semVal ((c : Thread nD τ), cell o h) 0 : sProp 𝕄) ⊢ semVal ((c : Thread nD τ), cell o' h') 0 := by
  subst e; exact .rfl

/-- The offsets a trip waits at are the ones it issues at. -/
theorem eq82 (p : Fin k0_t1_loop.trips) : k0_off2 p = k0_off8 p := by rw [k0_off2_eq, k0_off8_eq]; congr 1; omega
theorem eq71 (p : Fin k0_t1_loop.trips) : k0_off1 p = k0_off7 p := by rw [k0_off1_eq, k0_off7_eq]; congr 1; omega
theorem eq511 (p : Fin k0_t1_loop.trips) : k0_off5 p = k0_off11 p := by rw [k0_off5_eq, k0_off11_eq]; congr 1; omega
theorem eq410 (p : Fin k0_t1_loop.trips) : k0_off4 p = k0_off10 p := by rw [k0_off4_eq, k0_off10_eq]; congr 1; omega
theorem eq213 (p : Fin k0_t1_loop.trips) : k0_off2 p = k0_off13 p := by rw [k0_off2_eq, k0_off13_eq]; congr 1; omega
theorem eq112 (p : Fin k0_t1_loop.trips) : k0_off1 p = k0_off12 p := by rw [k0_off1_eq, k0_off12_eq]; congr 1; omega
theorem eq516 (p : Fin k0_t1_loop.trips) : k0_off5 p = k0_off16 p := by rw [k0_off5_eq, k0_off16_eq]; congr 1; omega
theorem eq415 (p : Fin k0_t1_loop.trips) : k0_off4 p = k0_off15 p := by rw [k0_off4_eq, k0_off15_eq]; congr 1; omega
/-- The product of the normalised rows with one slab, on the twenty-four real rows. -/
abbrev dotA (lhs : Vec F S32x3072 .fp8e4m3) (s : Vec F S3072x512 .fp8e4m3) : FVec F S24x512 .f32 :=
  extractStridedSlice S24x512 ![0, 0]
    (matmul dot_S32x3072_S3072x512_S32x512_1_0_0_1_n_n none lhs s (constant S32x512 .f32 0x00000000#32)) slices_S32x512_o0_0_S24x512

/-- The tile of activations that trip `p` of the first loop computes from its two slabs. -/
abbrev tileA (v0 : Elt F .f32) (v272 : FVec F S24x1 .f32) (lhs : Vec F S32x3072 .fp8e4m3) (w3 w4 : Vec F S1x6144 .f32)
    (p : Fin k0_t1_loop.trips) (b7 b8 : Vec F S3072x512 .fp8e4m3) : FVec F S24x512 .f32 :=
  k0_pay4 v0 v272 (dotA lhs b7) (dotA lhs b8) (VecWindow.window w3 (k0_off18 p) S1x512.size (k0_off18_inb p))
    (VecWindow.window w4 (k0_off18 p) S1x512.size (k0_off18_inb p))

/-- The quarter of a tile at a column, as the buffer of activations stores it. -/
abbrev quart (T : FVec F S24x512 .f32) (r : ℕ) (h : S24x512.Slices ![0, r] S24x128) : FVec F S1x24x128 .f32 :=
  shapeCast S1x24x128 (extractStridedSlice S24x128 ![0, r] T h) shapeCasts_S24x128_S1x24x128

/-- The buffer of activations after a trip: four of its rows of tiles replaced. -/
abbrev putA (g : Vec F S48x24x128 .f32) (p : Fin k0_t1_loop.trips) (T : FVec F S24x512 .f32) : Vec F S48x24x128 .f32 :=
  VecWindow.put (VecWindow.put (VecWindow.put (VecWindow.put g
    (k0_off19 p 0#32) S1x24x128.size (quart T 0 slices_S24x512_o0_0_S24x128))
    (k0_off19 p 1#32) S1x24x128.size (quart T 128 slices_S24x512_o0_128_S24x128))
    (k0_off19 p 2#32) S1x24x128.size (quart T 256 slices_S24x512_o0_256_S24x128))
    (k0_off19 p 3#32) S1x24x128.size (quart T 384 slices_S24x512_o0_384_S24x128)

/-- The running maximum of absolute values after a trip. -/
abbrev accA (acc : FVec F S24x128 .f32) (T : FVec F S24x512 .f32) : FVec F S24x128 .f32 :=
  maximumf (maximumf (maximumf (maximumf acc (absf (extractStridedSlice S24x128 ![0, 0] T slices_S24x512_o0_0_S24x128)))
    (absf (extractStridedSlice S24x128 ![0, 128] T slices_S24x512_o0_128_S24x128)))
    (absf (extractStridedSlice S24x128 ![0, 256] T slices_S24x512_o0_256_S24x128)))
    (absf (extractStridedSlice S24x128 ![0, 384] T slices_S24x512_o0_384_S24x128))

/-- A slab loaded from its filled slot gives the product with the block that was copied into it. -/
theorem pay2_slot (lhs : Vec F S32x3072 .fp8e4m3) (o : Fin 3 → ℕ) (h : In3 o) (f : (slot o h).view.ty.Contents (Elt F))
    (s : Vec F S3072x512 .fp8e4m3) :
    k0_pay2 lhs (slabs.view.readAt (Elt F) (Rect.unit (s := S16x3072x512) o S1x3072x512.size h).toLoadRect
      ((slot o h).view.writes (Elt F) f [⟨Rect.whole S3072x512, s⟩])) = dotA lhs s := by
  have e : shapeCast S3072x512 (slabs.view.readAt (Elt F) (Rect.unit (s := S16x3072x512) o S1x3072x512.size h).toLoadRect
      ((slot o h).view.writes (Elt F) f [⟨Rect.whole S3072x512, s⟩])) shapeCasts_S1x3072x512_S3072x512 = s :=
    View.read_writes_whole (slot o h).view f s
  unfold k0_pay2
  rw [e]

/-- The four stores of a trip, read back. -/
theorem read_putA (v : View sig .tc .vmem S48x24x128 .f32) (f : v.ty.Contents (Elt F)) (p : Fin k0_t1_loop.trips) (T : FVec F S24x512 .f32) :
    v.read (Elt F) (v.writes (Elt F) f
      [⟨Rect.unit (s := S48x24x128) (k0_off19 p 3#32) S1x24x128.size (k0_off19_inb p 3), quart T 384 slices_S24x512_o0_384_S24x128⟩,
       ⟨Rect.unit (s := S48x24x128) (k0_off19 p 2#32) S1x24x128.size (k0_off19_inb p 2), quart T 256 slices_S24x512_o0_256_S24x128⟩,
       ⟨Rect.unit (s := S48x24x128) (k0_off19 p 1#32) S1x24x128.size (k0_off19_inb p 1), quart T 128 slices_S24x512_o0_128_S24x128⟩,
       ⟨Rect.unit (s := S48x24x128) (k0_off19 p 0#32) S1x24x128.size (k0_off19_inb p 0), quart T 0 slices_S24x512_o0_0_S24x128⟩])
      = putA (v.read (Elt F) f) p T := by
  rw [View.read_writes_cons_put v f (off := k0_off19 p 3#32) (k0_off19_inb p 3) _ _ rfl, View.read_writes_cons_put v f (off := k0_off19 p 2#32) (k0_off19_inb p 2) _ _ rfl,
    View.read_writes_cons_put v f (off := k0_off19 p 1#32) (k0_off19_inb p 1) _ _ rfl, View.read_writes_cons_put v f (off := k0_off19 p 0#32) (k0_off19_inb p 0) _ _ rfl]
  rfl

/-- A postcondition at an equal result. -/
theorem eq_entails' {α : Type} {P : sProp 𝕄} (Q : α → sProp 𝕄) {r r' : α} (e : r = r') (h : Entails' P (Q r')) : Entails' P (Q r) := by
  subst e; exact h

variable (i : grid0.Coords)
  (arg1 : Memref sig .tc .smem S12 .f32) (harg1 : arg1.IsWhole) (arg2 : Memref sig .tc .vmem S1x3072 .f32) (harg2 : arg2.IsWhole) (arg3 : Memref sig .tc .vmem S1x6144 .f32) (harg3 : arg3.IsWhole) (arg4 : Memref sig .tc .vmem S1x6144 .f32) (harg4 : arg4.IsWhole) (arg5 : Memref sig .tc .vmem S1x3072 .f32) (harg5 : arg5.IsWhole) (arg6 : Memref sig .tc .vmem S24x3072 .f32) (harg6 : arg6.IsWhole) (arg10 : Memref sig .tc .vmem S24x3072 .bf16) (harg10 : arg10.IsWhole) (arg11 : Memref sig .tc .vmem S24x3072 .fp8e4m3) (harg11 : arg11.IsWhole) (arg12 : Memref sig .tc .vmem S1x24 .f32) (harg12 : arg12.IsWhole) (arg13 : Memref sig .tc .vmem S24x6144 .fp8e4m3) (harg13 : arg13.IsWhole) (arg14 : Memref sig .tc .vmem S1x24 .f32) (harg14 : arg14.IsWhole)

/-- A trip of the first loop that fills its pair of slots with the next gate and up block. -/
theorem tripA (c : Dev nD) (f7 : C7 (F := F) c) (f8 : C8 (F := F) c) (f9 : C9 (F := F) c)
    (v0 : Elt F .f32) (v272 : FVec F S24x1 .f32) (v327 : FVec F S24x512 .f32) (p : Fin k0_t1_loop.trips) (acc : FVec F S24x128 .f32)
    (w3 w4 : Vec F S1x6144 .f32) (lhs : Vec F S32x3072 .fp8e4m3) (g : Vec F S48x24x128 .f32) (j : Fin 8) (h1 : k0_cond1 p = 1#1) (h2 : ¬ k0_cond2 p = 1#1)
    (o : Fin 2 → ℕ) (h : InG o) (W : Waits sig Unit) (Q : FVec F S24x128 .f32 → sProp 𝕄) :
    iprop(FlyA c f7 f8 f9 j (k0_off1 p) (k0_off1_inb p) (k0_off4 p) (k0_off4_inb p) (k0_off2 p) (k0_off2_inb p) (k0_off5 p) (k0_off5_inb p) o h
      ∗ owns (c : Thread nD τ) arg3 fullShare w3 ∗ owns (c : Thread nD τ) arg4 fullShare w4 ∗ owns (c : Thread nD τ) (Memref.whole cc0_scratch1) fullShare lhs
      ∗ owns (c : Thread nD τ) (Memref.whole cc0_scratch4) fullShare g ∗ owes (c : Thread nD τ) 0 W
      ∗ (iprop(FlyA c f7 f8 f9 j (k0_off7 p) (k0_off7_inb p h1) (k0_off10 p) (k0_off10_inb p h1) (k0_off8 p) (k0_off8_inb p h1) (k0_off11 p) (k0_off11_inb p h1) (k0_off9 p) (k0_off9_inb p h1)
          ∗ owns (c : Thread nD τ) arg3 fullShare w3 ∗ owns (c : Thread nD τ) arg4 fullShare w4 ∗ owns (c : Thread nD τ) (Memref.whole cc0_scratch1) fullShare lhs
          ∗ owns (c : Thread nD τ) (Memref.whole cc0_scratch4) fullShare
              (putA g p (tileA v0 v272 lhs w3 w4 p ((src7 o h).view.read (Elt F) f7) ((src8 o h).view.read (Elt F) f8)))
          ∗ (∃ W', owes (c : Thread nD τ) 0 W'))
        -∗ Q (accA acc (tileA v0 v272 lhs w3 w4 p ((src7 o h).view.read (Elt F) f7) ((src8 o h).view.read (Elt F) f8)))))
     ⊢ wp frame (wpE defs₀ Variants.none (c : Thread nD τ) none) Set.univ
        (k0_t1_body (F := F) i arg1 harg1 arg2 harg2 arg3 harg3 arg4 harg4 arg5 harg5 arg6 harg6 hb7 (Memref.isWhole_whole _) hb8 (Memref.isWhole_whole _) hb9 (Memref.isWhole_whole _) arg10 harg10 arg11 harg11 arg12 harg12 arg13 harg13 arg14 harg14 slabs (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) sems v0 v272 v327 p acc) Q := by
  unfold k0_t1_body
  simp only [k0_part1_eq_skeleton, k0_part2_eq_skeleton]
  unfold k0_part1_skel k0_part2_skel owns
  iintro ⟨⟨⟨%f0, Hfl0⟩, ⟨%f1, Hfl1⟩, H7, H8, H9⟩, ⟨%x3, %e3, H3⟩, ⟨%x4, %e4, H4⟩, ⟨%x16, %e16, H16⟩, ⟨%x19, %e19, H19⟩, HO, HK⟩
  sl_exec
  ihave Hs0 := (slot_cast c (eq82 p) (k0_off2_inb p) (k0_off8_inb p h1) _) $$ Hfl0_dst
  icases Hs0 with ⟨%e0, Hs0⟩
  ihave Hs1 := (slot_cast c (eq511 p) (k0_off5_inb p) (k0_off11_inb p h1) _) $$ Hfl1_dst
  icases Hs1 with ⟨%e1, Hs1⟩
  ihave Hc0 := (cell_cast c (eq71 p) (k0_off1_inb p) (k0_off7_inb p h1)) $$ Hfl0
  ihave Hc1 := (cell_cast c (eq410 p) (k0_off4_inb p) (k0_off10_inb p h1)) $$ Hfl1
  sl_exec

  sl_step
  have eL : View.readAt (Elt F) (Memref.whole cc0_scratch1).view (Rect.unit (s := S32x3072) ![0, 0] S32x3072.size inb_S32x3072_S32x3072_0_0).toLoadRect x16 = lhs :=
    (View.readAt_full _ _ _).trans e16
  have e7 : k0_pay2 (View.readAt (Elt F) (Memref.whole cc0_scratch1).view (Rect.unit (s := S32x3072) ![0, 0] S32x3072.size inb_S32x3072_S32x3072_0_0).toLoadRect x16)
      (tripA.sl.v1065 c f7 p o h) = dotA lhs ((src7 o h).view.read (Elt F) f7) := by
    rw [eL]; exact pay2_slot lhs _ _ _ _
  have e8 : k0_pay3 (View.readAt (Elt F) (Memref.whole cc0_scratch1).view (Rect.unit (s := S32x3072) ![0, 0] S32x3072.size inb_S32x3072_S32x3072_0_0).toLoadRect x16)
      (tripA.sl.v1078 c f8 p o h) = dotA lhs ((src8 o h).view.read (Elt F) f8) := by
    rw [eL]; exact pay2_slot lhs _ _ _ _
  have eT : k0_pay4 v0 v272 (k0_pay2 (View.readAt (Elt F) (Memref.whole cc0_scratch1).view (Rect.unit (s := S32x3072) ![0, 0] S32x3072.size inb_S32x3072_S32x3072_0_0).toLoadRect x16)
        (tripA.sl.v1065 c f7 p o h))
      (k0_pay3 (View.readAt (Elt F) (Memref.whole cc0_scratch1).view (Rect.unit (s := S32x3072) ![0, 0] S32x3072.size inb_S32x3072_S32x3072_0_0).toLoadRect x16)
        (tripA.sl.v1078 c f8 p o h))
      (View.readAt (Elt F) arg3.view (Rect.unit (s := S1x6144) (k0_off18 p) S1x512.size (k0_off18_inb p)).toLoadRect x3)
      (View.readAt (Elt F) arg4.view (Rect.unit (s := S1x6144) (k0_off18 p) S1x512.size (k0_off18_inb p)).toLoadRect x4)
      = tileA v0 v272 lhs w3 w4 p ((src7 o h).view.read (Elt F) f7) ((src8 o h).view.read (Elt F) f8) := by
    rw [e7, e8, View.readAt_unit _ _ _ rfl (k0_off18_inb p), View.readAt_unit _ _ _ rfl (k0_off18_inb p), e3, e4]
  refine eq_entails' Q (congrArg (accA acc) eT) ?_
  iapply HK
  isplitl [Hc0 Hc1 H7 H8 H9]
  · isplitl [Hc0]; · iexists _; iexact Hc0
    isplitl [Hc1]; · iexists _; iexact Hc1
    isplitl [H7]; · iexact H7
    isplitl [H8]; · iexact H8
    iexact H9
  isplitl [H3]; · iexists _; isplitr; swap; (· iexact H3); ipureintro; exact e3
  isplitl [H4]; · iexists _; isplitr; swap; (· iexact H4); ipureintro; exact e4
  isplitl [H16]; · iexists _; isplitr; swap; (· iexact H16); ipureintro; exact e16
  isplitl [H19]
  · iexists _; isplitr; swap; (· iexact H19)
    ipureintro
    exact (read_putA (Memref.whole cc0_scratch4).view x19 p (k0_pay4 v0 v272 (k0_pay2 (View.readAt (Elt F) (Memref.whole cc0_scratch1).view (Rect.unit (s := S32x3072) ![0, 0] S32x3072.size inb_S32x3072_S32x3072_0_0).toLoadRect x16)
        (tripA.sl.v1065 c f7 p o h))
      (k0_pay3 (View.readAt (Elt F) (Memref.whole cc0_scratch1).view (Rect.unit (s := S32x3072) ![0, 0] S32x3072.size inb_S32x3072_S32x3072_0_0).toLoadRect x16)
        (tripA.sl.v1078 c f8 p o h))
      (View.readAt (Elt F) arg3.view (Rect.unit (s := S1x6144) (k0_off18 p) S1x512.size (k0_off18_inb p)).toLoadRect x3)
      (View.readAt (Elt F) arg4.view (Rect.unit (s := S1x6144) (k0_off18 p) S1x512.size (k0_off18_inb p)).toLoadRect x4))).trans (by rw [eT, e19])
  iexists _; iexact HO

/-- A trip of the first loop that fills its pair of slots with the halves of a down block. -/
theorem tripB (c : Dev nD) (f7 : C7 (F := F) c) (f8 : C8 (F := F) c) (f9 : C9 (F := F) c)
    (v0 : Elt F .f32) (v272 : FVec F S24x1 .f32) (v327 : FVec F S24x512 .f32) (p : Fin k0_t1_loop.trips) (acc : FVec F S24x128 .f32)
    (w3 w4 : Vec F S1x6144 .f32) (lhs : Vec F S32x3072 .fp8e4m3) (g : Vec F S48x24x128 .f32) (j : Fin 8) (h1 : ¬ k0_cond1 p = 1#1) (h2 : k0_cond2 p = 1#1)
    (o : Fin 2 → ℕ) (h : InG o) (W : Waits sig Unit) (Q : FVec F S24x128 .f32 → sProp 𝕄) :
    iprop(FlyA c f7 f8 f9 j (k0_off1 p) (k0_off1_inb p) (k0_off4 p) (k0_off4_inb p) (k0_off2 p) (k0_off2_inb p) (k0_off5 p) (k0_off5_inb p) o h
      ∗ owns (c : Thread nD τ) arg3 fullShare w3 ∗ owns (c : Thread nD τ) arg4 fullShare w4 ∗ owns (c : Thread nD τ) (Memref.whole cc0_scratch1) fullShare lhs
      ∗ owns (c : Thread nD τ) (Memref.whole cc0_scratch4) fullShare g ∗ owes (c : Thread nD τ) 0 W
      ∗ (iprop(FlyB c f7 f8 f9 j (k0_off12 p) (k0_off12_inb p h2) (k0_off15 p) (k0_off15_inb p h2) (k0_off13 p) (k0_off13_inb p h2) (k0_off16 p) (k0_off16_inb p h2) (k0_off14 p) (k0_off14_inb p h2) (k0_off17 p) (k0_off17_inb p h2)
          ∗ owns (c : Thread nD τ) arg3 fullShare w3 ∗ owns (c : Thread nD τ) arg4 fullShare w4 ∗ owns (c : Thread nD τ) (Memref.whole cc0_scratch1) fullShare lhs
          ∗ owns (c : Thread nD τ) (Memref.whole cc0_scratch4) fullShare
              (putA g p (tileA v0 v272 lhs w3 w4 p ((src7 o h).view.read (Elt F) f7) ((src8 o h).view.read (Elt F) f8)))
          ∗ (∃ W', owes (c : Thread nD τ) 0 W'))
        -∗ Q (accA acc (tileA v0 v272 lhs w3 w4 p ((src7 o h).view.read (Elt F) f7) ((src8 o h).view.read (Elt F) f8)))))
     ⊢ wp frame (wpE defs₀ Variants.none (c : Thread nD τ) none) Set.univ
        (k0_t1_body (F := F) i arg1 harg1 arg2 harg2 arg3 harg3 arg4 harg4 arg5 harg5 arg6 harg6 hb7 (Memref.isWhole_whole _) hb8 (Memref.isWhole_whole _) hb9 (Memref.isWhole_whole _) arg10 harg10 arg11 harg11 arg12 harg12 arg13 harg13 arg14 harg14 slabs (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) sems v0 v272 v327 p acc) Q := by
  unfold k0_t1_body
  simp only [k0_part1_eq_skeleton, k0_part2_eq_skeleton]
  unfold k0_part1_skel k0_part2_skel owns
  iintro ⟨⟨⟨%f0, Hfl0⟩, ⟨%f1, Hfl1⟩, H7, H8, H9⟩, ⟨%x3, %e3, H3⟩, ⟨%x4, %e4, H4⟩, ⟨%x16, %e16, H16⟩, ⟨%x19, %e19, H19⟩, HO, HK⟩
  sl_exec
  ihave Hs0 := (slot_cast c (eq213 p) (k0_off2_inb p) (k0_off13_inb p h2) _) $$ Hfl0_dst
  icases Hs0 with ⟨%e0, Hs0⟩
  ihave Hs1 := (slot_cast c (eq516 p) (k0_off5_inb p) (k0_off16_inb p h2) _) $$ Hfl1_dst
  icases Hs1 with ⟨%e1, Hs1⟩
  ihave Hc0 := (cell_cast c (eq112 p) (k0_off1_inb p) (k0_off12_inb p h2)) $$ Hfl0
  ihave Hc1 := (cell_cast c (eq415 p) (k0_off4_inb p) (k0_off15_inb p h2)) $$ Hfl1
  sl_exec

  sl_step
  have eL : View.readAt (Elt F) (Memref.whole cc0_scratch1).view (Rect.unit (s := S32x3072) ![0, 0] S32x3072.size inb_S32x3072_S32x3072_0_0).toLoadRect x16 = lhs :=
    (View.readAt_full _ _ _).trans e16
  have e7 : k0_pay2 (View.readAt (Elt F) (Memref.whole cc0_scratch1).view (Rect.unit (s := S32x3072) ![0, 0] S32x3072.size inb_S32x3072_S32x3072_0_0).toLoadRect x16)
      (tripB.sl.v1065 c f7 p o h) = dotA lhs ((src7 o h).view.read (Elt F) f7) := by
    rw [eL]; exact pay2_slot lhs _ _ _ _
  have e8 : k0_pay3 (View.readAt (Elt F) (Memref.whole cc0_scratch1).view (Rect.unit (s := S32x3072) ![0, 0] S32x3072.size inb_S32x3072_S32x3072_0_0).toLoadRect x16)
      (tripB.sl.v1078 c f8 p o h) = dotA lhs ((src8 o h).view.read (Elt F) f8) := by
    rw [eL]; exact pay2_slot lhs _ _ _ _
  have eT : k0_pay4 v0 v272 (k0_pay2 (View.readAt (Elt F) (Memref.whole cc0_scratch1).view (Rect.unit (s := S32x3072) ![0, 0] S32x3072.size inb_S32x3072_S32x3072_0_0).toLoadRect x16)
        (tripB.sl.v1065 c f7 p o h))
      (k0_pay3 (View.readAt (Elt F) (Memref.whole cc0_scratch1).view (Rect.unit (s := S32x3072) ![0, 0] S32x3072.size inb_S32x3072_S32x3072_0_0).toLoadRect x16)
        (tripB.sl.v1078 c f8 p o h))
      (View.readAt (Elt F) arg3.view (Rect.unit (s := S1x6144) (k0_off18 p) S1x512.size (k0_off18_inb p)).toLoadRect x3)
      (View.readAt (Elt F) arg4.view (Rect.unit (s := S1x6144) (k0_off18 p) S1x512.size (k0_off18_inb p)).toLoadRect x4)
      = tileA v0 v272 lhs w3 w4 p ((src7 o h).view.read (Elt F) f7) ((src8 o h).view.read (Elt F) f8) := by
    rw [e7, e8, View.readAt_unit _ _ _ rfl (k0_off18_inb p), View.readAt_unit _ _ _ rfl (k0_off18_inb p), e3, e4]
  refine eq_entails' Q (congrArg (accA acc) eT) ?_
  iapply HK
  isplitl [Hc0 Hc1 H7 H8 H9]
  · isplitl [Hc0]; · iexists _; iexact Hc0
    isplitl [Hc1]; · iexists _; iexact Hc1
    isplitl [H7]; · iexact H7
    isplitl [H8]; · iexact H8
    iexact H9
  isplitl [H3]; · iexists _; isplitr; swap; (· iexact H3); ipureintro; exact e3
  isplitl [H4]; · iexists _; isplitr; swap; (· iexact H4); ipureintro; exact e4
  isplitl [H16]; · iexists _; isplitr; swap; (· iexact H16); ipureintro; exact e16
  isplitl [H19]
  · iexists _; isplitr; swap; (· iexact H19)
    ipureintro
    exact (read_putA (Memref.whole cc0_scratch4).view x19 p (k0_pay4 v0 v272 (k0_pay2 (View.readAt (Elt F) (Memref.whole cc0_scratch1).view (Rect.unit (s := S32x3072) ![0, 0] S32x3072.size inb_S32x3072_S32x3072_0_0).toLoadRect x16)
        (tripB.sl.v1065 c f7 p o h))
      (k0_pay3 (View.readAt (Elt F) (Memref.whole cc0_scratch1).view (Rect.unit (s := S32x3072) ![0, 0] S32x3072.size inb_S32x3072_S32x3072_0_0).toLoadRect x16)
        (tripB.sl.v1078 c f8 p o h))
      (View.readAt (Elt F) arg3.view (Rect.unit (s := S1x6144) (k0_off18 p) S1x512.size (k0_off18_inb p)).toLoadRect x3)
      (View.readAt (Elt F) arg4.view (Rect.unit (s := S1x6144) (k0_off18 p) S1x512.size (k0_off18_inb p)).toLoadRect x4))).trans (by rw [eT, e19])
  iexists _; iexact HO

/-- A trip of the first loop that leaves its pair of slots at rest. -/
theorem tripC (c : Dev nD) (f7 : C7 (F := F) c) (f8 : C8 (F := F) c) (f9 : C9 (F := F) c)
    (v0 : Elt F .f32) (v272 : FVec F S24x1 .f32) (v327 : FVec F S24x512 .f32) (p : Fin k0_t1_loop.trips) (acc : FVec F S24x128 .f32)
    (w3 w4 : Vec F S1x6144 .f32) (lhs : Vec F S32x3072 .fp8e4m3) (g : Vec F S48x24x128 .f32) (j : Fin 8) (h1 : ¬ k0_cond1 p = 1#1) (h2 : ¬ k0_cond2 p = 1#1)
    (o : Fin 2 → ℕ) (h : InG o) (W : Waits sig Unit) (Q : FVec F S24x128 .f32 → sProp 𝕄) :
    iprop(FlyA c f7 f8 f9 j (k0_off1 p) (k0_off1_inb p) (k0_off4 p) (k0_off4_inb p) (k0_off2 p) (k0_off2_inb p) (k0_off5 p) (k0_off5_inb p) o h
      ∗ owns (c : Thread nD τ) arg3 fullShare w3 ∗ owns (c : Thread nD τ) arg4 fullShare w4 ∗ owns (c : Thread nD τ) (Memref.whole cc0_scratch1) fullShare lhs
      ∗ owns (c : Thread nD τ) (Memref.whole cc0_scratch4) fullShare g ∗ owes (c : Thread nD τ) 0 W
      ∗ (iprop(Rest c f7 f8 f9 j (k0_off1 p) (k0_off1_inb p) (k0_off4 p) (k0_off4_inb p) (k0_off2 p) (k0_off2_inb p) (k0_off5 p) (k0_off5_inb p)
          ∗ owns (c : Thread nD τ) arg3 fullShare w3 ∗ owns (c : Thread nD τ) arg4 fullShare w4 ∗ owns (c : Thread nD τ) (Memref.whole cc0_scratch1) fullShare lhs
          ∗ owns (c : Thread nD τ) (Memref.whole cc0_scratch4) fullShare
              (putA g p (tileA v0 v272 lhs w3 w4 p ((src7 o h).view.read (Elt F) f7) ((src8 o h).view.read (Elt F) f8)))
          ∗ (∃ W', owes (c : Thread nD τ) 0 W'))
        -∗ Q (accA acc (tileA v0 v272 lhs w3 w4 p ((src7 o h).view.read (Elt F) f7) ((src8 o h).view.read (Elt F) f8)))))
     ⊢ wp frame (wpE defs₀ Variants.none (c : Thread nD τ) none) Set.univ
        (k0_t1_body (F := F) i arg1 harg1 arg2 harg2 arg3 harg3 arg4 harg4 arg5 harg5 arg6 harg6 hb7 (Memref.isWhole_whole _) hb8 (Memref.isWhole_whole _) hb9 (Memref.isWhole_whole _) arg10 harg10 arg11 harg11 arg12 harg12 arg13 harg13 arg14 harg14 slabs (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) sems v0 v272 v327 p acc) Q := by
  unfold k0_t1_body
  simp only [k0_part1_eq_skeleton, k0_part2_eq_skeleton]
  unfold k0_part1_skel k0_part2_skel owns
  iintro ⟨⟨⟨%f0, Hfl0⟩, ⟨%f1, Hfl1⟩, H7, H8, H9⟩, ⟨%x3, %e3, H3⟩, ⟨%x4, %e4, H4⟩, ⟨%x16, %e16, H16⟩, ⟨%x19, %e19, H19⟩, HO, HK⟩
  sl_exec

  sl_step
  have eL : View.readAt (Elt F) (Memref.whole cc0_scratch1).view (Rect.unit (s := S32x3072) ![0, 0] S32x3072.size inb_S32x3072_S32x3072_0_0).toLoadRect x16 = lhs :=
    (View.readAt_full _ _ _).trans e16
  have e7 : k0_pay2 (View.readAt (Elt F) (Memref.whole cc0_scratch1).view (Rect.unit (s := S32x3072) ![0, 0] S32x3072.size inb_S32x3072_S32x3072_0_0).toLoadRect x16)
      (tripC.sl.v1065 c f7 p o h) = dotA lhs ((src7 o h).view.read (Elt F) f7) := by
    rw [eL]; exact pay2_slot lhs _ _ _ _
  have e8 : k0_pay3 (View.readAt (Elt F) (Memref.whole cc0_scratch1).view (Rect.unit (s := S32x3072) ![0, 0] S32x3072.size inb_S32x3072_S32x3072_0_0).toLoadRect x16)
      (tripC.sl.v1078 c f8 p o h) = dotA lhs ((src8 o h).view.read (Elt F) f8) := by
    rw [eL]; exact pay2_slot lhs _ _ _ _
  have eT : k0_pay4 v0 v272 (k0_pay2 (View.readAt (Elt F) (Memref.whole cc0_scratch1).view (Rect.unit (s := S32x3072) ![0, 0] S32x3072.size inb_S32x3072_S32x3072_0_0).toLoadRect x16)
        (tripC.sl.v1065 c f7 p o h))
      (k0_pay3 (View.readAt (Elt F) (Memref.whole cc0_scratch1).view (Rect.unit (s := S32x3072) ![0, 0] S32x3072.size inb_S32x3072_S32x3072_0_0).toLoadRect x16)
        (tripC.sl.v1078 c f8 p o h))
      (View.readAt (Elt F) arg3.view (Rect.unit (s := S1x6144) (k0_off18 p) S1x512.size (k0_off18_inb p)).toLoadRect x3)
      (View.readAt (Elt F) arg4.view (Rect.unit (s := S1x6144) (k0_off18 p) S1x512.size (k0_off18_inb p)).toLoadRect x4)
      = tileA v0 v272 lhs w3 w4 p ((src7 o h).view.read (Elt F) f7) ((src8 o h).view.read (Elt F) f8) := by
    rw [e7, e8, View.readAt_unit _ _ _ rfl (k0_off18_inb p), View.readAt_unit _ _ _ rfl (k0_off18_inb p), e3, e4]
  refine eq_entails' Q (congrArg (accA acc) eT) ?_
  iapply HK
  isplitl [Hfl0 Hfl1 Hfl0_dst Hfl1_dst H7 H8 H9]
  · isplitl [Hfl0]; · iexact Hfl0
    isplitl [Hfl1]; · iexact Hfl1
    isplitl [Hfl0_dst]; · iexists _; iexact Hfl0_dst
    isplitl [Hfl1_dst]; · iexists _; iexact Hfl1_dst
    isplitl [H7]; · iexact H7
    isplitl [H8]; · iexact H8
    iexact H9
  isplitl [H3]; · iexists _; isplitr; swap; (· iexact H3); ipureintro; exact e3
  isplitl [H4]; · iexists _; isplitr; swap; (· iexact H4); ipureintro; exact e4
  isplitl [H16]; · iexists _; isplitr; swap; (· iexact H16); ipureintro; exact e16
  isplitl [H19]
  · iexists _; isplitr; swap; (· iexact H19)
    ipureintro
    exact (read_putA (Memref.whole cc0_scratch4).view x19 p (k0_pay4 v0 v272 (k0_pay2 (View.readAt (Elt F) (Memref.whole cc0_scratch1).view (Rect.unit (s := S32x3072) ![0, 0] S32x3072.size inb_S32x3072_S32x3072_0_0).toLoadRect x16)
        (tripC.sl.v1065 c f7 p o h))
      (k0_pay3 (View.readAt (Elt F) (Memref.whole cc0_scratch1).view (Rect.unit (s := S32x3072) ![0, 0] S32x3072.size inb_S32x3072_S32x3072_0_0).toLoadRect x16)
        (tripC.sl.v1078 c f8 p o h))
      (View.readAt (Elt F) arg3.view (Rect.unit (s := S1x6144) (k0_off18 p) S1x512.size (k0_off18_inb p)).toLoadRect x3)
      (View.readAt (Elt F) arg4.view (Rect.unit (s := S1x6144) (k0_off18 p) S1x512.size (k0_off18_inb p)).toLoadRect x4))).trans (by rw [eT, e19])
  iexists _; iexact HO

end Cert.KernelIdeal.Hand

end
-- ==== Proof.TripBIdeal.lean ====
module

public import proofs.«01_k».proof.Proof.RingIdeal
public import proofs.«01_k».proof.Proof.TripIdeal
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Transfers
public import Idealize.ShloMosaic.Lib.Ring
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The product of the activations with the two halves of a down block, added. -/
abbrev dotB (lhs : Vec F S32x6144 .fp8e4m3) (s s' : Vec F S3072x512 .fp8e4m3) : FVec F S32x512 .f32 :=
  addf (matmul dot_S32x3072_S3072x512_S32x512_1_0_0_1_n_n none
      (VecWindow.window lhs ![0, 0] S32x3072.size inb_S32x6144_S32x3072_0_0 : Vec F S32x3072 .fp8e4m3) s (constant S32x512 .f32 0x00000000#32))
    (matmul dot_S32x3072_S3072x512_S32x512_1_0_0_1_n_n none
      (VecWindow.window lhs ![0, 3072] S32x3072.size inb_S32x6144_S32x3072_0_3072 : Vec F S32x3072 .fp8e4m3) s' (constant S32x512 .f32 0x00000000#32))

/-- The block of the output that trip `n` of the second loop computes. -/
abbrev tileB (v1 : Elt F .f32) (v363 : FVec F S24x1 .f32) (lhs : Vec F S32x6144 .fp8e4m3) (w5 : Vec F S1x3072 .f32) (w6 : Vec F S24x3072 .f32)
    (n : Fin k0_t2_loop.trips) (s s' : Vec F S3072x512 .fp8e4m3) : FVec F S24x512 .bf16 :=
  k0_pay118 v1 v363 (dotB lhs s s') (VecWindow.window w6 (k0_off26 n) S24x512.size (k0_off26_inb n))
    (VecWindow.window w5 (k0_off27 n) S1x512.size (k0_off27_inb n))

/-- The output after a trip: one block of columns replaced. -/
abbrev putB (g : Vec F S24x3072 .bf16) (n : Fin k0_t2_loop.trips) (T : FVec F S24x512 .bf16) : Vec F S24x3072 .bf16 :=
  VecWindow.put g (k0_off26 n) S24x512.size T

/-- The two filled slots give the product with the blocks that were copied into them. -/
theorem pay11_slot (l l' : Vec F S32x3072 .fp8e4m3) (o o' : Fin 3 → ℕ) (h : In3 o) (h' : In3 o') (f : (slot o h).view.ty.Contents (Elt F))
    (f' : (slot o' h').view.ty.Contents (Elt F)) (s s' : Vec F S3072x512 .fp8e4m3) :
    k0_pay11 l (slabs.view.readAt (Elt F) (Rect.unit (s := S16x3072x512) o S1x3072x512.size h).toLoadRect
      ((slot o h).view.writes (Elt F) f [⟨Rect.whole S3072x512, s⟩])) l'
      (slabs.view.readAt (Elt F) (Rect.unit (s := S16x3072x512) o' S1x3072x512.size h').toLoadRect
      ((slot o' h').view.writes (Elt F) f' [⟨Rect.whole S3072x512, s'⟩]))
    = addf (matmul dot_S32x3072_S3072x512_S32x512_1_0_0_1_n_n none l s (constant S32x512 .f32 0x00000000#32))
        (matmul dot_S32x3072_S3072x512_S32x512_1_0_0_1_n_n none l' s' (constant S32x512 .f32 0x00000000#32)) := by
  have e : shapeCast S3072x512 (slabs.view.readAt (Elt F) (Rect.unit (s := S16x3072x512) o S1x3072x512.size h).toLoadRect
      ((slot o h).view.writes (Elt F) f [⟨Rect.whole S3072x512, s⟩])) shapeCasts_S1x3072x512_S3072x512 = s :=
    View.read_writes_whole (slot o h).view f s
  have e' : shapeCast S3072x512 (slabs.view.readAt (Elt F) (Rect.unit (s := S16x3072x512) o' S1x3072x512.size h').toLoadRect
      ((slot o' h').view.writes (Elt F) f' [⟨Rect.whole S3072x512, s'⟩])) shapeCasts_S1x3072x512_S3072x512 = s' :=
    View.read_writes_whole (slot o' h').view f' s'
  unfold k0_pay11
  rw [e, e']

variable (i : grid0.Coords)
  (arg1 : Memref sig .tc .smem S12 .f32) (harg1 : arg1.IsWhole) (arg2 : Memref sig .tc .vmem S1x3072 .f32) (harg2 : arg2.IsWhole) (arg3 : Memref sig .tc .vmem S1x6144 .f32) (harg3 : arg3.IsWhole) (arg4 : Memref sig .tc .vmem S1x6144 .f32) (harg4 : arg4.IsWhole) (arg5 : Memref sig .tc .vmem S1x3072 .f32) (harg5 : arg5.IsWhole) (arg6 : Memref sig .tc .vmem S24x3072 .f32) (harg6 : arg6.IsWhole) (arg10 : Memref sig .tc .vmem S24x3072 .bf16) (harg10 : arg10.IsWhole) (arg11 : Memref sig .tc .vmem S24x3072 .fp8e4m3) (harg11 : arg11.IsWhole) (arg12 : Memref sig .tc .vmem S1x24 .f32) (harg12 : arg12.IsWhole) (arg13 : Memref sig .tc .vmem S24x6144 .fp8e4m3) (harg13 : arg13.IsWhole) (arg14 : Memref sig .tc .vmem S1x24 .f32) (harg14 : arg14.IsWhole)

/-- A trip of the second loop: it leaves its pair of slots at rest. -/
theorem tripD (c : Dev nD) (f7 : C7 (F := F) c) (f8 : C8 (F := F) c) (f9 : C9 (F := F) c)
    (v1 : Elt F .f32) (v272 v363 : FVec F S24x1 .f32) (v1018 : FVec F S32x128 .fp8e4m3) (n : Fin k0_t2_loop.trips)
    (w5 : Vec F S1x3072 .f32) (w6 : Vec F S24x3072 .f32) (lhs : Vec F S32x6144 .fp8e4m3) (g : Vec F S24x3072 .bf16) (j : Fin 8)
    (x : ℕ) (h : InD ![0, x]) (h' : InD ![3072, x]) (W : Waits sig Unit) (Q : Unit → sProp 𝕄) :
    iprop(FlyB c f7 f8 f9 j (k0_off20 n) (k0_off20_inb n) (k0_off23 n) (k0_off23_inb n) (k0_off21 n) (k0_off21_inb n) (k0_off24 n) (k0_off24_inb n) ![0, x] h ![3072, x] h'
      ∗ owns (c : Thread nD τ) arg5 fullShare w5 ∗ owns (c : Thread nD τ) arg6 fullShare w6 ∗ owns (c : Thread nD τ) (Memref.whole cc0_scratch2) fullShare lhs
      ∗ owns (c : Thread nD τ) arg10 fullShare g ∗ owes (c : Thread nD τ) 0 W
      ∗ (iprop(Rest c f7 f8 f9 j (k0_off20 n) (k0_off20_inb n) (k0_off23 n) (k0_off23_inb n) (k0_off21 n) (k0_off21_inb n) (k0_off24 n) (k0_off24_inb n)
          ∗ owns (c : Thread nD τ) arg5 fullShare w5 ∗ owns (c : Thread nD τ) arg6 fullShare w6 ∗ owns (c : Thread nD τ) (Memref.whole cc0_scratch2) fullShare lhs
          ∗ owns (c : Thread nD τ) arg10 fullShare (putB g n (tileB v1 v363 lhs w5 w6 n ((src9 ![0, x] h).view.read (Elt F) f9) ((src9 ![3072, x] h').view.read (Elt F) f9)))
          ∗ (∃ W', owes (c : Thread nD τ) 0 W'))
        -∗ Q ⟨⟩))
     ⊢ wp frame (wpE defs₀ Variants.none (c : Thread nD τ) none) Set.univ
        (k0_t2_body (F := F) i arg1 harg1 arg2 harg2 arg3 harg3 arg4 harg4 arg5 harg5 arg6 harg6 hb7 (Memref.isWhole_whole _) hb8 (Memref.isWhole_whole _) hb9 (Memref.isWhole_whole _) arg10 harg10 arg11 harg11 arg12 harg12 arg13 harg13 arg14 harg14 slabs (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) sems v1 v272 v363 v1018 n ⟨⟩) Q := by
  unfold k0_t2_body
  simp only [k0_part3_eq_skeleton]
  unfold k0_part3_skel owns
  iintro ⟨⟨⟨%f0, Hfl0⟩, ⟨%f1, Hfl1⟩, H7, H8, H9⟩, ⟨%x5, %e5, H5⟩, ⟨%x6, %e6, H6⟩, ⟨%x17, %e17, H17⟩, ⟨%x10, %e10, H10⟩, HO, HK⟩
  sl_exec
  sl_step
  have eT : (k0_pay118 v1 v363 (k0_pay11 (View.readAt (Elt F) (Memref.whole cc0_scratch2).view (Rect.unit (s := S32x6144) ![0, 0] S32x3072.size inb_S32x6144_S32x3072_0_0).toLoadRect x17) (tripD.sl.v1068 c f9 n x h) (View.readAt (Elt F) (Memref.whole cc0_scratch2).view (Rect.unit (s := S32x6144) ![0, 3072] S32x3072.size inb_S32x6144_S32x3072_0_3072).toLoadRect x17) (tripD.sl.v1080 c f9 n x h'))
      (View.readAt (Elt F) arg6.view (Rect.unit (s := S24x3072) (k0_off26 n) S24x512.size (k0_off26_inb n)).toLoadRect x6)
      (View.readAt (Elt F) arg5.view (Rect.unit (s := S1x3072) (k0_off27 n) S1x512.size (k0_off27_inb n)).toLoadRect x5)) = tileB v1 v363 lhs w5 w6 n ((src9 ![0, x] h).view.read (Elt F) f9) ((src9 ![3072, x] h').view.read (Elt F) f9) := by
    have e : k0_pay11 (View.readAt (Elt F) (Memref.whole cc0_scratch2).view (Rect.unit (s := S32x6144) ![0, 0] S32x3072.size inb_S32x6144_S32x3072_0_0).toLoadRect x17) (tripD.sl.v1068 c f9 n x h) (View.readAt (Elt F) (Memref.whole cc0_scratch2).view (Rect.unit (s := S32x6144) ![0, 3072] S32x3072.size inb_S32x6144_S32x3072_0_3072).toLoadRect x17) (tripD.sl.v1080 c f9 n x h')
        = dotB lhs ((src9 ![0, x] h).view.read (Elt F) f9) ((src9 ![3072, x] h').view.read (Elt F) f9) := by
      rw [View.readAt_unit _ _ _ rfl inb_S32x6144_S32x3072_0_0, View.readAt_unit _ _ _ rfl inb_S32x6144_S32x3072_0_3072, e17]
      exact pay11_slot _ _ _ _ _ _ _ _ _ _
    rw [e, View.readAt_unit _ _ _ rfl (k0_off26_inb n), View.readAt_unit _ _ _ rfl (k0_off27_inb n), e5, e6]
  iapply HK
  isplitl [Hfl0 Hfl1 Hfl0_dst Hfl1_dst H7 H8 H9]
  · isplitl [Hfl0]; · iexact Hfl0
    isplitl [Hfl1]; · iexact Hfl1
    isplitl [Hfl0_dst]; · iexists _; iexact Hfl0_dst
    isplitl [Hfl1_dst]; · iexists _; iexact Hfl1_dst
    isplitl [H7]; · iexact H7
    isplitl [H8]; · iexact H8
    iexact H9
  isplitl [H5]; · iexists _; isplitr; swap; (· iexact H5); ipureintro; exact e5
  isplitl [H6]; · iexists _; isplitr; swap; (· iexact H6); ipureintro; exact e6
  isplitl [H17]; · iexists _; isplitr; swap; (· iexact H17); ipureintro; exact e17
  isplitl [H10]
  · iexists _; isplitr; swap; (· iexact H10)
    ipureintro
    exact (View.read_writes_cons_put arg10.view x10 (off := k0_off26 n) (k0_off26_inb n) (k0_pay118 v1 v363 (k0_pay11 (View.readAt (Elt F) (Memref.whole cc0_scratch2).view (Rect.unit (s := S32x6144) ![0, 0] S32x3072.size inb_S32x6144_S32x3072_0_0).toLoadRect x17) (tripD.sl.v1068 c f9 n x h) (View.readAt (Elt F) (Memref.whole cc0_scratch2).view (Rect.unit (s := S32x6144) ![0, 3072] S32x3072.size inb_S32x6144_S32x3072_0_3072).toLoadRect x17) (tripD.sl.v1080 c f9 n x h'))
      (View.readAt (Elt F) arg6.view (Rect.unit (s := S24x3072) (k0_off26 n) S24x512.size (k0_off26_inb n)).toLoadRect x6)
      (View.readAt (Elt F) arg5.view (Rect.unit (s := S1x3072) (k0_off27 n) S1x512.size (k0_off27_inb n)).toLoadRect x5)) [] rfl).trans (by rw [eT, View.writes_nil, e10])
  iexists _; iexact HO

end Cert.KernelIdeal.Hand

end
-- ==== Proof.LoopIdeal.lean ====
module

public import proofs.«01_k».proof.Proof.RingIdeal
public import proofs.«01_k».proof.Proof.TripIdeal
public import proofs.«01_k».proof.Proof.TripBIdeal
public import Idealize.ShloMosaic.Lib.Ring.Tabled
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Transfers
public import Idealize.ShloMosaic.Lib.Ring
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ### The pairs of slots as a family -/

theorem in1 {n : ℕ} (h : n < 16) : In1 ![n] := fun a => by
  match a with
  | ⟨0, _⟩ => show n + 1 ≤ 16; omega
theorem in3 {n : ℕ} (h : n < 16) : In3 ![n, 0, 0] := fun a => by
  match a with
  | ⟨0, _⟩ => show n + 1 ≤ 16; omega
  | ⟨1, _⟩ => show 0 + 3072 ≤ 3072; omega
  | ⟨2, _⟩ => show 0 + 512 ≤ 512; omega
theorem inG {q : ℕ} (h : q < 12) : InG ![0, 512 * q] := fun a => by
  match a with
  | ⟨0, _⟩ => show 0 + 3072 ≤ 3072; omega
  | ⟨1, _⟩ => show 512 * q + 512 ≤ 6144; omega
theorem inD {q : ℕ} (h : q < 6) : InD ![0, 512 * q] := fun a => by
  match a with
  | ⟨0, _⟩ => show 0 + 3072 ≤ 6144; omega
  | ⟨1, _⟩ => show 512 * q + 512 ≤ 3072; omega
theorem inD' {q : ℕ} (h : q < 6) : InD ![3072, 512 * q] := fun a => by
  match a with
  | ⟨0, _⟩ => show 3072 + 3072 ≤ 6144; omega
  | ⟨1, _⟩ => show 512 * q + 512 ≤ 3072; omega

theorem lo (j : Fin 8) : 2 * j.val < 16 := by omega
theorem hi (j : Fin 8) : 2 * j.val + 1 < 16 := by omega

/-- Pair `j` of slots when it holds (or is about to hold) block number `q`: blocks 0 to 11 are gate and up blocks, 12 to 17 are
    down blocks, and from 18 on there is nothing left to fetch. -/
def Φ (c : Dev nD) (f7 : C7 (F := F) c) (f8 : C8 (F := F) c) (f9 : C9 (F := F) c) (j : Fin 8) (q : ℕ) : sProp 𝕄 :=
  if h : q < 12 then
    FlyA c f7 f8 f9 j ![2 * j.val] (in1 (lo j)) ![2 * j.val + 1] (in1 (hi j)) ![2 * j.val, 0, 0] (in3 (lo j)) ![2 * j.val + 1, 0, 0] (in3 (hi j))
      ![0, 512 * q] (inG h)
  else if h' : q < 18 then
    FlyB c f7 f8 f9 j ![2 * j.val] (in1 (lo j)) ![2 * j.val + 1] (in1 (hi j)) ![2 * j.val, 0, 0] (in3 (lo j)) ![2 * j.val + 1, 0, 0] (in3 (hi j))
      ![0, 512 * (q - 12)] (inD (by omega)) ![3072, 512 * (q - 12)] (inD' (by omega))
  else
    Rest c f7 f8 f9 j ![2 * j.val] (in1 (lo j)) ![2 * j.val + 1] (in1 (hi j)) ![2 * j.val, 0, 0] (in3 (lo j)) ![2 * j.val + 1, 0, 0] (in3 (hi j))

/-- The block number that pair `j` holds before block `p` is used. -/
def st (p : ℕ) (j : Fin 8) : ℕ := p + (j.val + 7 * p) % 8

/-- The pair that holds block `p`. -/
def pr (p : ℕ) : Fin 8 := ⟨p % 8, Nat.mod_lt _ (by decide)⟩

theorem st_pr (p : ℕ) : st p (pr p) = p := by unfold st pr; show p + (p % 8 + 7 * p) % 8 = p; omega

theorem st_succ (p : ℕ) : st (p + 1) = Function.update (st p) (pr p) (p + 8) := by
  funext j
  by_cases e : j = pr p
  · subst e; rw [Function.update_self]; unfold st pr
    show p + 1 + (p % 8 + 7 * (p + 1)) % 8 = p + 8; omega
  · rw [Function.update_of_ne e]
    have e' : j.val ≠ p % 8 := fun h => e (Fin.ext h)
    unfold st
    have := j.isLt
    omega

theorem FlyA_congr (c : Dev nD) (f7 : C7 (F := F) c) (f8 : C8 (F := F) c) (f9 : C9 (F := F) c) (j : Fin 8)
    {a a' : Fin 1 → ℕ} {b b' : Fin 1 → ℕ} {d d' e e' : Fin 3 → ℕ} {o o' : Fin 2 → ℕ} (ha : In1 a) (hb : In1 b) (hd : In3 d) (he : In3 e) (ho : InG o)
    (ha' : In1 a') (hb' : In1 b') (hd' : In3 d') (he' : In3 e') (ho' : InG o') (e1 : a = a') (e2 : b = b') (e3 : d = d') (e4 : e = e') (e5 : o = o') :
    FlyA c f7 f8 f9 j a ha b hb d hd e he o ho = FlyA c f7 f8 f9 j a' ha' b' hb' d' hd' e' he' o' ho' := by
  subst e1 e2 e3 e4 e5; rfl

theorem FlyB_congr (c : Dev nD) (f7 : C7 (F := F) c) (f8 : C8 (F := F) c) (f9 : C9 (F := F) c) (j : Fin 8)
    {a a' : Fin 1 → ℕ} {b b' : Fin 1 → ℕ} {d d' e e' : Fin 3 → ℕ} {o o' u u' : Fin 2 → ℕ} (ha : In1 a) (hb : In1 b) (hd : In3 d) (he : In3 e) (ho : InD o) (hu : InD u)
    (ha' : In1 a') (hb' : In1 b') (hd' : In3 d') (he' : In3 e') (ho' : InD o') (hu' : InD u') (e1 : a = a') (e2 : b = b') (e3 : d = d') (e4 : e = e') (e5 : o = o') (e6 : u = u') :
    FlyB c f7 f8 f9 j a ha b hb d hd e he o ho u hu = FlyB c f7 f8 f9 j a' ha' b' hb' d' hd' e' he' o' ho' u' hu' := by
  subst e1 e2 e3 e4 e5 e6; rfl

theorem Rest_congr (c : Dev nD) (f7 : C7 (F := F) c) (f8 : C8 (F := F) c) (f9 : C9 (F := F) c) (j : Fin 8)
    {a a' : Fin 1 → ℕ} {b b' : Fin 1 → ℕ} {d d' e e' : Fin 3 → ℕ} (ha : In1 a) (hb : In1 b) (hd : In3 d) (he : In3 e)
    (ha' : In1 a') (hb' : In1 b') (hd' : In3 d') (he' : In3 e') (e1 : a = a') (e2 : b = b') (e3 : d = d') (e4 : e = e') :
    Rest c f7 f8 f9 j a ha b hb d hd e he = Rest c f7 f8 f9 j a' ha' b' hb' d' hd' e' he' := by
  subst e1 e2 e3 e4; rfl

theorem trips1 (k : Fin k0_t1_loop.trips) : k.val < 12 := lt_of_lt_of_eq k.isLt (by decide)
theorem trips2 (k : Fin k0_t2_loop.trips) : k.val < 6 := lt_of_lt_of_eq k.isLt (by decide)
theorem cond1_iff : ∀ k : Fin k0_t1_loop.trips, k0_cond1 k = 1#1 ↔ k.val < 4 := by decide +kernel
theorem cond2_iff : ∀ k : Fin k0_t1_loop.trips, k0_cond2 k = 1#1 ↔ (4 ≤ k.val ∧ k.val < 10) := by decide +kernel
theorem off14_of : ∀ k : Fin k0_t1_loop.trips, 4 ≤ k.val → k.val < 10 → k0_off14 k = ![0, 512 * (k.val + 8 - 12)] := by decide +kernel
theorem off17_of : ∀ k : Fin k0_t1_loop.trips, 4 ≤ k.val → k.val < 10 → k0_off17 k = ![3072, 512 * (k.val + 8 - 12)] := by decide +kernel

/-- What a trip of the first loop finds at its pair. -/
theorem Φ_pre1 (c : Dev nD) (f7 : C7 (F := F) c) (f8 : C8 (F := F) c) (f9 : C9 (F := F) c) (k : Fin k0_t1_loop.trips) :
    Φ c f7 f8 f9 (pr k) (st k (pr k)) = FlyA c f7 f8 f9 (pr k) (k0_off1 k) (k0_off1_inb k) (k0_off4 k) (k0_off4_inb k) (k0_off2 k) (k0_off2_inb k) (k0_off5 k) (k0_off5_inb k)
      ![0, 512 * k.val] (inG (trips1 k)) := by
  rw [st_pr]; unfold Φ
  rw [dif_pos (trips1 k)]
  refine FlyA_congr c f7 f8 f9 _ _ _ _ _ _ _ _ _ _ _ ?_ ?_ ?_ ?_ rfl
  · rw [k0_off1_eq]; congr 1; show 2 * (k.val % 8) = _; omega
  · rw [k0_off4_eq]; congr 1; show 2 * (k.val % 8) + 1 = _; omega
  · rw [k0_off2_eq]; congr 1; show 2 * (k.val % 8) = _; omega
  · rw [k0_off5_eq]; congr 1; show 2 * (k.val % 8) + 1 = _; omega

/-- What a trip of each kind leaves at its pair. -/
theorem Φ_postA (c : Dev nD) (f7 : C7 (F := F) c) (f8 : C8 (F := F) c) (f9 : C9 (F := F) c) (k : Fin k0_t1_loop.trips) (h1 : k0_cond1 k = 1#1) :
    FlyA c f7 f8 f9 (pr k) (k0_off7 k) (k0_off7_inb k h1) (k0_off10 k) (k0_off10_inb k h1) (k0_off8 k) (k0_off8_inb k h1) (k0_off11 k) (k0_off11_inb k h1) (k0_off9 k) (k0_off9_inb k h1)
      = Φ c f7 f8 f9 (pr k) (k.val + 8) := by
  have hk := (cond1_iff k).mp h1
  unfold Φ
  rw [dif_pos (show k.val + 8 < 12 by omega)]
  refine FlyA_congr c f7 f8 f9 _ _ _ _ _ _ _ _ _ _ _ ?_ ?_ ?_ ?_ ?_
  · rw [k0_off7_eq]; congr 1; show _ = 2 * (k.val % 8); omega
  · rw [k0_off10_eq]; congr 1; show _ = 2 * (k.val % 8) + 1; omega
  · rw [k0_off8_eq]; congr 1; show _ = 2 * (k.val % 8); omega
  · rw [k0_off11_eq]; congr 1; show _ = 2 * (k.val % 8) + 1; omega
  · rw [k0_off9_eq]; congr 2

theorem Φ_postB (c : Dev nD) (f7 : C7 (F := F) c) (f8 : C8 (F := F) c) (f9 : C9 (F := F) c) (k : Fin k0_t1_loop.trips) (h2 : k0_cond2 k = 1#1) :
    FlyB c f7 f8 f9 (pr k) (k0_off12 k) (k0_off12_inb k h2) (k0_off15 k) (k0_off15_inb k h2) (k0_off13 k) (k0_off13_inb k h2) (k0_off16 k) (k0_off16_inb k h2) (k0_off14 k) (k0_off14_inb k h2) (k0_off17 k) (k0_off17_inb k h2)
      = Φ c f7 f8 f9 (pr k) (k.val + 8) := by
  have hk := (cond2_iff k).mp h2
  unfold Φ
  rw [dif_neg (show ¬ k.val + 8 < 12 by omega), dif_pos (show k.val + 8 < 18 by omega)]
  refine FlyB_congr c f7 f8 f9 _ _ _ _ _ _ _ _ _ _ _ _ _ ?_ ?_ ?_ ?_ ?_ ?_
  · rw [k0_off12_eq]; congr 1; show _ = 2 * (k.val % 8); omega
  · rw [k0_off15_eq]; congr 1; show _ = 2 * (k.val % 8) + 1; omega
  · rw [k0_off13_eq]; congr 1; show _ = 2 * (k.val % 8); omega
  · rw [k0_off16_eq]; congr 1; show _ = 2 * (k.val % 8) + 1; omega
  · exact off14_of k hk.1 hk.2
  · exact off17_of k hk.1 hk.2

theorem Φ_postC (c : Dev nD) (f7 : C7 (F := F) c) (f8 : C8 (F := F) c) (f9 : C9 (F := F) c) (k : Fin k0_t1_loop.trips) (h1 : ¬ k0_cond1 k = 1#1) (h2 : ¬ k0_cond2 k = 1#1) :
    Rest c f7 f8 f9 (pr k) (k0_off1 k) (k0_off1_inb k) (k0_off4 k) (k0_off4_inb k) (k0_off2 k) (k0_off2_inb k) (k0_off5 k) (k0_off5_inb k)
      = Φ c f7 f8 f9 (pr k) (k.val + 8) := by
  have hk1 := mt (cond1_iff k).mpr h1
  have hk2 := mt (cond2_iff k).mpr h2
  have hk := trips1 k
  unfold Φ
  rw [dif_neg (show ¬ k.val + 8 < 12 by omega), dif_neg (show ¬ k.val + 8 < 18 by omega)]
  refine Rest_congr c f7 f8 f9 _ _ _ _ _ _ _ _ _ ?_ ?_ ?_ ?_
  · rw [k0_off1_eq]; congr 1; show _ = 2 * (k.val % 8); omega
  · rw [k0_off4_eq]; congr 1; show _ = 2 * (k.val % 8) + 1; omega
  · rw [k0_off2_eq]; congr 1; show _ = 2 * (k.val % 8); omega
  · rw [k0_off5_eq]; congr 1; show _ = 2 * (k.val % 8) + 1; omega

theorem Φ_pre2 (c : Dev nD) (f7 : C7 (F := F) c) (f8 : C8 (F := F) c) (f9 : C9 (F := F) c) (k : Fin k0_t2_loop.trips) :
    Φ c f7 f8 f9 (pr (12 + k)) (st (12 + k) (pr (12 + k))) = FlyB c f7 f8 f9 (pr (12 + k)) (k0_off20 k) (k0_off20_inb k) (k0_off23 k) (k0_off23_inb k) (k0_off21 k) (k0_off21_inb k) (k0_off24 k) (k0_off24_inb k)
      ![0, 512 * k.val] (inD (trips2 k)) ![3072, 512 * k.val] (inD' (trips2 k)) := by
  have hk := trips2 k
  rw [st_pr]; unfold Φ
  rw [dif_neg (show ¬ 12 + k.val < 12 by omega), dif_pos (show 12 + k.val < 18 by omega)]
  refine FlyB_congr c f7 f8 f9 _ _ _ _ _ _ _ _ _ _ _ _ _ ?_ ?_ ?_ ?_ ?_ ?_
  · rw [k0_off20_eq]; congr 1; show 2 * ((12 + k.val) % 8) = _; omega
  · rw [k0_off23_eq]; congr 1; show 2 * ((12 + k.val) % 8) + 1 = _; omega
  · rw [k0_off21_eq]; congr 1; show 2 * ((12 + k.val) % 8) = _; omega
  · rw [k0_off24_eq]; congr 1; show 2 * ((12 + k.val) % 8) + 1 = _; omega
  · rw [Nat.add_sub_cancel_left]
  · rw [Nat.add_sub_cancel_left]

theorem Φ_post2 (c : Dev nD) (f7 : C7 (F := F) c) (f8 : C8 (F := F) c) (f9 : C9 (F := F) c) (k : Fin k0_t2_loop.trips) :
    Rest c f7 f8 f9 (pr (12 + k)) (k0_off20 k) (k0_off20_inb k) (k0_off23 k) (k0_off23_inb k) (k0_off21 k) (k0_off21_inb k) (k0_off24 k) (k0_off24_inb k)
      = Φ c f7 f8 f9 (pr (12 + k)) (12 + k.val + 8) := by
  have hk := trips2 k
  unfold Φ
  rw [dif_neg (show ¬ 12 + k.val + 8 < 12 by omega), dif_neg (show ¬ 12 + k.val + 8 < 18 by omega)]
  refine Rest_congr c f7 f8 f9 _ _ _ _ _ _ _ _ _ ?_ ?_ ?_ ?_
  · rw [k0_off20_eq]; congr 1; show _ = 2 * ((12 + k.val) % 8); omega
  · rw [k0_off23_eq]; congr 1; show _ = 2 * ((12 + k.val) % 8) + 1; omega
  · rw [k0_off21_eq]; congr 1; show _ = 2 * ((12 + k.val) % 8); omega
  · rw [k0_off24_eq]; congr 1; show _ = 2 * ((12 + k.val) % 8) + 1; omega

/-- A pair back in the family in its next state. -/
theorem family_step (c : Dev nD) (f7 : C7 (F := F) c) (f8 : C8 (F := F) c) (f9 : C9 (F := F) c) (p : ℕ) :
    iprop(Φ c f7 f8 f9 (pr p) (p + 8) ∗ Ring.restW (σ := fun _ => ℕ) (Φ c f7 f8 f9) (st p) (pr p)) ⊢ Ring.AtW (σ := fun _ => ℕ) (Φ c f7 f8 f9) (st (p + 1)) := by
  rw [st_succ]; exact Ring.AtW_update (σ := fun _ => ℕ) (Φ c f7 f8 f9) (st p) (pr p) (p + 8)

/-! ### What the loops compute -/

/-- The tile of activations of trip `p`, from the matrices. -/
def actT (c : Dev nD) (f7 : C7 (F := F) c) (f8 : C8 (F := F) c) (v0 : Elt F .f32) (v272 : FVec F S24x1 .f32) (lhs : Vec F S32x3072 .fp8e4m3) (w3 w4 : Vec F S1x6144 .f32)
    (k : Fin k0_t1_loop.trips) : FVec F S24x512 .f32 :=
  tileA v0 v272 lhs w3 w4 k ((src7 ![0, 512 * k.val] (inG (trips1 k))).view.read (Elt F) f7) ((src8 ![0, 512 * k.val] (inG (trips1 k))).view.read (Elt F) f8)

/-- The buffer of activations before trip `k`. -/
def gAt (T : Fin k0_t1_loop.trips → FVec F S24x512 .f32) (g : Vec F S48x24x128 .f32) : ℕ → Vec F S48x24x128 .f32
  | 0 => g
  | k + 1 => if h : k < k0_t1_loop.trips then putA (gAt T g k) ⟨k, h⟩ (T ⟨k, h⟩) else gAt T g k

/-- The running maximum before trip `k`. -/
def accAt (T : Fin k0_t1_loop.trips → FVec F S24x512 .f32) (a : FVec F S24x128 .f32) : ℕ → FVec F S24x128 .f32
  | 0 => a
  | k + 1 => if h : k < k0_t1_loop.trips then accA (accAt T a k) (T ⟨k, h⟩) else accAt T a k

/-- The block of the output of trip `n`, from the matrices. -/
def outT (c : Dev nD) (f9 : C9 (F := F) c) (v1 : Elt F .f32) (v363 : FVec F S24x1 .f32) (lhs : Vec F S32x6144 .fp8e4m3) (w5 : Vec F S1x3072 .f32) (w6 : Vec F S24x3072 .f32)
    (n : Fin k0_t2_loop.trips) : FVec F S24x512 .bf16 :=
  tileB v1 v363 lhs w5 w6 n ((src9 ![0, 512 * n.val] (inD (trips2 n))).view.read (Elt F) f9) ((src9 ![3072, 512 * n.val] (inD' (trips2 n))).view.read (Elt F) f9)

/-- The output before trip `n`. -/
def oAt (T : Fin k0_t2_loop.trips → FVec F S24x512 .bf16) (g : Vec F S24x3072 .bf16) : ℕ → Vec F S24x3072 .bf16
  | 0 => g
  | n + 1 => if h : n < k0_t2_loop.trips then putB (oAt T g n) ⟨n, h⟩ (T ⟨n, h⟩) else oAt T g n

variable (i : grid0.Coords)
  (arg1 : Memref sig .tc .smem S12 .f32) (harg1 : arg1.IsWhole) (arg2 : Memref sig .tc .vmem S1x3072 .f32) (harg2 : arg2.IsWhole) (arg3 : Memref sig .tc .vmem S1x6144 .f32) (harg3 : arg3.IsWhole) (arg4 : Memref sig .tc .vmem S1x6144 .f32) (harg4 : arg4.IsWhole) (arg5 : Memref sig .tc .vmem S1x3072 .f32) (harg5 : arg5.IsWhole) (arg6 : Memref sig .tc .vmem S24x3072 .f32) (harg6 : arg6.IsWhole) (arg10 : Memref sig .tc .vmem S24x3072 .bf16) (harg10 : arg10.IsWhole) (arg11 : Memref sig .tc .vmem S24x3072 .fp8e4m3) (harg11 : arg11.IsWhole) (arg12 : Memref sig .tc .vmem S1x24 .f32) (harg12 : arg12.IsWhole) (arg13 : Memref sig .tc .vmem S24x6144 .fp8e4m3) (harg13 : arg13.IsWhole) (arg14 : Memref sig .tc .vmem S1x24 .f32) (harg14 : arg14.IsWhole)

/-- The first loop's invariant: the ring, the operands, the activations so far and the running maximum. -/
def inv1 (c : Dev nD) (f7 : C7 (F := F) c) (f8 : C8 (F := F) c) (f9 : C9 (F := F) c) (v0 : Elt F .f32) (v272 : FVec F S24x1 .f32)
    (w3 w4 : Vec F S1x6144 .f32) (lhs : Vec F S32x3072 .fp8e4m3) (g : Vec F S48x24x128 .f32) (k : ℕ) (acc : FVec F S24x128 .f32) : sProp 𝕄 :=
  iprop(⌜acc = accAt (actT c f7 f8 v0 v272 lhs w3 w4) (k0_pay44 (F := F)) k⌝
    ∗ Ring.AtW (σ := fun _ => ℕ) (Φ c f7 f8 f9) (st k)
    ∗ owns (c : Thread nD τ) arg3 fullShare w3 ∗ owns (c : Thread nD τ) arg4 fullShare w4 ∗ owns (c : Thread nD τ) (Memref.whole cc0_scratch1) fullShare lhs
    ∗ owns (c : Thread nD τ) (Memref.whole cc0_scratch4) fullShare (gAt (actT c f7 f8 v0 v272 lhs w3 w4) g k)
    ∗ (∃ W, owes (c : Thread nD τ) 0 W))

theorem step1 (c : Dev nD) (f7 : C7 (F := F) c) (f8 : C8 (F := F) c) (f9 : C9 (F := F) c) (v0 : Elt F .f32) (v272 : FVec F S24x1 .f32) (v327 : FVec F S24x512 .f32)
    (w3 w4 : Vec F S1x6144 .f32) (lhs : Vec F S32x3072 .fp8e4m3) (g : Vec F S48x24x128 .f32) (k : Fin k0_t1_loop.trips) (acc : FVec F S24x128 .f32) :
    inv1 arg3 arg4 c f7 f8 f9 v0 v272 w3 w4 lhs g k acc ⊢ wp frame (wpE defs₀ Variants.none (c : Thread nD τ) none) Set.univ
        (k0_t1_body (F := F) i arg1 harg1 arg2 harg2 arg3 harg3 arg4 harg4 arg5 harg5 arg6 harg6 hb7 (Memref.isWhole_whole _) hb8 (Memref.isWhole_whole _) hb9 (Memref.isWhole_whole _) arg10 harg10 arg11 harg11 arg12 harg12 arg13 harg13 arg14 harg14 slabs (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) sems v0 v272 v327 k acc) (inv1 arg3 arg4 c f7 f8 f9 v0 v272 w3 w4 lhs g (k.val + 1)) := by
  have eg : gAt (actT c f7 f8 v0 v272 lhs w3 w4) g (k.val + 1) = putA (gAt (actT c f7 f8 v0 v272 lhs w3 w4) g k.val) k (actT c f7 f8 v0 v272 lhs w3 w4 k) := dif_pos k.isLt
  have ea : accAt (actT c f7 f8 v0 v272 lhs w3 w4) (k0_pay44 (F := F)) (k.val + 1) = accA (accAt (actT c f7 f8 v0 v272 lhs w3 w4) (k0_pay44 (F := F)) k.val) (actT c f7 f8 v0 v272 lhs w3 w4 k) := dif_pos k.isLt
  unfold inv1
  rw [Ring.AtW_focus (σ := fun _ => ℕ) (Φ c f7 f8 f9) (st k) (pr k), Φ_pre1, eg, ea]
  iintro ⟨%hacc, ⟨HΦ, HR⟩, H3, H4, H16, H19, ⟨%W, HO⟩⟩
  subst hacc
  by_cases h1 : k0_cond1 k = 1#1
  · have h2 : ¬ k0_cond2 k = 1#1 := fun h => by have := (cond1_iff k).mp h1; have := (cond2_iff k).mp h; omega
    iapply (tripA (F := F) i arg1 harg1 arg2 harg2 arg3 harg3 arg4 harg4 arg5 harg5 arg6 harg6 arg10 harg10 arg11 harg11 arg12 harg12 arg13 harg13 arg14 harg14 c f7 f8 f9 v0 v272 v327 k _ w3 w4 lhs _ (pr k) h1 h2 ![0, 512 * k.val] (inG (trips1 k)) W)
    isplitl [HΦ]; · iexact HΦ
    isplitl [H3]; · iexact H3
    isplitl [H4]; · iexact H4
    isplitl [H16]; · iexact H16
    isplitl [H19]; · iexact H19
    isplitl [HO]; · iexact HO
    rw [Φ_postA c f7 f8 f9 k h1]
    iintro ⟨HΦ, H3, H4, H16, H19, HO⟩
    isplitr; · ipureintro; rfl
    isplitl [HΦ HR]; · iapply (family_step c f7 f8 f9 k.val); isplitl [HΦ]; (· iexact HΦ); iexact HR
    isplitl [H3]; · iexact H3
    isplitl [H4]; · iexact H4
    isplitl [H16]; · iexact H16
    isplitl [H19]; · iexact H19
    iexact HO
  · by_cases h2 : k0_cond2 k = 1#1
    · iapply (tripB (F := F) i arg1 harg1 arg2 harg2 arg3 harg3 arg4 harg4 arg5 harg5 arg6 harg6 arg10 harg10 arg11 harg11 arg12 harg12 arg13 harg13 arg14 harg14 c f7 f8 f9 v0 v272 v327 k _ w3 w4 lhs _ (pr k) h1 h2 ![0, 512 * k.val] (inG (trips1 k)) W)
      isplitl [HΦ]; · iexact HΦ
      isplitl [H3]; · iexact H3
      isplitl [H4]; · iexact H4
      isplitl [H16]; · iexact H16
      isplitl [H19]; · iexact H19
      isplitl [HO]; · iexact HO
      rw [Φ_postB c f7 f8 f9 k h2]
      iintro ⟨HΦ, H3, H4, H16, H19, HO⟩
      isplitr; · ipureintro; rfl
      isplitl [HΦ HR]; · iapply (family_step c f7 f8 f9 k.val); isplitl [HΦ]; (· iexact HΦ); iexact HR
      isplitl [H3]; · iexact H3
      isplitl [H4]; · iexact H4
      isplitl [H16]; · iexact H16
      isplitl [H19]; · iexact H19
      iexact HO
    · iapply (tripC (F := F) i arg1 harg1 arg2 harg2 arg3 harg3 arg4 harg4 arg5 harg5 arg6 harg6 arg10 harg10 arg11 harg11 arg12 harg12 arg13 harg13 arg14 harg14 c f7 f8 f9 v0 v272 v327 k _ w3 w4 lhs _ (pr k) h1 h2 ![0, 512 * k.val] (inG (trips1 k)) W)
      isplitl [HΦ]; · iexact HΦ
      isplitl [H3]; · iexact H3
      isplitl [H4]; · iexact H4
      isplitl [H16]; · iexact H16
      isplitl [H19]; · iexact H19
      isplitl [HO]; · iexact HO
      rw [Φ_postC c f7 f8 f9 k h1 h2]
      iintro ⟨HΦ, H3, H4, H16, H19, HO⟩
      isplitr; · ipureintro; rfl
      isplitl [HΦ HR]; · iapply (family_step c f7 f8 f9 k.val); isplitl [HΦ]; (· iexact HΦ); iexact HR
      isplitl [H3]; · iexact H3
      isplitl [H4]; · iexact H4
      isplitl [H16]; · iexact H16
      isplitl [H19]; · iexact H19
      iexact HO

/-- The second loop's invariant: the ring, the operands and the output so far. -/
def inv2 (c : Dev nD) (f7 : C7 (F := F) c) (f8 : C8 (F := F) c) (f9 : C9 (F := F) c) (v1 : Elt F .f32) (v363 : FVec F S24x1 .f32)
    (w5 : Vec F S1x3072 .f32) (w6 : Vec F S24x3072 .f32) (lhs : Vec F S32x6144 .fp8e4m3) (g : Vec F S24x3072 .bf16) (k : ℕ) (acc : Unit) : sProp 𝕄 :=
  iprop(Ring.AtW (σ := fun _ => ℕ) (Φ c f7 f8 f9) (st (12 + k))
    ∗ owns (c : Thread nD τ) arg5 fullShare w5 ∗ owns (c : Thread nD τ) arg6 fullShare w6 ∗ owns (c : Thread nD τ) (Memref.whole cc0_scratch2) fullShare lhs
    ∗ owns (c : Thread nD τ) arg10 fullShare (oAt (outT c f9 v1 v363 lhs w5 w6) g k)
    ∗ (∃ W, owes (c : Thread nD τ) 0 W))

theorem step2 (c : Dev nD) (f7 : C7 (F := F) c) (f8 : C8 (F := F) c) (f9 : C9 (F := F) c) (v1 : Elt F .f32) (v272 v363 : FVec F S24x1 .f32) (v1018 : FVec F S32x128 .fp8e4m3)
    (w5 : Vec F S1x3072 .f32) (w6 : Vec F S24x3072 .f32) (lhs : Vec F S32x6144 .fp8e4m3) (g : Vec F S24x3072 .bf16) (k : Fin k0_t2_loop.trips) (acc : Unit) :
    inv2 arg5 arg6 arg10 c f7 f8 f9 v1 v363 w5 w6 lhs g k acc ⊢ wp frame (wpE defs₀ Variants.none (c : Thread nD τ) none) Set.univ
        (k0_t2_body (F := F) i arg1 harg1 arg2 harg2 arg3 harg3 arg4 harg4 arg5 harg5 arg6 harg6 hb7 (Memref.isWhole_whole _) hb8 (Memref.isWhole_whole _) hb9 (Memref.isWhole_whole _) arg10 harg10 arg11 harg11 arg12 harg12 arg13 harg13 arg14 harg14 slabs (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) sems v1 v272 v363 v1018 k acc) (inv2 arg5 arg6 arg10 c f7 f8 f9 v1 v363 w5 w6 lhs g (k.val + 1)) := by
  have eg : oAt (outT c f9 v1 v363 lhs w5 w6) g (k.val + 1) = putB (oAt (outT c f9 v1 v363 lhs w5 w6) g k.val) k (outT c f9 v1 v363 lhs w5 w6 k) := dif_pos k.isLt
  unfold inv2
  rw [Ring.AtW_focus (σ := fun _ => ℕ) (Φ c f7 f8 f9) (st (12 + k)) (pr (12 + k)), Φ_pre2, eg]
  iintro ⟨⟨HΦ, HR⟩, H5, H6, H17, H10, ⟨%W, HO⟩⟩
  iapply (tripD (F := F) i arg1 harg1 arg2 harg2 arg3 harg3 arg4 harg4 arg5 harg5 arg6 harg6 arg10 harg10 arg11 harg11 arg12 harg12 arg13 harg13 arg14 harg14 c f7 f8 f9 v1 v272 v363 v1018 k w5 w6 lhs _ (pr (12 + k)) (512 * k.val) (inD (trips2 k)) (inD' (trips2 k)) W)
  isplitl [HΦ]; · iexact HΦ
  isplitl [H5]; · iexact H5
  isplitl [H6]; · iexact H6
  isplitl [H17]; · iexact H17
  isplitl [H10]; · iexact H10
  isplitl [HO]; · iexact HO
  rw [Φ_post2]
  iintro ⟨HΦ, H5, H6, H17, H10, HO⟩
  isplitl [HΦ HR]; · iapply (family_step c f7 f8 f9 (12 + k.val)); isplitl [HΦ]; (· iexact HΦ); iexact HR
  isplitl [H5]; · iexact H5
  isplitl [H6]; · iexact H6
  isplitl [H17]; · iexact H17
  isplitl [H10]; · iexact H10
  iexact HO

end Cert.KernelIdeal.Hand

end
-- ==== Proof.OpenIdeal.lean ====
module

public import proofs.«01_k».proof.Proof.LoopIdeal
public import Idealize.ShloMosaic.Lib.Ring.Tabled
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Transfers
public import Idealize.ShloMosaic.Lib.Ring
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ### The ring taken apart and put together -/

theorem Φ_rest (c : Dev nD) (f7 : C7 (F := F) c) (f8 : C8 (F := F) c) (f9 : C9 (F := F) c) (j : Fin 8) {q : ℕ} (h : 18 ≤ q) :
    Φ c f7 f8 f9 j q = Rest c f7 f8 f9 j ![2 * j.val] (in1 (lo j)) ![2 * j.val + 1] (in1 (hi j)) ![2 * j.val, 0, 0] (in3 (lo j)) ![2 * j.val + 1, 0, 0] (in3 (hi j)) := by
  unfold Φ; rw [dif_neg (by omega), dif_neg (by omega)]

theorem Φ_fly (c : Dev nD) (f7 : C7 (F := F) c) (f8 : C8 (F := F) c) (f9 : C9 (F := F) c) (j : Fin 8) {q : ℕ} (h : q < 12) :
    Φ c f7 f8 f9 j q = FlyA c f7 f8 f9 j ![2 * j.val] (in1 (lo j)) ![2 * j.val + 1] (in1 (hi j)) ![2 * j.val, 0, 0] (in3 (lo j)) ![2 * j.val + 1, 0, 0] (in3 (hi j))
      ![0, 512 * q] (inG h) := by
  unfold Φ; rw [dif_pos h]

/-- All eight pairs at rest. -/
abbrev Rests (c : Dev nD) (f7 : C7 (F := F) c) (f8 : C8 (F := F) c) (f9 : C9 (F := F) c) : sProp 𝕄 :=
  iprop(Rest c f7 f8 f9 0 ![0] (in1 (by decide)) ![1] (in1 (by decide)) ![0, 0, 0] (in3 (by decide)) ![1, 0, 0] (in3 (by decide)) ∗ Rest c f7 f8 f9 1 ![2] (in1 (by decide)) ![3] (in1 (by decide)) ![2, 0, 0] (in3 (by decide)) ![3, 0, 0] (in3 (by decide)) ∗ Rest c f7 f8 f9 2 ![4] (in1 (by decide)) ![5] (in1 (by decide)) ![4, 0, 0] (in3 (by decide)) ![5, 0, 0] (in3 (by decide)) ∗ Rest c f7 f8 f9 3 ![6] (in1 (by decide)) ![7] (in1 (by decide)) ![6, 0, 0] (in3 (by decide)) ![7, 0, 0] (in3 (by decide)) ∗ Rest c f7 f8 f9 4 ![8] (in1 (by decide)) ![9] (in1 (by decide)) ![8, 0, 0] (in3 (by decide)) ![9, 0, 0] (in3 (by decide)) ∗ Rest c f7 f8 f9 5 ![10] (in1 (by decide)) ![11] (in1 (by decide)) ![10, 0, 0] (in3 (by decide)) ![11, 0, 0] (in3 (by decide)) ∗ Rest c f7 f8 f9 6 ![12] (in1 (by decide)) ![13] (in1 (by decide)) ![12, 0, 0] (in3 (by decide)) ![13, 0, 0] (in3 (by decide)) ∗ Rest c f7 f8 f9 7 ![14] (in1 (by decide)) ![15] (in1 (by decide)) ![14, 0, 0] (in3 (by decide)) ![15, 0, 0] (in3 (by decide)))

/-- All eight pairs holding the first eight gate and up blocks. -/
abbrev Flys (c : Dev nD) (f7 : C7 (F := F) c) (f8 : C8 (F := F) c) (f9 : C9 (F := F) c) : sProp 𝕄 :=
  iprop(FlyA c f7 f8 f9 0 ![0] (in1 (by decide)) ![1] (in1 (by decide)) ![0, 0, 0] (in3 (by decide)) ![1, 0, 0] (in3 (by decide)) ![0, 0] (inG (q := 0) (by decide)) ∗ FlyA c f7 f8 f9 1 ![2] (in1 (by decide)) ![3] (in1 (by decide)) ![2, 0, 0] (in3 (by decide)) ![3, 0, 0] (in3 (by decide)) ![0, 512] (inG (q := 1) (by decide)) ∗ FlyA c f7 f8 f9 2 ![4] (in1 (by decide)) ![5] (in1 (by decide)) ![4, 0, 0] (in3 (by decide)) ![5, 0, 0] (in3 (by decide)) ![0, 1024] (inG (q := 2) (by decide)) ∗ FlyA c f7 f8 f9 3 ![6] (in1 (by decide)) ![7] (in1 (by decide)) ![6, 0, 0] (in3 (by decide)) ![7, 0, 0] (in3 (by decide)) ![0, 1536] (inG (q := 3) (by decide)) ∗ FlyA c f7 f8 f9 4 ![8] (in1 (by decide)) ![9] (in1 (by decide)) ![8, 0, 0] (in3 (by decide)) ![9, 0, 0] (in3 (by decide)) ![0, 2048] (inG (q := 4) (by decide)) ∗ FlyA c f7 f8 f9 5 ![10] (in1 (by decide)) ![11] (in1 (by decide)) ![10, 0, 0] (in3 (by decide)) ![11, 0, 0] (in3 (by decide)) ![0, 2560] (inG (q := 5) (by decide)) ∗ FlyA c f7 f8 f9 6 ![12] (in1 (by decide)) ![13] (in1 (by decide)) ![12, 0, 0] (in3 (by decide)) ![13, 0, 0] (in3 (by decide)) ![0, 3072] (inG (q := 6) (by decide)) ∗ FlyA c f7 f8 f9 7 ![14] (in1 (by decide)) ![15] (in1 (by decide)) ![14, 0, 0] (in3 (by decide)) ![15, 0, 0] (in3 (by decide)) ![0, 3584] (inG (q := 7) (by decide)))

theorem rests_eq (c : Dev nD) (f7 : C7 (F := F) c) (f8 : C8 (F := F) c) (f9 : C9 (F := F) c) :
    Ring.AtW (σ := fun _ => ℕ) (Φ c f7 f8 f9) (st 18) = Rests c f7 f8 f9 := by
  rw [Ring.AtW_eq_list (Φ c f7 f8 f9) (st 18) [0, 1, 2, 3, 4, 5, 6, 7] (by decide) (by decide)]
  simp only [bigSepL]
  rw [Φ_rest c f7 f8 f9 0 (by decide), Φ_rest c f7 f8 f9 1 (by decide), Φ_rest c f7 f8 f9 2 (by decide), Φ_rest c f7 f8 f9 3 (by decide),
    Φ_rest c f7 f8 f9 4 (by decide), Φ_rest c f7 f8 f9 5 (by decide), Φ_rest c f7 f8 f9 6 (by decide), Φ_rest c f7 f8 f9 7 (by decide)]
  rfl

theorem flys_eq (c : Dev nD) (f7 : C7 (F := F) c) (f8 : C8 (F := F) c) (f9 : C9 (F := F) c) :
    Ring.AtW (σ := fun _ => ℕ) (Φ c f7 f8 f9) (st 0) = Flys c f7 f8 f9 := by
  rw [Ring.AtW_eq_list (Φ c f7 f8 f9) (st 0) [0, 1, 2, 3, 4, 5, 6, 7] (by decide) (by decide)]
  simp only [bigSepL]
  rw [Φ_fly c f7 f8 f9 0 (by decide), Φ_fly c f7 f8 f9 1 (by decide), Φ_fly c f7 f8 f9 2 (by decide), Φ_fly c f7 f8 f9 3 (by decide),
    Φ_fly c f7 f8 f9 4 (by decide), Φ_fly c f7 f8 f9 5 (by decide), Φ_fly c f7 f8 f9 6 (by decide), Φ_fly c f7 f8 f9 7 (by decide)]
  rfl

/-- The sixteen slots of the ring are disjoint and cover it. -/
abbrev slotS (b : Fin 16) : Finset S16x3072x512.Idx := (Rect.unit (s := S16x3072x512) ![b.val, 0, 0] S1x3072x512.size (in3 b.isLt)).set
theorem slotS_disjoint : ∀ b b' : Fin 16, b ≠ b' → Disjoint (slotS b) (slotS b') :=
  Ring.lead_disjoint (s := S16x3072x512) (NB := 16) 0 1 (fun b => ![b.val, 0, 0]) S1x3072x512.size (fun b => in3 b.isLt) (fun b => (Nat.one_mul _).symm) rfl
theorem slotS_cover : Finset.univ.biUnion slotS = Finset.univ :=
  Ring.lead_cover (s := S16x3072x512) (NB := 16) 0 1 (fun b => ![b.val, 0, 0]) S1x3072x512.size (fun b => in3 b.isLt) (fun b => (Nat.one_mul _).symm)
    (by intro b a ha; match a, ha with | ⟨1, _⟩, _ => rfl | ⟨2, _⟩, _ => rfl) rfl
    (by intro a ha; match a, ha with | ⟨1, _⟩, _ => rfl | ⟨2, _⟩, _ => rfl) rfl
theorem slot_set (b : Fin 16) : (slot ![b.val, 0, 0] (in3 b.isLt)).view.set = slotS b := (View.set_reshape _ _).trans (View.set_slice_whole _ _)

/-- A slot at some contents. -/
abbrev slotP (c : Dev nD) (o3 : Fin 3 → ℕ) (h3 : In3 o3) : sProp 𝕄 :=
  iprop(∃ f, (slot o3 h3).view.loc (c : Thread nD τ) ↦[(slot o3 h3).view.set]{fullShare} f)

theorem slots_list (c : Dev nD) :
    (bigSep Finset.univ (fun b : Fin 16 => slotP (F := F) c ![b.val, 0, 0] (in3 b.isLt)) : sProp 𝕄)
      = iprop(slotP (F := F) c ![0, 0, 0] (in3 (by decide)) ∗ slotP (F := F) c ![1, 0, 0] (in3 (by decide)) ∗ slotP (F := F) c ![2, 0, 0] (in3 (by decide)) ∗ slotP (F := F) c ![3, 0, 0] (in3 (by decide)) ∗ slotP (F := F) c ![4, 0, 0] (in3 (by decide)) ∗ slotP (F := F) c ![5, 0, 0] (in3 (by decide)) ∗ slotP (F := F) c ![6, 0, 0] (in3 (by decide)) ∗ slotP (F := F) c ![7, 0, 0] (in3 (by decide)) ∗ slotP (F := F) c ![8, 0, 0] (in3 (by decide)) ∗ slotP (F := F) c ![9, 0, 0] (in3 (by decide)) ∗ slotP (F := F) c ![10, 0, 0] (in3 (by decide)) ∗ slotP (F := F) c ![11, 0, 0] (in3 (by decide)) ∗ slotP (F := F) c ![12, 0, 0] (in3 (by decide)) ∗ slotP (F := F) c ![13, 0, 0] (in3 (by decide)) ∗ slotP (F := F) c ![14, 0, 0] (in3 (by decide)) ∗ slotP (F := F) c ![15, 0, 0] (in3 (by decide))) :=
  bigSep_univ_eq_bigSepL [0, 1, 2, 3, 4, 5, 6, 7, 8, 9, 10, 11, 12, 13, 14, 15] (by decide) (by decide) _

theorem slotP_eq (c : Dev nD) (b : Fin 16) (f : Buf (Elt F) (slabs.view.loc (c : Thread nD τ))) :
    ((slot ![b.val, 0, 0] (in3 b.isLt)).view.loc (c : Thread nD τ) ↦[(slot ![b.val, 0, 0] (in3 b.isLt)).view.set]{fullShare} f : sProp 𝕄)
      = (slabs.view.loc (c : Thread nD τ) ↦[slotS b]{fullShare} f) :=
  congrArg (fun S => (slabs.view.loc (c : Thread nD τ) ↦[S]{fullShare} f : sProp 𝕄)) (slot_set b)

/-- The ring's buffer whole is its sixteen slots, each at some contents, and back. -/
theorem slots_open (c : Dev nD) :
    iprop(∃ f, slabs.view.loc (c : Thread nD τ) ↦{fullShare} f)
      ⊢ (bigSep Finset.univ (fun b : Fin 16 => slotP (F := F) c ![b.val, 0, 0] (in3 b.isLt)) : sProp 𝕄) := by
  iintro ⟨%f, H⟩
  ihave H := (Entails.of_eq (Ring.pointsTo_blocks (Ix := Unit) (Name := ℕ) (U := Pipeline.UD sig nD τ) (Lvl := ℕ) (q := fullShare)
    (ℓ := slabs.view.loc (c : Thread nD τ)) slotS slotS_disjoint slotS_cover f)) $$ H
  iapply (show _ ⊢ _ from bigSep_mono (s := Finset.univ) fun b _ => show (slabs.view.loc (c : Thread nD τ) ↦[slotS b]{fullShare} f : sProp 𝕄) ⊢ slotP (F := F) c ![b.val, 0, 0] (in3 b.isLt) by
    iintro H; iexists f; iapply (Entails.of_eq (slotP_eq c b f).symm); iexact H)
  iexact H
theorem slots_close (c : Dev nD) (f₀ : Buf (Elt F) (slabs.view.loc (c : Thread nD τ))) :
    (bigSep Finset.univ (fun b : Fin 16 => slotP (F := F) c ![b.val, 0, 0] (in3 b.isLt)) : sProp 𝕄)
      ⊢ iprop(∃ f, slabs.view.loc (c : Thread nD τ) ↦{fullShare} f) := by
  refine BIBase.Entails.trans ?_ (Ring.pointsTo_blocks_join_exists (ℓ := slabs.view.loc (c : Thread nD τ)) slotS slotS_disjoint slotS_cover f₀)
  refine bigSep_mono (s := Finset.univ) fun b _ => (show (slotP (F := F) c ![b.val, 0, 0] (in3 b.isLt)) ⊢ iprop(∃ f, slabs.view.loc (c : Thread nD τ) ↦[slotS b]{fullShare} f) from ?_)
  iintro ⟨%f, H⟩; iexists f; iapply (Entails.of_eq (slotP_eq c b f)); iexact H

/-- A matrix whole is its eight read tokens and what is left, and back. -/
theorem toks_list (c : Dev nD) {sp : Space} {s : Shape} {e : EltTy} (M : Memref sig .tc sp s e) (f : Buf (Elt F) (M.view.loc (c : Thread nD τ))) :
    (M.view.loc (c : Thread nD τ) ↦{fullShare} f : sProp 𝕄)
      = iprop((M.view.loc (c : Thread nD τ) ↦{Transfers.shareDrop fullShare 8} f)
          ∗ (M.view.loc (c : Thread nD τ) ↦{Transfers.shareTok fullShare 8 (0 : Fin 8)} f) ∗ (M.view.loc (c : Thread nD τ) ↦{Transfers.shareTok fullShare 8 (1 : Fin 8)} f) ∗ (M.view.loc (c : Thread nD τ) ↦{Transfers.shareTok fullShare 8 (2 : Fin 8)} f) ∗ (M.view.loc (c : Thread nD τ) ↦{Transfers.shareTok fullShare 8 (3 : Fin 8)} f) ∗ (M.view.loc (c : Thread nD τ) ↦{Transfers.shareTok fullShare 8 (4 : Fin 8)} f) ∗ (M.view.loc (c : Thread nD τ) ↦{Transfers.shareTok fullShare 8 (5 : Fin 8)} f) ∗ (M.view.loc (c : Thread nD τ) ↦{Transfers.shareTok fullShare 8 (6 : Fin 8)} f) ∗ (M.view.loc (c : Thread nD τ) ↦{Transfers.shareTok fullShare 8 (7 : Fin 8)} f)) := by
  refine Eq.trans ?_ (congrArg (fun X => iprop((M.view.loc (c : Thread nD τ) ↦{Transfers.shareDrop fullShare 8} f) ∗ X))
    (bigSep_univ_eq_bigSepL [0, 1, 2, 3, 4, 5, 6, 7] (by decide) (by decide) (fun i : Fin 8 => (M.view.loc (c : Thread nD τ) ↦{Transfers.shareTok fullShare 8 i} f : sProp 𝕄))))
  exact Entails.antisymm (Transfers.pointsTo_toks_split fullShare 8) (Transfers.pointsTo_toks_join fullShare 8)

/-- The sixteen semaphore cells at zero. -/
abbrev Cells (c : Dev nD) : sProp 𝕄 :=
  iprop(semVal ((c : Thread nD τ), cell ![0] (in1 (by decide))) 0 ∗ semVal ((c : Thread nD τ), cell ![1] (in1 (by decide))) 0 ∗ semVal ((c : Thread nD τ), cell ![2] (in1 (by decide))) 0 ∗ semVal ((c : Thread nD τ), cell ![3] (in1 (by decide))) 0 ∗ semVal ((c : Thread nD τ), cell ![4] (in1 (by decide))) 0 ∗ semVal ((c : Thread nD τ), cell ![5] (in1 (by decide))) 0 ∗ semVal ((c : Thread nD τ), cell ![6] (in1 (by decide))) 0 ∗ semVal ((c : Thread nD τ), cell ![7] (in1 (by decide))) 0 ∗ semVal ((c : Thread nD τ), cell ![8] (in1 (by decide))) 0 ∗ semVal ((c : Thread nD τ), cell ![9] (in1 (by decide))) 0 ∗ semVal ((c : Thread nD τ), cell ![10] (in1 (by decide))) 0 ∗ semVal ((c : Thread nD τ), cell ![11] (in1 (by decide))) 0 ∗ semVal ((c : Thread nD τ), cell ![12] (in1 (by decide))) 0 ∗ semVal ((c : Thread nD τ), cell ![13] (in1 (by decide))) 0 ∗ semVal ((c : Thread nD τ), cell ![14] (in1 (by decide))) 0 ∗ semVal ((c : Thread nD τ), cell ![15] (in1 (by decide))) 0)

/-- What stays aside of the three matrices while the ring runs. -/
abbrev Aside (c : Dev nD) (f7 : C7 (F := F) c) (f8 : C8 (F := F) c) (f9 : C9 (F := F) c) : sProp 𝕄 :=
  iprop((hb7.view.loc (c : Thread nD τ) ↦{Transfers.shareDrop fullShare 8} f7) ∗ (hb8.view.loc (c : Thread nD τ) ↦{Transfers.shareDrop fullShare 8} f8)
    ∗ (hb9.view.loc (c : Thread nD τ) ↦{Transfers.shareDrop fullShare 8} f9))

theorem ring_open (c : Dev nD) (f7 : C7 (F := F) c) (f8 : C8 (F := F) c) (f9 : C9 (F := F) c) :
    iprop((∃ f, slabs.view.loc (c : Thread nD τ) ↦{fullShare} f) ∗ Cells (F := F) c
      ∗ (hb7.view.loc (c : Thread nD τ) ↦{fullShare} f7) ∗ (hb8.view.loc (c : Thread nD τ) ↦{fullShare} f8) ∗ (hb9.view.loc (c : Thread nD τ) ↦{fullShare} f9))
      ⊢ iprop(Rests c f7 f8 f9 ∗ Aside c f7 f8 f9) := by
  rw [toks_list c hb7 f7, toks_list c hb8 f8, toks_list c hb9 f9]
  refine (sep_mono_left (slots_open (F := F) c)).trans ?_
  rw [slots_list]
  iintro ⟨⟨S0, S1, S2, S3, S4, S5, S6, S7, S8, S9, S10, S11, S12, S13, S14, S15⟩, ⟨K0, K1, K2, K3, K4, K5, K6, K7, K8, K9, K10, K11, K12, K13, K14, K15⟩, ⟨R7, A0, A1, A2, A3, A4, A5, A6, A7⟩, ⟨R8, B0, B1, B2, B3, B4, B5, B6, B7⟩, ⟨R9, D0, D1, D2, D3, D4, D5, D6, D7⟩⟩
  isplitl [K0 K1 S0 S1 A0 B0 D0 K2 K3 S2 S3 A1 B1 D1 K4 K5 S4 S5 A2 B2 D2 K6 K7 S6 S7 A3 B3 D3 K8 K9 S8 S9 A4 B4 D4 K10 K11 S10 S11 A5 B5 D5 K12 K13 S12 S13 A6 B6 D6 K14 K15 S14 S15 A7 B7 D7]
  · isplitl [K0 K1 S0 S1 A0 B0 D0]
    · isplitl [K0]; · iexact K0
      isplitl [K1]; · iexact K1
      isplitl [S0]; · iexact S0
      isplitl [S1]; · iexact S1
      isplitl [A0]; · iexact A0
      isplitl [B0]; · iexact B0
      iexact D0
    isplitl [K2 K3 S2 S3 A1 B1 D1]
    · isplitl [K2]; · iexact K2
      isplitl [K3]; · iexact K3
      isplitl [S2]; · iexact S2
      isplitl [S3]; · iexact S3
      isplitl [A1]; · iexact A1
      isplitl [B1]; · iexact B1
      iexact D1
    isplitl [K4 K5 S4 S5 A2 B2 D2]
    · isplitl [K4]; · iexact K4
      isplitl [K5]; · iexact K5
      isplitl [S4]; · iexact S4
      isplitl [S5]; · iexact S5
      isplitl [A2]; · iexact A2
      isplitl [B2]; · iexact B2
      iexact D2
    isplitl [K6 K7 S6 S7 A3 B3 D3]
    · isplitl [K6]; · iexact K6
      isplitl [K7]; · iexact K7
      isplitl [S6]; · iexact S6
      isplitl [S7]; · iexact S7
      isplitl [A3]; · iexact A3
      isplitl [B3]; · iexact B3
      iexact D3
    isplitl [K8 K9 S8 S9 A4 B4 D4]
    · isplitl [K8]; · iexact K8
      isplitl [K9]; · iexact K9
      isplitl [S8]; · iexact S8
      isplitl [S9]; · iexact S9
      isplitl [A4]; · iexact A4
      isplitl [B4]; · iexact B4
      iexact D4
    isplitl [K10 K11 S10 S11 A5 B5 D5]
    · isplitl [K10]; · iexact K10
      isplitl [K11]; · iexact K11
      isplitl [S10]; · iexact S10
      isplitl [S11]; · iexact S11
      isplitl [A5]; · iexact A5
      isplitl [B5]; · iexact B5
      iexact D5
    isplitl [K12 K13 S12 S13 A6 B6 D6]
    · isplitl [K12]; · iexact K12
      isplitl [K13]; · iexact K13
      isplitl [S12]; · iexact S12
      isplitl [S13]; · iexact S13
      isplitl [A6]; · iexact A6
      isplitl [B6]; · iexact B6
      iexact D6
    isplitl [K14]; · iexact K14
    isplitl [K15]; · iexact K15
    isplitl [S14]; · iexact S14
    isplitl [S15]; · iexact S15
    isplitl [A7]; · iexact A7
    isplitl [B7]; · iexact B7
    iexact D7
  isplitl [R7]; · iexact R7
  isplitl [R8]; · iexact R8
  iexact R9

theorem ring_close (c : Dev nD) (f7 : C7 (F := F) c) (f8 : C8 (F := F) c) (f9 : C9 (F := F) c) :
    iprop(Rests c f7 f8 f9 ∗ Aside c f7 f8 f9)
      ⊢ iprop((∃ f, slabs.view.loc (c : Thread nD τ) ↦{fullShare} f) ∗ Cells (F := F) c
      ∗ (hb7.view.loc (c : Thread nD τ) ↦{fullShare} f7) ∗ (hb8.view.loc (c : Thread nD τ) ↦{fullShare} f8) ∗ (hb9.view.loc (c : Thread nD τ) ↦{fullShare} f9)) := by
  rw [toks_list c hb7 f7, toks_list c hb8 f8, toks_list c hb9 f9]
  iintro ⟨⟨⟨K0, K1, S0, S1, A0, B0, D0⟩, ⟨K2, K3, S2, S3, A1, B1, D1⟩, ⟨K4, K5, S4, S5, A2, B2, D2⟩, ⟨K6, K7, S6, S7, A3, B3, D3⟩, ⟨K8, K9, S8, S9, A4, B4, D4⟩, ⟨K10, K11, S10, S11, A5, B5, D5⟩, ⟨K12, K13, S12, S13, A6, B6, D6⟩, ⟨K14, K15, S14, S15, A7, B7, D7⟩⟩, R7, R8, R9⟩
  icases S0 with ⟨%f0, S0⟩
  isplitl [S0 S1 S2 S3 S4 S5 S6 S7 S8 S9 S10 S11 S12 S13 S14 S15]
  · iapply (slots_close (F := F) c f0)
    irw [slots_list]
    isplitl [S0]; · iexists f0; iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15
  isplitl [K0 K1 K2 K3 K4 K5 K6 K7 K8 K9 K10 K11 K12 K13 K14 K15]
  · isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    isplitl [K12]; · iexact K12
    isplitl [K13]; · iexact K13
    isplitl [K14]; · iexact K14
    iexact K15
  isplitl [R7 A0 A1 A2 A3 A4 A5 A6 A7]
  · isplitl [R7]; · iexact R7
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [R8 B0 B1 B2 B3 B4 B5 B6 B7]
  · isplitl [R8]; · iexact R8
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [R9]; · iexact R9
  isplitl [D0]; · iexact D0
  isplitl [D1]; · iexact D1
  isplitl [D2]; · iexact D2
  isplitl [D3]; · iexact D3
  isplitl [D4]; · iexact D4
  isplitl [D5]; · iexact D5
  isplitl [D6]; · iexact D6
  iexact D7

end Cert.KernelIdeal.Hand

end
-- ==== Proof.SpecIdeal.lean ====
module

public import proofs.«01_k».proof.Proof.OpenIdeal
public import Idealize.ShloMosaic.Lib.WritesUnit
public import Idealize.ShloMosaic.Lib.Pipeline.Value
public import Idealize.ShloMosaic.Lib.Ring.Tabled
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Transfers
public import Idealize.ShloMosaic.Lib.Ring
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ### A buffer filled block of columns by block of columns -/

section Cols
variable {d tsz : Fin 2 → ℕ} {n : ℕ} {α : Type}

theorem cols_pos (h1 : d 1 = n * tsz 1) (y : (⟨2, d⟩ : Shape).Idx) : 0 < tsz 1 :=
  Nat.pos_of_ne_zero fun h => by
    have hy : (y 1).val < d 1 := (y 1).isLt
    rw [h1, h, Nat.mul_zero] at hy
    exact absurd hy (Nat.not_lt_zero _)

theorem cols_div (h1 : d 1 = n * tsz 1) (y : (⟨2, d⟩ : Shape).Idx) : (y 1).val / tsz 1 < n :=
  (Nat.div_lt_iff_lt_mul (cols_pos h1 y)).2 (h1 ▸ (show (y 1).val < d 1 from (y 1).isLt))

/-- The array whose `i`-th block of columns is `P i`. -/
def cols (h0 : d 0 = tsz 0) (h1 : d 1 = n * tsz 1) (P : Fin n → (⟨2, tsz⟩ : Shape).Idx → α) : (⟨2, d⟩ : Shape).Idx → α := fun y =>
  P ⟨(y 1).val / tsz 1, cols_div h1 y⟩
    (fun a => match a with
      | ⟨0, _⟩ => ⟨(y 0).val, lt_of_lt_of_eq (show (y 0).val < d 0 from (y 0).isLt) h0⟩
      | ⟨1, _⟩ => ⟨(y 1).val % tsz 1, Nat.mod_lt _ (cols_pos h1 y)⟩)

theorem cols_apply (h0 : d 0 = tsz 0) (h1 : d 1 = n * tsz 1) (P : Fin n → (⟨2, tsz⟩ : Shape).Idx → α) (y : (⟨2, d⟩ : Shape).Idx)
    (i : Fin n) (x : (⟨2, tsz⟩ : Shape).Idx) (e0 : (y 0).val = (x 0).val) (e1 : (y 1).val = tsz 1 * i.val + (x 1).val) : cols h0 h1 P y = P i x := by
  have hx : (x 1).val < tsz 1 := (x 1).isLt
  have hp : 0 < tsz 1 := by omega
  have hi : (⟨(y 1).val / tsz 1, cols_div h1 y⟩ : Fin n) = i := Fin.ext (by
    show (y 1).val / tsz 1 = i.val
    rw [e1, Nat.mul_add_div hp, Nat.div_eq_of_lt hx, Nat.add_zero])
  unfold cols
  simp only [hi]
  congr 1
  funext a
  match a with
  | ⟨0, _⟩ => exact Fin.ext e0
  | ⟨1, _⟩ => exact Fin.ext (by show (y 1).val % tsz 1 = (x 1).val; rw [e1, Nat.mul_add_mod, Nat.mod_eq_of_lt hx])

variable {sig' : RefSig} {κ : Kind} {sp : Space} {e : EltTy} {Val : EltTy → Type}

/-- Stores of all the blocks of columns leave `cols`. -/
theorem read_cols (h0 : d 0 = tsz 0) (h1 : d 1 = n * tsz 1) (v : View sig' κ sp (⟨2, d⟩ : Shape) e) (f : v.ty.Contents Val)
    (off : Fin n → Fin 2 → ℕ) (hoff : ∀ i, off i = ![0, tsz 1 * i.val])
    (inb : ∀ (i : Fin n) a, off i a + tsz a ≤ (⟨2, d⟩ : Shape).size a)
    (P : Fin n → (⟨2, tsz⟩ : Shape).Idx → Val e) :
    v.read Val (v.writes Val f (View.tilePieces (s := ⟨2, d⟩) tsz off inb P n le_rfl)) = cols h0 h1 P := by
  funext y
  have hp : 0 < tsz 1 := cols_pos h1 y
  have hlt : (y 1).val / tsz 1 < n := cols_div h1 y
  refine View.read_tilePieces v f tsz off inb P n le_rfl y ⟨(y 1).val / tsz 1, hlt⟩ hlt _ ?_ 1 ?_
  · intro a
    rw [hoff]
    match a with
    | ⟨0, _⟩ => exact (Nat.zero_add _).symm
    | ⟨1, _⟩ => exact (Nat.div_add_mod _ _).symm
  · intro i' hi'
    rw [hoff]
    show (y 1).val < tsz 1 * i'.val ∨ tsz 1 * i'.val + tsz 1 ≤ (y 1).val
    have hne : i'.val ≠ (y 1).val / tsz 1 := fun h => hi' (Fin.ext h)
    have hdm := Nat.div_add_mod (y 1).val (tsz 1)
    have hm := Nat.mod_lt (y 1).val hp
    rcases Nat.lt_or_gt_of_ne hne with hlt | hgt
    · right
      have := Nat.mul_le_mul_left (tsz 1) (Nat.succ_le_of_lt hlt); rw [Nat.mul_succ] at this; omega
    · left
      have := Nat.mul_le_mul_left (tsz 1) (Nat.succ_le_of_lt hgt); rw [Nat.mul_succ] at this; omega

/-- A load of one block of columns reads that block. -/
theorem ld_cols (h0 : d 0 = tsz 0) (h1 : d 1 = n * tsz 1) (P : Fin n → (⟨2, tsz⟩ : Shape).Idx → α) (i : Fin n)
    (off : Fin 2 → ℕ) (hoff : off = ![0, tsz 1 * i.val]) (inb : ∀ a, off a + tsz a ≤ (⟨2, d⟩ : Shape).size a) :
    VecWindow.window (s := ⟨2, d⟩) (cols h0 h1 P) off tsz inb = P i := by
  funext x
  subst hoff
  exact cols_apply h0 h1 P _ i x (show 0 + 1 * (x 0).val = (x 0).val by omega) (show tsz 1 * i.val + 1 * (x 1).val = _ by omega)

end Cols

/-! ### A put at one index -/

section Put
variable {s : Shape} {α : Type}

theorem put_of_mem (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  have hc : ∀ a, off a ≤ (y a).val ∧ (y a).val < off a + size a := fun a => by have := h a; have := (z a).isLt; omega
  unfold VecWindow.put
  rw [dif_pos hc]
  exact congrArg w (funext fun a => Fin.ext (by show (y a).val - off a = (z a).val; have := h a; omega))

theorem put_of_not_mem (x : s.Idx → α) (off size : Fin s.rank → ℕ) (w : ((a : Fin s.rank) → Fin (size a)) → α) (y : s.Idx)
    (a : Fin s.rank) (h : (y a).val < off a ∨ off a + size a ≤ (y a).val) : VecWindow.put x off size w y = x y := by
  unfold VecWindow.put
  rw [dif_neg fun hc => by have := hc a; omega]

end Put

/-! ### What the body computes before, between and after its loops -/

theorem inbH (j : Fin 6) : ∀ a, (![0, 512 * j.val] : Fin 2 → ℕ) a + S24x512.size a ≤ S24x3072.size a := fun a => by
  match a with
  | ⟨0, _⟩ => show 0 + 24 ≤ 24; omega
  | ⟨1, _⟩ => show 512 * j.val + 512 ≤ 3072; omega
theorem inbN (j : Fin 6) : ∀ a, (![0, 512 * j.val] : Fin 2 → ℕ) a + S1x512.size a ≤ S1x3072.size a := fun a => by
  match a with
  | ⟨0, _⟩ => show 0 + 1 ≤ 1; omega
  | ⟨1, _⟩ => show 512 * j.val + 512 ≤ 3072; omega
theorem inbL (j : Fin 6) : ∀ a, (![0, 512 * j.val] : Fin 2 → ℕ) a + S32x512.size a ≤ S32x3072.size a := fun a => by
  match a with
  | ⟨0, _⟩ => show 0 + 32 ≤ 32; omega
  | ⟨1, _⟩ => show 512 * j.val + 512 ≤ 3072; omega
theorem inbA (j : Fin 48) : ∀ a, (![0, 128 * j.val] : Fin 2 → ℕ) a + S32x128.size a ≤ S32x6144.size a := fun a => by
  match a with
  | ⟨0, _⟩ => show 0 + 32 ≤ 32; omega
  | ⟨1, _⟩ => show 128 * j.val + 128 ≤ 6144; omega
theorem inbG (j : Fin 48) : ∀ a, (![j.val, 0, 0] : Fin 3 → ℕ) a + S1x24x128.size a ≤ S48x24x128.size a := fun a => by
  match a with
  | ⟨0, _⟩ => show j.val + 1 ≤ 48; omega
  | ⟨1, _⟩ => show 0 + 24 ≤ 24; omega
  | ⟨2, _⟩ => show 0 + 128 ≤ 128; omega

theorem read_colsN (v : View sig .tc .vmem S24x3072 .f32) (f : v.ty.Contents (Elt F)) (P : Fin 6 → Vec F S24x512 .f32) (L : List (View.Piece (Elt F) S24x3072 .f32))
    (hL : L = View.tilePieces (s := S24x3072) S24x512.size (fun j : Fin 6 => ![0, 512 * j.val]) inbH P 6 le_rfl) :
    v.read (Elt F) (v.writes (Elt F) f L) = cols (d := ![24, 3072]) (tsz := S24x512.size) (n := 6) rfl rfl P := by
  subst hL
  exact read_cols (d := ![24, 3072]) (tsz := S24x512.size) (n := 6) (Val := Elt F) (e := .f32) rfl rfl v f (fun j => ![0, 512 * j.val]) (fun _ => rfl) inbH P

theorem read_colsL (v : View sig .tc .vmem S32x3072 .fp8e4m3) (f : v.ty.Contents (Elt F)) (P : Fin 6 → Vec F S32x512 .fp8e4m3) (L : List (View.Piece (Elt F) S32x3072 .fp8e4m3))
    (hL : L = View.tilePieces (s := S32x3072) S32x512.size (fun j : Fin 6 => ![0, 512 * j.val]) inbL P 6 le_rfl) :
    v.read (Elt F) (v.writes (Elt F) f L) = cols (d := ![32, 3072]) (tsz := S32x512.size) (n := 6) rfl rfl P := by
  subst hL
  exact read_cols (d := ![32, 3072]) (tsz := S32x512.size) (n := 6) (Val := Elt F) (e := .fp8e4m3) rfl rfl v f (fun j => ![0, 512 * j.val]) (fun _ => rfl) inbL P

theorem read_colsA (v : View sig .tc .vmem S32x6144 .fp8e4m3) (f : v.ty.Contents (Elt F)) (P : Fin 48 → Vec F S32x128 .fp8e4m3) (L : List (View.Piece (Elt F) S32x6144 .fp8e4m3))
    (hL : L = View.tilePieces (s := S32x6144) S32x128.size (fun j : Fin 48 => ![0, 128 * j.val]) inbA P 48 le_rfl) :
    v.read (Elt F) (v.writes (Elt F) f L) = cols (d := ![32, 6144]) (tsz := S32x128.size) (n := 48) rfl rfl P := by
  subst hL
  exact read_cols (d := ![32, 6144]) (tsz := S32x128.size) (n := 48) (Val := Elt F) (e := .fp8e4m3) rfl rfl v f (fun j => ![0, 128 * j.val]) (fun _ => rfl) inbA P

theorem consN (P : Fin 6 → Vec F S24x512 .f32) (k : ℕ) (hk : k < 6) (o : Fin 2 → ℕ) (ho : o = ![0, 512 * k]) (inb' : ∀ a, o a + S24x512.size a ≤ S24x3072.size a)
    (p : Vec F S24x512 .f32) (hp : p = P ⟨k, hk⟩) (L : List (View.Piece (Elt F) S24x3072 .f32)) (hL : L = View.tilePieces (s := S24x3072) S24x512.size (fun j : Fin 6 => ![0, 512 * j.val]) inbH P k (Nat.le_of_lt hk)) :
    ⟨Rect.unit (s := S24x3072) o S24x512.size inb', p⟩ :: L = View.tilePieces (s := S24x3072) S24x512.size (fun j : Fin 6 => ![0, 512 * j.val]) inbH P (k + 1) hk := by
  subst ho hp hL; rfl

theorem consL (P : Fin 6 → Vec F S32x512 .fp8e4m3) (k : ℕ) (hk : k < 6) (o : Fin 2 → ℕ) (ho : o = ![0, 512 * k]) (inb' : ∀ a, o a + S32x512.size a ≤ S32x3072.size a)
    (p : Vec F S32x512 .fp8e4m3) (hp : p = P ⟨k, hk⟩) (L : List (View.Piece (Elt F) S32x3072 .fp8e4m3)) (hL : L = View.tilePieces (s := S32x3072) S32x512.size (fun j : Fin 6 => ![0, 512 * j.val]) inbL P k (Nat.le_of_lt hk)) :
    ⟨Rect.unit (s := S32x3072) o S32x512.size inb', p⟩ :: L = View.tilePieces (s := S32x3072) S32x512.size (fun j : Fin 6 => ![0, 512 * j.val]) inbL P (k + 1) hk := by
  subst ho hp hL; rfl

theorem consA (P : Fin 48 → Vec F S32x128 .fp8e4m3) (k : ℕ) (hk : k < 48) (o : Fin 2 → ℕ) (ho : o = ![0, 128 * k]) (inb' : ∀ a, o a + S32x128.size a ≤ S32x6144.size a)
    (p : Vec F S32x128 .fp8e4m3) (hp : p = P ⟨k, hk⟩) (L : List (View.Piece (Elt F) S32x6144 .fp8e4m3)) (hL : L = View.tilePieces (s := S32x6144) S32x128.size (fun j : Fin 48 => ![0, 128 * j.val]) inbA P k (Nat.le_of_lt hk)) :
    ⟨Rect.unit (s := S32x6144) o S32x128.size inb', p⟩ :: L = View.tilePieces (s := S32x6144) S32x128.size (fun j : Fin 48 => ![0, 128 * j.val]) inbA P (k + 1) hk := by
  subst ho hp hL; rfl

/-- Block `j` of the rows, and of the norm's weights. -/
def hB (w6 : Vec F S24x3072 .f32) (j : Fin 6) : Vec F S24x512 .f32 := VecWindow.window w6 ![0, 512 * j.val] S24x512.size (inbH j)
def nB (w2 : Vec F S1x3072 .f32) (j : Fin 6) : Vec F S1x512 .f32 := VecWindow.window w2 ![0, 512 * j.val] S1x512.size (inbN j)

/-- The root mean square of each row. -/
def rms (w6 : Vec F S24x3072 .f32) : FVec F S24x1 .f32 :=
  k0_pay15 (k0_pay12 (hB w6 0) (hB w6 1) (hB w6 2)) (k0_pay13 (hB w6 3)) (k0_pay14 (hB w6 3)) (hB w6 4) (hB w6 5)

/-- Block `j` of the normalised rows. -/
def nrm (w2 : Vec F S1x3072 .f32) (w6 : Vec F S24x3072 .f32) (j : Fin 6) : FVec F S24x512 .f32 := k0_pay20 (rms w6) (hB w6 j) (nB w2 j)

/-- The scale of each normalised row. -/
def sc1 (w2 : Vec F S1x3072 .f32) (w6 : Vec F S24x3072 .f32) : FVec F S24x1 .f32 :=
  k0_pay34 (k0_pay30 (rms w6)
      (k0_pay24 (rms w6) (k0_pay16 (F := F)) (k0_pay19 (rms w6) (hB w6 0) (nB w2 0)) (hB w6 1) (nB w2 1) (hB w6 2) (nB w2 2))
      (k0_pay25 (rms w6) (hB w6 2) (nB w2 2)) (hB w6 3) (nB w2 3) (hB w6 4) (nB w2 4))
    (k0_pay31 (rms w6) (hB w6 5)) (nB w2 5)

theorem pay43_eq (s : FVec F S24x1 .f32) (x : Vec F S24x512 .f32) : k0_pay43 s x = k0_pay40 s x := rfl
theorem pay42_eq (s : FVec F S24x1 .f32) (x : Vec F S24x512 .f32) : k0_pay42 (k0_pay41 s x) = k0_pay40 s x := rfl
theorem pay39_eq (s : FVec F S24x1 .f32) (x : Vec F S24x512 .f32) : k0_pay39 s x = k0_pay40 s x := rfl
theorem pay38_eq (a : FVec F S24x128 .f32) (b : FVec F S24x512 .f32) (d : Vec F S1x512 .f32) (x : Vec F S24x512 .f32) :
    k0_pay38 (k0_pay36 a b d x) (Scalar.ofBits .f32 0x43E00000#32) (k0_pay37 (F := F)) = k0_pay40 (k0_pay34 a b d) x := rfl
theorem pay35_eq (a : FVec F S24x128 .f32) (b : FVec F S24x512 .f32) (d : Vec F S1x512 .f32) (x : Vec F S24x512 .f32) :
    k0_pay35 a b d x = k0_pay40 (k0_pay34 a b d) x := rfl
theorem pay33_eq (r : FVec F S24x1 .f32) (h : Vec F S24x512 .f32) (n : Vec F S1x512 .f32) : k0_pay33 (k0_pay31 r h) n = k0_pay20 r h n := rfl
theorem pay29_eq (r : FVec F S24x1 .f32) (h : Vec F S24x512 .f32) (n : Vec F S1x512 .f32) : k0_pay29 r h n = k0_pay20 r h n := rfl
theorem pay27_eq (r : FVec F S24x1 .f32) (h : Vec F S24x512 .f32) (n : Vec F S1x512 .f32) : k0_pay27 r h n = k0_pay20 r h n := rfl
theorem pay22_eq (r : FVec F S24x1 .f32) (h : Vec F S24x512 .f32) (n : Vec F S1x512 .f32) : k0_pay22 r h n = k0_pay20 r h n := rfl
theorem pay18_eq (a : FVec F S24x128 .f32) (b : FVec F S24x512 .f32) (d : FVec F S24x128 .f32) (g g' h : Vec F S24x512 .f32) (n : Vec F S1x512 .f32) :
    k0_pay18 a b d g g' h n = k0_pay20 (k0_pay15 a b d g g') h n := rfl

theorem readCov_window {s : Shape} {sp : Space} {e : EltTy} (v : View sig .tc sp s e) (L : List (View.Piece (Elt F) s e)) (off size : Fin s.rank → ℕ) (inb : ∀ a, off a + size a ≤ s.size a) :
    View.readCov v L (Rect.unit (s := s) off size inb).toLoadRect = VecWindow.window (v.read (Elt F) (v.writes (Elt F) v.junk L)) off size inb := rfl
theorem readAt_window {s : Shape} {sp : Space} {e : EltTy} (v : View sig .tc sp s e) (f : v.ty.Contents (Elt F)) (off size : Fin s.rank → ℕ) (inb : ∀ a, off a + size a ≤ s.size a) :
    v.readAt (Elt F) (Rect.unit (s := s) off size inb).toLoadRect f = VecWindow.window (v.read (Elt F) f) off size inb := rfl

/-- The codes of the normalised rows, eight rows of zeros below them. -/
def lhs1 (w2 : Vec F S1x3072 .f32) (w6 : Vec F S24x3072 .f32) : Vec F S32x3072 .fp8e4m3 :=
  cols (d := ![32, 3072]) (tsz := S32x512.size) (n := 6) rfl rfl fun j => k0_pay40 (sc1 w2 w6) (nrm w2 w6 j)

/-- Slab `j` of the activations. -/
def gB (G : Vec F S48x24x128 .f32) (j : Fin 48) : Vec F S1x24x128 .f32 := VecWindow.window G ![j.val, 0, 0] S1x24x128.size (inbG j)

/-- The scale of each row of activations, from the running maximum. -/
def sc2 (a : FVec F S24x128 .f32) : FVec F S24x1 .f32 := k0_pay52 (k0_pay49 a) (k0_pay50 a) (k0_pay51 (F := F))

/-- The codes of the activations, eight rows of zeros below them. -/
def lhs2 (s : FVec F S24x1 .f32) (G : Vec F S48x24x128 .f32) : Vec F S32x6144 .fp8e4m3 :=
  cols (d := ![32, 6144]) (tsz := S32x128.size) (n := 48) rfl rfl fun j => k0_pay58 s (gB G j)

/-- The first twenty-four rows. -/
def top1 (l : Vec F S32x3072 .fp8e4m3) : Vec F S24x3072 .fp8e4m3 := VecWindow.window l ![0, 0] S24x3072.size inb_S32x3072_S24x3072_0_0
def top2 (l : Vec F S32x6144 .fp8e4m3) : Vec F S24x6144 .fp8e4m3 := VecWindow.window l ![0, 0] S24x6144.size inb_S32x6144_S24x6144_0_0

/-- The output buffer's six blocks are written whatever it held. -/
theorem oAt_indep (T : Fin k0_t2_loop.trips → FVec F S24x512 .bf16) (g : Vec F S24x3072 .bf16) :
    oAt T g 6 = cols (d := ![24, 3072]) (tsz := S24x512.size) (n := 6) rfl rfl fun j => T ⟨j.val, j.isLt⟩ := by
  have key : ∀ n, n ≤ 6 → ∀ (y : S24x3072.Idx) (i : Fin 6) (x : S24x512.Idx), i.val < n → (y 0).val = (x 0).val → (y 1).val = 512 * i.val + (x 1).val →
      oAt T g n y = T ⟨i.val, i.isLt⟩ x := by
    intro n
    induction n with
    | zero => intro _ y i x h; exact absurd h (Nat.not_lt_zero _)
    | succ n ih =>
      intro hn y i x hi h0 h1
      have hx : (x 1).val < 512 := (x 1).isLt
      have e : oAt T g (n + 1) = putB (oAt T g n) ⟨n, hn⟩ (T ⟨n, hn⟩) := dif_pos (show n < k0_t2_loop.trips from hn)
      rw [e]
      by_cases hc : i.val = n
      · subst hc
        exact put_of_mem _ _ _ _ y x (fun a => by
          rw [k0_off26_eq]
          match a with
          | ⟨0, _⟩ => show (y 0).val = 0 + (x 0).val; omega
          | ⟨1, _⟩ => exact h1)
      · rw [show putB (oAt T g n) ⟨n, hn⟩ (T ⟨n, hn⟩) y = oAt T g n y from put_of_not_mem _ _ _ _ y 1 (by
          rw [k0_off26_eq]
          show (y 1).val < 512 * n ∨ 512 * n + 512 ≤ (y 1).val
          omega)]
        exact ih (by omega) y i x (by omega) h0 h1
  funext y
  have hy : (y 1).val < 3072 := (y 1).isLt
  have hi : (y 1).val / 512 < 6 := by omega
  refine (key 6 le_rfl y ⟨(y 1).val / 512, hi⟩ (fun a => match a with | ⟨0, _⟩ => ⟨(y 0).val, (y 0).isLt⟩ | ⟨1, _⟩ => ⟨(y 1).val % 512, Nat.mod_lt _ (by decide)⟩) hi rfl (Nat.div_add_mod _ _).symm).trans ?_
  exact (cols_apply (d := ![24, 3072]) (tsz := S24x512.size) (n := 6) rfl rfl (fun j : Fin 6 => T ⟨j.val, j.isLt⟩) y ⟨(y 1).val / 512, hi⟩ _ rfl (Nat.div_add_mod _ _).symm).symm

/-- The activation slabs after all twelve tiles: slab `4 p + q` is quarter `q` of tile `p`. -/
def gFin (T : Fin k0_t1_loop.trips → FVec F S24x512 .f32) : Vec F S48x24x128 .f32 := fun y =>
  T ⟨(y 0).val / 4, by have h : (y 0).val < 48 := (y 0).isLt; show (y 0).val / 4 < 12; omega⟩
    (fun a => match a with
      | ⟨0, _⟩ => ⟨(y 1).val, (y 1).isLt⟩
      | ⟨1, _⟩ => ⟨128 * ((y 0).val % 4) + (y 2).val, by have h : (y 2).val < 128 := (y 2).isLt; show _ < 512; omega⟩)

theorem quart_apply (T : FVec F S24x512 .f32) (o : ℕ) (h : S24x512.Slices ![0, o] S24x128) (z : S1x24x128.Idx) (x : S24x512.Idx)
    (h0 : (x 0).val = (z 1).val) (h1 : (x 1).val = o + (z 2).val) : quart T o h z = T x := by
  refine (shapeCast_addUnit_apply ![24, 128] (extractStridedSlice S24x128 ![0, o] T h) shapeCasts_S24x128_S1x24x128 z).trans ?_
  refine congrArg T (funext fun a => Fin.ext ?_)
  match a with
  | ⟨0, _⟩ => exact (Nat.zero_add _).trans h0.symm
  | ⟨1, _⟩ => exact h1.symm

theorem gAt_indep (T : Fin k0_t1_loop.trips → FVec F S24x512 .f32) (g : Vec F S48x24x128 .f32) : gAt T g 12 = gFin T := by
  have key : ∀ n, n ≤ 12 → ∀ y : S48x24x128.Idx, (y 0).val < 4 * n → gAt T g n y = gFin T y := by
    intro n
    induction n with
    | zero => intro _ y h; omega
    | succ n ih =>
      intro hn y hi
      have e : gAt T g (n + 1) = putA (gAt T g n) ⟨n, hn⟩ (T ⟨n, hn⟩) := dif_pos (show n < k0_t1_loop.trips from hn)
      have o : ∀ r : Fin 4, k0_off19 ⟨n, hn⟩ (BitVec.ofNat 32 r.val) = ![4 * n + r.val, 0, 0] := fun r => k0_off19_eq ⟨n, hn⟩ r
      have o0 := o 0; have o1 := o 1; have o2 := o 2; have o3 := o 3
      have inn : ∀ (r : Fin 4) (x : Vec F S48x24x128 .f32) (off : Fin 3 → ℕ), off = ![4 * n + r.val, 0, 0] → ∀ hs, (y 0).val = 4 * n + r.val →
          VecWindow.put (s := S48x24x128) x off S1x24x128.size (quart (T ⟨n, hn⟩) (128 * r.val) hs) y = gFin T y := by
        intro r x off ho hs hy
        subst ho
        have hr := r.isLt
        refine (put_of_mem (s := S48x24x128) x _ S1x24x128.size _ y (fun a => match a with | ⟨0, _⟩ => ⟨0, Nat.one_pos⟩ | ⟨1, _⟩ => ⟨(y 1).val, (y 1).isLt⟩ | ⟨2, _⟩ => ⟨(y 2).val, (y 2).isLt⟩) ?_).trans ?_
        · intro a
          match a with
          | ⟨0, _⟩ => exact hy
          | ⟨1, _⟩ => exact (Nat.zero_add _).symm
          | ⟨2, _⟩ => exact (Nat.zero_add _).symm
        · have hq : (⟨(y 0).val / 4, by have h : (y 0).val < 48 := (y 0).isLt; show (y 0).val / 4 < 12; omega⟩ : Fin k0_t1_loop.trips) = ⟨n, hn⟩ := Fin.ext (by show (y 0).val / 4 = n; omega)
          unfold gFin
          rw [hq]
          exact quart_apply _ _ hs _ _ rfl (by show 128 * ((y 0).val % 4) + (y 2).val = 128 * r.val + (y 2).val; omega)
      have out : ∀ (r : Fin 4) (x : Vec F S48x24x128 .f32) (off : Fin 3 → ℕ) (w : Vec F S1x24x128 .f32), off = ![4 * n + r.val, 0, 0] → (y 0).val ≠ 4 * n + r.val →
          VecWindow.put (s := S48x24x128) x off S1x24x128.size w y = x y := by
        intro r x off w ho hy
        subst ho
        exact put_of_not_mem (s := S48x24x128) x _ S1x24x128.size w y 0 (by show (y 0).val < 4 * n + r.val ∨ 4 * n + r.val + 1 ≤ (y 0).val; omega)
      rw [e]
      unfold putA
      by_cases h3 : (y 0).val = 4 * n + 3
      · exact inn 3 _ _ o3 _ h3
      refine (out 3 _ _ _ o3 h3).trans ?_
      by_cases h2 : (y 0).val = 4 * n + 2
      · exact inn 2 _ _ o2 _ h2
      refine (out 2 _ _ _ o2 h2).trans ?_
      by_cases h1 : (y 0).val = 4 * n + 1
      · exact inn 1 _ _ o1 _ h1
      refine (out 1 _ _ _ o1 h1).trans ?_
      by_cases h0 : (y 0).val = 4 * n + 0
      · exact inn 0 _ _ o0 _ h0
      refine (out 0 _ _ _ o0 h0).trans ?_
      exact ih (by omega) y (by omega)
  funext y
  have hy : (y 0).val < 48 := (y 0).isLt
  exact key 12 le_rfl y (by omega)

end Cert.KernelIdeal.Hand

end
-- ==== Proof.BodyIdeal.lean ====
module

public import proofs.«01_k».proof.Proof.SpecIdeal
public import Idealize.ShloMosaic.Lib.Ring.Tabled
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Transfers
public import Idealize.ShloMosaic.Lib.Ring
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (i : grid0.Coords)
  (arg1 : Memref sig .tc .smem S12 .f32) (harg1 : arg1.IsWhole) (arg2 : Memref sig .tc .vmem S1x3072 .f32) (harg2 : arg2.IsWhole) (arg3 : Memref sig .tc .vmem S1x6144 .f32) (harg3 : arg3.IsWhole) (arg4 : Memref sig .tc .vmem S1x6144 .f32) (harg4 : arg4.IsWhole) (arg5 : Memref sig .tc .vmem S1x3072 .f32) (harg5 : arg5.IsWhole) (arg6 : Memref sig .tc .vmem S24x3072 .f32) (harg6 : arg6.IsWhole) (arg10 : Memref sig .tc .vmem S24x3072 .bf16) (harg10 : arg10.IsWhole) (arg11 : Memref sig .tc .vmem S24x3072 .fp8e4m3) (harg11 : arg11.IsWhole) (arg12 : Memref sig .tc .vmem S1x24 .f32) (harg12 : arg12.IsWhole) (arg13 : Memref sig .tc .vmem S24x6144 .fp8e4m3) (harg13 : arg13.IsWhole) (arg14 : Memref sig .tc .vmem S1x24 .f32) (harg14 : arg14.IsWhole)

/-- What the body needs: the free ring, its blocks and its buffers. -/
abbrev Need (c : Dev nD) (f7 : C7 (F := F) c) (f8 : C8 (F := F) c) (f9 : C9 (F := F) c)
    (w1 : Vec F S12 .f32) (w2 : Vec F S1x3072 .f32) (w3 w4 : Vec F S1x6144 .f32) (w5 : Vec F S1x3072 .f32) (w6 : Vec F S24x3072 .f32) (W : Waits sig Unit) : sProp 𝕄 :=
  iprop(Rests c f7 f8 f9 ∗ owns (c : Thread nD τ) arg1 fullShare w1 ∗ owns (c : Thread nD τ) arg2 fullShare w2
      ∗ owns (c : Thread nD τ) arg3 fullShare w3 ∗ owns (c : Thread nD τ) arg4 fullShare w4
      ∗ owns (c : Thread nD τ) arg5 fullShare w5 ∗ owns (c : Thread nD τ) arg6 fullShare w6
      ∗ (∃ d, owns (c : Thread nD τ) arg10 fullShare d) ∗ (∃ d, owns (c : Thread nD τ) arg11 fullShare d) ∗ (∃ d, owns (c : Thread nD τ) arg12 fullShare d)
      ∗ (∃ d, owns (c : Thread nD τ) arg13 fullShare d) ∗ (∃ d, owns (c : Thread nD τ) arg14 fullShare d)
      ∗ (∃ d, owns (c : Thread nD τ) (Memref.whole cc0_scratch1) fullShare d) ∗ (∃ d, owns (c : Thread nD τ) (Memref.whole cc0_scratch2) fullShare d)
      ∗ (∃ d, owns (c : Thread nD τ) (Memref.whole cc0_scratch3) fullShare d) ∗ (∃ d, owns (c : Thread nD τ) (Memref.whole cc0_scratch4) fullShare d)
      ∗ owes (c : Thread nD τ) 0 W)

/-- The two scalars read of the multipliers. -/
abbrev mul1 (w1 : Vec F S12 .f32) : Elt F .f32 := VecWindow.window w1 ![6] S1.size inb_S12_S1_6 (Shape.Idx.first (numel1_S1.symm ▸ Nat.one_pos))
abbrev mul0 (w1 : Vec F S12 .f32) : Elt F .f32 := VecWindow.window w1 ![5] S1.size inb_S12_S1_5 (Shape.Idx.first (numel1_S1.symm ▸ Nat.one_pos))

/-- The activations' tiles, scale and codes, and the result's blocks, of the arguments. -/
abbrev actW (c : Dev nD) (f7 : C7 (F := F) c) (f8 : C8 (F := F) c) (w1 : Vec F S12 .f32) (w2 : Vec F S1x3072 .f32) (w3 w4 : Vec F S1x6144 .f32) (w6 : Vec F S24x3072 .f32) :
    Fin k0_t1_loop.trips → FVec F S24x512 .f32 := actT c f7 f8 (mul0 w1) (sc1 w2 w6) (lhs1 w2 w6) w3 w4
def scA (c : Dev nD) (f7 : C7 (F := F) c) (f8 : C8 (F := F) c) (w1 : Vec F S12 .f32) (w2 : Vec F S1x3072 .f32) (w3 w4 : Vec F S1x6144 .f32) (w6 : Vec F S24x3072 .f32) :
    FVec F S24x1 .f32 := sc2 (accAt (actW c f7 f8 w1 w2 w3 w4 w6) (k0_pay44 (F := F)) 12)
def lhsA (c : Dev nD) (f7 : C7 (F := F) c) (f8 : C8 (F := F) c) (w1 : Vec F S12 .f32) (w2 : Vec F S1x3072 .f32) (w3 w4 : Vec F S1x6144 .f32) (w6 : Vec F S24x3072 .f32) :
    Vec F S32x6144 .fp8e4m3 := lhs2 (scA c f7 f8 w1 w2 w3 w4 w6) (gFin (actW c f7 f8 w1 w2 w3 w4 w6))
def outR (c : Dev nD) (f7 : C7 (F := F) c) (f8 : C8 (F := F) c) (f9 : C9 (F := F) c) (w1 : Vec F S12 .f32) (w2 : Vec F S1x3072 .f32) (w3 w4 : Vec F S1x6144 .f32) (w5 : Vec F S1x3072 .f32) (w6 : Vec F S24x3072 .f32) :
    Vec F S24x3072 .bf16 :=
  cols (d := ![24, 3072]) (tsz := S24x512.size) (n := 6) rfl rfl fun j =>
    outT c f9 (mul1 w1) (scA c f7 f8 w1 w2 w3 w4 w6) (lhsA c f7 f8 w1 w2 w3 w4 w6) w5 w6 ⟨j.val, j.isLt⟩
/-- The rows' two scales, as the call returns them. -/
def s1R (c : Dev nD) (f7 : C7 (F := F) c) (f8 : C8 (F := F) c) (w1 : Vec F S12 .f32) (w2 : Vec F S1x3072 .f32) (w3 w4 : Vec F S1x6144 .f32) (w6 : Vec F S24x3072 .f32) : Vec F S1x24 .f32 :=
  k0_pay120 (sc1 w2 w6) (scA c f7 f8 w1 w2 w3 w4 w6)
def s2R (c : Dev nD) (f7 : C7 (F := F) c) (f8 : C8 (F := F) c) (w1 : Vec F S12 .f32) (w2 : Vec F S1x3072 .f32) (w3 w4 : Vec F S1x6144 .f32) (w6 : Vec F S24x3072 .f32) : Vec F S1x24 .f32 :=
  k0_pay1 (k0_pay119 (sc1 w2 w6) (scA c f7 f8 w1 w2 w3 w4 w6))

/-- What the body leaves. -/
abbrev Done (c : Dev nD) (f7 : C7 (F := F) c) (f8 : C8 (F := F) c) (f9 : C9 (F := F) c)
    (w1 : Vec F S12 .f32) (w2 : Vec F S1x3072 .f32) (w3 w4 : Vec F S1x6144 .f32) (w5 : Vec F S1x3072 .f32) (w6 : Vec F S24x3072 .f32) : sProp 𝕄 :=
  iprop(Rests c f7 f8 f9 ∗ owns (c : Thread nD τ) arg1 fullShare w1 ∗ owns (c : Thread nD τ) arg2 fullShare w2
      ∗ owns (c : Thread nD τ) arg3 fullShare w3 ∗ owns (c : Thread nD τ) arg4 fullShare w4
      ∗ owns (c : Thread nD τ) arg5 fullShare w5 ∗ owns (c : Thread nD τ) arg6 fullShare w6
      ∗ owns (c : Thread nD τ) arg10 fullShare (outR c f7 f8 f9 w1 w2 w3 w4 w5 w6) ∗ owns (c : Thread nD τ) arg11 fullShare (top1 (lhs1 w2 w6))
      ∗ owns (c : Thread nD τ) arg12 fullShare (s1R c f7 f8 w1 w2 w3 w4 w6)
      ∗ owns (c : Thread nD τ) arg13 fullShare (top2 (lhsA c f7 f8 w1 w2 w3 w4 w6)) ∗ owns (c : Thread nD τ) arg14 fullShare (s2R c f7 f8 w1 w2 w3 w4 w6)
      ∗ (∃ d, owns (c : Thread nD τ) (Memref.whole cc0_scratch1) fullShare d) ∗ (∃ d, owns (c : Thread nD τ) (Memref.whole cc0_scratch2) fullShare d)
      ∗ (∃ d, owns (c : Thread nD τ) (Memref.whole cc0_scratch3) fullShare d) ∗ (∃ d, owns (c : Thread nD τ) (Memref.whole cc0_scratch4) fullShare d)
      ∗ (∃ W', owes (c : Thread nD τ) 0 W'))

theorem pay53_eq (a : FVec F S24x1 .f32) (b : IVec S24x1 1) (d : FVec F S24x1 .f32) (x : Vec F S1x24x128 .f32) : k0_pay53 a b d x = k0_pay58 (k0_pay52 a b d) x := rfl
theorem pay54_eq (a : FVec F S24x1 .f32) (b : IVec S24x1 1) (d : FVec F S24x1 .f32) (x : Vec F S1x24x128 .f32) : k0_pay54 a b d x = k0_pay58 (k0_pay52 a b d) x := rfl
theorem pay57_eq (a : FVec F S24x1 .f32) (b : IVec S24x1 1) (d : FVec F S24x1 .f32) (x : Vec F S1x24x128 .f32) :
    k0_pay57 (k0_pay55 a b d x) (Scalar.ofBits .f32 0x43E00000#32) (k0_pay56 (F := F)) = k0_pay58 (k0_pay52 a b d) x := rfl

set_option maxHeartbeats 800000 in
theorem body_run (c : Dev nD) (f7 : C7 (F := F) c) (f8 : C8 (F := F) c) (f9 : C9 (F := F) c)
    (w1 : Vec F S12 .f32) (w2 : Vec F S1x3072 .f32) (w3 w4 : Vec F S1x6144 .f32) (w5 : Vec F S1x3072 .f32) (w6 : Vec F S24x3072 .f32) (W : Waits sig Unit) (Q : PUnit → sProp 𝕄) :
    iprop(Need arg1 arg2 arg3 arg4 arg5 arg6 arg10 arg11 arg12 arg13 arg14 c f7 f8 f9 w1 w2 w3 w4 w5 w6 W
      ∗ (Done arg1 arg2 arg3 arg4 arg5 arg6 arg10 arg11 arg12 arg13 arg14 c f7 f8 f9 w1 w2 w3 w4 w5 w6 -∗ Q ⟨⟩))
     ⊢ wp frame (wpE defs₀ Variants.none (c : Thread nD τ) none) Set.univ
        (cc0_hybrid_layer (F := F) i arg1 harg1 arg2 harg2 arg3 harg3 arg4 harg4 arg5 harg5 arg6 harg6 hb7 (Memref.isWhole_whole _) hb8 (Memref.isWhole_whole _) hb9 (Memref.isWhole_whole _) arg10 harg10 arg11 harg11 arg12 harg12 arg13 harg13 arg14 harg14 slabs (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) sems) Q := by
  simp only [cc0_hybrid_layer_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold cc0_hybrid_layer_skel Need owns
  iintro ⟨⟨⟨⟨K0, K1, ⟨%t0, S0⟩, ⟨%t1, S1⟩, A0, B0, D0⟩, ⟨K2, K3, ⟨%t2, S2⟩, ⟨%t3, S3⟩, A1, B1, D1⟩, ⟨K4, K5, ⟨%t4, S4⟩, ⟨%t5, S5⟩, A2, B2, D2⟩, ⟨K6, K7, ⟨%t6, S6⟩, ⟨%t7, S7⟩, A3, B3, D3⟩, ⟨K8, K9, ⟨%t8, S8⟩, ⟨%t9, S9⟩, A4, B4, D4⟩, ⟨K10, K11, ⟨%t10, S10⟩, ⟨%t11, S11⟩, A5, B5, D5⟩, ⟨K12, K13, ⟨%t12, S12⟩, ⟨%t13, S13⟩, A6, B6, D6⟩, ⟨K14, K15, ⟨%t14, S14⟩, ⟨%t15, S15⟩, A7, B7, D7⟩⟩, ⟨%y1, %e1, H1⟩, ⟨%y2, %e2, H2⟩, ⟨%y3, %e3, H3⟩, ⟨%y4, %e4, H4⟩, ⟨%y5, %e5, H5⟩, ⟨%y6, %e6, H6⟩, ⟨%d10, %y10, %e10, H10⟩, ⟨%d11, %y11, %e11, H11⟩, ⟨%d12, %y12, %e12, H12⟩, ⟨%d13, %y13, %e13, H13⟩, ⟨%d14, %y14, %e14, H14⟩, ⟨%d16, %y16, %e16, H16⟩, ⟨%d17, %y17, %e17, H17⟩, ⟨%d18, %y18, %e18, H18⟩, ⟨%d19, %y19, %e19, H19⟩, HO⟩, HK⟩
  subst e1 e2 e3 e4 e5 e6 e19
  sl_exec
  ihave HF : Flys c f7 f8 f9 $$ [K0 K1 A0 B0 D0 K2 K3 A1 B1 D1 K4 K5 A2 B2 D2 K6 K7 A3 B3 D3 K8 K9 A4 B4 D4 K10 K11 A5 B5 D5 K12 K13 A6 B6 D6 K14 K15 A7 B7 D7]
  · isplitl [K0 K1 A0 B0 D0]
    · isplitl [K0]; · iexists _; iexact K0
      isplitl [K1]; · iexists _; iexact K1
      isplitl [A0]; · iexact A0
      isplitl [B0]; · iexact B0
      iexact D0
    isplitl [K2 K3 A1 B1 D1]
    · isplitl [K2]; · iexists _; iexact K2
      isplitl [K3]; · iexists _; iexact K3
      isplitl [A1]; · iexact A1
      isplitl [B1]; · iexact B1
      iexact D1
    isplitl [K4 K5 A2 B2 D2]
    · isplitl [K4]; · iexists _; iexact K4
      isplitl [K5]; · iexists _; iexact K5
      isplitl [A2]; · iexact A2
      isplitl [B2]; · iexact B2
      iexact D2
    isplitl [K6 K7 A3 B3 D3]
    · isplitl [K6]; · iexists _; iexact K6
      isplitl [K7]; · iexists _; iexact K7
      isplitl [A3]; · iexact A3
      isplitl [B3]; · iexact B3
      iexact D3
    isplitl [K8 K9 A4 B4 D4]
    · isplitl [K8]; · iexists _; iexact K8
      isplitl [K9]; · iexists _; iexact K9
      isplitl [A4]; · iexact A4
      isplitl [B4]; · iexact B4
      iexact D4
    isplitl [K10 K11 A5 B5 D5]
    · isplitl [K10]; · iexists _; iexact K10
      isplitl [K11]; · iexists _; iexact K11
      isplitl [A5]; · iexact A5
      isplitl [B5]; · iexact B5
      iexact D5
    isplitl [K12 K13 A6 B6 D6]
    · isplitl [K12]; · iexists _; iexact K12
      isplitl [K13]; · iexists _; iexact K13
      isplitl [A6]; · iexact A6
      isplitl [B6]; · iexact B6
      iexact D6
    isplitl [K14]; · iexists _; iexact K14
    isplitl [K15]; · iexists _; iexact K15
    isplitl [A7]; · iexact A7
    isplitl [B7]; · iexact B7
    iexact D7
  ihave HF := (Entails.of_eq (flys_eq c f7 f8 f9).symm) $$ HF
  have e16w : (Memref.whole cc0_scratch1).view.read (Elt F) ((Memref.whole cc0_scratch1).view.writes (Elt F) (Memref.whole cc0_scratch1).view.junk (body_run.sl.H16_6 arg2 arg6 c y2 y6)) = lhs1 (arg2.view.read (Elt F) y2) (arg6.view.read (Elt F) y6) := by
    have e18 : (Memref.whole cc0_scratch3).view.read (Elt F) ((Memref.whole cc0_scratch3).view.writes (Elt F) (Memref.whole cc0_scratch3).view.junk (body_run.sl.H18_6 arg2 arg6 c y2 y6))
        = cols (d := ![24, 3072]) (tsz := S24x512.size) (n := 6) rfl rfl (nrm (arg2.view.read (Elt F) y2) (arg6.view.read (Elt F) y6)) := by
      refine read_colsN (Memref.whole cc0_scratch3).view (Memref.whole cc0_scratch3).view.junk (nrm (arg2.view.read (Elt F) y2) (arg6.view.read (Elt F) y6)) _ ?_
      unfold body_run.sl.H18_6
      refine consN (F := F) (nrm (arg2.view.read (Elt F) y2) (arg6.view.read (Elt F) y6)) 5 (by decide) _ rfl _ _ (pay33_eq (F := F) _ _ _) _ ?_
      refine consN (F := F) (nrm (arg2.view.read (Elt F) y2) (arg6.view.read (Elt F) y6)) 4 (by decide) _ rfl _ _ (pay29_eq _ _ _) _ ?_
      refine consN (F := F) (nrm (arg2.view.read (Elt F) y2) (arg6.view.read (Elt F) y6)) 3 (by decide) _ rfl _ _ (pay27_eq _ _ _) _ ?_
      refine consN (F := F) (nrm (arg2.view.read (Elt F) y2) (arg6.view.read (Elt F) y6)) 2 (by decide) _ rfl _ _ (pay22_eq _ _ _) _ ?_
      refine consN (F := F) (nrm (arg2.view.read (Elt F) y2) (arg6.view.read (Elt F) y6)) 1 (by decide) _ rfl _ _ (rfl) _ ?_
      refine consN (F := F) (nrm (arg2.view.read (Elt F) y2) (arg6.view.read (Elt F) y6)) 0 (by decide) _ rfl _ _ (pay18_eq _ _ _ _ _ _ _) _ ?_
      rfl
    have ev1 : body_run.sl.r_11 arg2 arg6 c y2 y6 = sc1 (arg2.view.read (Elt F) y2) (arg6.view.read (Elt F) y6) := rfl
    have ex : ∀ (j : Fin 6) (o : Fin 2 → ℕ) (ho : o = ![0, 512 * j.val]) (inb : ∀ a, o a + S24x512.size a ≤ S24x3072.size a),
        View.readCov (Memref.whole cc0_scratch3).view (body_run.sl.H18_6 arg2 arg6 c y2 y6) (Rect.unit (s := S24x3072) o S24x512.size inb).toLoadRect = nrm (arg2.view.read (Elt F) y2) (arg6.view.read (Elt F) y6) j := by
      intro j o ho inb
      rw [readCov_window, e18]
      exact ld_cols (d := ![24, 3072]) (tsz := S24x512.size) (n := 6) rfl rfl _ j o ho _
    refine read_colsL (Memref.whole cc0_scratch1).view (Memref.whole cc0_scratch1).view.junk (fun j => k0_pay40 (sc1 (arg2.view.read (Elt F) y2) (arg6.view.read (Elt F) y6)) (nrm (arg2.view.read (Elt F) y2) (arg6.view.read (Elt F) y6) j)) _ ?_
    have x0 : body_run.sl.v273 arg2 arg6 c y2 y6 = nrm (arg2.view.read (Elt F) y2) (arg6.view.read (Elt F) y6) 0 := ex 0 _ rfl _
    have x1 : body_run.sl.v286 arg2 arg6 c y2 y6 = nrm (arg2.view.read (Elt F) y2) (arg6.view.read (Elt F) y6) 1 := ex 1 _ rfl _
    have x2 : body_run.sl.v299 arg2 arg6 c y2 y6 = nrm (arg2.view.read (Elt F) y2) (arg6.view.read (Elt F) y6) 2 := ex 2 _ rfl _
    have x3 : body_run.sl.v312 arg2 arg6 c y2 y6 = nrm (arg2.view.read (Elt F) y2) (arg6.view.read (Elt F) y6) 3 := ex 3 _ rfl _
    have x4 : body_run.sl.v325 arg2 arg6 c y2 y6 = nrm (arg2.view.read (Elt F) y2) (arg6.view.read (Elt F) y6) 4 := ex 4 _ rfl _
    have x5 : body_run.sl.v338 arg2 arg6 c y2 y6 = nrm (arg2.view.read (Elt F) y2) (arg6.view.read (Elt F) y6) 5 := ex 5 _ rfl _
    unfold body_run.sl.H16_6 body_run.sl.r_12 body_run.sl.r_13 body_run.sl.cst_133
    rw [x0, x1, x2, x3, x4, x5, ev1, pay35_eq, pay38_eq, pay39_eq, pay42_eq, pay43_eq]
    rw [show k0_pay34 _ _ _ = sc1 (arg2.view.read (Elt F) y2) (arg6.view.read (Elt F) y6) from ev1]
    refine consL (fun j => k0_pay40 (sc1 (arg2.view.read (Elt F) y2) (arg6.view.read (Elt F) y6)) (nrm (arg2.view.read (Elt F) y2) (arg6.view.read (Elt F) y6) j)) 5 (by decide) _ rfl _ _ rfl _ ?_
    refine consL (fun j => k0_pay40 (sc1 (arg2.view.read (Elt F) y2) (arg6.view.read (Elt F) y6)) (nrm (arg2.view.read (Elt F) y2) (arg6.view.read (Elt F) y6) j)) 4 (by decide) _ rfl _ _ rfl _ ?_
    refine consL (fun j => k0_pay40 (sc1 (arg2.view.read (Elt F) y2) (arg6.view.read (Elt F) y6)) (nrm (arg2.view.read (Elt F) y2) (arg6.view.read (Elt F) y6) j)) 3 (by decide) _ rfl _ _ rfl _ ?_
    refine consL (fun j => k0_pay40 (sc1 (arg2.view.read (Elt F) y2) (arg6.view.read (Elt F) y6)) (nrm (arg2.view.read (Elt F) y2) (arg6.view.read (Elt F) y6) j)) 2 (by decide) _ rfl _ _ rfl _ ?_
    refine consL (fun j => k0_pay40 (sc1 (arg2.view.read (Elt F) y2) (arg6.view.read (Elt F) y6)) (nrm (arg2.view.read (Elt F) y2) (arg6.view.read (Elt F) y6) j)) 1 (by decide) _ rfl _ _ rfl _ ?_
    refine consL (fun j => k0_pay40 (sc1 (arg2.view.read (Elt F) y2) (arg6.view.read (Elt F) y6)) (nrm (arg2.view.read (Elt F) y2) (arg6.view.read (Elt F) y6) j)) 0 (by decide) _ rfl _ _ rfl _ ?_
    rfl
  ihave H16' : iprop(owns (c : Thread nD τ) (Memref.whole cc0_scratch1) fullShare (lhs1 (arg2.view.read (Elt F) y2) (arg6.view.read (Elt F) y6))) $$ [H16]
  · unfold owns
    iexists _; isplitr; swap; (· iexact H16); ipureintro
    exact e16w
  sl_for (inv1 arg3 arg4 c f7 f8 f9 (mul0 (arg1.view.read (Elt F) y1)) (sc1 (arg2.view.read (Elt F) y2) (arg6.view.read (Elt F) y6)) (arg3.view.read (Elt F) y3) (arg4.view.read (Elt F) y4) (lhs1 (arg2.view.read (Elt F) y2) (arg6.view.read (Elt F) y6)) ((Memref.whole cc0_scratch4).view.read (Elt F) y19)) $$ [HF H3 H4 H16' H19 HO]
  case region =>
    intro k acc
    exact step1 i arg1 harg1 arg2 harg2 arg3 harg3 arg4 harg4 arg5 harg5 arg6 harg6 arg10 harg10 arg11 harg11 arg12 harg12 arg13 harg13 arg14 harg14 c f7 f8 f9 _ _ _ _ _ _ _ k acc
  · unfold inv1 owns
    isplitr
    · ipureintro; rfl
    isplitl [HF]; · iexact HF
    isplitl [H3]; · iexists _; isplitr; swap; (· iexact H3); ipureintro; exact rfl
    isplitl [H4]; · iexists _; isplitr; swap; (· iexact H4); ipureintro; exact rfl
    isplitl [H16']; · iexact H16'
    isplitl [H19]; · iexists _; isplitr; swap; (· iexact H19); ipureintro; exact rfl
    iexists _; iexact HO
  iintro %acc HI
  unfold inv1
  icases HI with ⟨%ea, HF, H3, H4, H16', H19, ⟨%W1, HO⟩⟩
  subst ea
  rw [show Scf.trips k0_t1_loop.lb k0_t1_loop.ub k0_t1_loop.st = 12 from by decide +kernel, gAt_indep]
  unfold owns
  icases H16' with ⟨%y16', %e16', H16⟩
  icases H19 with ⟨%y19', %e19', H19⟩
  sl_exec
  have es : body_run.sl.r_16 arg1 arg2 arg3 arg4 arg6 c f7 f8 y1 y2 y3 y4 y6 = scA c f7 f8 (arg1.view.read (Elt F) y1) (arg2.view.read (Elt F) y2) (arg3.view.read (Elt F) y3) (arg4.view.read (Elt F) y4) (arg6.view.read (Elt F) y6) := rfl
  have e17 : ∀ f, (Memref.whole cc0_scratch2).view.read (Elt F) ((Memref.whole cc0_scratch2).view.writes (Elt F) f (body_run.sl.H17_48 arg1 arg2 arg3 arg4 arg6 c f7 f8 y1 y2 y3 y4 y6 y19')) = lhsA c f7 f8 (arg1.view.read (Elt F) y1) (arg2.view.read (Elt F) y2) (arg3.view.read (Elt F) y3) (arg4.view.read (Elt F) y4) (arg6.view.read (Elt F) y6) := by
    intro f
    have P0 : ∀ s, s = body_run.sl.r_16 arg1 arg2 arg3 arg4 arg6 c f7 f8 y1 y2 y3 y4 y6 → (Memref.whole cc0_scratch2).view.read (Elt F) ((Memref.whole cc0_scratch2).view.writes (Elt F) f (body_run.sl.H17_48 arg1 arg2 arg3 arg4 arg6 c f7 f8 y1 y2 y3 y4 y6 y19')) = lhs2 s ((Memref.whole cc0_scratch4).view.read (Elt F) y19') := by
      intro s hs
      let P : Fin 48 → Vec F S32x128 .fp8e4m3 := fun j => k0_pay58 s (gB ((Memref.whole cc0_scratch4).view.read (Elt F) y19') j)
      refine read_colsA (Memref.whole cc0_scratch2).view f P _ ?_
      unfold body_run.sl.H17_48
      unfold body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.cst_195 body_run.sl.cst_405
      have hr : body_run.sl.r_16 arg1 arg2 arg3 arg4 arg6 c f7 f8 y1 y2 y3 y4 y6 = k0_pay52 (body_run.sl.r_14 arg1 arg2 arg3 arg4 arg6 c f7 f8 y1 y2 y3 y4 y6) (body_run.sl.r_15 arg1 arg2 arg3 arg4 arg6 c f7 f8 y1 y2 y3 y4 y6) (k0_pay51 (F := F)) := rfl
      rw [pay53_eq, pay54_eq, pay57_eq, ← hr]
      simp only [← hs]
      refine consA P 47 (by decide) _ rfl _ _ rfl _ ?_
      refine consA P 46 (by decide) _ rfl _ _ rfl _ ?_
      refine consA P 45 (by decide) _ rfl _ _ rfl _ ?_
      refine consA P 44 (by decide) _ rfl _ _ rfl _ ?_
      refine consA P 43 (by decide) _ rfl _ _ rfl _ ?_
      refine consA P 42 (by decide) _ rfl _ _ rfl _ ?_
      refine consA P 41 (by decide) _ rfl _ _ rfl _ ?_
      refine consA P 40 (by decide) _ rfl _ _ rfl _ ?_
      refine consA P 39 (by decide) _ rfl _ _ rfl _ ?_
      refine consA P 38 (by decide) _ rfl _ _ rfl _ ?_
      refine consA P 37 (by decide) _ rfl _ _ rfl _ ?_
      refine consA P 36 (by decide) _ rfl _ _ rfl _ ?_
      refine consA P 35 (by decide) _ rfl _ _ rfl _ ?_
      refine consA P 34 (by decide) _ rfl _ _ rfl _ ?_
      refine consA P 33 (by decide) _ rfl _ _ rfl _ ?_
      refine consA P 32 (by decide) _ rfl _ _ rfl _ ?_
      refine consA P 31 (by decide) _ rfl _ _ rfl _ ?_
      refine consA P 30 (by decide) _ rfl _ _ rfl _ ?_
      refine consA P 29 (by decide) _ rfl _ _ rfl _ ?_
      refine consA P 28 (by decide) _ rfl _ _ rfl _ ?_
      refine consA P 27 (by decide) _ rfl _ _ rfl _ ?_
      refine consA P 26 (by decide) _ rfl _ _ rfl _ ?_
      refine consA P 25 (by decide) _ rfl _ _ rfl _ ?_
      refine consA P 24 (by decide) _ rfl _ _ rfl _ ?_
      refine consA P 23 (by decide) _ rfl _ _ rfl _ ?_
      refine consA P 22 (by decide) _ rfl _ _ rfl _ ?_
      refine consA P 21 (by decide) _ rfl _ _ rfl _ ?_
      refine consA P 20 (by decide) _ rfl _ _ rfl _ ?_
      refine consA P 19 (by decide) _ rfl _ _ rfl _ ?_
      refine consA P 18 (by decide) _ rfl _ _ rfl _ ?_
      refine consA P 17 (by decide) _ rfl _ _ rfl _ ?_
      refine consA P 16 (by decide) _ rfl _ _ rfl _ ?_
      refine consA P 15 (by decide) _ rfl _ _ rfl _ ?_
      refine consA P 14 (by decide) _ rfl _ _ rfl _ ?_
      refine consA P 13 (by decide) _ rfl _ _ rfl _ ?_
      refine consA P 12 (by decide) _ rfl _ _ rfl _ ?_
      refine consA P 11 (by decide) _ rfl _ _ rfl _ ?_
      refine consA P 10 (by decide) _ rfl _ _ rfl _ ?_
      refine consA P 9 (by decide) _ rfl _ _ rfl _ ?_
      refine consA P 8 (by decide) _ rfl _ _ rfl _ ?_
      refine consA P 7 (by decide) _ rfl _ _ rfl _ ?_
      refine consA P 6 (by decide) _ rfl _ _ rfl _ ?_
      refine consA P 5 (by decide) _ rfl _ _ rfl _ ?_
      refine consA P 4 (by decide) _ rfl _ _ rfl _ ?_
      refine consA P 3 (by decide) _ rfl _ _ rfl _ ?_
      refine consA P 2 (by decide) _ rfl _ _ rfl _ ?_
      refine consA P 1 (by decide) _ rfl _ _ rfl _ ?_
      refine consA P 0 (by decide) _ rfl _ _ rfl _ ?_
      rfl
    rw [P0 _ rfl, e19', es]; rfl
  ihave H17' : iprop(owns (c : Thread nD τ) (Memref.whole cc0_scratch2) fullShare (lhsA c f7 f8 (arg1.view.read (Elt F) y1) (arg2.view.read (Elt F) y2) (arg3.view.read (Elt F) y3) (arg4.view.read (Elt F) y4) (arg6.view.read (Elt F) y6))) $$ [H17]
  · unfold owns
    iexists _; isplitr; swap; (· iexact H17); ipureintro
    exact e17 _
  sl_for (inv2 arg5 arg6 arg10 c f7 f8 f9 (mul1 (arg1.view.read (Elt F) y1)) (scA c f7 f8 (arg1.view.read (Elt F) y1) (arg2.view.read (Elt F) y2) (arg3.view.read (Elt F) y3) (arg4.view.read (Elt F) y4) (arg6.view.read (Elt F) y6)) (arg5.view.read (Elt F) y5) (arg6.view.read (Elt F) y6) (lhsA c f7 f8 (arg1.view.read (Elt F) y1) (arg2.view.read (Elt F) y2) (arg3.view.read (Elt F) y3) (arg4.view.read (Elt F) y4) (arg6.view.read (Elt F) y6)) (arg10.view.read (Elt F) y10)) $$ [HF H5 H6 H17' H10 HO]
  case region =>
    intro k acc
    exact step2 i arg1 harg1 arg2 harg2 arg3 harg3 arg4 harg4 arg5 harg5 arg6 harg6 arg10 harg10 arg11 harg11 arg12 harg12 arg13 harg13 arg14 harg14 c f7 f8 f9 _ _ _ _ _ _ _ _ k acc
  · unfold inv2 owns
    isplitl [HF]; · iexact HF
    isplitl [H5]; · iexists _; isplitr; swap; (· iexact H5); ipureintro; exact rfl
    isplitl [H6]; · iexists _; isplitr; swap; (· iexact H6); ipureintro; exact rfl
    isplitl [H17']; · iexact H17'
    isplitl [H10]; · iexists _; isplitr; swap; (· iexact H10); ipureintro; exact rfl
    iexists _; iexact HO
  iintro %acc2 HI
  unfold inv2
  icases HI with ⟨HF, H5, H6, H17', H10, ⟨%W2, HO⟩⟩
  rw [show Scf.trips k0_t2_loop.lb k0_t2_loop.ub k0_t2_loop.st = 6 from by decide +kernel, oAt_indep]
  sl_exec
  sl_step
  ihave HF := (Entails.of_eq (rests_eq c f7 f8 f9)) $$ HF
  have ev1 : body_run.sl.r_11 arg2 arg6 c y2 y6 = sc1 (arg2.view.read (Elt F) y2) (arg6.view.read (Elt F) y6) := rfl
  iapply HK
  isplitl [HF]; · iexact HF
  unfold owns
  isplitl [H1]; · iexists _; isplitr; swap; (· iexact H1); ipureintro; exact rfl
  isplitl [H2]; · iexists _; isplitr; swap; (· iexact H2); ipureintro; exact rfl
  isplitl [H3]; · iexact H3
  isplitl [H4]; · iexact H4
  isplitl [H5]; · iexact H5
  isplitl [H6]; · iexact H6
  isplitl [H10]; · iexact H10
  isplitl [H11]
  · iexists _; isplitr; swap; (· iexact H11); ipureintro
    unfold body_run.sl.H11_1
    rw [View.read_writes_full]
    exact (readCov_window (Memref.whole cc0_scratch1).view _ ![0, 0] S24x3072.size inb_S32x3072_S24x3072_0_0).trans (congrArg top1 e16w)
  isplitl [H12]
  · iexists _; isplitr; swap; (· iexact H12); ipureintro
    rw [View.read_writes_full]
    unfold s1R; rw [← es, ← ev1]; rfl
  isplitl [H13]
  · iexists _; isplitr; swap; (· iexact H13); ipureintro
    unfold body_run.sl.H13_1
    rw [View.read_writes_full]
    exact (readCov_window (Memref.whole cc0_scratch2).view _ ![0, 0] S24x6144.size inb_S32x6144_S24x6144_0_0).trans (congrArg top2 (e17 _))
  isplitl [H14]
  · iexists _; isplitr; swap; (· iexact H14); ipureintro
    rw [View.read_writes_full]
    unfold s2R; rw [← es, ← ev1]; rfl
  isplitl [H16]; · iexists _; iexists _; isplitr; swap; (· iexact H16); ipureintro; exact rfl
  isplitl [H17']; · iexists _; iexact H17'
  isplitl [H18]; · iexists _; iexists _; isplitr; swap; (· iexact H18); ipureintro; exact rfl
  isplitl [H19]; · iexists _; iexists _; isplitr; swap; (· iexact H19); ipureintro; exact rfl
  iexists _; iexact HO

end Cert.KernelIdeal.Hand
-- ==== Proof.FrameIdeal.lean ====
module

public import proofs.«01_k».proof.Proof.BodyIdeal
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the call, and the frame's post -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 5).trans (((dats 0 c).arrAt_in 5 rfl _).trans ((hA c 5).trans (V_main_arg0 m c))),
      ((h.1 c).2 main_arg1 (Pipeline.mem_restRefs_of main_arg1 (by decide) (by decide))).trans (V_main_arg1 m c),
      ((h.1 c).1 0).trans (((dats 0 c).arrAt_in 0 rfl _).trans ((hA c 0).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) h

/-! ## What the body keeps between its blocks -/

/-- The sixteen cells of the ring. -/
abbrev osem0 : Fin 16 → SemLoc sig := fun j => (![SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26] : Fin 16 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = Cells (F := F) c := by
  rw [Pipeline.ownSems0_eq_of_list c osem0 [0, 1, 2, 3, 4, 5, 6, 7, 8, 9, 10, 11, 12, 13, 14, 15] (by decide) (by decide)]; rfl
/-- The three matrices the body copies from. -/
def H0 : Finset (Ref sig .tc) := {main_arg3, main_arg5, main_arg7}
theorem H0_sub : H0 ⊆ Pipeline.restRefs sig spec0 := by decide
theorem hbmPts0_eq (c : Dev nD) :
    (bigSep H0 (fun b => ((c : Thread nD τ).loc b) ↦{fullShare} V m c b) : sProp 𝕄)
      = iprop((hb7.view.loc (c : Thread nD τ) ↦{fullShare} V m c main_arg3) ∗ (hb8.view.loc (c : Thread nD τ) ↦{fullShare} V m c main_arg5)
          ∗ (hb9.view.loc (c : Thread nD τ) ↦{fullShare} V m c main_arg7)) := by
  rw [BI.bigSep_eq_bigSepL_of_eq [main_arg3, main_arg5, main_arg7] (by decide) (by decide)]; rfl

theorem PhiD0_eq (c : Dev nD) :
    (Pipeline.ΦD osem0 spec0 H0 (V m) c : sProp 𝕄)
      = iprop(iprop((∃ f, slabs.view.loc (c : Thread nD τ) ↦{fullShare} f) ∗ (∃ d, owns (c : Thread nD τ) (Memref.whole cc0_scratch1) fullShare d) ∗ (∃ d, owns (c : Thread nD τ) (Memref.whole cc0_scratch2) fullShare d)
                ∗ (∃ d, owns (c : Thread nD τ) (Memref.whole cc0_scratch3) fullShare d) ∗ (∃ d, owns (c : Thread nD τ) (Memref.whole cc0_scratch4) fullShare d))
          ∗ (∃ r, prngReg c r)
          ∗ Cells (F := F) c
          ∗ iprop((hb7.view.loc (c : Thread nD τ) ↦{fullShare} V m c main_arg3) ∗ (hb8.view.loc (c : Thread nD τ) ↦{fullShare} V m c main_arg5)
                  ∗ (hb9.view.loc (c : Thread nD τ) ↦{fullShare} V m c main_arg7))) := by
  rw [Pipeline.ΦD_eq, scopedRest0_eq, ownSems00_eq, hbmPts0_eq]
  simp only [owns_whole]; try rfl

abbrev ms0_0 (t : Fin cfg0.N) : Memref sig .tc .smem S12 .f32 := win0_0.stage (cfg0.slots t 0)
abbrev ms0_1 (t : Fin cfg0.N) : Memref sig .tc .vmem S1x3072 .f32 := win0_1.stage (cfg0.slots t 1)
abbrev ms0_2 (t : Fin cfg0.N) : Memref sig .tc .vmem S1x6144 .f32 := win0_2.stage (cfg0.slots t 2)
abbrev ms0_3 (t : Fin cfg0.N) : Memref sig .tc .vmem S1x6144 .f32 := win0_3.stage (cfg0.slots t 3)
abbrev ms0_4 (t : Fin cfg0.N) : Memref sig .tc .vmem S1x3072 .f32 := win0_4.stage (cfg0.slots t 4)
abbrev ms0_5 (t : Fin cfg0.N) : Memref sig .tc .vmem S24x3072 .f32 := win0_5.stage (cfg0.slots t 5)
abbrev ms0_6 (t : Fin cfg0.N) : Memref sig .tc .vmem S24x3072 .bf16 := win0_6.stage (cfg0.slots t 6)
abbrev ms0_7 (t : Fin cfg0.N) : Memref sig .tc .vmem S24x3072 .fp8e4m3 := win0_7.stage (cfg0.slots t 7)
abbrev ms0_8 (t : Fin cfg0.N) : Memref sig .tc .vmem S1x24 .f32 := win0_8.stage (cfg0.slots t 8)
abbrev ms0_9 (t : Fin cfg0.N) : Memref sig .tc .vmem S24x6144 .fp8e4m3 := win0_9.stage (cfg0.slots t 9)
abbrev ms0_10 (t : Fin cfg0.N) : Memref sig .tc .vmem S1x24 .f32 := win0_10.stage (cfg0.slots t 10)
/-- Input 0's block. -/
abbrev bl0 (c : Dev nD) (t : Fin cfg0.N) : Vec F S12 .f32 := iblk m c 0 t
/-- Input 1's block. -/
abbrev bl1 (c : Dev nD) (t : Fin cfg0.N) : Vec F S1x3072 .f32 := iblk m c 1 t
/-- Input 2's block. -/
abbrev bl2 (c : Dev nD) (t : Fin cfg0.N) : Vec F S1x6144 .f32 := iblk m c 2 t
/-- Input 3's block. -/
abbrev bl3 (c : Dev nD) (t : Fin cfg0.N) : Vec F S1x6144 .f32 := iblk m c 3 t
/-- Input 4's block. -/
abbrev bl4 (c : Dev nD) (t : Fin cfg0.N) : Vec F S1x3072 .f32 := iblk m c 4 t
/-- Input 5's block. -/
abbrev bl5 (c : Dev nD) (t : Fin cfg0.N) : Vec F S24x3072 .f32 := iblk m c 5 t
/-- Result 0. -/
abbrev res6 (c : Dev nD) (t : Fin cfg0.N) : Vec F S24x3072 .bf16 := outR c (V m c main_arg3) (V m c main_arg5) (V m c main_arg7) (bl0 m c t) (bl1 m c t) (bl2 m c t) (bl3 m c t) (bl4 m c t) (bl5 m c t)
/-- Result 1. -/
abbrev res7 (c : Dev nD) (t : Fin cfg0.N) : Vec F S24x3072 .fp8e4m3 := top1 (lhs1 (bl1 m c t) (bl5 m c t))
/-- Result 2. -/
abbrev res8 (c : Dev nD) (t : Fin cfg0.N) : Vec F S1x24 .f32 := s1R c (V m c main_arg3) (V m c main_arg5) (bl0 m c t) (bl1 m c t) (bl2 m c t) (bl3 m c t) (bl5 m c t)
/-- Result 3. -/
abbrev res9 (c : Dev nD) (t : Fin cfg0.N) : Vec F S24x6144 .fp8e4m3 := top2 (lhsA c (V m c main_arg3) (V m c main_arg5) (bl0 m c t) (bl1 m c t) (bl2 m c t) (bl3 m c t) (bl5 m c t))
/-- Result 4. -/
abbrev res10 (c : Dev nD) (t : Fin cfg0.N) : Vec F S1x24 .f32 := s2R c (V m c main_arg3) (V m c main_arg5) (bl0 m c t) (bl1 m c t) (bl2 m c t) (bl3 m c t) (bl5 m c t)

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => bl0 m c t
    | ⟨1, _⟩ => bl1 m c t
    | ⟨2, _⟩ => bl2 m c t
    | ⟨3, _⟩ => bl3 m c t
    | ⟨4, _⟩ => bl4 m c t
    | ⟨5, _⟩ => bl5 m c t
    | ⟨6, _⟩ => res6 m c t
    | ⟨7, _⟩ => res7 m c t
    | ⟨8, _⟩ => res8 m c t
    | ⟨9, _⟩ => res9 m c t
    | ⟨10, _⟩ => res10 m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = bl0 m c t := by dsimp only [dats]
theorem after0_1 (c : Dev nD) (t : Fin cfg0.N) : (dats m 0 c).after 1 t = bl1 m c t := by dsimp only [dats]
theorem after0_2 (c : Dev nD) (t : Fin cfg0.N) : (dats m 0 c).after 2 t = bl2 m c t := by dsimp only [dats]
theorem after0_3 (c : Dev nD) (t : Fin cfg0.N) : (dats m 0 c).after 3 t = bl3 m c t := by dsimp only [dats]
theorem after0_4 (c : Dev nD) (t : Fin cfg0.N) : (dats m 0 c).after 4 t = bl4 m c t := by dsimp only [dats]
theorem after0_5 (c : Dev nD) (t : Fin cfg0.N) : (dats m 0 c).after 5 t = bl5 m c t := by dsimp only [dats]
theorem after0_6 (c : Dev nD) (t : Fin cfg0.N) : (dats m 0 c).after 6 t = res6 m c t := by dsimp only [dats]
theorem after0_7 (c : Dev nD) (t : Fin cfg0.N) : (dats m 0 c).after 7 t = res7 m c t := by dsimp only [dats]
theorem after0_8 (c : Dev nD) (t : Fin cfg0.N) : (dats m 0 c).after 8 t = res8 m c t := by dsimp only [dats]
theorem after0_9 (c : Dev nD) (t : Fin cfg0.N) : (dats m 0 c).after 9 t = res9 m c t := by dsimp only [dats]
theorem after0_10 (c : Dev nD) (t : Fin cfg0.N) : (dats m 0 c).after 10 t = res10 m c t := by dsimp only [dats]
theorem before0_0 (c : Dev nD) (t : Fin cfg0.N) (d) : (dats m 0 c).before 0 t d = bl0 m c t :=
  ((dats m 0 c).before_in_eq_fetched 0 rfl (fun _ => rfl) (fun _ _ _ => rfl) (fun t => by rw [after0_0]; unfold Dat.blockOf; rw [A_eq]; try rfl) t d).trans
    (by unfold Dat.fetched Dat.blockOf; rw [A_eq]; try rfl)
theorem before0_1 (c : Dev nD) (t : Fin cfg0.N) (d) : (dats m 0 c).before 1 t d = bl1 m c t :=
  ((dats m 0 c).before_in_eq_fetched 1 rfl (fun _ => rfl) (fun _ _ _ => rfl) (fun t => by rw [after0_1]; unfold Dat.blockOf; rw [A_eq]; try rfl) t d).trans
    (by unfold Dat.fetched Dat.blockOf; rw [A_eq]; try rfl)
theorem before0_2 (c : Dev nD) (t : Fin cfg0.N) (d) : (dats m 0 c).before 2 t d = bl2 m c t :=
  ((dats m 0 c).before_in_eq_fetched 2 rfl (fun _ => rfl) (fun _ _ _ => rfl) (fun t => by rw [after0_2]; unfold Dat.blockOf; rw [A_eq]; try rfl) t d).trans
    (by unfold Dat.fetched Dat.blockOf; rw [A_eq]; try rfl)
theorem before0_3 (c : Dev nD) (t : Fin cfg0.N) (d) : (dats m 0 c).before 3 t d = bl3 m c t :=
  ((dats m 0 c).before_in_eq_fetched 3 rfl (fun _ => rfl) (fun _ _ _ => rfl) (fun t => by rw [after0_3]; unfold Dat.blockOf; rw [A_eq]; try rfl) t d).trans
    (by unfold Dat.fetched Dat.blockOf; rw [A_eq]; try rfl)
theorem before0_4 (c : Dev nD) (t : Fin cfg0.N) (d) : (dats m 0 c).before 4 t d = bl4 m c t :=
  ((dats m 0 c).before_in_eq_fetched 4 rfl (fun _ => rfl) (fun _ _ _ => rfl) (fun t => by rw [after0_4]; unfold Dat.blockOf; rw [A_eq]; try rfl) t d).trans
    (by unfold Dat.fetched Dat.blockOf; rw [A_eq]; try rfl)
theorem before0_5 (c : Dev nD) (t : Fin cfg0.N) (d) : (dats m 0 c).before 5 t d = bl5 m c t :=
  ((dats m 0 c).before_in_eq_fetched 5 rfl (fun _ => rfl) (fun _ _ _ => rfl) (fun t => by rw [after0_5]; unfold Dat.blockOf; rw [A_eq]; try rfl) t d).trans
    (by unfold Dat.fetched Dat.blockOf; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5, after0_6, after0_7, after0_8, after0_9, after0_10]
  rw [show (dats m 0 c).Φ t.castSucc = Pipeline.ΦD osem0 spec0 H0 (V m) c from rfl, PhiD0_eq]
  simp only [before0_0, before0_1, before0_2, before0_3, before0_4, before0_5]
  unfold Dat.owesAt Pipeline.owesWithin
  rw [show (dats m 0 c).owed t.castSucc = 0 from rfl, show (dats m 0 c).owed t.succ = 0 from rfl]
  iintro ⟨⟨⟨HS, HS1, HS2, HS3, HS4⟩, Hg, HC, ⟨Hm7, Hm8, Hm9⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HR := (ring_open c (V m c main_arg3) (V m c main_arg5) (V m c main_arg7)) $$ [HS HC Hm7 Hm8 Hm9]
  · isplitl [HS]; · iexact HS
    isplitl [HC]; · iexact HC
    isplitl [Hm7]; · iexact Hm7
    isplitl [Hm8]; · iexact Hm8
    iexact Hm9
  icases HR with ⟨HR, HA⟩
  iapply (body_run (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10))
    c (V m c main_arg3) (V m c main_arg5) (V m c main_arg7) (bl0 m c t) (bl1 m c t) (bl2 m c t) (bl3 m c t) (bl4 m c t) (bl5 m c t) W _)
  isplitl [HR HW HS1 HS2 HS3 HS4 H0 H1 H2 H3 H4 H5 H6 H7 H8 H9 H10]
  · isplitl [HR]; · iexact HR
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS1]; · iexact HS1
    isplitl [HS2]; · iexact HS2
    isplitl [HS3]; · iexact HS3
    isplitl [HS4]; · iexact HS4
    iexact HW
  iintro ⟨HR, H0, H1, H2, H3, H4, H5, H6, H7, H8, H9, H10, HS1, HS2, HS3, HS4, ⟨%W', HW'⟩⟩
  ihave HQ := (ring_close c (V m c main_arg3) (V m c main_arg5) (V m c main_arg7)) $$ [HR HA]
  · isplitl [HR]; · iexact HR
    iexact HA
  icases HQ with ⟨HS, HC, Hm7, Hm8, Hm9⟩
  isplitl [HS HS1 HS2 HS3 HS4 Hg HC Hm7 Hm8 Hm9]
  · isplitl [HS HS1 HS2 HS3 HS4]
    · isplitl [HS]; · iexact HS
      isplitl [HS1]; · iexact HS1
      isplitl [HS2]; · iexact HS2
      isplitl [HS3]; · iexact HS3
      iexact HS4
    isplitl [Hg]; · iexact Hg
    isplitl [HC]; · iexact HC
    isplitl [Hm7]; · iexact Hm7
    isplitl [Hm8]; · iexact Hm8
    iexact Hm9
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the call ends, nothing faults, the arguments are unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  frame_of m ρ (dats m) (A_eq m) (run_main m ρ)

end Cert.KernelIdeal.Hand

end
-- ==== Proof.RingBits.lean ====
module

public import proofs.«01_k».proof.Proof.Gen.Kernel.Skeleton
public import proofs.«01_k».proof.Proof.Gen.Kernel.Loops
public import proofs.«01_k».proof.Proof.Gen.Kernel.Frame
public import Idealize.ShloMosaic.Lib.Transfers
public import Idealize.ShloMosaic.Lib.Ring
public import Idealize.ShloMosaic.Lib.Exec
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The ring of slabs, its semaphores and the three weight matrices left in HBM. -/
abbrev slabs : Memref sig .tc .vmem S16x3072x512 .fp8e4m3 := Memref.whole cc0_scratch0
abbrev sems : DmaSems sig S16 := cc0_scratch5
abbrev hb7 : Memref sig .tc .hbm S3072x6144 .fp8e4m3 := Memref.whole main_arg3
abbrev hb8 : Memref sig .tc .hbm S3072x6144 .fp8e4m3 := Memref.whole main_arg5
abbrev hb9 : Memref sig .tc .hbm S6144x3072 .fp8e4m3 := Memref.whole main_arg7

/-- That a cell, a slot, a block of the gate or up matrix, a block of the down matrix lie inside their arrays. -/
abbrev In1 (o : Fin 1 → ℕ) : Prop := ∀ a, o a + S1.size a ≤ S16.size a
abbrev In3 (o : Fin 3 → ℕ) : Prop := ∀ a, o a + S1x3072x512.size a ≤ S16x3072x512.size a
abbrev InG (o : Fin 2 → ℕ) : Prop := ∀ a, o a + S3072x512.size a ≤ S3072x6144.size a
abbrev InD (o : Fin 2 → ℕ) : Prop := ∀ a, o a + S3072x512.size a ≤ S6144x3072.size a

/-- The semaphore cell at an offset. -/
abbrev cell (o : Fin 1 → ℕ) (h : In1 o) : SemLoc sig :=
  SemLoc.dma ((sems.slice (Rect.unit (s := S16) o S1.size h)).squeeze S_ squeezes_S1_S_).sem
/-- The slot of the ring at an offset. -/
abbrev slot (o : Fin 3 → ℕ) (h : In3 o) : Memref sig .tc .vmem S3072x512 .fp8e4m3 :=
  (slabs.slice (Rect.unit (s := S16x3072x512) o S1x3072x512.size h) (fun _ => rfl)).squeeze S3072x512 squeezes_S1x3072x512_S3072x512
/-- The block of the gate, up and down matrix at an offset. -/
abbrev src7 (o : Fin 2 → ℕ) (h : InG o) : Memref sig .tc .hbm S3072x512 .fp8e4m3 :=
  hb7.slice (Rect.unit (s := S3072x6144) o S3072x512.size h) (fun _ => rfl)
abbrev src8 (o : Fin 2 → ℕ) (h : InG o) : Memref sig .tc .hbm S3072x512 .fp8e4m3 :=
  hb8.slice (Rect.unit (s := S3072x6144) o S3072x512.size h) (fun _ => rfl)
abbrev src9 (o : Fin 2 → ℕ) (h : InD o) : Memref sig .tc .hbm S3072x512 .fp8e4m3 :=
  hb9.slice (Rect.unit (s := S6144x3072) o S3072x512.size h) (fun _ => rfl)

/-- Contents of the three matrices on a core. -/
abbrev C7 (c : Dev nD) := Buf (Elt F) (hb7.view.loc (c : Thread nD τ))
abbrev C8 (c : Dev nD) := Buf (Elt F) (hb8.view.loc (c : Thread nD τ))
abbrev C9 (c : Dev nD) := Buf (Elt F) (hb9.view.loc (c : Thread nD τ))

/-- The read token of each matrix that pair `j` of slots holds, on a set of elements. -/
abbrev tok7 (c : Dev nD) (j : Fin 8) (S : Finset (Idx (hb7.view.loc (c : Thread nD τ)))) (f : C7 (F := F) c) : sProp 𝕄 :=
  hb7.view.loc (c : Thread nD τ) ↦[S]{Transfers.shareTok fullShare 8 j} f
abbrev tok8 (c : Dev nD) (j : Fin 8) (S : Finset (Idx (hb8.view.loc (c : Thread nD τ)))) (f : C8 (F := F) c) : sProp 𝕄 :=
  hb8.view.loc (c : Thread nD τ) ↦[S]{Transfers.shareTok fullShare 8 j} f
abbrev tok9 (c : Dev nD) (j : Fin 8) (S : Finset (Idx (hb9.view.loc (c : Thread nD τ)))) (f : C9 (F := F) c) : sProp 𝕄 :=
  hb9.view.loc (c : Thread nD τ) ↦[S]{Transfers.shareTok fullShare 8 j} f

/-- One slab on its way: the flight into the slot, delivering the slot filled and the lent elements `T` back. -/
abbrev Fl (c : Dev nD) (o1 : Fin 1 → ℕ) (h1 : In1 o1)
    (o3 : Fin 3 → ℕ) (h3 : In3 o3) (p : Vec F S3072x512 .fp8e4m3) (T : sProp 𝕄) : sProp 𝕄 :=
  iprop(∃ f, Transfers.Flight (countersEmb (U := Pipeline.UD sig nD τ)) (c : Thread nD τ) (cell o1 h1) () 49152
      iprop(((slot o3 h3).view.loc (c : Thread nD τ) ↦[(slot o3 h3).view.set]{fullShare}
              (slot o3 h3).view.writes (Elt F) f [⟨Rect.whole S3072x512, ReadAs.same.apply p⟩]) ∗ T))

/-- A pair of slots in flight with a gate block and an up block. -/
abbrev FlyA (c : Dev nD) (f7 : C7 (F := F) c) (f8 : C8 (F := F) c) (f9 : C9 (F := F) c) (j : Fin 8)
    (o1 : Fin 1 → ℕ) (h1 : In1 o1) (o1' : Fin 1 → ℕ) (h1' : In1 o1') (o3 : Fin 3 → ℕ) (h3 : In3 o3) (o3' : Fin 3 → ℕ) (h3' : In3 o3') (o : Fin 2 → ℕ) (h : InG o) : sProp 𝕄 :=
  iprop(Fl c o1 h1 o3 h3 ((src7 o h).view.read (Elt F) f7) (tok7 c j (src7 o h).view.set f7)
    ∗ Fl c o1' h1' o3' h3' ((src8 o h).view.read (Elt F) f8) (tok8 c j (src8 o h).view.set f8)
    ∗ tok7 c j (Finset.univ \ (src7 o h).view.set) f7 ∗ tok8 c j (Finset.univ \ (src8 o h).view.set) f8 ∗ tok9 c j Finset.univ f9)

/-- A pair of slots in flight with the two halves of a down block. -/
abbrev FlyB (c : Dev nD) (f7 : C7 (F := F) c) (f8 : C8 (F := F) c) (f9 : C9 (F := F) c) (j : Fin 8)
    (o1 : Fin 1 → ℕ) (h1 : In1 o1) (o1' : Fin 1 → ℕ) (h1' : In1 o1') (o3 : Fin 3 → ℕ) (h3 : In3 o3) (o3' : Fin 3 → ℕ) (h3' : In3 o3') (o : Fin 2 → ℕ) (h : InD o) (o' : Fin 2 → ℕ) (h' : InD o') : sProp 𝕄 :=
  iprop(Fl c o1 h1 o3 h3 ((src9 o h).view.read (Elt F) f9) (tok9 c j (src9 o h).view.set f9)
    ∗ Fl c o1' h1' o3' h3' ((src9 o' h').view.read (Elt F) f9) (tok9 c j (src9 o' h').view.set f9)
    ∗ tok7 c j Finset.univ f7 ∗ tok8 c j Finset.univ f8 ∗ tok9 c j ((Finset.univ \ (src9 o h).view.set) \ (src9 o' h').view.set) f9)

/-- A pair of slots at rest. -/
abbrev Rest (c : Dev nD) (f7 : C7 (F := F) c) (f8 : C8 (F := F) c) (f9 : C9 (F := F) c) (j : Fin 8)
    (o1 : Fin 1 → ℕ) (h1 : In1 o1) (o1' : Fin 1 → ℕ) (h1' : In1 o1') (o3 : Fin 3 → ℕ) (h3 : In3 o3) (o3' : Fin 3 → ℕ) (h3' : In3 o3') : sProp 𝕄 :=
  iprop(semVal ((c : Thread nD τ), cell o1 h1) 0 ∗ semVal ((c : Thread nD τ), cell o1' h1') 0
    ∗ (∃ f, (slot o3 h3).view.loc (c : Thread nD τ) ↦[(slot o3 h3).view.set]{fullShare} f)
    ∗ (∃ f, (slot o3' h3').view.loc (c : Thread nD τ) ↦[(slot o3' h3').view.set]{fullShare} f)
    ∗ tok7 c j Finset.univ f7 ∗ tok8 c j Finset.univ f8 ∗ tok9 c j Finset.univ f9)

end Cert.Kernel.Hand

end
-- ==== Proof.TripBits.lean ====
module

public import proofs.«01_k».proof.Proof.RingBits
public import proofs.«01_k».proof.Proof.Gen.Kernel.Skeleton
public import proofs.«01_k».proof.Proof.Gen.Kernel.Loops
public import proofs.«01_k».proof.Proof.Gen.Kernel.Frame
public import Idealize.ShloMosaic.Lib.VecWindow
public import Idealize.ShloMosaic.Lib.Transfers
public import Idealize.ShloMosaic.Lib.Ring
public import Idealize.ShloMosaic.Lib.Exec
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- A slot or a cell at rest, spelled at an equal offset. -/
theorem slot_cast (c : Dev nD) {o o' : Fin 3 → ℕ} (e : o = o') (h : In3 o) (h' : In3 o') (f : Buf (Elt F) ((slot o h).view.loc (c : Thread nD τ))) :
    ((slot o h).view.loc (c : Thread nD τ) ↦[(slot o h).view.set]{fullShare} f : sProp 𝕄)
      ⊢ iprop(∃ f', (slot o' h').view.loc (c : Thread nD τ) ↦[(slot o' h').view.set]{fullShare} f') := by
  subst e; iintro H; iexists f; iexact H

theorem cell_cast (c : Dev nD) {o o' : Fin 1 → ℕ} (e : o = o') (h : In1 o) (h' : In1 o') :
    (semVal ((c : Thread nD τ), cell o h) 0 : sProp 𝕄) ⊢ semVal ((c : Thread nD τ), cell o' h') 0 := by
  subst e; exact .rfl

/-- The offsets a trip waits at are the ones it issues at. -/
theorem eq82 (p : Fin k0_t1_loop.trips) : k0_off2 p = k0_off8 p := by rw [k0_off2_eq, k0_off8_eq]; congr 1; omega
theorem eq71 (p : Fin k0_t1_loop.trips) : k0_off1 p = k0_off7 p := by rw [k0_off1_eq, k0_off7_eq]; congr 1; omega
theorem eq511 (p : Fin k0_t1_loop.trips) : k0_off5 p = k0_off11 p := by rw [k0_off5_eq, k0_off11_eq]; congr 1; omega
theorem eq410 (p : Fin k0_t1_loop.trips) : k0_off4 p = k0_off10 p := by rw [k0_off4_eq, k0_off10_eq]; congr 1; omega
theorem eq213 (p : Fin k0_t1_loop.trips) : k0_off2 p = k0_off13 p := by rw [k0_off2_eq, k0_off13_eq]; congr 1; omega
theorem eq112 (p : Fin k0_t1_loop.trips) : k0_off1 p = k0_off12 p := by rw [k0_off1_eq, k0_off12_eq]; congr 1; omega
theorem eq516 (p : Fin k0_t1_loop.trips) : k0_off5 p = k0_off16 p := by rw [k0_off5_eq, k0_off16_eq]; congr 1; omega
theorem eq415 (p : Fin k0_t1_loop.trips) : k0_off4 p = k0_off15 p := by rw [k0_off4_eq, k0_off15_eq]; congr 1; omega
/-- The product of the normalised rows with one slab, on the twenty-four real rows. -/
abbrev dotA (lhs : Vec F S32x3072 .fp8e4m3) (s : Vec F S3072x512 .fp8e4m3) : FVec F S24x512 .f32 :=
  extractStridedSlice S24x512 ![0, 0]
    (matmul dot_S32x3072_S3072x512_S32x512_1_0_0_1_n_n none lhs s (constant S32x512 .f32 0x00000000#32)) slices_S32x512_o0_0_S24x512

/-- The tile of activations that trip `p` of the first loop computes from its two slabs. -/
abbrev tileA (v0 : Elt F .f32) (v272 : FVec F S24x1 .f32) (lhs : Vec F S32x3072 .fp8e4m3) (w3 w4 : Vec F S1x6144 .f32)
    (p : Fin k0_t1_loop.trips) (b7 b8 : Vec F S3072x512 .fp8e4m3) : FVec F S24x512 .f32 :=
  k0_pay4 v0 v272 (dotA lhs b7) (dotA lhs b8) (VecWindow.window w3 (k0_off18 p) S1x512.size (k0_off18_inb p))
    (VecWindow.window w4 (k0_off18 p) S1x512.size (k0_off18_inb p))

/-- The quarter of a tile at a column, as the buffer of activations stores it. -/
abbrev quart (T : FVec F S24x512 .f32) (r : ℕ) (h : S24x512.Slices ![0, r] S24x128) : FVec F S1x24x128 .f32 :=
  shapeCast S1x24x128 (extractStridedSlice S24x128 ![0, r] T h) shapeCasts_S24x128_S1x24x128

/-- The buffer of activations after a trip: four of its rows of tiles replaced. -/
abbrev putA (g : Vec F S48x24x128 .f32) (p : Fin k0_t1_loop.trips) (T : FVec F S24x512 .f32) : Vec F S48x24x128 .f32 :=
  VecWindow.put (VecWindow.put (VecWindow.put (VecWindow.put g
    (k0_off19 p 0#32) S1x24x128.size (quart T 0 slices_S24x512_o0_0_S24x128))
    (k0_off19 p 1#32) S1x24x128.size (quart T 128 slices_S24x512_o0_128_S24x128))
    (k0_off19 p 2#32) S1x24x128.size (quart T 256 slices_S24x512_o0_256_S24x128))
    (k0_off19 p 3#32) S1x24x128.size (quart T 384 slices_S24x512_o0_384_S24x128)

/-- The running maximum of absolute values after a trip. -/
abbrev accA (acc : FVec F S24x128 .f32) (T : FVec F S24x512 .f32) : FVec F S24x128 .f32 :=
  maximumf (maximumf (maximumf (maximumf acc (absf (extractStridedSlice S24x128 ![0, 0] T slices_S24x512_o0_0_S24x128)))
    (absf (extractStridedSlice S24x128 ![0, 128] T slices_S24x512_o0_128_S24x128)))
    (absf (extractStridedSlice S24x128 ![0, 256] T slices_S24x512_o0_256_S24x128)))
    (absf (extractStridedSlice S24x128 ![0, 384] T slices_S24x512_o0_384_S24x128))

/-- A slab loaded from its filled slot gives the product with the block that was copied into it. -/
theorem pay2_slot (lhs : Vec F S32x3072 .fp8e4m3) (o : Fin 3 → ℕ) (h : In3 o) (f : (slot o h).view.ty.Contents (Elt F))
    (s : Vec F S3072x512 .fp8e4m3) :
    k0_pay2 lhs (slabs.view.readAt (Elt F) (Rect.unit (s := S16x3072x512) o S1x3072x512.size h).toLoadRect
      ((slot o h).view.writes (Elt F) f [⟨Rect.whole S3072x512, s⟩])) = dotA lhs s := by
  have e : shapeCast S3072x512 (slabs.view.readAt (Elt F) (Rect.unit (s := S16x3072x512) o S1x3072x512.size h).toLoadRect
      ((slot o h).view.writes (Elt F) f [⟨Rect.whole S3072x512, s⟩])) shapeCasts_S1x3072x512_S3072x512 = s :=
    View.read_writes_whole (slot o h).view f s
  unfold k0_pay2
  rw [e]

/-- The four stores of a trip, read back. -/
theorem read_putA (v : View sig .tc .vmem S48x24x128 .f32) (f : v.ty.Contents (Elt F)) (p : Fin k0_t1_loop.trips) (T : FVec F S24x512 .f32) :
    v.read (Elt F) (v.writes (Elt F) f
      [⟨Rect.unit (s := S48x24x128) (k0_off19 p 3#32) S1x24x128.size (k0_off19_inb p 3), quart T 384 slices_S24x512_o0_384_S24x128⟩,
       ⟨Rect.unit (s := S48x24x128) (k0_off19 p 2#32) S1x24x128.size (k0_off19_inb p 2), quart T 256 slices_S24x512_o0_256_S24x128⟩,
       ⟨Rect.unit (s := S48x24x128) (k0_off19 p 1#32) S1x24x128.size (k0_off19_inb p 1), quart T 128 slices_S24x512_o0_128_S24x128⟩,
       ⟨Rect.unit (s := S48x24x128) (k0_off19 p 0#32) S1x24x128.size (k0_off19_inb p 0), quart T 0 slices_S24x512_o0_0_S24x128⟩])
      = putA (v.read (Elt F) f) p T := by
  rw [View.read_writes_cons_put v f (off := k0_off19 p 3#32) (k0_off19_inb p 3) _ _ rfl, View.read_writes_cons_put v f (off := k0_off19 p 2#32) (k0_off19_inb p 2) _ _ rfl,
    View.read_writes_cons_put v f (off := k0_off19 p 1#32) (k0_off19_inb p 1) _ _ rfl, View.read_writes_cons_put v f (off := k0_off19 p 0#32) (k0_off19_inb p 0) _ _ rfl]
  rfl

/-- A postcondition at an equal result. -/
theorem eq_entails' {α : Type} {P : sProp 𝕄} (Q : α → sProp 𝕄) {r r' : α} (e : r = r') (h : Entails' P (Q r')) : Entails' P (Q r) := by
  subst e; exact h

variable (i : grid0.Coords)
  (arg1 : Memref sig .tc .smem S12 .f32) (harg1 : arg1.IsWhole) (arg2 : Memref sig .tc .vmem S1x3072 .f32) (harg2 : arg2.IsWhole) (arg3 : Memref sig .tc .vmem S1x6144 .f32) (harg3 : arg3.IsWhole) (arg4 : Memref sig .tc .vmem S1x6144 .f32) (harg4 : arg4.IsWhole) (arg5 : Memref sig .tc .vmem S1x3072 .f32) (harg5 : arg5.IsWhole) (arg6 : Memref sig .tc .vmem S24x3072 .f32) (harg6 : arg6.IsWhole) (arg10 : Memref sig .tc .vmem S24x3072 .bf16) (harg10 : arg10.IsWhole) (arg11 : Memref sig .tc .vmem S24x3072 .fp8e4m3) (harg11 : arg11.IsWhole) (arg12 : Memref sig .tc .vmem S1x24 .f32) (harg12 : arg12.IsWhole) (arg13 : Memref sig .tc .vmem S24x6144 .fp8e4m3) (harg13 : arg13.IsWhole) (arg14 : Memref sig .tc .vmem S1x24 .f32) (harg14 : arg14.IsWhole)

/-- A trip of the first loop that fills its pair of slots with the next gate and up block. -/
theorem tripA (c : Dev nD) (f7 : C7 (F := F) c) (f8 : C8 (F := F) c) (f9 : C9 (F := F) c)
    (v0 : Elt F .f32) (v272 : FVec F S24x1 .f32) (v327 : FVec F S24x512 .f32) (p : Fin k0_t1_loop.trips) (acc : FVec F S24x128 .f32)
    (w3 w4 : Vec F S1x6144 .f32) (lhs : Vec F S32x3072 .fp8e4m3) (g : Vec F S48x24x128 .f32) (j : Fin 8) (h1 : k0_cond1 p = 1#1) (h2 : ¬ k0_cond2 p = 1#1)
    (o : Fin 2 → ℕ) (h : InG o) (W : Waits sig Unit) (Q : FVec F S24x128 .f32 → sProp 𝕄) :
    iprop(FlyA c f7 f8 f9 j (k0_off1 p) (k0_off1_inb p) (k0_off4 p) (k0_off4_inb p) (k0_off2 p) (k0_off2_inb p) (k0_off5 p) (k0_off5_inb p) o h
      ∗ owns (c : Thread nD τ) arg3 fullShare w3 ∗ owns (c : Thread nD τ) arg4 fullShare w4 ∗ owns (c : Thread nD τ) (Memref.whole cc0_scratch1) fullShare lhs
      ∗ owns (c : Thread nD τ) (Memref.whole cc0_scratch4) fullShare g ∗ owes (c : Thread nD τ) 0 W
      ∗ (iprop(FlyA c f7 f8 f9 j (k0_off7 p) (k0_off7_inb p h1) (k0_off10 p) (k0_off10_inb p h1) (k0_off8 p) (k0_off8_inb p h1) (k0_off11 p) (k0_off11_inb p h1) (k0_off9 p) (k0_off9_inb p h1)
          ∗ owns (c : Thread nD τ) arg3 fullShare w3 ∗ owns (c : Thread nD τ) arg4 fullShare w4 ∗ owns (c : Thread nD τ) (Memref.whole cc0_scratch1) fullShare lhs
          ∗ owns (c : Thread nD τ) (Memref.whole cc0_scratch4) fullShare
              (putA g p (tileA v0 v272 lhs w3 w4 p ((src7 o h).view.read (Elt F) f7) ((src8 o h).view.read (Elt F) f8)))
          ∗ (∃ W', owes (c : Thread nD τ) 0 W'))
        -∗ Q (accA acc (tileA v0 v272 lhs w3 w4 p ((src7 o h).view.read (Elt F) f7) ((src8 o h).view.read (Elt F) f8)))))
     ⊢ wp frame (wpE defs₀ Variants.none (c : Thread nD τ) none) Set.univ
        (k0_t1_body (F := F) i arg1 harg1 arg2 harg2 arg3 harg3 arg4 harg4 arg5 harg5 arg6 harg6 hb7 (Memref.isWhole_whole _) hb8 (Memref.isWhole_whole _) hb9 (Memref.isWhole_whole _) arg10 harg10 arg11 harg11 arg12 harg12 arg13 harg13 arg14 harg14 slabs (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) sems v0 v272 v327 p acc) Q := by
  unfold k0_t1_body
  simp only [k0_part1_eq_skeleton, k0_part2_eq_skeleton]
  unfold k0_part1_skel k0_part2_skel owns
  iintro ⟨⟨⟨%f0, Hfl0⟩, ⟨%f1, Hfl1⟩, H7, H8, H9⟩, ⟨%x3, %e3, H3⟩, ⟨%x4, %e4, H4⟩, ⟨%x16, %e16, H16⟩, ⟨%x19, %e19, H19⟩, HO, HK⟩
  sl_exec
  ihave Hs0 := (slot_cast c (eq82 p) (k0_off2_inb p) (k0_off8_inb p h1) _) $$ Hfl0_dst
  icases Hs0 with ⟨%e0, Hs0⟩
  ihave Hs1 := (slot_cast c (eq511 p) (k0_off5_inb p) (k0_off11_inb p h1) _) $$ Hfl1_dst
  icases Hs1 with ⟨%e1, Hs1⟩
  ihave Hc0 := (cell_cast c (eq71 p) (k0_off1_inb p) (k0_off7_inb p h1)) $$ Hfl0
  ihave Hc1 := (cell_cast c (eq410 p) (k0_off4_inb p) (k0_off10_inb p h1)) $$ Hfl1
  sl_exec

  sl_step
  have eL : View.readAt (Elt F) (Memref.whole cc0_scratch1).view (Rect.unit (s := S32x3072) ![0, 0] S32x3072.size inb_S32x3072_S32x3072_0_0).toLoadRect x16 = lhs :=
    (View.readAt_full _ _ _).trans e16
  have e7 : k0_pay2 (View.readAt (Elt F) (Memref.whole cc0_scratch1).view (Rect.unit (s := S32x3072) ![0, 0] S32x3072.size inb_S32x3072_S32x3072_0_0).toLoadRect x16)
      (tripA.sl.v1065 c f7 p o h) = dotA lhs ((src7 o h).view.read (Elt F) f7) := by
    rw [eL]; exact pay2_slot lhs _ _ _ _
  have e8 : k0_pay3 (View.readAt (Elt F) (Memref.whole cc0_scratch1).view (Rect.unit (s := S32x3072) ![0, 0] S32x3072.size inb_S32x3072_S32x3072_0_0).toLoadRect x16)
      (tripA.sl.v1078 c f8 p o h) = dotA lhs ((src8 o h).view.read (Elt F) f8) := by
    rw [eL]; exact pay2_slot lhs _ _ _ _
  have eT : k0_pay4 v0 v272 (k0_pay2 (View.readAt (Elt F) (Memref.whole cc0_scratch1).view (Rect.unit (s := S32x3072) ![0, 0] S32x3072.size inb_S32x3072_S32x3072_0_0).toLoadRect x16)
        (tripA.sl.v1065 c f7 p o h))
      (k0_pay3 (View.readAt (Elt F) (Memref.whole cc0_scratch1).view (Rect.unit (s := S32x3072) ![0, 0] S32x3072.size inb_S32x3072_S32x3072_0_0).toLoadRect x16)
        (tripA.sl.v1078 c f8 p o h))
      (View.readAt (Elt F) arg3.view (Rect.unit (s := S1x6144) (k0_off18 p) S1x512.size (k0_off18_inb p)).toLoadRect x3)
      (View.readAt (Elt F) arg4.view (Rect.unit (s := S1x6144) (k0_off18 p) S1x512.size (k0_off18_inb p)).toLoadRect x4)
      = tileA v0 v272 lhs w3 w4 p ((src7 o h).view.read (Elt F) f7) ((src8 o h).view.read (Elt F) f8) := by
    rw [e7, e8, View.readAt_unit _ _ _ rfl (k0_off18_inb p), View.readAt_unit _ _ _ rfl (k0_off18_inb p), e3, e4]
  refine eq_entails' Q (congrArg (accA acc) eT) ?_
  iapply HK
  isplitl [Hc0 Hc1 H7 H8 H9]
  · isplitl [Hc0]; · iexists _; iexact Hc0
    isplitl [Hc1]; · iexists _; iexact Hc1
    isplitl [H7]; · iexact H7
    isplitl [H8]; · iexact H8
    iexact H9
  isplitl [H3]; · iexists _; isplitr; swap; (· iexact H3); ipureintro; exact e3
  isplitl [H4]; · iexists _; isplitr; swap; (· iexact H4); ipureintro; exact e4
  isplitl [H16]; · iexists _; isplitr; swap; (· iexact H16); ipureintro; exact e16
  isplitl [H19]
  · iexists _; isplitr; swap; (· iexact H19)
    ipureintro
    exact (read_putA (Memref.whole cc0_scratch4).view x19 p (k0_pay4 v0 v272 (k0_pay2 (View.readAt (Elt F) (Memref.whole cc0_scratch1).view (Rect.unit (s := S32x3072) ![0, 0] S32x3072.size inb_S32x3072_S32x3072_0_0).toLoadRect x16)
        (tripA.sl.v1065 c f7 p o h))
      (k0_pay3 (View.readAt (Elt F) (Memref.whole cc0_scratch1).view (Rect.unit (s := S32x3072) ![0, 0] S32x3072.size inb_S32x3072_S32x3072_0_0).toLoadRect x16)
        (tripA.sl.v1078 c f8 p o h))
      (View.readAt (Elt F) arg3.view (Rect.unit (s := S1x6144) (k0_off18 p) S1x512.size (k0_off18_inb p)).toLoadRect x3)
      (View.readAt (Elt F) arg4.view (Rect.unit (s := S1x6144) (k0_off18 p) S1x512.size (k0_off18_inb p)).toLoadRect x4))).trans (by rw [eT, e19])
  iexists _; iexact HO

/-- A trip of the first loop that fills its pair of slots with the halves of a down block. -/
theorem tripB (c : Dev nD) (f7 : C7 (F := F) c) (f8 : C8 (F := F) c) (f9 : C9 (F := F) c)
    (v0 : Elt F .f32) (v272 : FVec F S24x1 .f32) (v327 : FVec F S24x512 .f32) (p : Fin k0_t1_loop.trips) (acc : FVec F S24x128 .f32)
    (w3 w4 : Vec F S1x6144 .f32) (lhs : Vec F S32x3072 .fp8e4m3) (g : Vec F S48x24x128 .f32) (j : Fin 8) (h1 : ¬ k0_cond1 p = 1#1) (h2 : k0_cond2 p = 1#1)
    (o : Fin 2 → ℕ) (h : InG o) (W : Waits sig Unit) (Q : FVec F S24x128 .f32 → sProp 𝕄) :
    iprop(FlyA c f7 f8 f9 j (k0_off1 p) (k0_off1_inb p) (k0_off4 p) (k0_off4_inb p) (k0_off2 p) (k0_off2_inb p) (k0_off5 p) (k0_off5_inb p) o h
      ∗ owns (c : Thread nD τ) arg3 fullShare w3 ∗ owns (c : Thread nD τ) arg4 fullShare w4 ∗ owns (c : Thread nD τ) (Memref.whole cc0_scratch1) fullShare lhs
      ∗ owns (c : Thread nD τ) (Memref.whole cc0_scratch4) fullShare g ∗ owes (c : Thread nD τ) 0 W
      ∗ (iprop(FlyB c f7 f8 f9 j (k0_off12 p) (k0_off12_inb p h2) (k0_off15 p) (k0_off15_inb p h2) (k0_off13 p) (k0_off13_inb p h2) (k0_off16 p) (k0_off16_inb p h2) (k0_off14 p) (k0_off14_inb p h2) (k0_off17 p) (k0_off17_inb p h2)
          ∗ owns (c : Thread nD τ) arg3 fullShare w3 ∗ owns (c : Thread nD τ) arg4 fullShare w4 ∗ owns (c : Thread nD τ) (Memref.whole cc0_scratch1) fullShare lhs
          ∗ owns (c : Thread nD τ) (Memref.whole cc0_scratch4) fullShare
              (putA g p (tileA v0 v272 lhs w3 w4 p ((src7 o h).view.read (Elt F) f7) ((src8 o h).view.read (Elt F) f8)))
          ∗ (∃ W', owes (c : Thread nD τ) 0 W'))
        -∗ Q (accA acc (tileA v0 v272 lhs w3 w4 p ((src7 o h).view.read (Elt F) f7) ((src8 o h).view.read (Elt F) f8)))))
     ⊢ wp frame (wpE defs₀ Variants.none (c : Thread nD τ) none) Set.univ
        (k0_t1_body (F := F) i arg1 harg1 arg2 harg2 arg3 harg3 arg4 harg4 arg5 harg5 arg6 harg6 hb7 (Memref.isWhole_whole _) hb8 (Memref.isWhole_whole _) hb9 (Memref.isWhole_whole _) arg10 harg10 arg11 harg11 arg12 harg12 arg13 harg13 arg14 harg14 slabs (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) sems v0 v272 v327 p acc) Q := by
  unfold k0_t1_body
  simp only [k0_part1_eq_skeleton, k0_part2_eq_skeleton]
  unfold k0_part1_skel k0_part2_skel owns
  iintro ⟨⟨⟨%f0, Hfl0⟩, ⟨%f1, Hfl1⟩, H7, H8, H9⟩, ⟨%x3, %e3, H3⟩, ⟨%x4, %e4, H4⟩, ⟨%x16, %e16, H16⟩, ⟨%x19, %e19, H19⟩, HO, HK⟩
  sl_exec
  ihave Hs0 := (slot_cast c (eq213 p) (k0_off2_inb p) (k0_off13_inb p h2) _) $$ Hfl0_dst
  icases Hs0 with ⟨%e0, Hs0⟩
  ihave Hs1 := (slot_cast c (eq516 p) (k0_off5_inb p) (k0_off16_inb p h2) _) $$ Hfl1_dst
  icases Hs1 with ⟨%e1, Hs1⟩
  ihave Hc0 := (cell_cast c (eq112 p) (k0_off1_inb p) (k0_off12_inb p h2)) $$ Hfl0
  ihave Hc1 := (cell_cast c (eq415 p) (k0_off4_inb p) (k0_off15_inb p h2)) $$ Hfl1
  sl_exec

  sl_step
  have eL : View.readAt (Elt F) (Memref.whole cc0_scratch1).view (Rect.unit (s := S32x3072) ![0, 0] S32x3072.size inb_S32x3072_S32x3072_0_0).toLoadRect x16 = lhs :=
    (View.readAt_full _ _ _).trans e16
  have e7 : k0_pay2 (View.readAt (Elt F) (Memref.whole cc0_scratch1).view (Rect.unit (s := S32x3072) ![0, 0] S32x3072.size inb_S32x3072_S32x3072_0_0).toLoadRect x16)
      (tripB.sl.v1065 c f7 p o h) = dotA lhs ((src7 o h).view.read (Elt F) f7) := by
    rw [eL]; exact pay2_slot lhs _ _ _ _
  have e8 : k0_pay3 (View.readAt (Elt F) (Memref.whole cc0_scratch1).view (Rect.unit (s := S32x3072) ![0, 0] S32x3072.size inb_S32x3072_S32x3072_0_0).toLoadRect x16)
      (tripB.sl.v1078 c f8 p o h) = dotA lhs ((src8 o h).view.read (Elt F) f8) := by
    rw [eL]; exact pay2_slot lhs _ _ _ _
  have eT : k0_pay4 v0 v272 (k0_pay2 (View.readAt (Elt F) (Memref.whole cc0_scratch1).view (Rect.unit (s := S32x3072) ![0, 0] S32x3072.size inb_S32x3072_S32x3072_0_0).toLoadRect x16)
        (tripB.sl.v1065 c f7 p o h))
      (k0_pay3 (View.readAt (Elt F) (Memref.whole cc0_scratch1).view (Rect.unit (s := S32x3072) ![0, 0] S32x3072.size inb_S32x3072_S32x3072_0_0).toLoadRect x16)
        (tripB.sl.v1078 c f8 p o h))
      (View.readAt (Elt F) arg3.view (Rect.unit (s := S1x6144) (k0_off18 p) S1x512.size (k0_off18_inb p)).toLoadRect x3)
      (View.readAt (Elt F) arg4.view (Rect.unit (s := S1x6144) (k0_off18 p) S1x512.size (k0_off18_inb p)).toLoadRect x4)
      = tileA v0 v272 lhs w3 w4 p ((src7 o h).view.read (Elt F) f7) ((src8 o h).view.read (Elt F) f8) := by
    rw [e7, e8, View.readAt_unit _ _ _ rfl (k0_off18_inb p), View.readAt_unit _ _ _ rfl (k0_off18_inb p), e3, e4]
  refine eq_entails' Q (congrArg (accA acc) eT) ?_
  iapply HK
  isplitl [Hc0 Hc1 H7 H8 H9]
  · isplitl [Hc0]; · iexists _; iexact Hc0
    isplitl [Hc1]; · iexists _; iexact Hc1
    isplitl [H7]; · iexact H7
    isplitl [H8]; · iexact H8
    iexact H9
  isplitl [H3]; · iexists _; isplitr; swap; (· iexact H3); ipureintro; exact e3
  isplitl [H4]; · iexists _; isplitr; swap; (· iexact H4); ipureintro; exact e4
  isplitl [H16]; · iexists _; isplitr; swap; (· iexact H16); ipureintro; exact e16
  isplitl [H19]
  · iexists _; isplitr; swap; (· iexact H19)
    ipureintro
    exact (read_putA (Memref.whole cc0_scratch4).view x19 p (k0_pay4 v0 v272 (k0_pay2 (View.readAt (Elt F) (Memref.whole cc0_scratch1).view (Rect.unit (s := S32x3072) ![0, 0] S32x3072.size inb_S32x3072_S32x3072_0_0).toLoadRect x16)
        (tripB.sl.v1065 c f7 p o h))
      (k0_pay3 (View.readAt (Elt F) (Memref.whole cc0_scratch1).view (Rect.unit (s := S32x3072) ![0, 0] S32x3072.size inb_S32x3072_S32x3072_0_0).toLoadRect x16)
        (tripB.sl.v1078 c f8 p o h))
      (View.readAt (Elt F) arg3.view (Rect.unit (s := S1x6144) (k0_off18 p) S1x512.size (k0_off18_inb p)).toLoadRect x3)
      (View.readAt (Elt F) arg4.view (Rect.unit (s := S1x6144) (k0_off18 p) S1x512.size (k0_off18_inb p)).toLoadRect x4))).trans (by rw [eT, e19])
  iexists _; iexact HO

/-- A trip of the first loop that leaves its pair of slots at rest. -/
theorem tripC (c : Dev nD) (f7 : C7 (F := F) c) (f8 : C8 (F := F) c) (f9 : C9 (F := F) c)
    (v0 : Elt F .f32) (v272 : FVec F S24x1 .f32) (v327 : FVec F S24x512 .f32) (p : Fin k0_t1_loop.trips) (acc : FVec F S24x128 .f32)
    (w3 w4 : Vec F S1x6144 .f32) (lhs : Vec F S32x3072 .fp8e4m3) (g : Vec F S48x24x128 .f32) (j : Fin 8) (h1 : ¬ k0_cond1 p = 1#1) (h2 : ¬ k0_cond2 p = 1#1)
    (o : Fin 2 → ℕ) (h : InG o) (W : Waits sig Unit) (Q : FVec F S24x128 .f32 → sProp 𝕄) :
    iprop(FlyA c f7 f8 f9 j (k0_off1 p) (k0_off1_inb p) (k0_off4 p) (k0_off4_inb p) (k0_off2 p) (k0_off2_inb p) (k0_off5 p) (k0_off5_inb p) o h
      ∗ owns (c : Thread nD τ) arg3 fullShare w3 ∗ owns (c : Thread nD τ) arg4 fullShare w4 ∗ owns (c : Thread nD τ) (Memref.whole cc0_scratch1) fullShare lhs
      ∗ owns (c : Thread nD τ) (Memref.whole cc0_scratch4) fullShare g ∗ owes (c : Thread nD τ) 0 W
      ∗ (iprop(Rest c f7 f8 f9 j (k0_off1 p) (k0_off1_inb p) (k0_off4 p) (k0_off4_inb p) (k0_off2 p) (k0_off2_inb p) (k0_off5 p) (k0_off5_inb p)
          ∗ owns (c : Thread nD τ) arg3 fullShare w3 ∗ owns (c : Thread nD τ) arg4 fullShare w4 ∗ owns (c : Thread nD τ) (Memref.whole cc0_scratch1) fullShare lhs
          ∗ owns (c : Thread nD τ) (Memref.whole cc0_scratch4) fullShare
              (putA g p (tileA v0 v272 lhs w3 w4 p ((src7 o h).view.read (Elt F) f7) ((src8 o h).view.read (Elt F) f8)))
          ∗ (∃ W', owes (c : Thread nD τ) 0 W'))
        -∗ Q (accA acc (tileA v0 v272 lhs w3 w4 p ((src7 o h).view.read (Elt F) f7) ((src8 o h).view.read (Elt F) f8)))))
     ⊢ wp frame (wpE defs₀ Variants.none (c : Thread nD τ) none) Set.univ
        (k0_t1_body (F := F) i arg1 harg1 arg2 harg2 arg3 harg3 arg4 harg4 arg5 harg5 arg6 harg6 hb7 (Memref.isWhole_whole _) hb8 (Memref.isWhole_whole _) hb9 (Memref.isWhole_whole _) arg10 harg10 arg11 harg11 arg12 harg12 arg13 harg13 arg14 harg14 slabs (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) sems v0 v272 v327 p acc) Q := by
  unfold k0_t1_body
  simp only [k0_part1_eq_skeleton, k0_part2_eq_skeleton]
  unfold k0_part1_skel k0_part2_skel owns
  iintro ⟨⟨⟨%f0, Hfl0⟩, ⟨%f1, Hfl1⟩, H7, H8, H9⟩, ⟨%x3, %e3, H3⟩, ⟨%x4, %e4, H4⟩, ⟨%x16, %e16, H16⟩, ⟨%x19, %e19, H19⟩, HO, HK⟩
  sl_exec

  sl_step
  have eL : View.readAt (Elt F) (Memref.whole cc0_scratch1).view (Rect.unit (s := S32x3072) ![0, 0] S32x3072.size inb_S32x3072_S32x3072_0_0).toLoadRect x16 = lhs :=
    (View.readAt_full _ _ _).trans e16
  have e7 : k0_pay2 (View.readAt (Elt F) (Memref.whole cc0_scratch1).view (Rect.unit (s := S32x3072) ![0, 0] S32x3072.size inb_S32x3072_S32x3072_0_0).toLoadRect x16)
      (tripC.sl.v1065 c f7 p o h) = dotA lhs ((src7 o h).view.read (Elt F) f7) := by
    rw [eL]; exact pay2_slot lhs _ _ _ _
  have e8 : k0_pay3 (View.readAt (Elt F) (Memref.whole cc0_scratch1).view (Rect.unit (s := S32x3072) ![0, 0] S32x3072.size inb_S32x3072_S32x3072_0_0).toLoadRect x16)
      (tripC.sl.v1078 c f8 p o h) = dotA lhs ((src8 o h).view.read (Elt F) f8) := by
    rw [eL]; exact pay2_slot lhs _ _ _ _
  have eT : k0_pay4 v0 v272 (k0_pay2 (View.readAt (Elt F) (Memref.whole cc0_scratch1).view (Rect.unit (s := S32x3072) ![0, 0] S32x3072.size inb_S32x3072_S32x3072_0_0).toLoadRect x16)
        (tripC.sl.v1065 c f7 p o h))
      (k0_pay3 (View.readAt (Elt F) (Memref.whole cc0_scratch1).view (Rect.unit (s := S32x3072) ![0, 0] S32x3072.size inb_S32x3072_S32x3072_0_0).toLoadRect x16)
        (tripC.sl.v1078 c f8 p o h))
      (View.readAt (Elt F) arg3.view (Rect.unit (s := S1x6144) (k0_off18 p) S1x512.size (k0_off18_inb p)).toLoadRect x3)
      (View.readAt (Elt F) arg4.view (Rect.unit (s := S1x6144) (k0_off18 p) S1x512.size (k0_off18_inb p)).toLoadRect x4)
      = tileA v0 v272 lhs w3 w4 p ((src7 o h).view.read (Elt F) f7) ((src8 o h).view.read (Elt F) f8) := by
    rw [e7, e8, View.readAt_unit _ _ _ rfl (k0_off18_inb p), View.readAt_unit _ _ _ rfl (k0_off18_inb p), e3, e4]
  refine eq_entails' Q (congrArg (accA acc) eT) ?_
  iapply HK
  isplitl [Hfl0 Hfl1 Hfl0_dst Hfl1_dst H7 H8 H9]
  · isplitl [Hfl0]; · iexact Hfl0
    isplitl [Hfl1]; · iexact Hfl1
    isplitl [Hfl0_dst]; · iexists _; iexact Hfl0_dst
    isplitl [Hfl1_dst]; · iexists _; iexact Hfl1_dst
    isplitl [H7]; · iexact H7
    isplitl [H8]; · iexact H8
    iexact H9
  isplitl [H3]; · iexists _; isplitr; swap; (· iexact H3); ipureintro; exact e3
  isplitl [H4]; · iexists _; isplitr; swap; (· iexact H4); ipureintro; exact e4
  isplitl [H16]; · iexists _; isplitr; swap; (· iexact H16); ipureintro; exact e16
  isplitl [H19]
  · iexists _; isplitr; swap; (· iexact H19)
    ipureintro
    exact (read_putA (Memref.whole cc0_scratch4).view x19 p (k0_pay4 v0 v272 (k0_pay2 (View.readAt (Elt F) (Memref.whole cc0_scratch1).view (Rect.unit (s := S32x3072) ![0, 0] S32x3072.size inb_S32x3072_S32x3072_0_0).toLoadRect x16)
        (tripC.sl.v1065 c f7 p o h))
      (k0_pay3 (View.readAt (Elt F) (Memref.whole cc0_scratch1).view (Rect.unit (s := S32x3072) ![0, 0] S32x3072.size inb_S32x3072_S32x3072_0_0).toLoadRect x16)
        (tripC.sl.v1078 c f8 p o h))
      (View.readAt (Elt F) arg3.view (Rect.unit (s := S1x6144) (k0_off18 p) S1x512.size (k0_off18_inb p)).toLoadRect x3)
      (View.readAt (Elt F) arg4.view (Rect.unit (s := S1x6144) (k0_off18 p) S1x512.size (k0_off18_inb p)).toLoadRect x4))).trans (by rw [eT, e19])
  iexists _; iexact HO

end Cert.Kernel.Hand

end
-- ==== Proof.TripBBits.lean ====
module

public import proofs.«01_k».proof.Proof.RingBits
public import proofs.«01_k».proof.Proof.TripBits
public import proofs.«01_k».proof.Proof.Gen.Kernel.Skeleton
public import proofs.«01_k».proof.Proof.Gen.Kernel.Loops
public import proofs.«01_k».proof.Proof.Gen.Kernel.Frame
public import Idealize.ShloMosaic.Lib.VecWindow
public import Idealize.ShloMosaic.Lib.Transfers
public import Idealize.ShloMosaic.Lib.Ring
public import Idealize.ShloMosaic.Lib.Exec
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The product of the activations with the two halves of a down block, added. -/
abbrev dotB (lhs : Vec F S32x6144 .fp8e4m3) (s s' : Vec F S3072x512 .fp8e4m3) : FVec F S32x512 .f32 :=
  addf (matmul dot_S32x3072_S3072x512_S32x512_1_0_0_1_n_n none
      (VecWindow.window lhs ![0, 0] S32x3072.size inb_S32x6144_S32x3072_0_0 : Vec F S32x3072 .fp8e4m3) s (constant S32x512 .f32 0x00000000#32))
    (matmul dot_S32x3072_S3072x512_S32x512_1_0_0_1_n_n none
      (VecWindow.window lhs ![0, 3072] S32x3072.size inb_S32x6144_S32x3072_0_3072 : Vec F S32x3072 .fp8e4m3) s' (constant S32x512 .f32 0x00000000#32))

/-- The block of the output that trip `n` of the second loop computes. -/
abbrev tileB (v1 : Elt F .f32) (v363 : FVec F S24x1 .f32) (lhs : Vec F S32x6144 .fp8e4m3) (w5 : Vec F S1x3072 .f32) (w6 : Vec F S24x3072 .f32)
    (n : Fin k0_t2_loop.trips) (s s' : Vec F S3072x512 .fp8e4m3) : FVec F S24x512 .bf16 :=
  k0_pay118 v1 v363 (dotB lhs s s') (VecWindow.window w6 (k0_off26 n) S24x512.size (k0_off26_inb n))
    (VecWindow.window w5 (k0_off27 n) S1x512.size (k0_off27_inb n))

/-- The output after a trip: one block of columns replaced. -/
abbrev putB (g : Vec F S24x3072 .bf16) (n : Fin k0_t2_loop.trips) (T : FVec F S24x512 .bf16) : Vec F S24x3072 .bf16 :=
  VecWindow.put g (k0_off26 n) S24x512.size T

/-- The two filled slots give the product with the blocks that were copied into them. -/
theorem pay11_slot (l l' : Vec F S32x3072 .fp8e4m3) (o o' : Fin 3 → ℕ) (h : In3 o) (h' : In3 o') (f : (slot o h).view.ty.Contents (Elt F))
    (f' : (slot o' h').view.ty.Contents (Elt F)) (s s' : Vec F S3072x512 .fp8e4m3) :
    k0_pay11 l (slabs.view.readAt (Elt F) (Rect.unit (s := S16x3072x512) o S1x3072x512.size h).toLoadRect
      ((slot o h).view.writes (Elt F) f [⟨Rect.whole S3072x512, s⟩])) l'
      (slabs.view.readAt (Elt F) (Rect.unit (s := S16x3072x512) o' S1x3072x512.size h').toLoadRect
      ((slot o' h').view.writes (Elt F) f' [⟨Rect.whole S3072x512, s'⟩]))
    = addf (matmul dot_S32x3072_S3072x512_S32x512_1_0_0_1_n_n none l s (constant S32x512 .f32 0x00000000#32))
        (matmul dot_S32x3072_S3072x512_S32x512_1_0_0_1_n_n none l' s' (constant S32x512 .f32 0x00000000#32)) := by
  have e : shapeCast S3072x512 (slabs.view.readAt (Elt F) (Rect.unit (s := S16x3072x512) o S1x3072x512.size h).toLoadRect
      ((slot o h).view.writes (Elt F) f [⟨Rect.whole S3072x512, s⟩])) shapeCasts_S1x3072x512_S3072x512 = s :=
    View.read_writes_whole (slot o h).view f s
  have e' : shapeCast S3072x512 (slabs.view.readAt (Elt F) (Rect.unit (s := S16x3072x512) o' S1x3072x512.size h').toLoadRect
      ((slot o' h').view.writes (Elt F) f' [⟨Rect.whole S3072x512, s'⟩])) shapeCasts_S1x3072x512_S3072x512 = s' :=
    View.read_writes_whole (slot o' h').view f' s'
  unfold k0_pay11
  rw [e, e']

variable (i : grid0.Coords)
  (arg1 : Memref sig .tc .smem S12 .f32) (harg1 : arg1.IsWhole) (arg2 : Memref sig .tc .vmem S1x3072 .f32) (harg2 : arg2.IsWhole) (arg3 : Memref sig .tc .vmem S1x6144 .f32) (harg3 : arg3.IsWhole) (arg4 : Memref sig .tc .vmem S1x6144 .f32) (harg4 : arg4.IsWhole) (arg5 : Memref sig .tc .vmem S1x3072 .f32) (harg5 : arg5.IsWhole) (arg6 : Memref sig .tc .vmem S24x3072 .f32) (harg6 : arg6.IsWhole) (arg10 : Memref sig .tc .vmem S24x3072 .bf16) (harg10 : arg10.IsWhole) (arg11 : Memref sig .tc .vmem S24x3072 .fp8e4m3) (harg11 : arg11.IsWhole) (arg12 : Memref sig .tc .vmem S1x24 .f32) (harg12 : arg12.IsWhole) (arg13 : Memref sig .tc .vmem S24x6144 .fp8e4m3) (harg13 : arg13.IsWhole) (arg14 : Memref sig .tc .vmem S1x24 .f32) (harg14 : arg14.IsWhole)

/-- A trip of the second loop: it leaves its pair of slots at rest. -/
theorem tripD (c : Dev nD) (f7 : C7 (F := F) c) (f8 : C8 (F := F) c) (f9 : C9 (F := F) c)
    (v1 : Elt F .f32) (v272 v363 : FVec F S24x1 .f32) (v1018 : FVec F S32x128 .fp8e4m3) (n : Fin k0_t2_loop.trips)
    (w5 : Vec F S1x3072 .f32) (w6 : Vec F S24x3072 .f32) (lhs : Vec F S32x6144 .fp8e4m3) (g : Vec F S24x3072 .bf16) (j : Fin 8)
    (x : ℕ) (h : InD ![0, x]) (h' : InD ![3072, x]) (W : Waits sig Unit) (Q : Unit → sProp 𝕄) :
    iprop(FlyB c f7 f8 f9 j (k0_off20 n) (k0_off20_inb n) (k0_off23 n) (k0_off23_inb n) (k0_off21 n) (k0_off21_inb n) (k0_off24 n) (k0_off24_inb n) ![0, x] h ![3072, x] h'
      ∗ owns (c : Thread nD τ) arg5 fullShare w5 ∗ owns (c : Thread nD τ) arg6 fullShare w6 ∗ owns (c : Thread nD τ) (Memref.whole cc0_scratch2) fullShare lhs
      ∗ owns (c : Thread nD τ) arg10 fullShare g ∗ owes (c : Thread nD τ) 0 W
      ∗ (iprop(Rest c f7 f8 f9 j (k0_off20 n) (k0_off20_inb n) (k0_off23 n) (k0_off23_inb n) (k0_off21 n) (k0_off21_inb n) (k0_off24 n) (k0_off24_inb n)
          ∗ owns (c : Thread nD τ) arg5 fullShare w5 ∗ owns (c : Thread nD τ) arg6 fullShare w6 ∗ owns (c : Thread nD τ) (Memref.whole cc0_scratch2) fullShare lhs
          ∗ owns (c : Thread nD τ) arg10 fullShare (putB g n (tileB v1 v363 lhs w5 w6 n ((src9 ![0, x] h).view.read (Elt F) f9) ((src9 ![3072, x] h').view.read (Elt F) f9)))
          ∗ (∃ W', owes (c : Thread nD τ) 0 W'))
        -∗ Q ⟨⟩))
     ⊢ wp frame (wpE defs₀ Variants.none (c : Thread nD τ) none) Set.univ
        (k0_t2_body (F := F) i arg1 harg1 arg2 harg2 arg3 harg3 arg4 harg4 arg5 harg5 arg6 harg6 hb7 (Memref.isWhole_whole _) hb8 (Memref.isWhole_whole _) hb9 (Memref.isWhole_whole _) arg10 harg10 arg11 harg11 arg12 harg12 arg13 harg13 arg14 harg14 slabs (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) sems v1 v272 v363 v1018 n ⟨⟩) Q := by
  unfold k0_t2_body
  simp only [k0_part3_eq_skeleton]
  unfold k0_part3_skel owns
  iintro ⟨⟨⟨%f0, Hfl0⟩, ⟨%f1, Hfl1⟩, H7, H8, H9⟩, ⟨%x5, %e5, H5⟩, ⟨%x6, %e6, H6⟩, ⟨%x17, %e17, H17⟩, ⟨%x10, %e10, H10⟩, HO, HK⟩
  sl_exec
  sl_step
  have eT : (k0_pay118 v1 v363 (k0_pay11 (View.readAt (Elt F) (Memref.whole cc0_scratch2).view (Rect.unit (s := S32x6144) ![0, 0] S32x3072.size inb_S32x6144_S32x3072_0_0).toLoadRect x17) (tripD.sl.v1068 c f9 n x h) (View.readAt (Elt F) (Memref.whole cc0_scratch2).view (Rect.unit (s := S32x6144) ![0, 3072] S32x3072.size inb_S32x6144_S32x3072_0_3072).toLoadRect x17) (tripD.sl.v1080 c f9 n x h'))
      (View.readAt (Elt F) arg6.view (Rect.unit (s := S24x3072) (k0_off26 n) S24x512.size (k0_off26_inb n)).toLoadRect x6)
      (View.readAt (Elt F) arg5.view (Rect.unit (s := S1x3072) (k0_off27 n) S1x512.size (k0_off27_inb n)).toLoadRect x5)) = tileB v1 v363 lhs w5 w6 n ((src9 ![0, x] h).view.read (Elt F) f9) ((src9 ![3072, x] h').view.read (Elt F) f9) := by
    have e : k0_pay11 (View.readAt (Elt F) (Memref.whole cc0_scratch2).view (Rect.unit (s := S32x6144) ![0, 0] S32x3072.size inb_S32x6144_S32x3072_0_0).toLoadRect x17) (tripD.sl.v1068 c f9 n x h) (View.readAt (Elt F) (Memref.whole cc0_scratch2).view (Rect.unit (s := S32x6144) ![0, 3072] S32x3072.size inb_S32x6144_S32x3072_0_3072).toLoadRect x17) (tripD.sl.v1080 c f9 n x h')
        = dotB lhs ((src9 ![0, x] h).view.read (Elt F) f9) ((src9 ![3072, x] h').view.read (Elt F) f9) := by
      rw [View.readAt_unit _ _ _ rfl inb_S32x6144_S32x3072_0_0, View.readAt_unit _ _ _ rfl inb_S32x6144_S32x3072_0_3072, e17]
      exact pay11_slot _ _ _ _ _ _ _ _ _ _
    rw [e, View.readAt_unit _ _ _ rfl (k0_off26_inb n), View.readAt_unit _ _ _ rfl (k0_off27_inb n), e5, e6]
  iapply HK
  isplitl [Hfl0 Hfl1 Hfl0_dst Hfl1_dst H7 H8 H9]
  · isplitl [Hfl0]; · iexact Hfl0
    isplitl [Hfl1]; · iexact Hfl1
    isplitl [Hfl0_dst]; · iexists _; iexact Hfl0_dst
    isplitl [Hfl1_dst]; · iexists _; iexact Hfl1_dst
    isplitl [H7]; · iexact H7
    isplitl [H8]; · iexact H8
    iexact H9
  isplitl [H5]; · iexists _; isplitr; swap; (· iexact H5); ipureintro; exact e5
  isplitl [H6]; · iexists _; isplitr; swap; (· iexact H6); ipureintro; exact e6
  isplitl [H17]; · iexists _; isplitr; swap; (· iexact H17); ipureintro; exact e17
  isplitl [H10]
  · iexists _; isplitr; swap; (· iexact H10)
    ipureintro
    exact (View.read_writes_cons_put arg10.view x10 (off := k0_off26 n) (k0_off26_inb n) (k0_pay118 v1 v363 (k0_pay11 (View.readAt (Elt F) (Memref.whole cc0_scratch2).view (Rect.unit (s := S32x6144) ![0, 0] S32x3072.size inb_S32x6144_S32x3072_0_0).toLoadRect x17) (tripD.sl.v1068 c f9 n x h) (View.readAt (Elt F) (Memref.whole cc0_scratch2).view (Rect.unit (s := S32x6144) ![0, 3072] S32x3072.size inb_S32x6144_S32x3072_0_3072).toLoadRect x17) (tripD.sl.v1080 c f9 n x h'))
      (View.readAt (Elt F) arg6.view (Rect.unit (s := S24x3072) (k0_off26 n) S24x512.size (k0_off26_inb n)).toLoadRect x6)
      (View.readAt (Elt F) arg5.view (Rect.unit (s := S1x3072) (k0_off27 n) S1x512.size (k0_off27_inb n)).toLoadRect x5)) [] rfl).trans (by rw [eT, View.writes_nil, e10])
  iexists _; iexact HO

end Cert.Kernel.Hand

end
-- ==== Proof.LoopBits.lean ====
module

public import proofs.«01_k».proof.Proof.RingBits
public import proofs.«01_k».proof.Proof.TripBits
public import proofs.«01_k».proof.Proof.TripBBits
public import Idealize.ShloMosaic.Lib.Ring.Tabled
public import proofs.«01_k».proof.Proof.Gen.Kernel.Skeleton
public import proofs.«01_k».proof.Proof.Gen.Kernel.Loops
public import proofs.«01_k».proof.Proof.Gen.Kernel.Frame
public import Idealize.ShloMosaic.Lib.VecWindow
public import Idealize.ShloMosaic.Lib.Transfers
public import Idealize.ShloMosaic.Lib.Ring
public import Idealize.ShloMosaic.Lib.Exec
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ### The pairs of slots as a family -/

theorem in1 {n : ℕ} (h : n < 16) : In1 ![n] := fun a => by
  match a with
  | ⟨0, _⟩ => show n + 1 ≤ 16; omega
theorem in3 {n : ℕ} (h : n < 16) : In3 ![n, 0, 0] := fun a => by
  match a with
  | ⟨0, _⟩ => show n + 1 ≤ 16; omega
  | ⟨1, _⟩ => show 0 + 3072 ≤ 3072; omega
  | ⟨2, _⟩ => show 0 + 512 ≤ 512; omega
theorem inG {q : ℕ} (h : q < 12) : InG ![0, 512 * q] := fun a => by
  match a with
  | ⟨0, _⟩ => show 0 + 3072 ≤ 3072; omega
  | ⟨1, _⟩ => show 512 * q + 512 ≤ 6144; omega
theorem inD {q : ℕ} (h : q < 6) : InD ![0, 512 * q] := fun a => by
  match a with
  | ⟨0, _⟩ => show 0 + 3072 ≤ 6144; omega
  | ⟨1, _⟩ => show 512 * q + 512 ≤ 3072; omega
theorem inD' {q : ℕ} (h : q < 6) : InD ![3072, 512 * q] := fun a => by
  match a with
  | ⟨0, _⟩ => show 3072 + 3072 ≤ 6144; omega
  | ⟨1, _⟩ => show 512 * q + 512 ≤ 3072; omega

theorem lo (j : Fin 8) : 2 * j.val < 16 := by omega
theorem hi (j : Fin 8) : 2 * j.val + 1 < 16 := by omega

/-- Pair `j` of slots when it holds (or is about to hold) block number `q`: blocks 0 to 11 are gate and up blocks, 12 to 17 are
    down blocks, and from 18 on there is nothing left to fetch. -/
def Φ (c : Dev nD) (f7 : C7 (F := F) c) (f8 : C8 (F := F) c) (f9 : C9 (F := F) c) (j : Fin 8) (q : ℕ) : sProp 𝕄 :=
  if h : q < 12 then
    FlyA c f7 f8 f9 j ![2 * j.val] (in1 (lo j)) ![2 * j.val + 1] (in1 (hi j)) ![2 * j.val, 0, 0] (in3 (lo j)) ![2 * j.val + 1, 0, 0] (in3 (hi j))
      ![0, 512 * q] (inG h)
  else if h' : q < 18 then
    FlyB c f7 f8 f9 j ![2 * j.val] (in1 (lo j)) ![2 * j.val + 1] (in1 (hi j)) ![2 * j.val, 0, 0] (in3 (lo j)) ![2 * j.val + 1, 0, 0] (in3 (hi j))
      ![0, 512 * (q - 12)] (inD (by omega)) ![3072, 512 * (q - 12)] (inD' (by omega))
  else
    Rest c f7 f8 f9 j ![2 * j.val] (in1 (lo j)) ![2 * j.val + 1] (in1 (hi j)) ![2 * j.val, 0, 0] (in3 (lo j)) ![2 * j.val + 1, 0, 0] (in3 (hi j))

/-- The block number that pair `j` holds before block `p` is used. -/
def st (p : ℕ) (j : Fin 8) : ℕ := p + (j.val + 7 * p) % 8

/-- The pair that holds block `p`. -/
def pr (p : ℕ) : Fin 8 := ⟨p % 8, Nat.mod_lt _ (by decide)⟩

theorem st_pr (p : ℕ) : st p (pr p) = p := by unfold st pr; show p + (p % 8 + 7 * p) % 8 = p; omega

theorem st_succ (p : ℕ) : st (p + 1) = Function.update (st p) (pr p) (p + 8) := by
  funext j
  by_cases e : j = pr p
  · subst e; rw [Function.update_self]; unfold st pr
    show p + 1 + (p % 8 + 7 * (p + 1)) % 8 = p + 8; omega
  · rw [Function.update_of_ne e]
    have e' : j.val ≠ p % 8 := fun h => e (Fin.ext h)
    unfold st
    have := j.isLt
    omega

theorem FlyA_congr (c : Dev nD) (f7 : C7 (F := F) c) (f8 : C8 (F := F) c) (f9 : C9 (F := F) c) (j : Fin 8)
    {a a' : Fin 1 → ℕ} {b b' : Fin 1 → ℕ} {d d' e e' : Fin 3 → ℕ} {o o' : Fin 2 → ℕ} (ha : In1 a) (hb : In1 b) (hd : In3 d) (he : In3 e) (ho : InG o)
    (ha' : In1 a') (hb' : In1 b') (hd' : In3 d') (he' : In3 e') (ho' : InG o') (e1 : a = a') (e2 : b = b') (e3 : d = d') (e4 : e = e') (e5 : o = o') :
    FlyA c f7 f8 f9 j a ha b hb d hd e he o ho = FlyA c f7 f8 f9 j a' ha' b' hb' d' hd' e' he' o' ho' := by
  subst e1 e2 e3 e4 e5; rfl

theorem FlyB_congr (c : Dev nD) (f7 : C7 (F := F) c) (f8 : C8 (F := F) c) (f9 : C9 (F := F) c) (j : Fin 8)
    {a a' : Fin 1 → ℕ} {b b' : Fin 1 → ℕ} {d d' e e' : Fin 3 → ℕ} {o o' u u' : Fin 2 → ℕ} (ha : In1 a) (hb : In1 b) (hd : In3 d) (he : In3 e) (ho : InD o) (hu : InD u)
    (ha' : In1 a') (hb' : In1 b') (hd' : In3 d') (he' : In3 e') (ho' : InD o') (hu' : InD u') (e1 : a = a') (e2 : b = b') (e3 : d = d') (e4 : e = e') (e5 : o = o') (e6 : u = u') :
    FlyB c f7 f8 f9 j a ha b hb d hd e he o ho u hu = FlyB c f7 f8 f9 j a' ha' b' hb' d' hd' e' he' o' ho' u' hu' := by
  subst e1 e2 e3 e4 e5 e6; rfl

theorem Rest_congr (c : Dev nD) (f7 : C7 (F := F) c) (f8 : C8 (F := F) c) (f9 : C9 (F := F) c) (j : Fin 8)
    {a a' : Fin 1 → ℕ} {b b' : Fin 1 → ℕ} {d d' e e' : Fin 3 → ℕ} (ha : In1 a) (hb : In1 b) (hd : In3 d) (he : In3 e)
    (ha' : In1 a') (hb' : In1 b') (hd' : In3 d') (he' : In3 e') (e1 : a = a') (e2 : b = b') (e3 : d = d') (e4 : e = e') :
    Rest c f7 f8 f9 j a ha b hb d hd e he = Rest c f7 f8 f9 j a' ha' b' hb' d' hd' e' he' := by
  subst e1 e2 e3 e4; rfl

theorem trips1 (k : Fin k0_t1_loop.trips) : k.val < 12 := lt_of_lt_of_eq k.isLt (by decide)
theorem trips2 (k : Fin k0_t2_loop.trips) : k.val < 6 := lt_of_lt_of_eq k.isLt (by decide)
theorem cond1_iff : ∀ k : Fin k0_t1_loop.trips, k0_cond1 k = 1#1 ↔ k.val < 4 := by decide +kernel
theorem cond2_iff : ∀ k : Fin k0_t1_loop.trips, k0_cond2 k = 1#1 ↔ (4 ≤ k.val ∧ k.val < 10) := by decide +kernel
theorem off14_of : ∀ k : Fin k0_t1_loop.trips, 4 ≤ k.val → k.val < 10 → k0_off14 k = ![0, 512 * (k.val + 8 - 12)] := by decide +kernel
theorem off17_of : ∀ k : Fin k0_t1_loop.trips, 4 ≤ k.val → k.val < 10 → k0_off17 k = ![3072, 512 * (k.val + 8 - 12)] := by decide +kernel

/-- What a trip of the first loop finds at its pair. -/
theorem Φ_pre1 (c : Dev nD) (f7 : C7 (F := F) c) (f8 : C8 (F := F) c) (f9 : C9 (F := F) c) (k : Fin k0_t1_loop.trips) :
    Φ c f7 f8 f9 (pr k) (st k (pr k)) = FlyA c f7 f8 f9 (pr k) (k0_off1 k) (k0_off1_inb k) (k0_off4 k) (k0_off4_inb k) (k0_off2 k) (k0_off2_inb k) (k0_off5 k) (k0_off5_inb k)
      ![0, 512 * k.val] (inG (trips1 k)) := by
  rw [st_pr]; unfold Φ
  rw [dif_pos (trips1 k)]
  refine FlyA_congr c f7 f8 f9 _ _ _ _ _ _ _ _ _ _ _ ?_ ?_ ?_ ?_ rfl
  · rw [k0_off1_eq]; congr 1; show 2 * (k.val % 8) = _; omega
  · rw [k0_off4_eq]; congr 1; show 2 * (k.val % 8) + 1 = _; omega
  · rw [k0_off2_eq]; congr 1; show 2 * (k.val % 8) = _; omega
  · rw [k0_off5_eq]; congr 1; show 2 * (k.val % 8) + 1 = _; omega

/-- What a trip of each kind leaves at its pair. -/
theorem Φ_postA (c : Dev nD) (f7 : C7 (F := F) c) (f8 : C8 (F := F) c) (f9 : C9 (F := F) c) (k : Fin k0_t1_loop.trips) (h1 : k0_cond1 k = 1#1) :
    FlyA c f7 f8 f9 (pr k) (k0_off7 k) (k0_off7_inb k h1) (k0_off10 k) (k0_off10_inb k h1) (k0_off8 k) (k0_off8_inb k h1) (k0_off11 k) (k0_off11_inb k h1) (k0_off9 k) (k0_off9_inb k h1)
      = Φ c f7 f8 f9 (pr k) (k.val + 8) := by
  have hk := (cond1_iff k).mp h1
  unfold Φ
  rw [dif_pos (show k.val + 8 < 12 by omega)]
  refine FlyA_congr c f7 f8 f9 _ _ _ _ _ _ _ _ _ _ _ ?_ ?_ ?_ ?_ ?_
  · rw [k0_off7_eq]; congr 1; show _ = 2 * (k.val % 8); omega
  · rw [k0_off10_eq]; congr 1; show _ = 2 * (k.val % 8) + 1; omega
  · rw [k0_off8_eq]; congr 1; show _ = 2 * (k.val % 8); omega
  · rw [k0_off11_eq]; congr 1; show _ = 2 * (k.val % 8) + 1; omega
  · rw [k0_off9_eq]; congr 2

theorem Φ_postB (c : Dev nD) (f7 : C7 (F := F) c) (f8 : C8 (F := F) c) (f9 : C9 (F := F) c) (k : Fin k0_t1_loop.trips) (h2 : k0_cond2 k = 1#1) :
    FlyB c f7 f8 f9 (pr k) (k0_off12 k) (k0_off12_inb k h2) (k0_off15 k) (k0_off15_inb k h2) (k0_off13 k) (k0_off13_inb k h2) (k0_off16 k) (k0_off16_inb k h2) (k0_off14 k) (k0_off14_inb k h2) (k0_off17 k) (k0_off17_inb k h2)
      = Φ c f7 f8 f9 (pr k) (k.val + 8) := by
  have hk := (cond2_iff k).mp h2
  unfold Φ
  rw [dif_neg (show ¬ k.val + 8 < 12 by omega), dif_pos (show k.val + 8 < 18 by omega)]
  refine FlyB_congr c f7 f8 f9 _ _ _ _ _ _ _ _ _ _ _ _ _ ?_ ?_ ?_ ?_ ?_ ?_
  · rw [k0_off12_eq]; congr 1; show _ = 2 * (k.val % 8); omega
  · rw [k0_off15_eq]; congr 1; show _ = 2 * (k.val % 8) + 1; omega
  · rw [k0_off13_eq]; congr 1; show _ = 2 * (k.val % 8); omega
  · rw [k0_off16_eq]; congr 1; show _ = 2 * (k.val % 8) + 1; omega
  · exact off14_of k hk.1 hk.2
  · exact off17_of k hk.1 hk.2

theorem Φ_postC (c : Dev nD) (f7 : C7 (F := F) c) (f8 : C8 (F := F) c) (f9 : C9 (F := F) c) (k : Fin k0_t1_loop.trips) (h1 : ¬ k0_cond1 k = 1#1) (h2 : ¬ k0_cond2 k = 1#1) :
    Rest c f7 f8 f9 (pr k) (k0_off1 k) (k0_off1_inb k) (k0_off4 k) (k0_off4_inb k) (k0_off2 k) (k0_off2_inb k) (k0_off5 k) (k0_off5_inb k)
      = Φ c f7 f8 f9 (pr k) (k.val + 8) := by
  have hk1 := mt (cond1_iff k).mpr h1
  have hk2 := mt (cond2_iff k).mpr h2
  have hk := trips1 k
  unfold Φ
  rw [dif_neg (show ¬ k.val + 8 < 12 by omega), dif_neg (show ¬ k.val + 8 < 18 by omega)]
  refine Rest_congr c f7 f8 f9 _ _ _ _ _ _ _ _ _ ?_ ?_ ?_ ?_
  · rw [k0_off1_eq]; congr 1; show _ = 2 * (k.val % 8); omega
  · rw [k0_off4_eq]; congr 1; show _ = 2 * (k.val % 8) + 1; omega
  · rw [k0_off2_eq]; congr 1; show _ = 2 * (k.val % 8); omega
  · rw [k0_off5_eq]; congr 1; show _ = 2 * (k.val % 8) + 1; omega

theorem Φ_pre2 (c : Dev nD) (f7 : C7 (F := F) c) (f8 : C8 (F := F) c) (f9 : C9 (F := F) c) (k : Fin k0_t2_loop.trips) :
    Φ c f7 f8 f9 (pr (12 + k)) (st (12 + k) (pr (12 + k))) = FlyB c f7 f8 f9 (pr (12 + k)) (k0_off20 k) (k0_off20_inb k) (k0_off23 k) (k0_off23_inb k) (k0_off21 k) (k0_off21_inb k) (k0_off24 k) (k0_off24_inb k)
      ![0, 512 * k.val] (inD (trips2 k)) ![3072, 512 * k.val] (inD' (trips2 k)) := by
  have hk := trips2 k
  rw [st_pr]; unfold Φ
  rw [dif_neg (show ¬ 12 + k.val < 12 by omega), dif_pos (show 12 + k.val < 18 by omega)]
  refine FlyB_congr c f7 f8 f9 _ _ _ _ _ _ _ _ _ _ _ _ _ ?_ ?_ ?_ ?_ ?_ ?_
  · rw [k0_off20_eq]; congr 1; show 2 * ((12 + k.val) % 8) = _; omega
  · rw [k0_off23_eq]; congr 1; show 2 * ((12 + k.val) % 8) + 1 = _; omega
  · rw [k0_off21_eq]; congr 1; show 2 * ((12 + k.val) % 8) = _; omega
  · rw [k0_off24_eq]; congr 1; show 2 * ((12 + k.val) % 8) + 1 = _; omega
  · rw [Nat.add_sub_cancel_left]
  · rw [Nat.add_sub_cancel_left]

theorem Φ_post2 (c : Dev nD) (f7 : C7 (F := F) c) (f8 : C8 (F := F) c) (f9 : C9 (F := F) c) (k : Fin k0_t2_loop.trips) :
    Rest c f7 f8 f9 (pr (12 + k)) (k0_off20 k) (k0_off20_inb k) (k0_off23 k) (k0_off23_inb k) (k0_off21 k) (k0_off21_inb k) (k0_off24 k) (k0_off24_inb k)
      = Φ c f7 f8 f9 (pr (12 + k)) (12 + k.val + 8) := by
  have hk := trips2 k
  unfold Φ
  rw [dif_neg (show ¬ 12 + k.val + 8 < 12 by omega), dif_neg (show ¬ 12 + k.val + 8 < 18 by omega)]
  refine Rest_congr c f7 f8 f9 _ _ _ _ _ _ _ _ _ ?_ ?_ ?_ ?_
  · rw [k0_off20_eq]; congr 1; show _ = 2 * ((12 + k.val) % 8); omega
  · rw [k0_off23_eq]; congr 1; show _ = 2 * ((12 + k.val) % 8) + 1; omega
  · rw [k0_off21_eq]; congr 1; show _ = 2 * ((12 + k.val) % 8); omega
  · rw [k0_off24_eq]; congr 1; show _ = 2 * ((12 + k.val) % 8) + 1; omega

/-- A pair back in the family in its next state. -/
theorem family_step (c : Dev nD) (f7 : C7 (F := F) c) (f8 : C8 (F := F) c) (f9 : C9 (F := F) c) (p : ℕ) :
    iprop(Φ c f7 f8 f9 (pr p) (p + 8) ∗ Ring.restW (σ := fun _ => ℕ) (Φ c f7 f8 f9) (st p) (pr p)) ⊢ Ring.AtW (σ := fun _ => ℕ) (Φ c f7 f8 f9) (st (p + 1)) := by
  rw [st_succ]; exact Ring.AtW_update (σ := fun _ => ℕ) (Φ c f7 f8 f9) (st p) (pr p) (p + 8)

/-! ### What the loops compute -/

/-- The tile of activations of trip `p`, from the matrices. -/
def actT (c : Dev nD) (f7 : C7 (F := F) c) (f8 : C8 (F := F) c) (v0 : Elt F .f32) (v272 : FVec F S24x1 .f32) (lhs : Vec F S32x3072 .fp8e4m3) (w3 w4 : Vec F S1x6144 .f32)
    (k : Fin k0_t1_loop.trips) : FVec F S24x512 .f32 :=
  tileA v0 v272 lhs w3 w4 k ((src7 ![0, 512 * k.val] (inG (trips1 k))).view.read (Elt F) f7) ((src8 ![0, 512 * k.val] (inG (trips1 k))).view.read (Elt F) f8)

/-- The buffer of activations before trip `k`. -/
def gAt (T : Fin k0_t1_loop.trips → FVec F S24x512 .f32) (g : Vec F S48x24x128 .f32) : ℕ → Vec F S48x24x128 .f32
  | 0 => g
  | k + 1 => if h : k < k0_t1_loop.trips then putA (gAt T g k) ⟨k, h⟩ (T ⟨k, h⟩) else gAt T g k

/-- The running maximum before trip `k`. -/
def accAt (T : Fin k0_t1_loop.trips → FVec F S24x512 .f32) (a : FVec F S24x128 .f32) : ℕ → FVec F S24x128 .f32
  | 0 => a
  | k + 1 => if h : k < k0_t1_loop.trips then accA (accAt T a k) (T ⟨k, h⟩) else accAt T a k

/-- The block of the output of trip `n`, from the matrices. -/
def outT (c : Dev nD) (f9 : C9 (F := F) c) (v1 : Elt F .f32) (v363 : FVec F S24x1 .f32) (lhs : Vec F S32x6144 .fp8e4m3) (w5 : Vec F S1x3072 .f32) (w6 : Vec F S24x3072 .f32)
    (n : Fin k0_t2_loop.trips) : FVec F S24x512 .bf16 :=
  tileB v1 v363 lhs w5 w6 n ((src9 ![0, 512 * n.val] (inD (trips2 n))).view.read (Elt F) f9) ((src9 ![3072, 512 * n.val] (inD' (trips2 n))).view.read (Elt F) f9)

/-- The output before trip `n`. -/
def oAt (T : Fin k0_t2_loop.trips → FVec F S24x512 .bf16) (g : Vec F S24x3072 .bf16) : ℕ → Vec F S24x3072 .bf16
  | 0 => g
  | n + 1 => if h : n < k0_t2_loop.trips then putB (oAt T g n) ⟨n, h⟩ (T ⟨n, h⟩) else oAt T g n

variable (i : grid0.Coords)
  (arg1 : Memref sig .tc .smem S12 .f32) (harg1 : arg1.IsWhole) (arg2 : Memref sig .tc .vmem S1x3072 .f32) (harg2 : arg2.IsWhole) (arg3 : Memref sig .tc .vmem S1x6144 .f32) (harg3 : arg3.IsWhole) (arg4 : Memref sig .tc .vmem S1x6144 .f32) (harg4 : arg4.IsWhole) (arg5 : Memref sig .tc .vmem S1x3072 .f32) (harg5 : arg5.IsWhole) (arg6 : Memref sig .tc .vmem S24x3072 .f32) (harg6 : arg6.IsWhole) (arg10 : Memref sig .tc .vmem S24x3072 .bf16) (harg10 : arg10.IsWhole) (arg11 : Memref sig .tc .vmem S24x3072 .fp8e4m3) (harg11 : arg11.IsWhole) (arg12 : Memref sig .tc .vmem S1x24 .f32) (harg12 : arg12.IsWhole) (arg13 : Memref sig .tc .vmem S24x6144 .fp8e4m3) (harg13 : arg13.IsWhole) (arg14 : Memref sig .tc .vmem S1x24 .f32) (harg14 : arg14.IsWhole)

/-- The first loop's invariant: the ring, the operands, the activations so far and the running maximum. -/
def inv1 (c : Dev nD) (f7 : C7 (F := F) c) (f8 : C8 (F := F) c) (f9 : C9 (F := F) c) (v0 : Elt F .f32) (v272 : FVec F S24x1 .f32)
    (w3 w4 : Vec F S1x6144 .f32) (lhs : Vec F S32x3072 .fp8e4m3) (g : Vec F S48x24x128 .f32) (k : ℕ) (acc : FVec F S24x128 .f32) : sProp 𝕄 :=
  iprop(⌜acc = accAt (actT c f7 f8 v0 v272 lhs w3 w4) (k0_pay44 (F := F)) k⌝
    ∗ Ring.AtW (σ := fun _ => ℕ) (Φ c f7 f8 f9) (st k)
    ∗ owns (c : Thread nD τ) arg3 fullShare w3 ∗ owns (c : Thread nD τ) arg4 fullShare w4 ∗ owns (c : Thread nD τ) (Memref.whole cc0_scratch1) fullShare lhs
    ∗ owns (c : Thread nD τ) (Memref.whole cc0_scratch4) fullShare (gAt (actT c f7 f8 v0 v272 lhs w3 w4) g k)
    ∗ (∃ W, owes (c : Thread nD τ) 0 W))

theorem step1 (c : Dev nD) (f7 : C7 (F := F) c) (f8 : C8 (F := F) c) (f9 : C9 (F := F) c) (v0 : Elt F .f32) (v272 : FVec F S24x1 .f32) (v327 : FVec F S24x512 .f32)
    (w3 w4 : Vec F S1x6144 .f32) (lhs : Vec F S32x3072 .fp8e4m3) (g : Vec F S48x24x128 .f32) (k : Fin k0_t1_loop.trips) (acc : FVec F S24x128 .f32) :
    inv1 arg3 arg4 c f7 f8 f9 v0 v272 w3 w4 lhs g k acc ⊢ wp frame (wpE defs₀ Variants.none (c : Thread nD τ) none) Set.univ
        (k0_t1_body (F := F) i arg1 harg1 arg2 harg2 arg3 harg3 arg4 harg4 arg5 harg5 arg6 harg6 hb7 (Memref.isWhole_whole _) hb8 (Memref.isWhole_whole _) hb9 (Memref.isWhole_whole _) arg10 harg10 arg11 harg11 arg12 harg12 arg13 harg13 arg14 harg14 slabs (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) sems v0 v272 v327 k acc) (inv1 arg3 arg4 c f7 f8 f9 v0 v272 w3 w4 lhs g (k.val + 1)) := by
  have eg : gAt (actT c f7 f8 v0 v272 lhs w3 w4) g (k.val + 1) = putA (gAt (actT c f7 f8 v0 v272 lhs w3 w4) g k.val) k (actT c f7 f8 v0 v272 lhs w3 w4 k) := dif_pos k.isLt
  have ea : accAt (actT c f7 f8 v0 v272 lhs w3 w4) (k0_pay44 (F := F)) (k.val + 1) = accA (accAt (actT c f7 f8 v0 v272 lhs w3 w4) (k0_pay44 (F := F)) k.val) (actT c f7 f8 v0 v272 lhs w3 w4 k) := dif_pos k.isLt
  unfold inv1
  rw [Ring.AtW_focus (σ := fun _ => ℕ) (Φ c f7 f8 f9) (st k) (pr k), Φ_pre1, eg, ea]
  iintro ⟨%hacc, ⟨HΦ, HR⟩, H3, H4, H16, H19, ⟨%W, HO⟩⟩
  subst hacc
  by_cases h1 : k0_cond1 k = 1#1
  · have h2 : ¬ k0_cond2 k = 1#1 := fun h => by have := (cond1_iff k).mp h1; have := (cond2_iff k).mp h; omega
    iapply (tripA (F := F) i arg1 harg1 arg2 harg2 arg3 harg3 arg4 harg4 arg5 harg5 arg6 harg6 arg10 harg10 arg11 harg11 arg12 harg12 arg13 harg13 arg14 harg14 c f7 f8 f9 v0 v272 v327 k _ w3 w4 lhs _ (pr k) h1 h2 ![0, 512 * k.val] (inG (trips1 k)) W)
    isplitl [HΦ]; · iexact HΦ
    isplitl [H3]; · iexact H3
    isplitl [H4]; · iexact H4
    isplitl [H16]; · iexact H16
    isplitl [H19]; · iexact H19
    isplitl [HO]; · iexact HO
    rw [Φ_postA c f7 f8 f9 k h1]
    iintro ⟨HΦ, H3, H4, H16, H19, HO⟩
    isplitr; · ipureintro; rfl
    isplitl [HΦ HR]; · iapply (family_step c f7 f8 f9 k.val); isplitl [HΦ]; (· iexact HΦ); iexact HR
    isplitl [H3]; · iexact H3
    isplitl [H4]; · iexact H4
    isplitl [H16]; · iexact H16
    isplitl [H19]; · iexact H19
    iexact HO
  · by_cases h2 : k0_cond2 k = 1#1
    · iapply (tripB (F := F) i arg1 harg1 arg2 harg2 arg3 harg3 arg4 harg4 arg5 harg5 arg6 harg6 arg10 harg10 arg11 harg11 arg12 harg12 arg13 harg13 arg14 harg14 c f7 f8 f9 v0 v272 v327 k _ w3 w4 lhs _ (pr k) h1 h2 ![0, 512 * k.val] (inG (trips1 k)) W)
      isplitl [HΦ]; · iexact HΦ
      isplitl [H3]; · iexact H3
      isplitl [H4]; · iexact H4
      isplitl [H16]; · iexact H16
      isplitl [H19]; · iexact H19
      isplitl [HO]; · iexact HO
      rw [Φ_postB c f7 f8 f9 k h2]
      iintro ⟨HΦ, H3, H4, H16, H19, HO⟩
      isplitr; · ipureintro; rfl
      isplitl [HΦ HR]; · iapply (family_step c f7 f8 f9 k.val); isplitl [HΦ]; (· iexact HΦ); iexact HR
      isplitl [H3]; · iexact H3
      isplitl [H4]; · iexact H4
      isplitl [H16]; · iexact H16
      isplitl [H19]; · iexact H19
      iexact HO
    · iapply (tripC (F := F) i arg1 harg1 arg2 harg2 arg3 harg3 arg4 harg4 arg5 harg5 arg6 harg6 arg10 harg10 arg11 harg11 arg12 harg12 arg13 harg13 arg14 harg14 c f7 f8 f9 v0 v272 v327 k _ w3 w4 lhs _ (pr k) h1 h2 ![0, 512 * k.val] (inG (trips1 k)) W)
      isplitl [HΦ]; · iexact HΦ
      isplitl [H3]; · iexact H3
      isplitl [H4]; · iexact H4
      isplitl [H16]; · iexact H16
      isplitl [H19]; · iexact H19
      isplitl [HO]; · iexact HO
      rw [Φ_postC c f7 f8 f9 k h1 h2]
      iintro ⟨HΦ, H3, H4, H16, H19, HO⟩
      isplitr; · ipureintro; rfl
      isplitl [HΦ HR]; · iapply (family_step c f7 f8 f9 k.val); isplitl [HΦ]; (· iexact HΦ); iexact HR
      isplitl [H3]; · iexact H3
      isplitl [H4]; · iexact H4
      isplitl [H16]; · iexact H16
      isplitl [H19]; · iexact H19
      iexact HO

/-- The second loop's invariant: the ring, the operands and the output so far. -/
def inv2 (c : Dev nD) (f7 : C7 (F := F) c) (f8 : C8 (F := F) c) (f9 : C9 (F := F) c) (v1 : Elt F .f32) (v363 : FVec F S24x1 .f32)
    (w5 : Vec F S1x3072 .f32) (w6 : Vec F S24x3072 .f32) (lhs : Vec F S32x6144 .fp8e4m3) (g : Vec F S24x3072 .bf16) (k : ℕ) (acc : Unit) : sProp 𝕄 :=
  iprop(Ring.AtW (σ := fun _ => ℕ) (Φ c f7 f8 f9) (st (12 + k))
    ∗ owns (c : Thread nD τ) arg5 fullShare w5 ∗ owns (c : Thread nD τ) arg6 fullShare w6 ∗ owns (c : Thread nD τ) (Memref.whole cc0_scratch2) fullShare lhs
    ∗ owns (c : Thread nD τ) arg10 fullShare (oAt (outT c f9 v1 v363 lhs w5 w6) g k)
    ∗ (∃ W, owes (c : Thread nD τ) 0 W))

theorem step2 (c : Dev nD) (f7 : C7 (F := F) c) (f8 : C8 (F := F) c) (f9 : C9 (F := F) c) (v1 : Elt F .f32) (v272 v363 : FVec F S24x1 .f32) (v1018 : FVec F S32x128 .fp8e4m3)
    (w5 : Vec F S1x3072 .f32) (w6 : Vec F S24x3072 .f32) (lhs : Vec F S32x6144 .fp8e4m3) (g : Vec F S24x3072 .bf16) (k : Fin k0_t2_loop.trips) (acc : Unit) :
    inv2 arg5 arg6 arg10 c f7 f8 f9 v1 v363 w5 w6 lhs g k acc ⊢ wp frame (wpE defs₀ Variants.none (c : Thread nD τ) none) Set.univ
        (k0_t2_body (F := F) i arg1 harg1 arg2 harg2 arg3 harg3 arg4 harg4 arg5 harg5 arg6 harg6 hb7 (Memref.isWhole_whole _) hb8 (Memref.isWhole_whole _) hb9 (Memref.isWhole_whole _) arg10 harg10 arg11 harg11 arg12 harg12 arg13 harg13 arg14 harg14 slabs (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) sems v1 v272 v363 v1018 k acc) (inv2 arg5 arg6 arg10 c f7 f8 f9 v1 v363 w5 w6 lhs g (k.val + 1)) := by
  have eg : oAt (outT c f9 v1 v363 lhs w5 w6) g (k.val + 1) = putB (oAt (outT c f9 v1 v363 lhs w5 w6) g k.val) k (outT c f9 v1 v363 lhs w5 w6 k) := dif_pos k.isLt
  unfold inv2
  rw [Ring.AtW_focus (σ := fun _ => ℕ) (Φ c f7 f8 f9) (st (12 + k)) (pr (12 + k)), Φ_pre2, eg]
  iintro ⟨⟨HΦ, HR⟩, H5, H6, H17, H10, ⟨%W, HO⟩⟩
  iapply (tripD (F := F) i arg1 harg1 arg2 harg2 arg3 harg3 arg4 harg4 arg5 harg5 arg6 harg6 arg10 harg10 arg11 harg11 arg12 harg12 arg13 harg13 arg14 harg14 c f7 f8 f9 v1 v272 v363 v1018 k w5 w6 lhs _ (pr (12 + k)) (512 * k.val) (inD (trips2 k)) (inD' (trips2 k)) W)
  isplitl [HΦ]; · iexact HΦ
  isplitl [H5]; · iexact H5
  isplitl [H6]; · iexact H6
  isplitl [H17]; · iexact H17
  isplitl [H10]; · iexact H10
  isplitl [HO]; · iexact HO
  rw [Φ_post2]
  iintro ⟨HΦ, H5, H6, H17, H10, HO⟩
  isplitl [HΦ HR]; · iapply (family_step c f7 f8 f9 (12 + k.val)); isplitl [HΦ]; (· iexact HΦ); iexact HR
  isplitl [H5]; · iexact H5
  isplitl [H6]; · iexact H6
  isplitl [H17]; · iexact H17
  isplitl [H10]; · iexact H10
  iexact HO

end Cert.Kernel.Hand

end
-- ==== Proof.OpenBits.lean ====
module

public import proofs.«01_k».proof.Proof.LoopBits
public import Idealize.ShloMosaic.Lib.Ring.Tabled
public import proofs.«01_k».proof.Proof.Gen.Kernel.Skeleton
public import proofs.«01_k».proof.Proof.Gen.Kernel.Loops
public import proofs.«01_k».proof.Proof.Gen.Kernel.Frame
public import Idealize.ShloMosaic.Lib.VecWindow
public import Idealize.ShloMosaic.Lib.Transfers
public import Idealize.ShloMosaic.Lib.Ring
public import Idealize.ShloMosaic.Lib.Exec
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ### The ring taken apart and put together -/

theorem Φ_rest (c : Dev nD) (f7 : C7 (F := F) c) (f8 : C8 (F := F) c) (f9 : C9 (F := F) c) (j : Fin 8) {q : ℕ} (h : 18 ≤ q) :
    Φ c f7 f8 f9 j q = Rest c f7 f8 f9 j ![2 * j.val] (in1 (lo j)) ![2 * j.val + 1] (in1 (hi j)) ![2 * j.val, 0, 0] (in3 (lo j)) ![2 * j.val + 1, 0, 0] (in3 (hi j)) := by
  unfold Φ; rw [dif_neg (by omega), dif_neg (by omega)]

theorem Φ_fly (c : Dev nD) (f7 : C7 (F := F) c) (f8 : C8 (F := F) c) (f9 : C9 (F := F) c) (j : Fin 8) {q : ℕ} (h : q < 12) :
    Φ c f7 f8 f9 j q = FlyA c f7 f8 f9 j ![2 * j.val] (in1 (lo j)) ![2 * j.val + 1] (in1 (hi j)) ![2 * j.val, 0, 0] (in3 (lo j)) ![2 * j.val + 1, 0, 0] (in3 (hi j))
      ![0, 512 * q] (inG h) := by
  unfold Φ; rw [dif_pos h]

/-- All eight pairs at rest. -/
abbrev Rests (c : Dev nD) (f7 : C7 (F := F) c) (f8 : C8 (F := F) c) (f9 : C9 (F := F) c) : sProp 𝕄 :=
  iprop(Rest c f7 f8 f9 0 ![0] (in1 (by decide)) ![1] (in1 (by decide)) ![0, 0, 0] (in3 (by decide)) ![1, 0, 0] (in3 (by decide)) ∗ Rest c f7 f8 f9 1 ![2] (in1 (by decide)) ![3] (in1 (by decide)) ![2, 0, 0] (in3 (by decide)) ![3, 0, 0] (in3 (by decide)) ∗ Rest c f7 f8 f9 2 ![4] (in1 (by decide)) ![5] (in1 (by decide)) ![4, 0, 0] (in3 (by decide)) ![5, 0, 0] (in3 (by decide)) ∗ Rest c f7 f8 f9 3 ![6] (in1 (by decide)) ![7] (in1 (by decide)) ![6, 0, 0] (in3 (by decide)) ![7, 0, 0] (in3 (by decide)) ∗ Rest c f7 f8 f9 4 ![8] (in1 (by decide)) ![9] (in1 (by decide)) ![8, 0, 0] (in3 (by decide)) ![9, 0, 0] (in3 (by decide)) ∗ Rest c f7 f8 f9 5 ![10] (in1 (by decide)) ![11] (in1 (by decide)) ![10, 0, 0] (in3 (by decide)) ![11, 0, 0] (in3 (by decide)) ∗ Rest c f7 f8 f9 6 ![12] (in1 (by decide)) ![13] (in1 (by decide)) ![12, 0, 0] (in3 (by decide)) ![13, 0, 0] (in3 (by decide)) ∗ Rest c f7 f8 f9 7 ![14] (in1 (by decide)) ![15] (in1 (by decide)) ![14, 0, 0] (in3 (by decide)) ![15, 0, 0] (in3 (by decide)))

/-- All eight pairs holding the first eight gate and up blocks. -/
abbrev Flys (c : Dev nD) (f7 : C7 (F := F) c) (f8 : C8 (F := F) c) (f9 : C9 (F := F) c) : sProp 𝕄 :=
  iprop(FlyA c f7 f8 f9 0 ![0] (in1 (by decide)) ![1] (in1 (by decide)) ![0, 0, 0] (in3 (by decide)) ![1, 0, 0] (in3 (by decide)) ![0, 0] (inG (q := 0) (by decide)) ∗ FlyA c f7 f8 f9 1 ![2] (in1 (by decide)) ![3] (in1 (by decide)) ![2, 0, 0] (in3 (by decide)) ![3, 0, 0] (in3 (by decide)) ![0, 512] (inG (q := 1) (by decide)) ∗ FlyA c f7 f8 f9 2 ![4] (in1 (by decide)) ![5] (in1 (by decide)) ![4, 0, 0] (in3 (by decide)) ![5, 0, 0] (in3 (by decide)) ![0, 1024] (inG (q := 2) (by decide)) ∗ FlyA c f7 f8 f9 3 ![6] (in1 (by decide)) ![7] (in1 (by decide)) ![6, 0, 0] (in3 (by decide)) ![7, 0, 0] (in3 (by decide)) ![0, 1536] (inG (q := 3) (by decide)) ∗ FlyA c f7 f8 f9 4 ![8] (in1 (by decide)) ![9] (in1 (by decide)) ![8, 0, 0] (in3 (by decide)) ![9, 0, 0] (in3 (by decide)) ![0, 2048] (inG (q := 4) (by decide)) ∗ FlyA c f7 f8 f9 5 ![10] (in1 (by decide)) ![11] (in1 (by decide)) ![10, 0, 0] (in3 (by decide)) ![11, 0, 0] (in3 (by decide)) ![0, 2560] (inG (q := 5) (by decide)) ∗ FlyA c f7 f8 f9 6 ![12] (in1 (by decide)) ![13] (in1 (by decide)) ![12, 0, 0] (in3 (by decide)) ![13, 0, 0] (in3 (by decide)) ![0, 3072] (inG (q := 6) (by decide)) ∗ FlyA c f7 f8 f9 7 ![14] (in1 (by decide)) ![15] (in1 (by decide)) ![14, 0, 0] (in3 (by decide)) ![15, 0, 0] (in3 (by decide)) ![0, 3584] (inG (q := 7) (by decide)))

theorem rests_eq (c : Dev nD) (f7 : C7 (F := F) c) (f8 : C8 (F := F) c) (f9 : C9 (F := F) c) :
    Ring.AtW (σ := fun _ => ℕ) (Φ c f7 f8 f9) (st 18) = Rests c f7 f8 f9 := by
  rw [Ring.AtW_eq_list (Φ c f7 f8 f9) (st 18) [0, 1, 2, 3, 4, 5, 6, 7] (by decide) (by decide)]
  simp only [bigSepL]
  rw [Φ_rest c f7 f8 f9 0 (by decide), Φ_rest c f7 f8 f9 1 (by decide), Φ_rest c f7 f8 f9 2 (by decide), Φ_rest c f7 f8 f9 3 (by decide),
    Φ_rest c f7 f8 f9 4 (by decide), Φ_rest c f7 f8 f9 5 (by decide), Φ_rest c f7 f8 f9 6 (by decide), Φ_rest c f7 f8 f9 7 (by decide)]
  rfl

theorem flys_eq (c : Dev nD) (f7 : C7 (F := F) c) (f8 : C8 (F := F) c) (f9 : C9 (F := F) c) :
    Ring.AtW (σ := fun _ => ℕ) (Φ c f7 f8 f9) (st 0) = Flys c f7 f8 f9 := by
  rw [Ring.AtW_eq_list (Φ c f7 f8 f9) (st 0) [0, 1, 2, 3, 4, 5, 6, 7] (by decide) (by decide)]
  simp only [bigSepL]
  rw [Φ_fly c f7 f8 f9 0 (by decide), Φ_fly c f7 f8 f9 1 (by decide), Φ_fly c f7 f8 f9 2 (by decide), Φ_fly c f7 f8 f9 3 (by decide),
    Φ_fly c f7 f8 f9 4 (by decide), Φ_fly c f7 f8 f9 5 (by decide), Φ_fly c f7 f8 f9 6 (by decide), Φ_fly c f7 f8 f9 7 (by decide)]
  rfl

/-- The sixteen slots of the ring are disjoint and cover it. -/
abbrev slotS (b : Fin 16) : Finset S16x3072x512.Idx := (Rect.unit (s := S16x3072x512) ![b.val, 0, 0] S1x3072x512.size (in3 b.isLt)).set
theorem slotS_disjoint : ∀ b b' : Fin 16, b ≠ b' → Disjoint (slotS b) (slotS b') :=
  Ring.lead_disjoint (s := S16x3072x512) (NB := 16) 0 1 (fun b => ![b.val, 0, 0]) S1x3072x512.size (fun b => in3 b.isLt) (fun b => (Nat.one_mul _).symm) rfl
theorem slotS_cover : Finset.univ.biUnion slotS = Finset.univ :=
  Ring.lead_cover (s := S16x3072x512) (NB := 16) 0 1 (fun b => ![b.val, 0, 0]) S1x3072x512.size (fun b => in3 b.isLt) (fun b => (Nat.one_mul _).symm)
    (by intro b a ha; match a, ha with | ⟨1, _⟩, _ => rfl | ⟨2, _⟩, _ => rfl) rfl
    (by intro a ha; match a, ha with | ⟨1, _⟩, _ => rfl | ⟨2, _⟩, _ => rfl) rfl
theorem slot_set (b : Fin 16) : (slot ![b.val, 0, 0] (in3 b.isLt)).view.set = slotS b := (View.set_reshape _ _).trans (View.set_slice_whole _ _)

/-- A slot at some contents. -/
abbrev slotP (c : Dev nD) (o3 : Fin 3 → ℕ) (h3 : In3 o3) : sProp 𝕄 :=
  iprop(∃ f, (slot o3 h3).view.loc (c : Thread nD τ) ↦[(slot o3 h3).view.set]{fullShare} f)

theorem slots_list (c : Dev nD) :
    (bigSep Finset.univ (fun b : Fin 16 => slotP (F := F) c ![b.val, 0, 0] (in3 b.isLt)) : sProp 𝕄)
      = iprop(slotP (F := F) c ![0, 0, 0] (in3 (by decide)) ∗ slotP (F := F) c ![1, 0, 0] (in3 (by decide)) ∗ slotP (F := F) c ![2, 0, 0] (in3 (by decide)) ∗ slotP (F := F) c ![3, 0, 0] (in3 (by decide)) ∗ slotP (F := F) c ![4, 0, 0] (in3 (by decide)) ∗ slotP (F := F) c ![5, 0, 0] (in3 (by decide)) ∗ slotP (F := F) c ![6, 0, 0] (in3 (by decide)) ∗ slotP (F := F) c ![7, 0, 0] (in3 (by decide)) ∗ slotP (F := F) c ![8, 0, 0] (in3 (by decide)) ∗ slotP (F := F) c ![9, 0, 0] (in3 (by decide)) ∗ slotP (F := F) c ![10, 0, 0] (in3 (by decide)) ∗ slotP (F := F) c ![11, 0, 0] (in3 (by decide)) ∗ slotP (F := F) c ![12, 0, 0] (in3 (by decide)) ∗ slotP (F := F) c ![13, 0, 0] (in3 (by decide)) ∗ slotP (F := F) c ![14, 0, 0] (in3 (by decide)) ∗ slotP (F := F) c ![15, 0, 0] (in3 (by decide))) :=
  bigSep_univ_eq_bigSepL [0, 1, 2, 3, 4, 5, 6, 7, 8, 9, 10, 11, 12, 13, 14, 15] (by decide) (by decide) _

theorem slotP_eq (c : Dev nD) (b : Fin 16) (f : Buf (Elt F) (slabs.view.loc (c : Thread nD τ))) :
    ((slot ![b.val, 0, 0] (in3 b.isLt)).view.loc (c : Thread nD τ) ↦[(slot ![b.val, 0, 0] (in3 b.isLt)).view.set]{fullShare} f : sProp 𝕄)
      = (slabs.view.loc (c : Thread nD τ) ↦[slotS b]{fullShare} f) :=
  congrArg (fun S => (slabs.view.loc (c : Thread nD τ) ↦[S]{fullShare} f : sProp 𝕄)) (slot_set b)

/-- The ring's buffer whole is its sixteen slots, each at some contents, and back. -/
theorem slots_open (c : Dev nD) :
    iprop(∃ f, slabs.view.loc (c : Thread nD τ) ↦{fullShare} f)
      ⊢ (bigSep Finset.univ (fun b : Fin 16 => slotP (F := F) c ![b.val, 0, 0] (in3 b.isLt)) : sProp 𝕄) := by
  iintro ⟨%f, H⟩
  ihave H := (Entails.of_eq (Ring.pointsTo_blocks (Ix := Unit) (Name := ℕ) (U := Pipeline.UD sig nD τ) (Lvl := ℕ) (q := fullShare)
    (ℓ := slabs.view.loc (c : Thread nD τ)) slotS slotS_disjoint slotS_cover f)) $$ H
  iapply (show _ ⊢ _ from bigSep_mono (s := Finset.univ) fun b _ => show (slabs.view.loc (c : Thread nD τ) ↦[slotS b]{fullShare} f : sProp 𝕄) ⊢ slotP (F := F) c ![b.val, 0, 0] (in3 b.isLt) by
    iintro H; iexists f; iapply (Entails.of_eq (slotP_eq c b f).symm); iexact H)
  iexact H
theorem slots_close (c : Dev nD) (f₀ : Buf (Elt F) (slabs.view.loc (c : Thread nD τ))) :
    (bigSep Finset.univ (fun b : Fin 16 => slotP (F := F) c ![b.val, 0, 0] (in3 b.isLt)) : sProp 𝕄)
      ⊢ iprop(∃ f, slabs.view.loc (c : Thread nD τ) ↦{fullShare} f) := by
  refine BIBase.Entails.trans ?_ (Ring.pointsTo_blocks_join_exists (ℓ := slabs.view.loc (c : Thread nD τ)) slotS slotS_disjoint slotS_cover f₀)
  refine bigSep_mono (s := Finset.univ) fun b _ => (show (slotP (F := F) c ![b.val, 0, 0] (in3 b.isLt)) ⊢ iprop(∃ f, slabs.view.loc (c : Thread nD τ) ↦[slotS b]{fullShare} f) from ?_)
  iintro ⟨%f, H⟩; iexists f; iapply (Entails.of_eq (slotP_eq c b f)); iexact H

/-- A matrix whole is its eight read tokens and what is left, and back. -/
theorem toks_list (c : Dev nD) {sp : Space} {s : Shape} {e : EltTy} (M : Memref sig .tc sp s e) (f : Buf (Elt F) (M.view.loc (c : Thread nD τ))) :
    (M.view.loc (c : Thread nD τ) ↦{fullShare} f : sProp 𝕄)
      = iprop((M.view.loc (c : Thread nD τ) ↦{Transfers.shareDrop fullShare 8} f)
          ∗ (M.view.loc (c : Thread nD τ) ↦{Transfers.shareTok fullShare 8 (0 : Fin 8)} f) ∗ (M.view.loc (c : Thread nD τ) ↦{Transfers.shareTok fullShare 8 (1 : Fin 8)} f) ∗ (M.view.loc (c : Thread nD τ) ↦{Transfers.shareTok fullShare 8 (2 : Fin 8)} f) ∗ (M.view.loc (c : Thread nD τ) ↦{Transfers.shareTok fullShare 8 (3 : Fin 8)} f) ∗ (M.view.loc (c : Thread nD τ) ↦{Transfers.shareTok fullShare 8 (4 : Fin 8)} f) ∗ (M.view.loc (c : Thread nD τ) ↦{Transfers.shareTok fullShare 8 (5 : Fin 8)} f) ∗ (M.view.loc (c : Thread nD τ) ↦{Transfers.shareTok fullShare 8 (6 : Fin 8)} f) ∗ (M.view.loc (c : Thread nD τ) ↦{Transfers.shareTok fullShare 8 (7 : Fin 8)} f)) := by
  refine Eq.trans ?_ (congrArg (fun X => iprop((M.view.loc (c : Thread nD τ) ↦{Transfers.shareDrop fullShare 8} f) ∗ X))
    (bigSep_univ_eq_bigSepL [0, 1, 2, 3, 4, 5, 6, 7] (by decide) (by decide) (fun i : Fin 8 => (M.view.loc (c : Thread nD τ) ↦{Transfers.shareTok fullShare 8 i} f : sProp 𝕄))))
  exact Entails.antisymm (Transfers.pointsTo_toks_split fullShare 8) (Transfers.pointsTo_toks_join fullShare 8)

/-- The sixteen semaphore cells at zero. -/
abbrev Cells (c : Dev nD) : sProp 𝕄 :=
  iprop(semVal ((c : Thread nD τ), cell ![0] (in1 (by decide))) 0 ∗ semVal ((c : Thread nD τ), cell ![1] (in1 (by decide))) 0 ∗ semVal ((c : Thread nD τ), cell ![2] (in1 (by decide))) 0 ∗ semVal ((c : Thread nD τ), cell ![3] (in1 (by decide))) 0 ∗ semVal ((c : Thread nD τ), cell ![4] (in1 (by decide))) 0 ∗ semVal ((c : Thread nD τ), cell ![5] (in1 (by decide))) 0 ∗ semVal ((c : Thread nD τ), cell ![6] (in1 (by decide))) 0 ∗ semVal ((c : Thread nD τ), cell ![7] (in1 (by decide))) 0 ∗ semVal ((c : Thread nD τ), cell ![8] (in1 (by decide))) 0 ∗ semVal ((c : Thread nD τ), cell ![9] (in1 (by decide))) 0 ∗ semVal ((c : Thread nD τ), cell ![10] (in1 (by decide))) 0 ∗ semVal ((c : Thread nD τ), cell ![11] (in1 (by decide))) 0 ∗ semVal ((c : Thread nD τ), cell ![12] (in1 (by decide))) 0 ∗ semVal ((c : Thread nD τ), cell ![13] (in1 (by decide))) 0 ∗ semVal ((c : Thread nD τ), cell ![14] (in1 (by decide))) 0 ∗ semVal ((c : Thread nD τ), cell ![15] (in1 (by decide))) 0)

/-- What stays aside of the three matrices while the ring runs. -/
abbrev Aside (c : Dev nD) (f7 : C7 (F := F) c) (f8 : C8 (F := F) c) (f9 : C9 (F := F) c) : sProp 𝕄 :=
  iprop((hb7.view.loc (c : Thread nD τ) ↦{Transfers.shareDrop fullShare 8} f7) ∗ (hb8.view.loc (c : Thread nD τ) ↦{Transfers.shareDrop fullShare 8} f8)
    ∗ (hb9.view.loc (c : Thread nD τ) ↦{Transfers.shareDrop fullShare 8} f9))

theorem ring_open (c : Dev nD) (f7 : C7 (F := F) c) (f8 : C8 (F := F) c) (f9 : C9 (F := F) c) :
    iprop((∃ f, slabs.view.loc (c : Thread nD τ) ↦{fullShare} f) ∗ Cells (F := F) c
      ∗ (hb7.view.loc (c : Thread nD τ) ↦{fullShare} f7) ∗ (hb8.view.loc (c : Thread nD τ) ↦{fullShare} f8) ∗ (hb9.view.loc (c : Thread nD τ) ↦{fullShare} f9))
      ⊢ iprop(Rests c f7 f8 f9 ∗ Aside c f7 f8 f9) := by
  rw [toks_list c hb7 f7, toks_list c hb8 f8, toks_list c hb9 f9]
  refine (sep_mono_left (slots_open (F := F) c)).trans ?_
  rw [slots_list]
  iintro ⟨⟨S0, S1, S2, S3, S4, S5, S6, S7, S8, S9, S10, S11, S12, S13, S14, S15⟩, ⟨K0, K1, K2, K3, K4, K5, K6, K7, K8, K9, K10, K11, K12, K13, K14, K15⟩, ⟨R7, A0, A1, A2, A3, A4, A5, A6, A7⟩, ⟨R8, B0, B1, B2, B3, B4, B5, B6, B7⟩, ⟨R9, D0, D1, D2, D3, D4, D5, D6, D7⟩⟩
  isplitl [K0 K1 S0 S1 A0 B0 D0 K2 K3 S2 S3 A1 B1 D1 K4 K5 S4 S5 A2 B2 D2 K6 K7 S6 S7 A3 B3 D3 K8 K9 S8 S9 A4 B4 D4 K10 K11 S10 S11 A5 B5 D5 K12 K13 S12 S13 A6 B6 D6 K14 K15 S14 S15 A7 B7 D7]
  · isplitl [K0 K1 S0 S1 A0 B0 D0]
    · isplitl [K0]; · iexact K0
      isplitl [K1]; · iexact K1
      isplitl [S0]; · iexact S0
      isplitl [S1]; · iexact S1
      isplitl [A0]; · iexact A0
      isplitl [B0]; · iexact B0
      iexact D0
    isplitl [K2 K3 S2 S3 A1 B1 D1]
    · isplitl [K2]; · iexact K2
      isplitl [K3]; · iexact K3
      isplitl [S2]; · iexact S2
      isplitl [S3]; · iexact S3
      isplitl [A1]; · iexact A1
      isplitl [B1]; · iexact B1
      iexact D1
    isplitl [K4 K5 S4 S5 A2 B2 D2]
    · isplitl [K4]; · iexact K4
      isplitl [K5]; · iexact K5
      isplitl [S4]; · iexact S4
      isplitl [S5]; · iexact S5
      isplitl [A2]; · iexact A2
      isplitl [B2]; · iexact B2
      iexact D2
    isplitl [K6 K7 S6 S7 A3 B3 D3]
    · isplitl [K6]; · iexact K6
      isplitl [K7]; · iexact K7
      isplitl [S6]; · iexact S6
      isplitl [S7]; · iexact S7
      isplitl [A3]; · iexact A3
      isplitl [B3]; · iexact B3
      iexact D3
    isplitl [K8 K9 S8 S9 A4 B4 D4]
    · isplitl [K8]; · iexact K8
      isplitl [K9]; · iexact K9
      isplitl [S8]; · iexact S8
      isplitl [S9]; · iexact S9
      isplitl [A4]; · iexact A4
      isplitl [B4]; · iexact B4
      iexact D4
    isplitl [K10 K11 S10 S11 A5 B5 D5]
    · isplitl [K10]; · iexact K10
      isplitl [K11]; · iexact K11
      isplitl [S10]; · iexact S10
      isplitl [S11]; · iexact S11
      isplitl [A5]; · iexact A5
      isplitl [B5]; · iexact B5
      iexact D5
    isplitl [K12 K13 S12 S13 A6 B6 D6]
    · isplitl [K12]; · iexact K12
      isplitl [K13]; · iexact K13
      isplitl [S12]; · iexact S12
      isplitl [S13]; · iexact S13
      isplitl [A6]; · iexact A6
      isplitl [B6]; · iexact B6
      iexact D6
    isplitl [K14]; · iexact K14
    isplitl [K15]; · iexact K15
    isplitl [S14]; · iexact S14
    isplitl [S15]; · iexact S15
    isplitl [A7]; · iexact A7
    isplitl [B7]; · iexact B7
    iexact D7
  isplitl [R7]; · iexact R7
  isplitl [R8]; · iexact R8
  iexact R9

theorem ring_close (c : Dev nD) (f7 : C7 (F := F) c) (f8 : C8 (F := F) c) (f9 : C9 (F := F) c) :
    iprop(Rests c f7 f8 f9 ∗ Aside c f7 f8 f9)
      ⊢ iprop((∃ f, slabs.view.loc (c : Thread nD τ) ↦{fullShare} f) ∗ Cells (F := F) c
      ∗ (hb7.view.loc (c : Thread nD τ) ↦{fullShare} f7) ∗ (hb8.view.loc (c : Thread nD τ) ↦{fullShare} f8) ∗ (hb9.view.loc (c : Thread nD τ) ↦{fullShare} f9)) := by
  rw [toks_list c hb7 f7, toks_list c hb8 f8, toks_list c hb9 f9]
  iintro ⟨⟨⟨K0, K1, S0, S1, A0, B0, D0⟩, ⟨K2, K3, S2, S3, A1, B1, D1⟩, ⟨K4, K5, S4, S5, A2, B2, D2⟩, ⟨K6, K7, S6, S7, A3, B3, D3⟩, ⟨K8, K9, S8, S9, A4, B4, D4⟩, ⟨K10, K11, S10, S11, A5, B5, D5⟩, ⟨K12, K13, S12, S13, A6, B6, D6⟩, ⟨K14, K15, S14, S15, A7, B7, D7⟩⟩, R7, R8, R9⟩
  icases S0 with ⟨%f0, S0⟩
  isplitl [S0 S1 S2 S3 S4 S5 S6 S7 S8 S9 S10 S11 S12 S13 S14 S15]
  · iapply (slots_close (F := F) c f0)
    irw [slots_list]
    isplitl [S0]; · iexists f0; iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15
  isplitl [K0 K1 K2 K3 K4 K5 K6 K7 K8 K9 K10 K11 K12 K13 K14 K15]
  · isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    isplitl [K12]; · iexact K12
    isplitl [K13]; · iexact K13
    isplitl [K14]; · iexact K14
    iexact K15
  isplitl [R7 A0 A1 A2 A3 A4 A5 A6 A7]
  · isplitl [R7]; · iexact R7
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [R8 B0 B1 B2 B3 B4 B5 B6 B7]
  · isplitl [R8]; · iexact R8
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [R9]; · iexact R9
  isplitl [D0]; · iexact D0
  isplitl [D1]; · iexact D1
  isplitl [D2]; · iexact D2
  isplitl [D3]; · iexact D3
  isplitl [D4]; · iexact D4
  isplitl [D5]; · iexact D5
  isplitl [D6]; · iexact D6
  iexact D7

end Cert.Kernel.Hand

end
-- ==== Proof.SpecBits.lean ====
module

public import proofs.«01_k».proof.Proof.OpenBits
public import Idealize.ShloMosaic.Lib.WritesUnit
public import Idealize.ShloMosaic.Lib.Pipeline.Value
public import Idealize.ShloMosaic.Lib.Ring.Tabled
public import proofs.«01_k».proof.Proof.Gen.Kernel.Skeleton
public import proofs.«01_k».proof.Proof.Gen.Kernel.Loops
public import proofs.«01_k».proof.Proof.Gen.Kernel.Frame
public import Idealize.ShloMosaic.Lib.VecWindow
public import Idealize.ShloMosaic.Lib.Transfers
public import Idealize.ShloMosaic.Lib.Ring
public import Idealize.ShloMosaic.Lib.Exec
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ### A buffer filled block of columns by block of columns -/

section Cols
variable {d tsz : Fin 2 → ℕ} {n : ℕ} {α : Type}

theorem cols_pos (h1 : d 1 = n * tsz 1) (y : (⟨2, d⟩ : Shape).Idx) : 0 < tsz 1 :=
  Nat.pos_of_ne_zero fun h => by
    have hy : (y 1).val < d 1 := (y 1).isLt
    rw [h1, h, Nat.mul_zero] at hy
    exact absurd hy (Nat.not_lt_zero _)

theorem cols_div (h1 : d 1 = n * tsz 1) (y : (⟨2, d⟩ : Shape).Idx) : (y 1).val / tsz 1 < n :=
  (Nat.div_lt_iff_lt_mul (cols_pos h1 y)).2 (h1 ▸ (show (y 1).val < d 1 from (y 1).isLt))

/-- The array whose `i`-th block of columns is `P i`. -/
def cols (h0 : d 0 = tsz 0) (h1 : d 1 = n * tsz 1) (P : Fin n → (⟨2, tsz⟩ : Shape).Idx → α) : (⟨2, d⟩ : Shape).Idx → α := fun y =>
  P ⟨(y 1).val / tsz 1, cols_div h1 y⟩
    (fun a => match a with
      | ⟨0, _⟩ => ⟨(y 0).val, lt_of_lt_of_eq (show (y 0).val < d 0 from (y 0).isLt) h0⟩
      | ⟨1, _⟩ => ⟨(y 1).val % tsz 1, Nat.mod_lt _ (cols_pos h1 y)⟩)

theorem cols_apply (h0 : d 0 = tsz 0) (h1 : d 1 = n * tsz 1) (P : Fin n → (⟨2, tsz⟩ : Shape).Idx → α) (y : (⟨2, d⟩ : Shape).Idx)
    (i : Fin n) (x : (⟨2, tsz⟩ : Shape).Idx) (e0 : (y 0).val = (x 0).val) (e1 : (y 1).val = tsz 1 * i.val + (x 1).val) : cols h0 h1 P y = P i x := by
  have hx : (x 1).val < tsz 1 := (x 1).isLt
  have hp : 0 < tsz 1 := by omega
  have hi : (⟨(y 1).val / tsz 1, cols_div h1 y⟩ : Fin n) = i := Fin.ext (by
    show (y 1).val / tsz 1 = i.val
    rw [e1, Nat.mul_add_div hp, Nat.div_eq_of_lt hx, Nat.add_zero])
  unfold cols
  simp only [hi]
  congr 1
  funext a
  match a with
  | ⟨0, _⟩ => exact Fin.ext e0
  | ⟨1, _⟩ => exact Fin.ext (by show (y 1).val % tsz 1 = (x 1).val; rw [e1, Nat.mul_add_mod, Nat.mod_eq_of_lt hx])

variable {sig' : RefSig} {κ : Kind} {sp : Space} {e : EltTy} {Val : EltTy → Type}

/-- Stores of all the blocks of columns leave `cols`. -/
theorem read_cols (h0 : d 0 = tsz 0) (h1 : d 1 = n * tsz 1) (v : View sig' κ sp (⟨2, d⟩ : Shape) e) (f : v.ty.Contents Val)
    (off : Fin n → Fin 2 → ℕ) (hoff : ∀ i, off i = ![0, tsz 1 * i.val])
    (inb : ∀ (i : Fin n) a, off i a + tsz a ≤ (⟨2, d⟩ : Shape).size a)
    (P : Fin n → (⟨2, tsz⟩ : Shape).Idx → Val e) :
    v.read Val (v.writes Val f (View.tilePieces (s := ⟨2, d⟩) tsz off inb P n le_rfl)) = cols h0 h1 P := by
  funext y
  have hp : 0 < tsz 1 := cols_pos h1 y
  have hlt : (y 1).val / tsz 1 < n := cols_div h1 y
  refine View.read_tilePieces v f tsz off inb P n le_rfl y ⟨(y 1).val / tsz 1, hlt⟩ hlt _ ?_ 1 ?_
  · intro a
    rw [hoff]
    match a with
    | ⟨0, _⟩ => exact (Nat.zero_add _).symm
    | ⟨1, _⟩ => exact (Nat.div_add_mod _ _).symm
  · intro i' hi'
    rw [hoff]
    show (y 1).val < tsz 1 * i'.val ∨ tsz 1 * i'.val + tsz 1 ≤ (y 1).val
    have hne : i'.val ≠ (y 1).val / tsz 1 := fun h => hi' (Fin.ext h)
    have hdm := Nat.div_add_mod (y 1).val (tsz 1)
    have hm := Nat.mod_lt (y 1).val hp
    rcases Nat.lt_or_gt_of_ne hne with hlt | hgt
    · right
      have := Nat.mul_le_mul_left (tsz 1) (Nat.succ_le_of_lt hlt); rw [Nat.mul_succ] at this; omega
    · left
      have := Nat.mul_le_mul_left (tsz 1) (Nat.succ_le_of_lt hgt); rw [Nat.mul_succ] at this; omega

/-- A load of one block of columns reads that block. -/
theorem ld_cols (h0 : d 0 = tsz 0) (h1 : d 1 = n * tsz 1) (P : Fin n → (⟨2, tsz⟩ : Shape).Idx → α) (i : Fin n)
    (off : Fin 2 → ℕ) (hoff : off = ![0, tsz 1 * i.val]) (inb : ∀ a, off a + tsz a ≤ (⟨2, d⟩ : Shape).size a) :
    VecWindow.window (s := ⟨2, d⟩) (cols h0 h1 P) off tsz inb = P i := by
  funext x
  subst hoff
  exact cols_apply h0 h1 P _ i x (show 0 + 1 * (x 0).val = (x 0).val by omega) (show tsz 1 * i.val + 1 * (x 1).val = _ by omega)

end Cols

/-! ### A put at one index -/

section Put
variable {s : Shape} {α : Type}

theorem put_of_mem (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  have hc : ∀ a, off a ≤ (y a).val ∧ (y a).val < off a + size a := fun a => by have := h a; have := (z a).isLt; omega
  unfold VecWindow.put
  rw [dif_pos hc]
  exact congrArg w (funext fun a => Fin.ext (by show (y a).val - off a = (z a).val; have := h a; omega))

theorem put_of_not_mem (x : s.Idx → α) (off size : Fin s.rank → ℕ) (w : ((a : Fin s.rank) → Fin (size a)) → α) (y : s.Idx)
    (a : Fin s.rank) (h : (y a).val < off a ∨ off a + size a ≤ (y a).val) : VecWindow.put x off size w y = x y := by
  unfold VecWindow.put
  rw [dif_neg fun hc => by have := hc a; omega]

end Put

/-! ### What the body computes before, between and after its loops -/

theorem inbH (j : Fin 6) : ∀ a, (![0, 512 * j.val] : Fin 2 → ℕ) a + S24x512.size a ≤ S24x3072.size a := fun a => by
  match a with
  | ⟨0, _⟩ => show 0 + 24 ≤ 24; omega
  | ⟨1, _⟩ => show 512 * j.val + 512 ≤ 3072; omega
theorem inbN (j : Fin 6) : ∀ a, (![0, 512 * j.val] : Fin 2 → ℕ) a + S1x512.size a ≤ S1x3072.size a := fun a => by
  match a with
  | ⟨0, _⟩ => show 0 + 1 ≤ 1; omega
  | ⟨1, _⟩ => show 512 * j.val + 512 ≤ 3072; omega
theorem inbL (j : Fin 6) : ∀ a, (![0, 512 * j.val] : Fin 2 → ℕ) a + S32x512.size a ≤ S32x3072.size a := fun a => by
  match a with
  | ⟨0, _⟩ => show 0 + 32 ≤ 32; omega
  | ⟨1, _⟩ => show 512 * j.val + 512 ≤ 3072; omega
theorem inbA (j : Fin 48) : ∀ a, (![0, 128 * j.val] : Fin 2 → ℕ) a + S32x128.size a ≤ S32x6144.size a := fun a => by
  match a with
  | ⟨0, _⟩ => show 0 + 32 ≤ 32; omega
  | ⟨1, _⟩ => show 128 * j.val + 128 ≤ 6144; omega
theorem inbG (j : Fin 48) : ∀ a, (![j.val, 0, 0] : Fin 3 → ℕ) a + S1x24x128.size a ≤ S48x24x128.size a := fun a => by
  match a with
  | ⟨0, _⟩ => show j.val + 1 ≤ 48; omega
  | ⟨1, _⟩ => show 0 + 24 ≤ 24; omega
  | ⟨2, _⟩ => show 0 + 128 ≤ 128; omega

theorem read_colsN (v : View sig .tc .vmem S24x3072 .f32) (f : v.ty.Contents (Elt F)) (P : Fin 6 → Vec F S24x512 .f32) (L : List (View.Piece (Elt F) S24x3072 .f32))
    (hL : L = View.tilePieces (s := S24x3072) S24x512.size (fun j : Fin 6 => ![0, 512 * j.val]) inbH P 6 le_rfl) :
    v.read (Elt F) (v.writes (Elt F) f L) = cols (d := ![24, 3072]) (tsz := S24x512.size) (n := 6) rfl rfl P := by
  subst hL
  exact read_cols (d := ![24, 3072]) (tsz := S24x512.size) (n := 6) (Val := Elt F) (e := .f32) rfl rfl v f (fun j => ![0, 512 * j.val]) (fun _ => rfl) inbH P

theorem read_colsL (v : View sig .tc .vmem S32x3072 .fp8e4m3) (f : v.ty.Contents (Elt F)) (P : Fin 6 → Vec F S32x512 .fp8e4m3) (L : List (View.Piece (Elt F) S32x3072 .fp8e4m3))
    (hL : L = View.tilePieces (s := S32x3072) S32x512.size (fun j : Fin 6 => ![0, 512 * j.val]) inbL P 6 le_rfl) :
    v.read (Elt F) (v.writes (Elt F) f L) = cols (d := ![32, 3072]) (tsz := S32x512.size) (n := 6) rfl rfl P := by
  subst hL
  exact read_cols (d := ![32, 3072]) (tsz := S32x512.size) (n := 6) (Val := Elt F) (e := .fp8e4m3) rfl rfl v f (fun j => ![0, 512 * j.val]) (fun _ => rfl) inbL P

theorem read_colsA (v : View sig .tc .vmem S32x6144 .fp8e4m3) (f : v.ty.Contents (Elt F)) (P : Fin 48 → Vec F S32x128 .fp8e4m3) (L : List (View.Piece (Elt F) S32x6144 .fp8e4m3))
    (hL : L = View.tilePieces (s := S32x6144) S32x128.size (fun j : Fin 48 => ![0, 128 * j.val]) inbA P 48 le_rfl) :
    v.read (Elt F) (v.writes (Elt F) f L) = cols (d := ![32, 6144]) (tsz := S32x128.size) (n := 48) rfl rfl P := by
  subst hL
  exact read_cols (d := ![32, 6144]) (tsz := S32x128.size) (n := 48) (Val := Elt F) (e := .fp8e4m3) rfl rfl v f (fun j => ![0, 128 * j.val]) (fun _ => rfl) inbA P

theorem consN (P : Fin 6 → Vec F S24x512 .f32) (k : ℕ) (hk : k < 6) (o : Fin 2 → ℕ) (ho : o = ![0, 512 * k]) (inb' : ∀ a, o a + S24x512.size a ≤ S24x3072.size a)
    (p : Vec F S24x512 .f32) (hp : p = P ⟨k, hk⟩) (L : List (View.Piece (Elt F) S24x3072 .f32)) (hL : L = View.tilePieces (s := S24x3072) S24x512.size (fun j : Fin 6 => ![0, 512 * j.val]) inbH P k (Nat.le_of_lt hk)) :
    ⟨Rect.unit (s := S24x3072) o S24x512.size inb', p⟩ :: L = View.tilePieces (s := S24x3072) S24x512.size (fun j : Fin 6 => ![0, 512 * j.val]) inbH P (k + 1) hk := by
  subst ho hp hL; rfl

theorem consL (P : Fin 6 → Vec F S32x512 .fp8e4m3) (k : ℕ) (hk : k < 6) (o : Fin 2 → ℕ) (ho : o = ![0, 512 * k]) (inb' : ∀ a, o a + S32x512.size a ≤ S32x3072.size a)
    (p : Vec F S32x512 .fp8e4m3) (hp : p = P ⟨k, hk⟩) (L : List (View.Piece (Elt F) S32x3072 .fp8e4m3)) (hL : L = View.tilePieces (s := S32x3072) S32x512.size (fun j : Fin 6 => ![0, 512 * j.val]) inbL P k (Nat.le_of_lt hk)) :
    ⟨Rect.unit (s := S32x3072) o S32x512.size inb', p⟩ :: L = View.tilePieces (s := S32x3072) S32x512.size (fun j : Fin 6 => ![0, 512 * j.val]) inbL P (k + 1) hk := by
  subst ho hp hL; rfl

theorem consA (P : Fin 48 → Vec F S32x128 .fp8e4m3) (k : ℕ) (hk : k < 48) (o : Fin 2 → ℕ) (ho : o = ![0, 128 * k]) (inb' : ∀ a, o a + S32x128.size a ≤ S32x6144.size a)
    (p : Vec F S32x128 .fp8e4m3) (hp : p = P ⟨k, hk⟩) (L : List (View.Piece (Elt F) S32x6144 .fp8e4m3)) (hL : L = View.tilePieces (s := S32x6144) S32x128.size (fun j : Fin 48 => ![0, 128 * j.val]) inbA P k (Nat.le_of_lt hk)) :
    ⟨Rect.unit (s := S32x6144) o S32x128.size inb', p⟩ :: L = View.tilePieces (s := S32x6144) S32x128.size (fun j : Fin 48 => ![0, 128 * j.val]) inbA P (k + 1) hk := by
  subst ho hp hL; rfl

/-- Block `j` of the rows, and of the norm's weights. -/
def hB (w6 : Vec F S24x3072 .f32) (j : Fin 6) : Vec F S24x512 .f32 := VecWindow.window w6 ![0, 512 * j.val] S24x512.size (inbH j)
def nB (w2 : Vec F S1x3072 .f32) (j : Fin 6) : Vec F S1x512 .f32 := VecWindow.window w2 ![0, 512 * j.val] S1x512.size (inbN j)

/-- The root mean square of each row. -/
def rms (w6 : Vec F S24x3072 .f32) : FVec F S24x1 .f32 :=
  k0_pay15 (k0_pay12 (hB w6 0) (hB w6 1) (hB w6 2)) (k0_pay13 (hB w6 3)) (k0_pay14 (hB w6 3)) (hB w6 4) (hB w6 5)

/-- Block `j` of the normalised rows. -/
def nrm (w2 : Vec F S1x3072 .f32) (w6 : Vec F S24x3072 .f32) (j : Fin 6) : FVec F S24x512 .f32 := k0_pay20 (rms w6) (hB w6 j) (nB w2 j)

/-- The scale of each normalised row. -/
def sc1 (w2 : Vec F S1x3072 .f32) (w6 : Vec F S24x3072 .f32) : FVec F S24x1 .f32 :=
  k0_pay34 (k0_pay30 (rms w6)
      (k0_pay24 (rms w6) (k0_pay16 (F := F)) (k0_pay19 (rms w6) (hB w6 0) (nB w2 0)) (hB w6 1) (nB w2 1) (hB w6 2) (nB w2 2))
      (k0_pay25 (rms w6) (hB w6 2) (nB w2 2)) (hB w6 3) (nB w2 3) (hB w6 4) (nB w2 4))
    (k0_pay31 (rms w6) (hB w6 5)) (nB w2 5)

theorem pay43_eq (s : FVec F S24x1 .f32) (x : Vec F S24x512 .f32) : k0_pay43 s x = k0_pay40 s x := rfl
theorem pay42_eq (s : FVec F S24x1 .f32) (x : Vec F S24x512 .f32) : k0_pay42 (k0_pay41 s x) = k0_pay40 s x := rfl
theorem pay39_eq (s : FVec F S24x1 .f32) (x : Vec F S24x512 .f32) : k0_pay39 s x = k0_pay40 s x := rfl
theorem pay38_eq (a : FVec F S24x128 .f32) (b : FVec F S24x512 .f32) (d : Vec F S1x512 .f32) (x : Vec F S24x512 .f32) :
    k0_pay38 (k0_pay36 a b d x) (Scalar.ofBits .f32 0x43E00000#32) (k0_pay37 (F := F)) = k0_pay40 (k0_pay34 a b d) x := rfl
theorem pay35_eq (a : FVec F S24x128 .f32) (b : FVec F S24x512 .f32) (d : Vec F S1x512 .f32) (x : Vec F S24x512 .f32) :
    k0_pay35 a b d x = k0_pay40 (k0_pay34 a b d) x := rfl
theorem pay33_eq (r : FVec F S24x1 .f32) (h : Vec F S24x512 .f32) (n : Vec F S1x512 .f32) : k0_pay33 (k0_pay31 r h) n = k0_pay20 r h n := rfl
theorem pay29_eq (r : FVec F S24x1 .f32) (h : Vec F S24x512 .f32) (n : Vec F S1x512 .f32) : k0_pay29 r h n = k0_pay20 r h n := rfl
theorem pay27_eq (r : FVec F S24x1 .f32) (h : Vec F S24x512 .f32) (n : Vec F S1x512 .f32) : k0_pay27 r h n = k0_pay20 r h n := rfl
theorem pay22_eq (r : FVec F S24x1 .f32) (h : Vec F S24x512 .f32) (n : Vec F S1x512 .f32) : k0_pay22 r h n = k0_pay20 r h n := rfl
theorem pay18_eq (a : FVec F S24x128 .f32) (b : FVec F S24x512 .f32) (d : FVec F S24x128 .f32) (g g' h : Vec F S24x512 .f32) (n : Vec F S1x512 .f32) :
    k0_pay18 a b d g g' h n = k0_pay20 (k0_pay15 a b d g g') h n := rfl

theorem readCov_window {s : Shape} {sp : Space} {e : EltTy} (v : View sig .tc sp s e) (L : List (View.Piece (Elt F) s e)) (off size : Fin s.rank → ℕ) (inb : ∀ a, off a + size a ≤ s.size a) :
    View.readCov v L (Rect.unit (s := s) off size inb).toLoadRect = VecWindow.window (v.read (Elt F) (v.writes (Elt F) v.junk L)) off size inb := rfl
theorem readAt_window {s : Shape} {sp : Space} {e : EltTy} (v : View sig .tc sp s e) (f : v.ty.Contents (Elt F)) (off size : Fin s.rank → ℕ) (inb : ∀ a, off a + size a ≤ s.size a) :
    v.readAt (Elt F) (Rect.unit (s := s) off size inb).toLoadRect f = VecWindow.window (v.read (Elt F) f) off size inb := rfl

/-- The codes of the normalised rows, eight rows of zeros below them. -/
def lhs1 (w2 : Vec F S1x3072 .f32) (w6 : Vec F S24x3072 .f32) : Vec F S32x3072 .fp8e4m3 :=
  cols (d := ![32, 3072]) (tsz := S32x512.size) (n := 6) rfl rfl fun j => k0_pay40 (sc1 w2 w6) (nrm w2 w6 j)

/-- Slab `j` of the activations. -/
def gB (G : Vec F S48x24x128 .f32) (j : Fin 48) : Vec F S1x24x128 .f32 := VecWindow.window G ![j.val, 0, 0] S1x24x128.size (inbG j)

/-- The scale of each row of activations, from the running maximum. -/
def sc2 (a : FVec F S24x128 .f32) : FVec F S24x1 .f32 := k0_pay52 (k0_pay49 a) (k0_pay50 a) (k0_pay51 (F := F))

/-- The codes of the activations, eight rows of zeros below them. -/
def lhs2 (s : FVec F S24x1 .f32) (G : Vec F S48x24x128 .f32) : Vec F S32x6144 .fp8e4m3 :=
  cols (d := ![32, 6144]) (tsz := S32x128.size) (n := 48) rfl rfl fun j => k0_pay58 s (gB G j)

/-- The first twenty-four rows. -/
def top1 (l : Vec F S32x3072 .fp8e4m3) : Vec F S24x3072 .fp8e4m3 := VecWindow.window l ![0, 0] S24x3072.size inb_S32x3072_S24x3072_0_0
def top2 (l : Vec F S32x6144 .fp8e4m3) : Vec F S24x6144 .fp8e4m3 := VecWindow.window l ![0, 0] S24x6144.size inb_S32x6144_S24x6144_0_0

/-- The output buffer's six blocks are written whatever it held. -/
theorem oAt_indep (T : Fin k0_t2_loop.trips → FVec F S24x512 .bf16) (g : Vec F S24x3072 .bf16) :
    oAt T g 6 = cols (d := ![24, 3072]) (tsz := S24x512.size) (n := 6) rfl rfl fun j => T ⟨j.val, j.isLt⟩ := by
  have key : ∀ n, n ≤ 6 → ∀ (y : S24x3072.Idx) (i : Fin 6) (x : S24x512.Idx), i.val < n → (y 0).val = (x 0).val → (y 1).val = 512 * i.val + (x 1).val →
      oAt T g n y = T ⟨i.val, i.isLt⟩ x := by
    intro n
    induction n with
    | zero => intro _ y i x h; exact absurd h (Nat.not_lt_zero _)
    | succ n ih =>
      intro hn y i x hi h0 h1
      have hx : (x 1).val < 512 := (x 1).isLt
      have e : oAt T g (n + 1) = putB (oAt T g n) ⟨n, hn⟩ (T ⟨n, hn⟩) := dif_pos (show n < k0_t2_loop.trips from hn)
      rw [e]
      by_cases hc : i.val = n
      · subst hc
        exact put_of_mem _ _ _ _ y x (fun a => by
          rw [k0_off26_eq]
          match a with
          | ⟨0, _⟩ => show (y 0).val = 0 + (x 0).val; omega
          | ⟨1, _⟩ => exact h1)
      · rw [show putB (oAt T g n) ⟨n, hn⟩ (T ⟨n, hn⟩) y = oAt T g n y from put_of_not_mem _ _ _ _ y 1 (by
          rw [k0_off26_eq]
          show (y 1).val < 512 * n ∨ 512 * n + 512 ≤ (y 1).val
          omega)]
        exact ih (by omega) y i x (by omega) h0 h1
  funext y
  have hy : (y 1).val < 3072 := (y 1).isLt
  have hi : (y 1).val / 512 < 6 := by omega
  refine (key 6 le_rfl y ⟨(y 1).val / 512, hi⟩ (fun a => match a with | ⟨0, _⟩ => ⟨(y 0).val, (y 0).isLt⟩ | ⟨1, _⟩ => ⟨(y 1).val % 512, Nat.mod_lt _ (by decide)⟩) hi rfl (Nat.div_add_mod _ _).symm).trans ?_
  exact (cols_apply (d := ![24, 3072]) (tsz := S24x512.size) (n := 6) rfl rfl (fun j : Fin 6 => T ⟨j.val, j.isLt⟩) y ⟨(y 1).val / 512, hi⟩ _ rfl (Nat.div_add_mod _ _).symm).symm

/-- The activation slabs after all twelve tiles: slab `4 p + q` is quarter `q` of tile `p`. -/
def gFin (T : Fin k0_t1_loop.trips → FVec F S24x512 .f32) : Vec F S48x24x128 .f32 := fun y =>
  T ⟨(y 0).val / 4, by have h : (y 0).val < 48 := (y 0).isLt; show (y 0).val / 4 < 12; omega⟩
    (fun a => match a with
      | ⟨0, _⟩ => ⟨(y 1).val, (y 1).isLt⟩
      | ⟨1, _⟩ => ⟨128 * ((y 0).val % 4) + (y 2).val, by have h : (y 2).val < 128 := (y 2).isLt; show _ < 512; omega⟩)

theorem quart_apply (T : FVec F S24x512 .f32) (o : ℕ) (h : S24x512.Slices ![0, o] S24x128) (z : S1x24x128.Idx) (x : S24x512.Idx)
    (h0 : (x 0).val = (z 1).val) (h1 : (x 1).val = o + (z 2).val) : quart T o h z = T x := by
  refine (shapeCast_addUnit_apply ![24, 128] (extractStridedSlice S24x128 ![0, o] T h) shapeCasts_S24x128_S1x24x128 z).trans ?_
  refine congrArg T (funext fun a => Fin.ext ?_)
  match a with
  | ⟨0, _⟩ => exact (Nat.zero_add _).trans h0.symm
  | ⟨1, _⟩ => exact h1.symm

theorem gAt_indep (T : Fin k0_t1_loop.trips → FVec F S24x512 .f32) (g : Vec F S48x24x128 .f32) : gAt T g 12 = gFin T := by
  have key : ∀ n, n ≤ 12 → ∀ y : S48x24x128.Idx, (y 0).val < 4 * n → gAt T g n y = gFin T y := by
    intro n
    induction n with
    | zero => intro _ y h; omega
    | succ n ih =>
      intro hn y hi
      have e : gAt T g (n + 1) = putA (gAt T g n) ⟨n, hn⟩ (T ⟨n, hn⟩) := dif_pos (show n < k0_t1_loop.trips from hn)
      have o : ∀ r : Fin 4, k0_off19 ⟨n, hn⟩ (BitVec.ofNat 32 r.val) = ![4 * n + r.val, 0, 0] := fun r => k0_off19_eq ⟨n, hn⟩ r
      have o0 := o 0; have o1 := o 1; have o2 := o 2; have o3 := o 3
      have inn : ∀ (r : Fin 4) (x : Vec F S48x24x128 .f32) (off : Fin 3 → ℕ), off = ![4 * n + r.val, 0, 0] → ∀ hs, (y 0).val = 4 * n + r.val →
          VecWindow.put (s := S48x24x128) x off S1x24x128.size (quart (T ⟨n, hn⟩) (128 * r.val) hs) y = gFin T y := by
        intro r x off ho hs hy
        subst ho
        have hr := r.isLt
        refine (put_of_mem (s := S48x24x128) x _ S1x24x128.size _ y (fun a => match a with | ⟨0, _⟩ => ⟨0, Nat.one_pos⟩ | ⟨1, _⟩ => ⟨(y 1).val, (y 1).isLt⟩ | ⟨2, _⟩ => ⟨(y 2).val, (y 2).isLt⟩) ?_).trans ?_
        · intro a
          match a with
          | ⟨0, _⟩ => exact hy
          | ⟨1, _⟩ => exact (Nat.zero_add _).symm
          | ⟨2, _⟩ => exact (Nat.zero_add _).symm
        · have hq : (⟨(y 0).val / 4, by have h : (y 0).val < 48 := (y 0).isLt; show (y 0).val / 4 < 12; omega⟩ : Fin k0_t1_loop.trips) = ⟨n, hn⟩ := Fin.ext (by show (y 0).val / 4 = n; omega)
          unfold gFin
          rw [hq]
          exact quart_apply _ _ hs _ _ rfl (by show 128 * ((y 0).val % 4) + (y 2).val = 128 * r.val + (y 2).val; omega)
      have out : ∀ (r : Fin 4) (x : Vec F S48x24x128 .f32) (off : Fin 3 → ℕ) (w : Vec F S1x24x128 .f32), off = ![4 * n + r.val, 0, 0] → (y 0).val ≠ 4 * n + r.val →
          VecWindow.put (s := S48x24x128) x off S1x24x128.size w y = x y := by
        intro r x off w ho hy
        subst ho
        exact put_of_not_mem (s := S48x24x128) x _ S1x24x128.size w y 0 (by show (y 0).val < 4 * n + r.val ∨ 4 * n + r.val + 1 ≤ (y 0).val; omega)
      rw [e]
      unfold putA
      by_cases h3 : (y 0).val = 4 * n + 3
      · exact inn 3 _ _ o3 _ h3
      refine (out 3 _ _ _ o3 h3).trans ?_
      by_cases h2 : (y 0).val = 4 * n + 2
      · exact inn 2 _ _ o2 _ h2
      refine (out 2 _ _ _ o2 h2).trans ?_
      by_cases h1 : (y 0).val = 4 * n + 1
      · exact inn 1 _ _ o1 _ h1
      refine (out 1 _ _ _ o1 h1).trans ?_
      by_cases h0 : (y 0).val = 4 * n + 0
      · exact inn 0 _ _ o0 _ h0
      refine (out 0 _ _ _ o0 h0).trans ?_
      exact ih (by omega) y (by omega)
  funext y
  have hy : (y 0).val < 48 := (y 0).isLt
  exact key 12 le_rfl y (by omega)

end Cert.Kernel.Hand

end
-- ==== Proof.BodyBits.lean ====
module

public import proofs.«01_k».proof.Proof.SpecBits
public import Idealize.ShloMosaic.Lib.Ring.Tabled
public import proofs.«01_k».proof.Proof.Gen.Kernel.Skeleton
public import proofs.«01_k».proof.Proof.Gen.Kernel.Loops
public import proofs.«01_k».proof.Proof.Gen.Kernel.Frame
public import Idealize.ShloMosaic.Lib.VecWindow
public import Idealize.ShloMosaic.Lib.Transfers
public import Idealize.ShloMosaic.Lib.Ring
public import Idealize.ShloMosaic.Lib.Exec
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (i : grid0.Coords)
  (arg1 : Memref sig .tc .smem S12 .f32) (harg1 : arg1.IsWhole) (arg2 : Memref sig .tc .vmem S1x3072 .f32) (harg2 : arg2.IsWhole) (arg3 : Memref sig .tc .vmem S1x6144 .f32) (harg3 : arg3.IsWhole) (arg4 : Memref sig .tc .vmem S1x6144 .f32) (harg4 : arg4.IsWhole) (arg5 : Memref sig .tc .vmem S1x3072 .f32) (harg5 : arg5.IsWhole) (arg6 : Memref sig .tc .vmem S24x3072 .f32) (harg6 : arg6.IsWhole) (arg10 : Memref sig .tc .vmem S24x3072 .bf16) (harg10 : arg10.IsWhole) (arg11 : Memref sig .tc .vmem S24x3072 .fp8e4m3) (harg11 : arg11.IsWhole) (arg12 : Memref sig .tc .vmem S1x24 .f32) (harg12 : arg12.IsWhole) (arg13 : Memref sig .tc .vmem S24x6144 .fp8e4m3) (harg13 : arg13.IsWhole) (arg14 : Memref sig .tc .vmem S1x24 .f32) (harg14 : arg14.IsWhole)

/-- What the body needs: the free ring, its blocks and its buffers. -/
abbrev Need (c : Dev nD) (f7 : C7 (F := F) c) (f8 : C8 (F := F) c) (f9 : C9 (F := F) c)
    (w1 : Vec F S12 .f32) (w2 : Vec F S1x3072 .f32) (w3 w4 : Vec F S1x6144 .f32) (w5 : Vec F S1x3072 .f32) (w6 : Vec F S24x3072 .f32) (W : Waits sig Unit) : sProp 𝕄 :=
  iprop(Rests c f7 f8 f9 ∗ owns (c : Thread nD τ) arg1 fullShare w1 ∗ owns (c : Thread nD τ) arg2 fullShare w2
      ∗ owns (c : Thread nD τ) arg3 fullShare w3 ∗ owns (c : Thread nD τ) arg4 fullShare w4
      ∗ owns (c : Thread nD τ) arg5 fullShare w5 ∗ owns (c : Thread nD τ) arg6 fullShare w6
      ∗ (∃ d, owns (c : Thread nD τ) arg10 fullShare d) ∗ (∃ d, owns (c : Thread nD τ) arg11 fullShare d) ∗ (∃ d, owns (c : Thread nD τ) arg12 fullShare d)
      ∗ (∃ d, owns (c : Thread nD τ) arg13 fullShare d) ∗ (∃ d, owns (c : Thread nD τ) arg14 fullShare d)
      ∗ (∃ d, owns (c : Thread nD τ) (Memref.whole cc0_scratch1) fullShare d) ∗ (∃ d, owns (c : Thread nD τ) (Memref.whole cc0_scratch2) fullShare d)
      ∗ (∃ d, owns (c : Thread nD τ) (Memref.whole cc0_scratch3) fullShare d) ∗ (∃ d, owns (c : Thread nD τ) (Memref.whole cc0_scratch4) fullShare d)
      ∗ owes (c : Thread nD τ) 0 W)

/-- The two scalars read of the multipliers. -/
abbrev mul1 (w1 : Vec F S12 .f32) : Elt F .f32 := VecWindow.window w1 ![6] S1.size inb_S12_S1_6 (Shape.Idx.first (numel1_S1.symm ▸ Nat.one_pos))
abbrev mul0 (w1 : Vec F S12 .f32) : Elt F .f32 := VecWindow.window w1 ![5] S1.size inb_S12_S1_5 (Shape.Idx.first (numel1_S1.symm ▸ Nat.one_pos))

/-- The activations' tiles, scale and codes, and the result's blocks, of the arguments. -/
abbrev actW (c : Dev nD) (f7 : C7 (F := F) c) (f8 : C8 (F := F) c) (w1 : Vec F S12 .f32) (w2 : Vec F S1x3072 .f32) (w3 w4 : Vec F S1x6144 .f32) (w6 : Vec F S24x3072 .f32) :
    Fin k0_t1_loop.trips → FVec F S24x512 .f32 := actT c f7 f8 (mul0 w1) (sc1 w2 w6) (lhs1 w2 w6) w3 w4
def scA (c : Dev nD) (f7 : C7 (F := F) c) (f8 : C8 (F := F) c) (w1 : Vec F S12 .f32) (w2 : Vec F S1x3072 .f32) (w3 w4 : Vec F S1x6144 .f32) (w6 : Vec F S24x3072 .f32) :
    FVec F S24x1 .f32 := sc2 (accAt (actW c f7 f8 w1 w2 w3 w4 w6) (k0_pay44 (F := F)) 12)
def lhsA (c : Dev nD) (f7 : C7 (F := F) c) (f8 : C8 (F := F) c) (w1 : Vec F S12 .f32) (w2 : Vec F S1x3072 .f32) (w3 w4 : Vec F S1x6144 .f32) (w6 : Vec F S24x3072 .f32) :
    Vec F S32x6144 .fp8e4m3 := lhs2 (scA c f7 f8 w1 w2 w3 w4 w6) (gFin (actW c f7 f8 w1 w2 w3 w4 w6))
def outR (c : Dev nD) (f7 : C7 (F := F) c) (f8 : C8 (F := F) c) (f9 : C9 (F := F) c) (w1 : Vec F S12 .f32) (w2 : Vec F S1x3072 .f32) (w3 w4 : Vec F S1x6144 .f32) (w5 : Vec F S1x3072 .f32) (w6 : Vec F S24x3072 .f32) :
    Vec F S24x3072 .bf16 :=
  cols (d := ![24, 3072]) (tsz := S24x512.size) (n := 6) rfl rfl fun j =>
    outT c f9 (mul1 w1) (scA c f7 f8 w1 w2 w3 w4 w6) (lhsA c f7 f8 w1 w2 w3 w4 w6) w5 w6 ⟨j.val, j.isLt⟩
/-- The rows' two scales, as the call returns them. -/
def s1R (c : Dev nD) (f7 : C7 (F := F) c) (f8 : C8 (F := F) c) (w1 : Vec F S12 .f32) (w2 : Vec F S1x3072 .f32) (w3 w4 : Vec F S1x6144 .f32) (w6 : Vec F S24x3072 .f32) : Vec F S1x24 .f32 :=
  k0_pay120 (sc1 w2 w6) (scA c f7 f8 w1 w2 w3 w4 w6)
def s2R (c : Dev nD) (f7 : C7 (F := F) c) (f8 : C8 (F := F) c) (w1 : Vec F S12 .f32) (w2 : Vec F S1x3072 .f32) (w3 w4 : Vec F S1x6144 .f32) (w6 : Vec F S24x3072 .f32) : Vec F S1x24 .f32 :=
  k0_pay1 (k0_pay119 (sc1 w2 w6) (scA c f7 f8 w1 w2 w3 w4 w6))

/-- What the body leaves. -/
abbrev Done (c : Dev nD) (f7 : C7 (F := F) c) (f8 : C8 (F := F) c) (f9 : C9 (F := F) c)
    (w1 : Vec F S12 .f32) (w2 : Vec F S1x3072 .f32) (w3 w4 : Vec F S1x6144 .f32) (w5 : Vec F S1x3072 .f32) (w6 : Vec F S24x3072 .f32) : sProp 𝕄 :=
  iprop(Rests c f7 f8 f9 ∗ owns (c : Thread nD τ) arg1 fullShare w1 ∗ owns (c : Thread nD τ) arg2 fullShare w2
      ∗ owns (c : Thread nD τ) arg3 fullShare w3 ∗ owns (c : Thread nD τ) arg4 fullShare w4
      ∗ owns (c : Thread nD τ) arg5 fullShare w5 ∗ owns (c : Thread nD τ) arg6 fullShare w6
      ∗ owns (c : Thread nD τ) arg10 fullShare (outR c f7 f8 f9 w1 w2 w3 w4 w5 w6) ∗ owns (c : Thread nD τ) arg11 fullShare (top1 (lhs1 w2 w6))
      ∗ owns (c : Thread nD τ) arg12 fullShare (s1R c f7 f8 w1 w2 w3 w4 w6)
      ∗ owns (c : Thread nD τ) arg13 fullShare (top2 (lhsA c f7 f8 w1 w2 w3 w4 w6)) ∗ owns (c : Thread nD τ) arg14 fullShare (s2R c f7 f8 w1 w2 w3 w4 w6)
      ∗ (∃ d, owns (c : Thread nD τ) (Memref.whole cc0_scratch1) fullShare d) ∗ (∃ d, owns (c : Thread nD τ) (Memref.whole cc0_scratch2) fullShare d)
      ∗ (∃ d, owns (c : Thread nD τ) (Memref.whole cc0_scratch3) fullShare d) ∗ (∃ d, owns (c : Thread nD τ) (Memref.whole cc0_scratch4) fullShare d)
      ∗ (∃ W', owes (c : Thread nD τ) 0 W'))

theorem pay53_eq (a : FVec F S24x1 .f32) (b : IVec S24x1 1) (d : FVec F S24x1 .f32) (x : Vec F S1x24x128 .f32) : k0_pay53 a b d x = k0_pay58 (k0_pay52 a b d) x := rfl
theorem pay54_eq (a : FVec F S24x1 .f32) (b : IVec S24x1 1) (d : FVec F S24x1 .f32) (x : Vec F S1x24x128 .f32) : k0_pay54 a b d x = k0_pay58 (k0_pay52 a b d) x := rfl
theorem pay57_eq (a : FVec F S24x1 .f32) (b : IVec S24x1 1) (d : FVec F S24x1 .f32) (x : Vec F S1x24x128 .f32) :
    k0_pay57 (k0_pay55 a b d x) (Scalar.ofBits .f32 0x43E00000#32) (k0_pay56 (F := F)) = k0_pay58 (k0_pay52 a b d) x := rfl

set_option maxHeartbeats 800000 in
theorem body_run (c : Dev nD) (f7 : C7 (F := F) c) (f8 : C8 (F := F) c) (f9 : C9 (F := F) c)
    (w1 : Vec F S12 .f32) (w2 : Vec F S1x3072 .f32) (w3 w4 : Vec F S1x6144 .f32) (w5 : Vec F S1x3072 .f32) (w6 : Vec F S24x3072 .f32) (W : Waits sig Unit) (Q : PUnit → sProp 𝕄) :
    iprop(Need arg1 arg2 arg3 arg4 arg5 arg6 arg10 arg11 arg12 arg13 arg14 c f7 f8 f9 w1 w2 w3 w4 w5 w6 W
      ∗ (Done arg1 arg2 arg3 arg4 arg5 arg6 arg10 arg11 arg12 arg13 arg14 c f7 f8 f9 w1 w2 w3 w4 w5 w6 -∗ Q ⟨⟩))
     ⊢ wp frame (wpE defs₀ Variants.none (c : Thread nD τ) none) Set.univ
        (cc0_hybrid_layer (F := F) i arg1 harg1 arg2 harg2 arg3 harg3 arg4 harg4 arg5 harg5 arg6 harg6 hb7 (Memref.isWhole_whole _) hb8 (Memref.isWhole_whole _) hb9 (Memref.isWhole_whole _) arg10 harg10 arg11 harg11 arg12 harg12 arg13 harg13 arg14 harg14 slabs (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) sems) Q := by
  simp only [cc0_hybrid_layer_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold cc0_hybrid_layer_skel Need owns
  iintro ⟨⟨⟨⟨K0, K1, ⟨%t0, S0⟩, ⟨%t1, S1⟩, A0, B0, D0⟩, ⟨K2, K3, ⟨%t2, S2⟩, ⟨%t3, S3⟩, A1, B1, D1⟩, ⟨K4, K5, ⟨%t4, S4⟩, ⟨%t5, S5⟩, A2, B2, D2⟩, ⟨K6, K7, ⟨%t6, S6⟩, ⟨%t7, S7⟩, A3, B3, D3⟩, ⟨K8, K9, ⟨%t8, S8⟩, ⟨%t9, S9⟩, A4, B4, D4⟩, ⟨K10, K11, ⟨%t10, S10⟩, ⟨%t11, S11⟩, A5, B5, D5⟩, ⟨K12, K13, ⟨%t12, S12⟩, ⟨%t13, S13⟩, A6, B6, D6⟩, ⟨K14, K15, ⟨%t14, S14⟩, ⟨%t15, S15⟩, A7, B7, D7⟩⟩, ⟨%y1, %e1, H1⟩, ⟨%y2, %e2, H2⟩, ⟨%y3, %e3, H3⟩, ⟨%y4, %e4, H4⟩, ⟨%y5, %e5, H5⟩, ⟨%y6, %e6, H6⟩, ⟨%d10, %y10, %e10, H10⟩, ⟨%d11, %y11, %e11, H11⟩, ⟨%d12, %y12, %e12, H12⟩, ⟨%d13, %y13, %e13, H13⟩, ⟨%d14, %y14, %e14, H14⟩, ⟨%d16, %y16, %e16, H16⟩, ⟨%d17, %y17, %e17, H17⟩, ⟨%d18, %y18, %e18, H18⟩, ⟨%d19, %y19, %e19, H19⟩, HO⟩, HK⟩
  subst e1 e2 e3 e4 e5 e6 e19
  sl_exec
  ihave HF : Flys c f7 f8 f9 $$ [K0 K1 A0 B0 D0 K2 K3 A1 B1 D1 K4 K5 A2 B2 D2 K6 K7 A3 B3 D3 K8 K9 A4 B4 D4 K10 K11 A5 B5 D5 K12 K13 A6 B6 D6 K14 K15 A7 B7 D7]
  · isplitl [K0 K1 A0 B0 D0]
    · isplitl [K0]; · iexists _; iexact K0
      isplitl [K1]; · iexists _; iexact K1
      isplitl [A0]; · iexact A0
      isplitl [B0]; · iexact B0
      iexact D0
    isplitl [K2 K3 A1 B1 D1]
    · isplitl [K2]; · iexists _; iexact K2
      isplitl [K3]; · iexists _; iexact K3
      isplitl [A1]; · iexact A1
      isplitl [B1]; · iexact B1
      iexact D1
    isplitl [K4 K5 A2 B2 D2]
    · isplitl [K4]; · iexists _; iexact K4
      isplitl [K5]; · iexists _; iexact K5
      isplitl [A2]; · iexact A2
      isplitl [B2]; · iexact B2
      iexact D2
    isplitl [K6 K7 A3 B3 D3]
    · isplitl [K6]; · iexists _; iexact K6
      isplitl [K7]; · iexists _; iexact K7
      isplitl [A3]; · iexact A3
      isplitl [B3]; · iexact B3
      iexact D3
    isplitl [K8 K9 A4 B4 D4]
    · isplitl [K8]; · iexists _; iexact K8
      isplitl [K9]; · iexists _; iexact K9
      isplitl [A4]; · iexact A4
      isplitl [B4]; · iexact B4
      iexact D4
    isplitl [K10 K11 A5 B5 D5]
    · isplitl [K10]; · iexists _; iexact K10
      isplitl [K11]; · iexists _; iexact K11
      isplitl [A5]; · iexact A5
      isplitl [B5]; · iexact B5
      iexact D5
    isplitl [K12 K13 A6 B6 D6]
    · isplitl [K12]; · iexists _; iexact K12
      isplitl [K13]; · iexists _; iexact K13
      isplitl [A6]; · iexact A6
      isplitl [B6]; · iexact B6
      iexact D6
    isplitl [K14]; · iexists _; iexact K14
    isplitl [K15]; · iexists _; iexact K15
    isplitl [A7]; · iexact A7
    isplitl [B7]; · iexact B7
    iexact D7
  ihave HF := (Entails.of_eq (flys_eq c f7 f8 f9).symm) $$ HF
  have e16w : (Memref.whole cc0_scratch1).view.read (Elt F) ((Memref.whole cc0_scratch1).view.writes (Elt F) (Memref.whole cc0_scratch1).view.junk (body_run.sl.H16_6 arg2 arg6 c y2 y6)) = lhs1 (arg2.view.read (Elt F) y2) (arg6.view.read (Elt F) y6) := by
    have e18 : (Memref.whole cc0_scratch3).view.read (Elt F) ((Memref.whole cc0_scratch3).view.writes (Elt F) (Memref.whole cc0_scratch3).view.junk (body_run.sl.H18_6 arg2 arg6 c y2 y6))
        = cols (d := ![24, 3072]) (tsz := S24x512.size) (n := 6) rfl rfl (nrm (arg2.view.read (Elt F) y2) (arg6.view.read (Elt F) y6)) := by
      refine read_colsN (Memref.whole cc0_scratch3).view (Memref.whole cc0_scratch3).view.junk (nrm (arg2.view.read (Elt F) y2) (arg6.view.read (Elt F) y6)) _ ?_
      unfold body_run.sl.H18_6
      refine consN (F := F) (nrm (arg2.view.read (Elt F) y2) (arg6.view.read (Elt F) y6)) 5 (by decide) _ rfl _ _ (pay33_eq (F := F) _ _ _) _ ?_
      refine consN (F := F) (nrm (arg2.view.read (Elt F) y2) (arg6.view.read (Elt F) y6)) 4 (by decide) _ rfl _ _ (pay29_eq _ _ _) _ ?_
      refine consN (F := F) (nrm (arg2.view.read (Elt F) y2) (arg6.view.read (Elt F) y6)) 3 (by decide) _ rfl _ _ (pay27_eq _ _ _) _ ?_
      refine consN (F := F) (nrm (arg2.view.read (Elt F) y2) (arg6.view.read (Elt F) y6)) 2 (by decide) _ rfl _ _ (pay22_eq _ _ _) _ ?_
      refine consN (F := F) (nrm (arg2.view.read (Elt F) y2) (arg6.view.read (Elt F) y6)) 1 (by decide) _ rfl _ _ (rfl) _ ?_
      refine consN (F := F) (nrm (arg2.view.read (Elt F) y2) (arg6.view.read (Elt F) y6)) 0 (by decide) _ rfl _ _ (pay18_eq _ _ _ _ _ _ _) _ ?_
      rfl
    have ev1 : body_run.sl.r_11 arg2 arg6 c y2 y6 = sc1 (arg2.view.read (Elt F) y2) (arg6.view.read (Elt F) y6) := rfl
    have ex : ∀ (j : Fin 6) (o : Fin 2 → ℕ) (ho : o = ![0, 512 * j.val]) (inb : ∀ a, o a + S24x512.size a ≤ S24x3072.size a),
        View.readCov (Memref.whole cc0_scratch3).view (body_run.sl.H18_6 arg2 arg6 c y2 y6) (Rect.unit (s := S24x3072) o S24x512.size inb).toLoadRect = nrm (arg2.view.read (Elt F) y2) (arg6.view.read (Elt F) y6) j := by
      intro j o ho inb
      rw [readCov_window, e18]
      exact ld_cols (d := ![24, 3072]) (tsz := S24x512.size) (n := 6) rfl rfl _ j o ho _
    refine read_colsL (Memref.whole cc0_scratch1).view (Memref.whole cc0_scratch1).view.junk (fun j => k0_pay40 (sc1 (arg2.view.read (Elt F) y2) (arg6.view.read (Elt F) y6)) (nrm (arg2.view.read (Elt F) y2) (arg6.view.read (Elt F) y6) j)) _ ?_
    have x0 : body_run.sl.v273 arg2 arg6 c y2 y6 = nrm (arg2.view.read (Elt F) y2) (arg6.view.read (Elt F) y6) 0 := ex 0 _ rfl _
    have x1 : body_run.sl.v286 arg2 arg6 c y2 y6 = nrm (arg2.view.read (Elt F) y2) (arg6.view.read (Elt F) y6) 1 := ex 1 _ rfl _
    have x2 : body_run.sl.v299 arg2 arg6 c y2 y6 = nrm (arg2.view.read (Elt F) y2) (arg6.view.read (Elt F) y6) 2 := ex 2 _ rfl _
    have x3 : body_run.sl.v312 arg2 arg6 c y2 y6 = nrm (arg2.view.read (Elt F) y2) (arg6.view.read (Elt F) y6) 3 := ex 3 _ rfl _
    have x4 : body_run.sl.v325 arg2 arg6 c y2 y6 = nrm (arg2.view.read (Elt F) y2) (arg6.view.read (Elt F) y6) 4 := ex 4 _ rfl _
    have x5 : body_run.sl.v338 arg2 arg6 c y2 y6 = nrm (arg2.view.read (Elt F) y2) (arg6.view.read (Elt F) y6) 5 := ex 5 _ rfl _
    unfold body_run.sl.H16_6 body_run.sl.r_12 body_run.sl.r_13 body_run.sl.cst_133
    rw [x0, x1, x2, x3, x4, x5, ev1, pay35_eq, pay38_eq, pay39_eq, pay42_eq, pay43_eq]
    rw [show k0_pay34 _ _ _ = sc1 (arg2.view.read (Elt F) y2) (arg6.view.read (Elt F) y6) from ev1]
    refine consL (fun j => k0_pay40 (sc1 (arg2.view.read (Elt F) y2) (arg6.view.read (Elt F) y6)) (nrm (arg2.view.read (Elt F) y2) (arg6.view.read (Elt F) y6) j)) 5 (by decide) _ rfl _ _ rfl _ ?_
    refine consL (fun j => k0_pay40 (sc1 (arg2.view.read (Elt F) y2) (arg6.view.read (Elt F) y6)) (nrm (arg2.view.read (Elt F) y2) (arg6.view.read (Elt F) y6) j)) 4 (by decide) _ rfl _ _ rfl _ ?_
    refine consL (fun j => k0_pay40 (sc1 (arg2.view.read (Elt F) y2) (arg6.view.read (Elt F) y6)) (nrm (arg2.view.read (Elt F) y2) (arg6.view.read (Elt F) y6) j)) 3 (by decide) _ rfl _ _ rfl _ ?_
    refine consL (fun j => k0_pay40 (sc1 (arg2.view.read (Elt F) y2) (arg6.view.read (Elt F) y6)) (nrm (arg2.view.read (Elt F) y2) (arg6.view.read (Elt F) y6) j)) 2 (by decide) _ rfl _ _ rfl _ ?_
    refine consL (fun j => k0_pay40 (sc1 (arg2.view.read (Elt F) y2) (arg6.view.read (Elt F) y6)) (nrm (arg2.view.read (Elt F) y2) (arg6.view.read (Elt F) y6) j)) 1 (by decide) _ rfl _ _ rfl _ ?_
    refine consL (fun j => k0_pay40 (sc1 (arg2.view.read (Elt F) y2) (arg6.view.read (Elt F) y6)) (nrm (arg2.view.read (Elt F) y2) (arg6.view.read (Elt F) y6) j)) 0 (by decide) _ rfl _ _ rfl _ ?_
    rfl
  ihave H16' : iprop(owns (c : Thread nD τ) (Memref.whole cc0_scratch1) fullShare (lhs1 (arg2.view.read (Elt F) y2) (arg6.view.read (Elt F) y6))) $$ [H16]
  · unfold owns
    iexists _; isplitr; swap; (· iexact H16); ipureintro
    exact e16w
  sl_for (inv1 arg3 arg4 c f7 f8 f9 (mul0 (arg1.view.read (Elt F) y1)) (sc1 (arg2.view.read (Elt F) y2) (arg6.view.read (Elt F) y6)) (arg3.view.read (Elt F) y3) (arg4.view.read (Elt F) y4) (lhs1 (arg2.view.read (Elt F) y2) (arg6.view.read (Elt F) y6)) ((Memref.whole cc0_scratch4).view.read (Elt F) y19)) $$ [HF H3 H4 H16' H19 HO]
  case region =>
    intro k acc
    exact step1 i arg1 harg1 arg2 harg2 arg3 harg3 arg4 harg4 arg5 harg5 arg6 harg6 arg10 harg10 arg11 harg11 arg12 harg12 arg13 harg13 arg14 harg14 c f7 f8 f9 _ _ _ _ _ _ _ k acc
  · unfold inv1 owns
    isplitr
    · ipureintro; rfl
    isplitl [HF]; · iexact HF
    isplitl [H3]; · iexists _; isplitr; swap; (· iexact H3); ipureintro; exact rfl
    isplitl [H4]; · iexists _; isplitr; swap; (· iexact H4); ipureintro; exact rfl
    isplitl [H16']; · iexact H16'
    isplitl [H19]; · iexists _; isplitr; swap; (· iexact H19); ipureintro; exact rfl
    iexists _; iexact HO
  iintro %acc HI
  unfold inv1
  icases HI with ⟨%ea, HF, H3, H4, H16', H19, ⟨%W1, HO⟩⟩
  subst ea
  rw [show Scf.trips k0_t1_loop.lb k0_t1_loop.ub k0_t1_loop.st = 12 from by decide +kernel, gAt_indep]
  unfold owns
  icases H16' with ⟨%y16', %e16', H16⟩
  icases H19 with ⟨%y19', %e19', H19⟩
  sl_exec
  have es : body_run.sl.r_16 arg1 arg2 arg3 arg4 arg6 c f7 f8 y1 y2 y3 y4 y6 = scA c f7 f8 (arg1.view.read (Elt F) y1) (arg2.view.read (Elt F) y2) (arg3.view.read (Elt F) y3) (arg4.view.read (Elt F) y4) (arg6.view.read (Elt F) y6) := rfl
  have e17 : ∀ f, (Memref.whole cc0_scratch2).view.read (Elt F) ((Memref.whole cc0_scratch2).view.writes (Elt F) f (body_run.sl.H17_48 arg1 arg2 arg3 arg4 arg6 c f7 f8 y1 y2 y3 y4 y6 y19')) = lhsA c f7 f8 (arg1.view.read (Elt F) y1) (arg2.view.read (Elt F) y2) (arg3.view.read (Elt F) y3) (arg4.view.read (Elt F) y4) (arg6.view.read (Elt F) y6) := by
    intro f
    have P0 : ∀ s, s = body_run.sl.r_16 arg1 arg2 arg3 arg4 arg6 c f7 f8 y1 y2 y3 y4 y6 → (Memref.whole cc0_scratch2).view.read (Elt F) ((Memref.whole cc0_scratch2).view.writes (Elt F) f (body_run.sl.H17_48 arg1 arg2 arg3 arg4 arg6 c f7 f8 y1 y2 y3 y4 y6 y19')) = lhs2 s ((Memref.whole cc0_scratch4).view.read (Elt F) y19') := by
      intro s hs
      let P : Fin 48 → Vec F S32x128 .fp8e4m3 := fun j => k0_pay58 s (gB ((Memref.whole cc0_scratch4).view.read (Elt F) y19') j)
      refine read_colsA (Memref.whole cc0_scratch2).view f P _ ?_
      unfold body_run.sl.H17_48
      unfold body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.cst_195 body_run.sl.cst_405
      have hr : body_run.sl.r_16 arg1 arg2 arg3 arg4 arg6 c f7 f8 y1 y2 y3 y4 y6 = k0_pay52 (body_run.sl.r_14 arg1 arg2 arg3 arg4 arg6 c f7 f8 y1 y2 y3 y4 y6) (body_run.sl.r_15 arg1 arg2 arg3 arg4 arg6 c f7 f8 y1 y2 y3 y4 y6) (k0_pay51 (F := F)) := rfl
      rw [pay53_eq, pay54_eq, pay57_eq, ← hr]
      simp only [← hs]
      refine consA P 47 (by decide) _ rfl _ _ rfl _ ?_
      refine consA P 46 (by decide) _ rfl _ _ rfl _ ?_
      refine consA P 45 (by decide) _ rfl _ _ rfl _ ?_
      refine consA P 44 (by decide) _ rfl _ _ rfl _ ?_
      refine consA P 43 (by decide) _ rfl _ _ rfl _ ?_
      refine consA P 42 (by decide) _ rfl _ _ rfl _ ?_
      refine consA P 41 (by decide) _ rfl _ _ rfl _ ?_
      refine consA P 40 (by decide) _ rfl _ _ rfl _ ?_
      refine consA P 39 (by decide) _ rfl _ _ rfl _ ?_
      refine consA P 38 (by decide) _ rfl _ _ rfl _ ?_
      refine consA P 37 (by decide) _ rfl _ _ rfl _ ?_
      refine consA P 36 (by decide) _ rfl _ _ rfl _ ?_
      refine consA P 35 (by decide) _ rfl _ _ rfl _ ?_
      refine consA P 34 (by decide) _ rfl _ _ rfl _ ?_
      refine consA P 33 (by decide) _ rfl _ _ rfl _ ?_
      refine consA P 32 (by decide) _ rfl _ _ rfl _ ?_
      refine consA P 31 (by decide) _ rfl _ _ rfl _ ?_
      refine consA P 30 (by decide) _ rfl _ _ rfl _ ?_
      refine consA P 29 (by decide) _ rfl _ _ rfl _ ?_
      refine consA P 28 (by decide) _ rfl _ _ rfl _ ?_
      refine consA P 27 (by decide) _ rfl _ _ rfl _ ?_
      refine consA P 26 (by decide) _ rfl _ _ rfl _ ?_
      refine consA P 25 (by decide) _ rfl _ _ rfl _ ?_
      refine consA P 24 (by decide) _ rfl _ _ rfl _ ?_
      refine consA P 23 (by decide) _ rfl _ _ rfl _ ?_
      refine consA P 22 (by decide) _ rfl _ _ rfl _ ?_
      refine consA P 21 (by decide) _ rfl _ _ rfl _ ?_
      refine consA P 20 (by decide) _ rfl _ _ rfl _ ?_
      refine consA P 19 (by decide) _ rfl _ _ rfl _ ?_
      refine consA P 18 (by decide) _ rfl _ _ rfl _ ?_
      refine consA P 17 (by decide) _ rfl _ _ rfl _ ?_
      refine consA P 16 (by decide) _ rfl _ _ rfl _ ?_
      refine consA P 15 (by decide) _ rfl _ _ rfl _ ?_
      refine consA P 14 (by decide) _ rfl _ _ rfl _ ?_
      refine consA P 13 (by decide) _ rfl _ _ rfl _ ?_
      refine consA P 12 (by decide) _ rfl _ _ rfl _ ?_
      refine consA P 11 (by decide) _ rfl _ _ rfl _ ?_
      refine consA P 10 (by decide) _ rfl _ _ rfl _ ?_
      refine consA P 9 (by decide) _ rfl _ _ rfl _ ?_
      refine consA P 8 (by decide) _ rfl _ _ rfl _ ?_
      refine consA P 7 (by decide) _ rfl _ _ rfl _ ?_
      refine consA P 6 (by decide) _ rfl _ _ rfl _ ?_
      refine consA P 5 (by decide) _ rfl _ _ rfl _ ?_
      refine consA P 4 (by decide) _ rfl _ _ rfl _ ?_
      refine consA P 3 (by decide) _ rfl _ _ rfl _ ?_
      refine consA P 2 (by decide) _ rfl _ _ rfl _ ?_
      refine consA P 1 (by decide) _ rfl _ _ rfl _ ?_
      refine consA P 0 (by decide) _ rfl _ _ rfl _ ?_
      rfl
    rw [P0 _ rfl, e19', es]; rfl
  ihave H17' : iprop(owns (c : Thread nD τ) (Memref.whole cc0_scratch2) fullShare (lhsA c f7 f8 (arg1.view.read (Elt F) y1) (arg2.view.read (Elt F) y2) (arg3.view.read (Elt F) y3) (arg4.view.read (Elt F) y4) (arg6.view.read (Elt F) y6))) $$ [H17]
  · unfold owns
    iexists _; isplitr; swap; (· iexact H17); ipureintro
    exact e17 _
  sl_for (inv2 arg5 arg6 arg10 c f7 f8 f9 (mul1 (arg1.view.read (Elt F) y1)) (scA c f7 f8 (arg1.view.read (Elt F) y1) (arg2.view.read (Elt F) y2) (arg3.view.read (Elt F) y3) (arg4.view.read (Elt F) y4) (arg6.view.read (Elt F) y6)) (arg5.view.read (Elt F) y5) (arg6.view.read (Elt F) y6) (lhsA c f7 f8 (arg1.view.read (Elt F) y1) (arg2.view.read (Elt F) y2) (arg3.view.read (Elt F) y3) (arg4.view.read (Elt F) y4) (arg6.view.read (Elt F) y6)) (arg10.view.read (Elt F) y10)) $$ [HF H5 H6 H17' H10 HO]
  case region =>
    intro k acc
    exact step2 i arg1 harg1 arg2 harg2 arg3 harg3 arg4 harg4 arg5 harg5 arg6 harg6 arg10 harg10 arg11 harg11 arg12 harg12 arg13 harg13 arg14 harg14 c f7 f8 f9 _ _ _ _ _ _ _ _ k acc
  · unfold inv2 owns
    isplitl [HF]; · iexact HF
    isplitl [H5]; · iexists _; isplitr; swap; (· iexact H5); ipureintro; exact rfl
    isplitl [H6]; · iexists _; isplitr; swap; (· iexact H6); ipureintro; exact rfl
    isplitl [H17']; · iexact H17'
    isplitl [H10]; · iexists _; isplitr; swap; (· iexact H10); ipureintro; exact rfl
    iexists _; iexact HO
  iintro %acc2 HI
  unfold inv2
  icases HI with ⟨HF, H5, H6, H17', H10, ⟨%W2, HO⟩⟩
  rw [show Scf.trips k0_t2_loop.lb k0_t2_loop.ub k0_t2_loop.st = 6 from by decide +kernel, oAt_indep]
  sl_exec
  sl_step
  ihave HF := (Entails.of_eq (rests_eq c f7 f8 f9)) $$ HF
  have ev1 : body_run.sl.r_11 arg2 arg6 c y2 y6 = sc1 (arg2.view.read (Elt F) y2) (arg6.view.read (Elt F) y6) := rfl
  iapply HK
  isplitl [HF]; · iexact HF
  unfold owns
  isplitl [H1]; · iexists _; isplitr; swap; (· iexact H1); ipureintro; exact rfl
  isplitl [H2]; · iexists _; isplitr; swap; (· iexact H2); ipureintro; exact rfl
  isplitl [H3]; · iexact H3
  isplitl [H4]; · iexact H4
  isplitl [H5]; · iexact H5
  isplitl [H6]; · iexact H6
  isplitl [H10]; · iexact H10
  isplitl [H11]
  · iexists _; isplitr; swap; (· iexact H11); ipureintro
    unfold body_run.sl.H11_1
    rw [View.read_writes_full]
    exact (readCov_window (Memref.whole cc0_scratch1).view _ ![0, 0] S24x3072.size inb_S32x3072_S24x3072_0_0).trans (congrArg top1 e16w)
  isplitl [H12]
  · iexists _; isplitr; swap; (· iexact H12); ipureintro
    rw [View.read_writes_full]
    unfold s1R; rw [← es, ← ev1]; rfl
  isplitl [H13]
  · iexists _; isplitr; swap; (· iexact H13); ipureintro
    unfold body_run.sl.H13_1
    rw [View.read_writes_full]
    exact (readCov_window (Memref.whole cc0_scratch2).view _ ![0, 0] S24x6144.size inb_S32x6144_S24x6144_0_0).trans (congrArg top2 (e17 _))
  isplitl [H14]
  · iexists _; isplitr; swap; (· iexact H14); ipureintro
    rw [View.read_writes_full]
    unfold s2R; rw [← es, ← ev1]; rfl
  isplitl [H16]; · iexists _; iexists _; isplitr; swap; (· iexact H16); ipureintro; exact rfl
  isplitl [H17']; · iexists _; iexact H17'
  isplitl [H18]; · iexists _; iexists _; isplitr; swap; (· iexact H18); ipureintro; exact rfl
  isplitl [H19]; · iexists _; iexists _; isplitr; swap; (· iexact H19); ipureintro; exact rfl
  iexists _; iexact HO

end Cert.Kernel.Hand
-- ==== Proof.FrameBits.lean ====
module

public import proofs.«01_k».proof.Proof.BodyBits
public import proofs.«01_k».proof.Proof.Gen.Kernel.Launch
public import proofs.«01_k».proof.Proof.Gen.Kernel.Points
public import Idealize.ShloMosaic.Lib.Pipeline.FrameBody
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the call, and the frame's post -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 5).trans (((dats 0 c).arrAt_in 5 rfl _).trans ((hA c 5).trans (V_main_arg0 m c))),
      ((h.1 c).2 main_arg1 (Pipeline.mem_restRefs_of main_arg1 (by decide) (by decide))).trans (V_main_arg1 m c),
      ((h.1 c).1 0).trans (((dats 0 c).arrAt_in 0 rfl _).trans ((hA c 0).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) h

/-! ## What the body keeps between its blocks -/

/-- The sixteen cells of the ring. -/
abbrev osem0 : Fin 16 → SemLoc sig := fun j => (![SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26] : Fin 16 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = Cells (F := F) c := by
  rw [Pipeline.ownSems0_eq_of_list c osem0 [0, 1, 2, 3, 4, 5, 6, 7, 8, 9, 10, 11, 12, 13, 14, 15] (by decide) (by decide)]; rfl
/-- The three matrices the body copies from. -/
def H0 : Finset (Ref sig .tc) := {main_arg3, main_arg5, main_arg7}
theorem H0_sub : H0 ⊆ Pipeline.restRefs sig spec0 := by decide
theorem hbmPts0_eq (c : Dev nD) :
    (bigSep H0 (fun b => ((c : Thread nD τ).loc b) ↦{fullShare} V m c b) : sProp 𝕄)
      = iprop((hb7.view.loc (c : Thread nD τ) ↦{fullShare} V m c main_arg3) ∗ (hb8.view.loc (c : Thread nD τ) ↦{fullShare} V m c main_arg5)
          ∗ (hb9.view.loc (c : Thread nD τ) ↦{fullShare} V m c main_arg7)) := by
  rw [BI.bigSep_eq_bigSepL_of_eq [main_arg3, main_arg5, main_arg7] (by decide) (by decide)]; rfl

theorem PhiD0_eq (c : Dev nD) :
    (Pipeline.ΦD osem0 spec0 H0 (V m) c : sProp 𝕄)
      = iprop(iprop((∃ f, slabs.view.loc (c : Thread nD τ) ↦{fullShare} f) ∗ (∃ d, owns (c : Thread nD τ) (Memref.whole cc0_scratch1) fullShare d) ∗ (∃ d, owns (c : Thread nD τ) (Memref.whole cc0_scratch2) fullShare d)
                ∗ (∃ d, owns (c : Thread nD τ) (Memref.whole cc0_scratch3) fullShare d) ∗ (∃ d, owns (c : Thread nD τ) (Memref.whole cc0_scratch4) fullShare d))
          ∗ (∃ r, prngReg c r)
          ∗ Cells (F := F) c
          ∗ iprop((hb7.view.loc (c : Thread nD τ) ↦{fullShare} V m c main_arg3) ∗ (hb8.view.loc (c : Thread nD τ) ↦{fullShare} V m c main_arg5)
                  ∗ (hb9.view.loc (c : Thread nD τ) ↦{fullShare} V m c main_arg7))) := by
  rw [Pipeline.ΦD_eq, scopedRest0_eq, ownSems00_eq, hbmPts0_eq]
  simp only [owns_whole]; try rfl

abbrev ms0_0 (t : Fin cfg0.N) : Memref sig .tc .smem S12 .f32 := win0_0.stage (cfg0.slots t 0)
abbrev ms0_1 (t : Fin cfg0.N) : Memref sig .tc .vmem S1x3072 .f32 := win0_1.stage (cfg0.slots t 1)
abbrev ms0_2 (t : Fin cfg0.N) : Memref sig .tc .vmem S1x6144 .f32 := win0_2.stage (cfg0.slots t 2)
abbrev ms0_3 (t : Fin cfg0.N) : Memref sig .tc .vmem S1x6144 .f32 := win0_3.stage (cfg0.slots t 3)
abbrev ms0_4 (t : Fin cfg0.N) : Memref sig .tc .vmem S1x3072 .f32 := win0_4.stage (cfg0.slots t 4)
abbrev ms0_5 (t : Fin cfg0.N) : Memref sig .tc .vmem S24x3072 .f32 := win0_5.stage (cfg0.slots t 5)
abbrev ms0_6 (t : Fin cfg0.N) : Memref sig .tc .vmem S24x3072 .bf16 := win0_6.stage (cfg0.slots t 6)
abbrev ms0_7 (t : Fin cfg0.N) : Memref sig .tc .vmem S24x3072 .fp8e4m3 := win0_7.stage (cfg0.slots t 7)
abbrev ms0_8 (t : Fin cfg0.N) : Memref sig .tc .vmem S1x24 .f32 := win0_8.stage (cfg0.slots t 8)
abbrev ms0_9 (t : Fin cfg0.N) : Memref sig .tc .vmem S24x6144 .fp8e4m3 := win0_9.stage (cfg0.slots t 9)
abbrev ms0_10 (t : Fin cfg0.N) : Memref sig .tc .vmem S1x24 .f32 := win0_10.stage (cfg0.slots t 10)
/-- Input 0's block. -/
abbrev bl0 (c : Dev nD) (t : Fin cfg0.N) : Vec F S12 .f32 := iblk m c 0 t
/-- Input 1's block. -/
abbrev bl1 (c : Dev nD) (t : Fin cfg0.N) : Vec F S1x3072 .f32 := iblk m c 1 t
/-- Input 2's block. -/
abbrev bl2 (c : Dev nD) (t : Fin cfg0.N) : Vec F S1x6144 .f32 := iblk m c 2 t
/-- Input 3's block. -/
abbrev bl3 (c : Dev nD) (t : Fin cfg0.N) : Vec F S1x6144 .f32 := iblk m c 3 t
/-- Input 4's block. -/
abbrev bl4 (c : Dev nD) (t : Fin cfg0.N) : Vec F S1x3072 .f32 := iblk m c 4 t
/-- Input 5's block. -/
abbrev bl5 (c : Dev nD) (t : Fin cfg0.N) : Vec F S24x3072 .f32 := iblk m c 5 t
/-- Result 0. -/
abbrev res6 (c : Dev nD) (t : Fin cfg0.N) : Vec F S24x3072 .bf16 := outR c (V m c main_arg3) (V m c main_arg5) (V m c main_arg7) (bl0 m c t) (bl1 m c t) (bl2 m c t) (bl3 m c t) (bl4 m c t) (bl5 m c t)
/-- Result 1. -/
abbrev res7 (c : Dev nD) (t : Fin cfg0.N) : Vec F S24x3072 .fp8e4m3 := top1 (lhs1 (bl1 m c t) (bl5 m c t))
/-- Result 2. -/
abbrev res8 (c : Dev nD) (t : Fin cfg0.N) : Vec F S1x24 .f32 := s1R c (V m c main_arg3) (V m c main_arg5) (bl0 m c t) (bl1 m c t) (bl2 m c t) (bl3 m c t) (bl5 m c t)
/-- Result 3. -/
abbrev res9 (c : Dev nD) (t : Fin cfg0.N) : Vec F S24x6144 .fp8e4m3 := top2 (lhsA c (V m c main_arg3) (V m c main_arg5) (bl0 m c t) (bl1 m c t) (bl2 m c t) (bl3 m c t) (bl5 m c t))
/-- Result 4. -/
abbrev res10 (c : Dev nD) (t : Fin cfg0.N) : Vec F S1x24 .f32 := s2R c (V m c main_arg3) (V m c main_arg5) (bl0 m c t) (bl1 m c t) (bl2 m c t) (bl3 m c t) (bl5 m c t)

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => bl0 m c t
    | ⟨1, _⟩ => bl1 m c t
    | ⟨2, _⟩ => bl2 m c t
    | ⟨3, _⟩ => bl3 m c t
    | ⟨4, _⟩ => bl4 m c t
    | ⟨5, _⟩ => bl5 m c t
    | ⟨6, _⟩ => res6 m c t
    | ⟨7, _⟩ => res7 m c t
    | ⟨8, _⟩ => res8 m c t
    | ⟨9, _⟩ => res9 m c t
    | ⟨10, _⟩ => res10 m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = bl0 m c t := by dsimp only [dats]
theorem after0_1 (c : Dev nD) (t : Fin cfg0.N) : (dats m 0 c).after 1 t = bl1 m c t := by dsimp only [dats]
theorem after0_2 (c : Dev nD) (t : Fin cfg0.N) : (dats m 0 c).after 2 t = bl2 m c t := by dsimp only [dats]
theorem after0_3 (c : Dev nD) (t : Fin cfg0.N) : (dats m 0 c).after 3 t = bl3 m c t := by dsimp only [dats]
theorem after0_4 (c : Dev nD) (t : Fin cfg0.N) : (dats m 0 c).after 4 t = bl4 m c t := by dsimp only [dats]
theorem after0_5 (c : Dev nD) (t : Fin cfg0.N) : (dats m 0 c).after 5 t = bl5 m c t := by dsimp only [dats]
theorem after0_6 (c : Dev nD) (t : Fin cfg0.N) : (dats m 0 c).after 6 t = res6 m c t := by dsimp only [dats]
theorem after0_7 (c : Dev nD) (t : Fin cfg0.N) : (dats m 0 c).after 7 t = res7 m c t := by dsimp only [dats]
theorem after0_8 (c : Dev nD) (t : Fin cfg0.N) : (dats m 0 c).after 8 t = res8 m c t := by dsimp only [dats]
theorem after0_9 (c : Dev nD) (t : Fin cfg0.N) : (dats m 0 c).after 9 t = res9 m c t := by dsimp only [dats]
theorem after0_10 (c : Dev nD) (t : Fin cfg0.N) : (dats m 0 c).after 10 t = res10 m c t := by dsimp only [dats]
theorem before0_0 (c : Dev nD) (t : Fin cfg0.N) (d) : (dats m 0 c).before 0 t d = bl0 m c t :=
  ((dats m 0 c).before_in_eq_fetched 0 rfl (fun _ => rfl) (fun _ _ _ => rfl) (fun t => by rw [after0_0]; unfold Dat.blockOf; rw [A_eq]; try rfl) t d).trans
    (by unfold Dat.fetched Dat.blockOf; rw [A_eq]; try rfl)
theorem before0_1 (c : Dev nD) (t : Fin cfg0.N) (d) : (dats m 0 c).before 1 t d = bl1 m c t :=
  ((dats m 0 c).before_in_eq_fetched 1 rfl (fun _ => rfl) (fun _ _ _ => rfl) (fun t => by rw [after0_1]; unfold Dat.blockOf; rw [A_eq]; try rfl) t d).trans
    (by unfold Dat.fetched Dat.blockOf; rw [A_eq]; try rfl)
theorem before0_2 (c : Dev nD) (t : Fin cfg0.N) (d) : (dats m 0 c).before 2 t d = bl2 m c t :=
  ((dats m 0 c).before_in_eq_fetched 2 rfl (fun _ => rfl) (fun _ _ _ => rfl) (fun t => by rw [after0_2]; unfold Dat.blockOf; rw [A_eq]; try rfl) t d).trans
    (by unfold Dat.fetched Dat.blockOf; rw [A_eq]; try rfl)
theorem before0_3 (c : Dev nD) (t : Fin cfg0.N) (d) : (dats m 0 c).before 3 t d = bl3 m c t :=
  ((dats m 0 c).before_in_eq_fetched 3 rfl (fun _ => rfl) (fun _ _ _ => rfl) (fun t => by rw [after0_3]; unfold Dat.blockOf; rw [A_eq]; try rfl) t d).trans
    (by unfold Dat.fetched Dat.blockOf; rw [A_eq]; try rfl)
theorem before0_4 (c : Dev nD) (t : Fin cfg0.N) (d) : (dats m 0 c).before 4 t d = bl4 m c t :=
  ((dats m 0 c).before_in_eq_fetched 4 rfl (fun _ => rfl) (fun _ _ _ => rfl) (fun t => by rw [after0_4]; unfold Dat.blockOf; rw [A_eq]; try rfl) t d).trans
    (by unfold Dat.fetched Dat.blockOf; rw [A_eq]; try rfl)
theorem before0_5 (c : Dev nD) (t : Fin cfg0.N) (d) : (dats m 0 c).before 5 t d = bl5 m c t :=
  ((dats m 0 c).before_in_eq_fetched 5 rfl (fun _ => rfl) (fun _ _ _ => rfl) (fun t => by rw [after0_5]; unfold Dat.blockOf; rw [A_eq]; try rfl) t d).trans
    (by unfold Dat.fetched Dat.blockOf; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5, after0_6, after0_7, after0_8, after0_9, after0_10]
  rw [show (dats m 0 c).Φ t.castSucc = Pipeline.ΦD osem0 spec0 H0 (V m) c from rfl, PhiD0_eq]
  simp only [before0_0, before0_1, before0_2, before0_3, before0_4, before0_5]
  unfold Dat.owesAt Pipeline.owesWithin
  rw [show (dats m 0 c).owed t.castSucc = 0 from rfl, show (dats m 0 c).owed t.succ = 0 from rfl]
  iintro ⟨⟨⟨HS, HS1, HS2, HS3, HS4⟩, Hg, HC, ⟨Hm7, Hm8, Hm9⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HR := (ring_open c (V m c main_arg3) (V m c main_arg5) (V m c main_arg7)) $$ [HS HC Hm7 Hm8 Hm9]
  · isplitl [HS]; · iexact HS
    isplitl [HC]; · iexact HC
    isplitl [Hm7]; · iexact Hm7
    isplitl [Hm8]; · iexact Hm8
    iexact Hm9
  icases HR with ⟨HR, HA⟩
  iapply (body_run (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10))
    c (V m c main_arg3) (V m c main_arg5) (V m c main_arg7) (bl0 m c t) (bl1 m c t) (bl2 m c t) (bl3 m c t) (bl4 m c t) (bl5 m c t) W _)
  isplitl [HR HW HS1 HS2 HS3 HS4 H0 H1 H2 H3 H4 H5 H6 H7 H8 H9 H10]
  · isplitl [HR]; · iexact HR
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS1]; · iexact HS1
    isplitl [HS2]; · iexact HS2
    isplitl [HS3]; · iexact HS3
    isplitl [HS4]; · iexact HS4
    iexact HW
  iintro ⟨HR, H0, H1, H2, H3, H4, H5, H6, H7, H8, H9, H10, HS1, HS2, HS3, HS4, ⟨%W', HW'⟩⟩
  ihave HQ := (ring_close c (V m c main_arg3) (V m c main_arg5) (V m c main_arg7)) $$ [HR HA]
  · isplitl [HR]; · iexact HR
    iexact HA
  icases HQ with ⟨HS, HC, Hm7, Hm8, Hm9⟩
  isplitl [HS HS1 HS2 HS3 HS4 Hg HC Hm7 Hm8 Hm9]
  · isplitl [HS HS1 HS2 HS3 HS4]
    · isplitl [HS]; · iexact HS
      isplitl [HS1]; · iexact HS1
      isplitl [HS2]; · iexact HS2
      isplitl [HS3]; · iexact HS3
      iexact HS4
    isplitl [Hg]; · iexact Hg
    isplitl [HC]; · iexact HC
    isplitl [Hm7]; · iexact Hm7
    isplitl [Hm8]; · iexact Hm8
    iexact Hm9
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the call ends, nothing faults, the arguments are unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  frame_of m ρ (dats m) (A_eq m) (run_main m ρ)

end Cert.Kernel.Hand

end
-- ==== Proof.ValueNormIdeal.lean ====
module

public import proofs.«01_k».proof.Proof.SpecIdeal
public import proofs.«01_k».proof.Proof.Gen.ReferenceIdeal.Skeleton
public import Idealize.ShloMosaic.Lib.Pointwise

@[expose] public section

set_option maxRecDepth 16384

noncomputable section

namespace Cert.KernelIdeal.Hand

open Idealize.ShloMosaic
open Cert.KernelIdeal Cert.KernelIdeal.Gen

/-! ### Sums and maxima taken lane by lane -/

/-- A sum over `128 * n` positions, taken lane by lane. -/
theorem sum_lanes (g : ℕ → EReal) (n : ℕ) :
    ∑ k : Fin (128 * n), g k.val = ∑ l : Fin 128, ∑ t ∈ Finset.range n, g (128 * t + l.val) := by
  rw [Finset.sum_comm, Fin.sum_univ_eq_sum_range (fun k => g k)]
  induction n with
  | zero => simp
  | succ n ih =>
    rw [Nat.mul_succ, Finset.sum_range_add, ih, Finset.sum_range_succ _ n]
    exact congrArg _ (Fin.sum_univ_eq_sum_range (fun l => g (128 * n + l)) 128).symm

/-- The greatest of zero and of `n` values. -/
def maxTo (g : ℕ → EReal) : ℕ → EReal
  | 0 => 0
  | n + 1 => max (maxTo g n) (g n)

theorem maxTo_le (g : ℕ → EReal) (n : ℕ) (b : EReal) : maxTo g n ≤ b ↔ 0 ≤ b ∧ ∀ t < n, g t ≤ b := by
  induction n with
  | zero => simp [maxTo]
  | succ n ih =>
    rw [maxTo, max_le_iff, ih, Nat.forall_lt_succ_right, and_assoc]

theorem maxTo_24 (g : ℕ → EReal) : maxTo g 24 = max (max (max (max (max (max (max (max (max (max (max (max (max (max (max (max (max (max (max (max (max (max (max (max (0) (g 0)) (g 1)) (g 2)) (g 3)) (g 4)) (g 5)) (g 6)) (g 7)) (g 8)) (g 9)) (g 10)) (g 11)) (g 12)) (g 13)) (g 14)) (g 15)) (g 16)) (g 17)) (g 18)) (g 19)) (g 20)) (g 21)) (g 22)) (g 23) := rfl

theorem absf_nonneg (x : Ideal .f32) : (0 : EReal) ≤ FloatOps.absf x := by
  show (0 : EReal) ≤ max x (-x)
  rcases le_total (0 : EReal) x with h | h
  · exact h.trans (le_max_left _ _)
  · exact (EReal.neg_nonneg.2 h).trans (le_max_right _ _)

/-- The maximum over all positions of values not below zero, taken lane by lane. -/
theorem max_lanes (g : ℕ → EReal) (hg : ∀ k, 0 ≤ g k) (n : ℕ) (hn : 0 < n) (N : ℕ) (hN : N = 128 * n) :
    Finset.univ.fold max (⊥ : EReal) (fun l : Fin 128 => maxTo (fun t => g (128 * t + l.val)) n)
      = Finset.univ.fold max (⊥ : EReal) (fun k : Fin N => g k.val) := by
  subst hN
  refine eq_of_forall_ge_iff fun b => ?_
  rw [Finset.fold_max_le, Finset.fold_max_le]
  refine and_congr_right fun _ => ⟨fun h k _ => ?_, fun h l _ => ?_⟩
  · have h1 := ((maxTo_le _ n b).1 (h ⟨k.val % 128, Nat.mod_lt _ (by decide)⟩ (Finset.mem_univ _))).2 (k.val / 128) (by have := k.isLt; omega)
    simpa only [Nat.div_add_mod] using h1
  · refine (maxTo_le _ n b).2 ⟨(hg 0).trans (h ⟨0, by omega⟩ (Finset.mem_univ _)), fun t ht => h ⟨128 * t + l.val, by have := l.isLt; omega⟩ (Finset.mem_univ _)⟩

theorem ofBits_negInf : Ideal.ofBits .f32 0xFF800000#32 = ⊥ := by
  simp [Ideal.ofBits, Ideal.ieee]

/-! ### The first normalisation and its codes -/

theorem hB_apply (w6 : Vec Ideal S24x3072 .f32) (j : Fin 6) (r : Fin 24) (c : Fin 512) (k : Fin 3072) (hk : k.val = 512 * j.val + c.val) :
    hB w6 j (ix2 r c) = w6 (ix2 r k) :=
  congrArg w6 (funext fun a => Fin.ext (by
    match a with
    | ⟨0, _⟩ => show 0 + 1 * r.val = r.val; omega
    | ⟨1, _⟩ => show 512 * j.val + 1 * c.val = k.val; omega))

theorem nB_apply (w2 : Vec Ideal S1x3072 .f32) (j : Fin 6) (c : Fin 512) (k : Fin 3072) (hk : k.val = 512 * j.val + c.val) :
    nB w2 j (ix2 0 c) = w2 (ix2 0 k) :=
  congrArg w2 (funext fun a => Fin.ext (by
    match a with
    | ⟨0, _⟩ => show 0 + 1 * 0 = 0; omega
    | ⟨1, _⟩ => show 512 * j.val + 1 * c.val = k.val; omega))

theorem ext_col {α : Type} (a b : S24x1.Idx → α) (h : ∀ r : Fin 24, a (ix2 r 0) = b (ix2 r 0)) : a = b := by
  funext j
  have e : j = ix2 (j 0 : Fin 24) (0 : Fin 1) := funext fun i => by
    match i with
    | ⟨0, _⟩ => rfl
    | ⟨1, _⟩ => exact Subsingleton.elim (α := Fin 1) _ _
  rw [e]; exact h _

theorem ext_mat {α : Type} {n m : ℕ} (a b : (⟨2, ![n, m]⟩ : Shape).Idx → α) (h : ∀ (r : Fin n) (k : Fin m), a (ix2 r k) = b (ix2 r k)) : a = b := by
  funext j
  rw [eq_ix2 j]; exact h _ _

theorem lit0 : ((0 : Fin 6) : ℕ) = 0 := rfl
theorem lit1 : ((1 : Fin 6) : ℕ) = 1 := rfl
theorem lit2 : ((2 : Fin 6) : ℕ) = 2 := rfl
theorem lit3 : ((3 : Fin 6) : ℕ) = 3 := rfl
theorem lit4 : ((4 : Fin 6) : ℕ) = 4 := rfl
theorem lit5 : ((5 : Fin 6) : ℕ) = 5 := rfl

/-- The mean of squares, as the reference takes it, before the root. -/
def denR (w6 : Vec Ideal S24x3072 .f32) : FVec Ideal S24x1 .f32 :=
  sqrt (addf (divf (shapeCast S24x1 (multiReduction (F := Ideal) .add [1] S24 (mulf w6 w6) 0x00000000#32 Cert.ReferenceIdeal.Facts₀.reduces_S24x3072_S24 (.inl rfl) rfl) shapeCasts_S24_S24x1)
    (broadcast S24x1 (Scalar.ofBits .f32 0x45400000#32))) (broadcast S24x1 (Scalar.ofBits .f32 0x3727C5AC#32)))

/-- A row of the stream with zeros after its end. -/
def rowN (x : Vec Ideal S24x3072 .f32) (r : Fin 24) (k : ℕ) : EReal := if h : k < 3072 then x (ix2 r ⟨k, h⟩) else 0

theorem hB_rowN (w6 : Vec Ideal S24x3072 .f32) (j : Fin 6) (r : Fin 24) (c : Fin 512) : hB w6 j (ix2 r c) = rowN w6 r (512 * j.val + c.val) := by
  have h : 512 * j.val + c.val < 3072 := by omega
  rw [rowN, dif_pos h]; exact hB_apply w6 j r c _ rfl

theorem rms_eq (w6 : Vec Ideal S24x3072 .f32) : rms w6 = denR w6 := by
  refine ext_col _ _ fun r => ?_
  unfold rms denR
  pointwise [k0_pay12, k0_pay13, k0_pay14, k0_pay15]
  have key : ∀ f : Fin 128 → EReal, (∀ l : Fin 128, f l = ∑ t ∈ Finset.range 24, rowN w6 r (128 * t + l.val) * rowN w6 r (128 * t + l.val)) →
      ∑ l, f l = ∑ k : Fin 3072, w6 (ix2 r k) * w6 (ix2 r k) := fun f hf => by
    rw [Finset.sum_congr rfl fun l _ => hf l, ← sum_lanes (fun k => rowN w6 r k * rowN w6 r k) 24]
    exact Finset.sum_congr rfl fun k _ => by simp only [rowN, dif_pos k.isLt]
  refine congrArg (fun z => Ideal.sqrt (Ideal.div z _ + _)) (key _ fun l => ?_)
  simp only [hB_rowN, lit0, lit1, lit2, lit3, lit4, lit5, Finset.sum_range_succ, Finset.sum_range_zero, Nat.reduceMul, ← Nat.add_assoc, Nat.reduceAdd, zero_add]

theorem nrm_eq (w2 : Vec Ideal S1x3072 .f32) (w6 : Vec Ideal S24x3072 .f32) (j : Fin 6) (r : Fin 24) (c : Fin 512) (k : Fin 3072) (hk : k.val = 512 * j.val + c.val) :
    nrm w2 w6 j (ix2 r c) = Cert.ReferenceIdeal.Gen.k0_pay3 w6 w2 (ix2 r k) := by
  have e : Cert.ReferenceIdeal.Gen.k0_pay3 w6 w2 = mulf (divf w6 (broadcastTo S24x3072 (denR w6) Cert.ReferenceIdeal.Facts₀.broadcasts_S24x1_S24x3072))
      (broadcastTo S24x3072 (shapeCast S1x3072 w2 Cert.ReferenceIdeal.Facts₀.shapeCasts_S1x3072_S1x3072) Cert.ReferenceIdeal.Facts₀.broadcasts_S1x3072_S24x3072) := rfl
  rw [e]
  unfold nrm
  rw [rms_eq]
  pointwise [k0_pay19, k0_pay20]
  rw [hB_apply w6 j r c k hk, nB_apply w2 j c k hk]

/-- The scale of a row from its greatest absolute value. -/
def scaleOf (a : FVec Ideal S24x1 .f32) : FVec Ideal S24x1 .f32 :=
  select (cmpf .oeq a (broadcast S24x1 (Scalar.ofBits .f32 0x00000000#32))) (broadcast S24x1 (Scalar.ofBits .f32 0x3F800000#32)) (divf a (broadcast S24x1 (Scalar.ofBits .f32 0x43E00000#32)))

/-- The greatest absolute value of a row of 3072, as the reference takes it. -/
def amaxR (v : FVec Ideal S24x3072 .f32) : FVec Ideal S24x1 .f32 :=
  shapeCast S24x1 (multiReduction (F := Ideal) .maximumf [1] S24 (absf v) 0xFF800000#32 Cert.ReferenceIdeal.Facts₀.reduces_S24x3072_S24 (.inl rfl) rfl) shapeCasts_S24_S24x1

theorem amaxR_apply (v : FVec Ideal S24x3072 .f32) (r : Fin 24) :
    amaxR v (ix2 r 0) = Finset.univ.fold max (⊥ : EReal) fun k : Fin 3072 => FloatOps.absf (F := Ideal) (φ := .f32) (v (ix2 r k)) := by
  rw [← ofBits_negInf]
  pointwise [amaxR]

theorem pay19_row (w2 : Vec Ideal S1x3072 .f32) (w6 : Vec Ideal S24x3072 .f32) (j : Fin 6) (r : Fin 24) (c : Fin 512) :
    k0_pay19 (rms w6) (hB w6 j) (nB w2 j) (ix2 r c) = rowN (Cert.ReferenceIdeal.Gen.k0_pay3 w6 w2) r (512 * j.val + c.val) := by
  have h : 512 * j.val + c.val < 3072 := by omega
  rw [rowN, dif_pos h, ← nrm_eq w2 w6 j r c ⟨_, h⟩ rfl]
  unfold nrm
  pointwise [k0_pay20]

theorem pay21_19 (R : FVec Ideal S24x1 .f32) (h : Vec Ideal S24x512 .f32) (n : Vec Ideal S1x512 .f32) : k0_pay21 R h n = k0_pay19 R h n := rfl
theorem pay26_19 (R : FVec Ideal S24x1 .f32) (h : Vec Ideal S24x512 .f32) (n : Vec Ideal S1x512 .f32) : k0_pay26 R h n = k0_pay19 R h n := rfl
theorem pay28_19 (R : FVec Ideal S24x1 .f32) (h : Vec Ideal S24x512 .f32) (n : Vec Ideal S1x512 .f32) : k0_pay28 R h n = k0_pay19 R h n := rfl
theorem pay32_19 (R : FVec Ideal S24x1 .f32) (h : Vec Ideal S24x512 .f32) (n : Vec Ideal S1x512 .f32) : k0_pay32 (k0_pay31 R h) n = k0_pay19 R h n := rfl

theorem sc1_eq (w2 : Vec Ideal S1x3072 .f32) (w6 : Vec Ideal S24x3072 .f32) : sc1 w2 w6 = Cert.ReferenceIdeal.Gen.k0_pay4 w6 w2 := by
  have e : Cert.ReferenceIdeal.Gen.k0_pay4 w6 w2 = scaleOf (amaxR (Cert.ReferenceIdeal.Gen.k0_pay3 w6 w2)) := rfl
  rw [e]
  refine congrArg scaleOf (ext_col _ _ fun r => ?_)
  rw [amaxR_apply]
  have key : ∀ f : Fin 128 → EReal, (∀ l : Fin 128, f l = maxTo (fun t => FloatOps.absf (F := Ideal) (φ := .f32) (rowN (Cert.ReferenceIdeal.Gen.k0_pay3 w6 w2) r (128 * t + l.val))) 24) →
      Finset.univ.fold max (Ideal.ofBits .f32 0xFF800000#32) f
        = Finset.univ.fold max (⊥ : EReal) fun k : Fin 3072 => FloatOps.absf (F := Ideal) (φ := .f32) (Cert.ReferenceIdeal.Gen.k0_pay3 w6 w2 (ix2 r k)) := fun f hf => by
    rw [show f = _ from funext hf, ofBits_negInf,
      max_lanes (fun k => FloatOps.absf (F := Ideal) (φ := .f32) (rowN (Cert.ReferenceIdeal.Gen.k0_pay3 w6 w2) r k)) (fun _ => absf_nonneg _) 24 (by decide) 3072 rfl]
    refine congrArg (fun h => Finset.univ.fold max (⊥ : EReal) h) (funext fun k => ?_)
    simp only [rowN, dif_pos k.isLt]
  simp only [pay32_19]
  pointwise [k0_pay16, k0_pay24, k0_pay23, k0_pay25, k0_pay30]
  refine key _ fun l => ?_
  simp only [maxTo_24, pay21_19, pay26_19, pay28_19, pay19_row, lit0, lit1, lit2, lit3, lit4, lit5, Nat.reduceMul, ← Nat.add_assoc, Nat.reduceAdd, zero_add]

/-- The codes of a row block, rows past the last one at zero. -/
theorem code_top (R : FVec Ideal S24x1 .f32) (x : Vec Ideal S24x512 .f32) (r : Fin 24) (c : Fin 512) :
    k0_pay40 R x (ix2 (⟨r.val, by omega⟩ : Fin 32) c) = min (Ideal.ofBits .f32 0x43E00000#32) (max (Ideal.ofBits .f32 0xC3E00000#32) (Ideal.div (x (ix2 r c)) (R (ix2 r 0)))) := by
  pointwise [k0_pay40]

theorem lhs1_top (w2 : Vec Ideal S1x3072 .f32) (w6 : Vec Ideal S24x3072 .f32) (r : Fin 24) (k : Fin 3072) :
    lhs1 w2 w6 (ix2 (⟨r.val, by omega⟩ : Fin 32) k) = Cert.ReferenceIdeal.Gen.k0_pay5 w6 w2 (ix2 r k) := by
  have hk := Nat.div_add_mod k.val 512
  refine (cols_apply (d := ![32, 3072]) (tsz := S32x512.size) (n := 6) rfl rfl (fun j => k0_pay40 (sc1 w2 w6) (nrm w2 w6 j)) _
    (⟨k.val / 512, by omega⟩ : Fin 6) (ix2 (⟨r.val, by omega⟩ : Fin 32) (⟨k.val % 512, Nat.mod_lt _ (by decide)⟩ : Fin 512)) rfl hk.symm).trans ?_
  rw [code_top, nrm_eq w2 w6 _ r _ k hk.symm, sc1_eq]
  pointwise [Cert.ReferenceIdeal.Gen.k0_pay5]

theorem top1_eq (w2 : Vec Ideal S1x3072 .f32) (w6 : Vec Ideal S24x3072 .f32) : top1 (lhs1 w2 w6) = Cert.ReferenceIdeal.Gen.k0_pay5 w6 w2 := by
  refine ext_mat (n := 24) (m := 3072) _ _ fun r k => ?_
  rw [← lhs1_top]
  exact congrArg (lhs1 w2 w6) (funext fun a => Fin.ext (by
    match a with
    | ⟨0, _⟩ => show 0 + 1 * r.val = r.val; omega
    | ⟨1, _⟩ => show 0 + 1 * k.val = k.val; omega))

end Cert.KernelIdeal.Hand
end
-- ==== Proof.ValueActIdeal.lean ====
module

public import proofs.«01_k».proof.Proof.ValueNormIdeal
public import proofs.«01_k».proof.Proof.BodyIdeal

@[expose] public section

set_option maxRecDepth 16384

noncomputable section

namespace Cert.KernelIdeal.Hand

open Idealize.ShloMosaic
open Cert.KernelIdeal Cert.KernelIdeal.Gen

/-! ### The activations -/

/-- The activations of the reference, from its arguments. -/
def actR (m0 : Ideal .f32) (w2 : Vec Ideal S1x3072 .f32) (w6 : Vec Ideal S24x3072 .f32) (w3 w4 : Vec Ideal S1x6144 .f32) (W7 W8 : Vec Ideal S3072x6144 .fp8e4m3) :
    FVec Ideal S24x6144 .f32 :=
  Cert.ReferenceIdeal.Gen.k0_pay8 m0 (Cert.ReferenceIdeal.Gen.k0_pay4 w6 w2) (Cert.ReferenceIdeal.Gen.k0_pay5 w6 w2)
    (Cert.ReferenceIdeal.Gen.k0_pay6 w6 w2 W7) (Cert.ReferenceIdeal.Gen.k0_pay7 w3) W8 w4

/-- The product of a row of codes with a column of a matrix, scaled by the row and by the column. -/
def proj (S : FVec Ideal S24x1 .f32) (L : FVec Ideal S24x3072 .fp8e4m3) (W : Vec Ideal S3072x6144 .fp8e4m3) (w : Vec Ideal S1x6144 .f32) (r : Fin 24) (q : Fin 6144) : EReal :=
  (∑ k : Fin 3072, L (ix2 r k) * W (ix2 k q)) * S (ix2 r 0) * w (ix2 0 q)

theorem actR_apply (m0 : Ideal .f32) (w2 : Vec Ideal S1x3072 .f32) (w6 : Vec Ideal S24x3072 .f32) (w3 w4 : Vec Ideal S1x6144 .f32) (W7 W8 : Vec Ideal S3072x6144 .fp8e4m3)
    (r : Fin 24) (q : Fin 6144) :
    actR m0 w2 w6 w3 w4 W7 W8 (ix2 r q)
      = proj (Cert.ReferenceIdeal.Gen.k0_pay4 w6 w2) (Cert.ReferenceIdeal.Gen.k0_pay5 w6 w2) W7 w3 r q * m0
        * FloatOps.logistic (F := Ideal) (φ := .f32) (proj (Cert.ReferenceIdeal.Gen.k0_pay4 w6 w2) (Cert.ReferenceIdeal.Gen.k0_pay5 w6 w2) W7 w3 r q * m0)
        * proj (Cert.ReferenceIdeal.Gen.k0_pay4 w6 w2) (Cert.ReferenceIdeal.Gen.k0_pay5 w6 w2) W8 w4 r q := by
  unfold actR proj
  pointwise [Cert.ReferenceIdeal.Gen.k0_pay8, Cert.ReferenceIdeal.Gen.k0_pay6, Cert.ReferenceIdeal.Gen.k0_pay7]

theorem dotA_apply (l : Vec Ideal S32x3072 .fp8e4m3) (b : Vec Ideal S3072x512 .fp8e4m3) (r : Fin 24) (x : Fin 512) :
    dotA l b (ix2 r x) = ∑ k : Fin 3072, l (ix2 (⟨r.val, by omega⟩ : Fin 32) k) * b (ix2 k x) := by
  unfold dotA
  pointwise

theorem src7_apply (c : Dev nD) (f : C7 (F := Ideal) c) (o : ℕ) (h : InG ![0, o]) (k : Fin 3072) (x : Fin 512) (q : Fin 6144) (hq : q.val = o + x.val) :
    ((src7 ![0, o] h).view.read (Elt Ideal) f : Vec Ideal S3072x512 .fp8e4m3) (ix2 k x) = (f : Vec Ideal S3072x6144 .fp8e4m3) (ix2 k q) :=
  congrArg (f : Vec Ideal S3072x6144 .fp8e4m3) (funext fun a => Fin.ext (by
    match a with
    | ⟨0, _⟩ => show 0 + 1 * k.val = k.val; omega
    | ⟨1, _⟩ => show o + 1 * x.val = q.val; omega))

theorem src8_apply (c : Dev nD) (f : C8 (F := Ideal) c) (o : ℕ) (h : InG ![0, o]) (k : Fin 3072) (x : Fin 512) (q : Fin 6144) (hq : q.val = o + x.val) :
    ((src8 ![0, o] h).view.read (Elt Ideal) f : Vec Ideal S3072x512 .fp8e4m3) (ix2 k x) = (f : Vec Ideal S3072x6144 .fp8e4m3) (ix2 k q) :=
  congrArg (f : Vec Ideal S3072x6144 .fp8e4m3) (funext fun a => Fin.ext (by
    match a with
    | ⟨0, _⟩ => show 0 + 1 * k.val = k.val; omega
    | ⟨1, _⟩ => show o + 1 * x.val = q.val; omega))

theorem win_row {n : ℕ} (w : (⟨2, ![1, n]⟩ : Shape).Idx → EReal) (off : Fin 2 → ℕ) (o : ℕ) (ho : off = ![0, o]) (inb : ∀ a, off a + S1x512.size a ≤ (⟨2, ![1, n]⟩ : Shape).size a)
    (x : Fin 512) (q : Fin n) (hq : q.val = o + x.val) : (VecWindow.window (s := ⟨2, ![1, n]⟩) w off S1x512.size inb : S1x512.Idx → EReal) (ix2 0 x) = w (ix2 0 q) := by
  subst ho
  exact congrArg w (funext fun a => Fin.ext (by
    match a with
    | ⟨0, _⟩ => show 0 + 1 * 0 = 0; omega
    | ⟨1, _⟩ => show o + 1 * x.val = q.val; omega))

theorem actW_eq (c : Dev nD) (f7 : C7 (F := Ideal) c) (f8 : C8 (F := Ideal) c) (w1 : Vec Ideal S12 .f32) (w2 : Vec Ideal S1x3072 .f32) (w3 w4 : Vec Ideal S1x6144 .f32) (w6 : Vec Ideal S24x3072 .f32)
    (p : Fin k0_t1_loop.trips) (r : Fin 24) (x : Fin 512) (q : Fin 6144) (hq : q.val = 512 * p.val + x.val) :
    actW c f7 f8 w1 w2 w3 w4 w6 p (ix2 r x) = actR (mul0 w1) w2 w6 w3 w4 f7 f8 (ix2 r q) := by
  rw [actR_apply]
  have d7 : dotA (lhs1 w2 w6) ((src7 ![0, 512 * p.val] (inG (trips1 p))).view.read (Elt Ideal) f7) (ix2 r x)
      = ∑ k : Fin 3072, Cert.ReferenceIdeal.Gen.k0_pay5 w6 w2 (ix2 r k) * (f7 : Vec Ideal S3072x6144 .fp8e4m3) (ix2 k q) := by
    rw [dotA_apply]
    exact Finset.sum_congr rfl fun k _ => by rw [lhs1_top, src7_apply c f7 _ _ k x q hq]
  have d8 : dotA (lhs1 w2 w6) ((src8 ![0, 512 * p.val] (inG (trips1 p))).view.read (Elt Ideal) f8) (ix2 r x)
      = ∑ k : Fin 3072, Cert.ReferenceIdeal.Gen.k0_pay5 w6 w2 (ix2 r k) * (f8 : Vec Ideal S3072x6144 .fp8e4m3) (ix2 k q) := by
    rw [dotA_apply]
    exact Finset.sum_congr rfl fun k _ => by rw [lhs1_top, src8_apply c f8 _ _ k x q hq]
  have e3 := win_row w3 _ _ (k0_off18_eq p) (k0_off18_inb p) x q hq
  have e4 := win_row w4 _ _ (k0_off18_eq p) (k0_off18_inb p) x q hq
  unfold actW actT tileA proj
  rw [← d7, ← d8, ← e3, ← e4, sc1_eq]
  generalize dotA (lhs1 w2 w6) ((src7 ![0, 512 * p.val] (inG (trips1 p))).view.read (Elt Ideal) f7) = D7
  generalize dotA (lhs1 w2 w6) ((src8 ![0, 512 * p.val] (inG (trips1 p))).view.read (Elt Ideal) f8) = D8
  pointwise [k0_pay4]

/-! ### The scale and the codes of the activations -/

/-- The greatest absolute value of a row of 6144, as the reference takes it. -/
def amaxA (v : FVec Ideal S24x6144 .f32) : FVec Ideal S24x1 .f32 :=
  shapeCast S24x1 (multiReduction (F := Ideal) .maximumf [1] S24 (absf v) 0xFF800000#32 Cert.ReferenceIdeal.Facts₀.reduces_S24x6144_S24 (.inl rfl) rfl) shapeCasts_S24_S24x1

theorem amaxA_apply (v : FVec Ideal S24x6144 .f32) (r : Fin 24) :
    amaxA v (ix2 r 0) = Finset.univ.fold max (⊥ : EReal) fun k : Fin 6144 => FloatOps.absf (F := Ideal) (φ := .f32) (v (ix2 r k)) := by
  rw [← ofBits_negInf]
  pointwise [amaxA]

/-- A row of activations with zeros after its end. -/
def rowA (x : FVec Ideal S24x6144 .f32) (r : Fin 24) (k : ℕ) : EReal := if h : k < 6144 then x (ix2 r ⟨k, h⟩) else 0

theorem accA_apply (acc : FVec Ideal S24x128 .f32) (T : FVec Ideal S24x512 .f32) (r : Fin 24) (l : Fin 128) :
    accA acc T (ix2 r l) = max (max (max (max (acc (ix2 r l)) (FloatOps.absf (F := Ideal) (φ := .f32) (T (ix2 r (⟨l.val, by omega⟩ : Fin 512)))))
      (FloatOps.absf (F := Ideal) (φ := .f32) (T (ix2 r (⟨128 + l.val, by omega⟩ : Fin 512))))) (FloatOps.absf (F := Ideal) (φ := .f32) (T (ix2 r (⟨256 + l.val, by omega⟩ : Fin 512)))))
      (FloatOps.absf (F := Ideal) (φ := .f32) (T (ix2 r (⟨384 + l.val, by omega⟩ : Fin 512)))) := by
  unfold accA
  pointwise

theorem accAt_apply (T : Fin k0_t1_loop.trips → FVec Ideal S24x512 .f32) (v : FVec Ideal S24x6144 .f32)
    (hT : ∀ (p : Fin k0_t1_loop.trips) (r : Fin 24) (x : Fin 512) (q : Fin 6144), q.val = 512 * p.val + x.val → T p (ix2 r x) = v (ix2 r q)) (r : Fin 24) (l : Fin 128) :
    ∀ n, n ≤ 12 → accAt T (k0_pay44 (F := Ideal)) n (ix2 r l) = maxTo (fun t => FloatOps.absf (F := Ideal) (φ := .f32) (rowA v r (128 * t + l.val))) (4 * n) := by
  intro n
  induction n with
  | zero => intro _; show k0_pay44 (F := Ideal) (ix2 r l) = 0; pointwise [k0_pay44]
  | succ n ih =>
    intro hn
    have hl := l.isLt
    have e : accAt T (k0_pay44 (F := Ideal)) (n + 1) = accA (accAt T (k0_pay44 (F := Ideal)) n) (T ⟨n, hn⟩) := dif_pos (show n < k0_t1_loop.trips from hn)
    have g : ∀ (s : ℕ) (hs : s < 4) (x : Fin 512), x.val = 128 * s + l.val → T ⟨n, hn⟩ (ix2 r x) = rowA v r (128 * (4 * n + s) + l.val) := fun s hs x hx => by
      have h : 128 * (4 * n + s) + l.val < 6144 := by omega
      rw [rowA, dif_pos h]
      exact hT ⟨n, hn⟩ r x ⟨_, h⟩ (by show 128 * (4 * n + s) + l.val = 512 * n + x.val; omega)
    rw [e, accA_apply, ih (by omega), g 0 (by decide) _ (by show l.val = _; omega), g 1 (by decide) _ (by show 128 + l.val = _; omega), g 2 (by decide) _ (by show 256 + l.val = _; omega),
      g 3 (by decide) _ (by show 384 + l.val = _; omega)]
    rfl

theorem scA_eq (c : Dev nD) (f7 : C7 (F := Ideal) c) (f8 : C8 (F := Ideal) c) (w1 : Vec Ideal S12 .f32) (w2 : Vec Ideal S1x3072 .f32) (w3 w4 : Vec Ideal S1x6144 .f32) (w6 : Vec Ideal S24x3072 .f32) :
    scA c f7 f8 w1 w2 w3 w4 w6 = scaleOf (amaxA (actR (mul0 w1) w2 w6 w3 w4 f7 f8)) := by
  refine congrArg scaleOf (ext_col _ _ fun r => ?_)
  rw [amaxA_apply]
  have key : ∀ f : Fin 128 → EReal, (∀ l : Fin 128, f l = maxTo (fun t => FloatOps.absf (F := Ideal) (φ := .f32) (rowA (actR (mul0 w1) w2 w6 w3 w4 f7 f8) r (128 * t + l.val))) 48) →
      Finset.univ.fold max (Ideal.ofBits .f32 0xFF800000#32) f
        = Finset.univ.fold max (⊥ : EReal) fun k : Fin 6144 => FloatOps.absf (F := Ideal) (φ := .f32) (actR (mul0 w1) w2 w6 w3 w4 f7 f8 (ix2 r k)) := fun f hf => by
    rw [show f = _ from funext hf, ofBits_negInf,
      max_lanes (fun k => FloatOps.absf (F := Ideal) (φ := .f32) (rowA (actR (mul0 w1) w2 w6 w3 w4 f7 f8) r k)) (fun _ => absf_nonneg _) 48 (by decide) 6144 rfl]
    refine congrArg (fun h => Finset.univ.fold max (⊥ : EReal) h) (funext fun k => ?_)
    simp only [rowA, dif_pos k.isLt]
  have hacc := fun l => accAt_apply (actW c f7 f8 w1 w2 w3 w4 w6) _ (fun p r x q h => actW_eq c f7 f8 w1 w2 w3 w4 w6 p r x q h) r l 12 le_rfl
  generalize accAt (actW c f7 f8 w1 w2 w3 w4 w6) (k0_pay44 (F := Ideal)) 12 = A at hacc ⊢
  pointwise [k0_pay49]
  exact key _ hacc

end Cert.KernelIdeal.Hand
end
-- ==== Proof.ValueOutIdeal.lean ====
module

public import proofs.«01_k».proof.Proof.ValueActIdeal

@[expose] public section

set_option maxRecDepth 16384

noncomputable section

namespace Cert.KernelIdeal.Hand

open Idealize.ShloMosaic
open Cert.KernelIdeal Cert.KernelIdeal.Gen

/-! ### The codes of the activations -/

/-- The reference's scale and codes of the activations, from its arguments. -/
def scR (m0 : Ideal .f32) (w2 : Vec Ideal S1x3072 .f32) (w6 : Vec Ideal S24x3072 .f32) (w3 w4 : Vec Ideal S1x6144 .f32) (W7 W8 : Vec Ideal S3072x6144 .fp8e4m3) : FVec Ideal S24x1 .f32 :=
  Cert.ReferenceIdeal.Gen.k0_pay9 m0 (Cert.ReferenceIdeal.Gen.k0_pay4 w6 w2) (Cert.ReferenceIdeal.Gen.k0_pay5 w6 w2) (Cert.ReferenceIdeal.Gen.k0_pay6 w6 w2 W7) (Cert.ReferenceIdeal.Gen.k0_pay7 w3) W8 w4
def codR (m0 : Ideal .f32) (w2 : Vec Ideal S1x3072 .f32) (w6 : Vec Ideal S24x3072 .f32) (w3 w4 : Vec Ideal S1x6144 .f32) (W7 W8 : Vec Ideal S3072x6144 .fp8e4m3) : FVec Ideal S24x6144 .fp8e4m3 :=
  Cert.ReferenceIdeal.Gen.k0_pay10 m0 (Cert.ReferenceIdeal.Gen.k0_pay4 w6 w2) (Cert.ReferenceIdeal.Gen.k0_pay5 w6 w2) (Cert.ReferenceIdeal.Gen.k0_pay6 w6 w2 W7) (Cert.ReferenceIdeal.Gen.k0_pay7 w3) W8 w4

theorem scA_scR (c : Dev nD) (f7 : C7 (F := Ideal) c) (f8 : C8 (F := Ideal) c) (w1 : Vec Ideal S12 .f32) (w2 : Vec Ideal S1x3072 .f32) (w3 w4 : Vec Ideal S1x6144 .f32) (w6 : Vec Ideal S24x3072 .f32) :
    scA c f7 f8 w1 w2 w3 w4 w6 = scR (mul0 w1) w2 w6 w3 w4 f7 f8 := scA_eq c f7 f8 w1 w2 w3 w4 w6

theorem codR_apply (m0 : Ideal .f32) (w2 : Vec Ideal S1x3072 .f32) (w6 : Vec Ideal S24x3072 .f32) (w3 w4 : Vec Ideal S1x6144 .f32) (W7 W8 : Vec Ideal S3072x6144 .fp8e4m3) (r : Fin 24) (k : Fin 6144) :
    codR m0 w2 w6 w3 w4 W7 W8 (ix2 r k) = min (Ideal.ofBits .f32 0x43E00000#32) (max (Ideal.ofBits .f32 0xC3E00000#32)
      (Ideal.div (actR m0 w2 w6 w3 w4 W7 W8 (ix2 r k)) (scR m0 w2 w6 w3 w4 W7 W8 (ix2 r 0)))) := by
  unfold codR actR scR
  pointwise [Cert.ReferenceIdeal.Gen.k0_pay10]

theorem code_top2 (R : FVec Ideal S24x1 .f32) (x : Vec Ideal S1x24x128 .f32) (r : Fin 24) (l : Fin 128) :
    k0_pay58 R x (ix2 (⟨r.val, by omega⟩ : Fin 32) l) = min (Ideal.ofBits .f32 0x43E00000#32) (max (Ideal.ofBits .f32 0xC3E00000#32) (Ideal.div (x (ix3 0 r l)) (R (ix2 r 0)))) := by
  pointwise [k0_pay58]

theorem gB_apply (T : Fin k0_t1_loop.trips → FVec Ideal S24x512 .f32) (v : FVec Ideal S24x6144 .f32)
    (hT : ∀ (p : Fin k0_t1_loop.trips) (r : Fin 24) (x : Fin 512) (q : Fin 6144), q.val = 512 * p.val + x.val → T p (ix2 r x) = v (ix2 r q))
    (j : Fin 48) (r : Fin 24) (l : Fin 128) (k : Fin 6144) (hk : k.val = 128 * j.val + l.val) : gB (gFin T) j (ix3 0 r l) = v (ix2 r k) := by
  have hj := j.isLt
  have hl := l.isLt
  rw [← hT (⟨j.val / 4, by show j.val / 4 < 12; omega⟩ : Fin k0_t1_loop.trips) r (⟨128 * (j.val % 4) + l.val, by omega⟩ : Fin 512) k
    (by show k.val = 512 * (j.val / 4) + (128 * (j.val % 4) + l.val); omega)]
  unfold gB gFin
  refine congr (congrArg T (Fin.ext ?_)) (funext fun a => Fin.ext ?_)
  · show (j.val + 1 * 0) / 4 = j.val / 4
    rfl
  · match a with
    | ⟨0, _⟩ => show 0 + 1 * r.val = r.val; omega
    | ⟨1, _⟩ => show 128 * ((j.val + 1 * 0) % 4) + (0 + 1 * l.val) = 128 * (j.val % 4) + l.val; omega

theorem lhsA_top (c : Dev nD) (f7 : C7 (F := Ideal) c) (f8 : C8 (F := Ideal) c) (w1 : Vec Ideal S12 .f32) (w2 : Vec Ideal S1x3072 .f32) (w3 w4 : Vec Ideal S1x6144 .f32) (w6 : Vec Ideal S24x3072 .f32)
    (r : Fin 24) (k : Fin 6144) :
    lhsA c f7 f8 w1 w2 w3 w4 w6 (ix2 (⟨r.val, by omega⟩ : Fin 32) k) = codR (mul0 w1) w2 w6 w3 w4 f7 f8 (ix2 r k) := by
  have hk := Nat.div_add_mod k.val 128
  refine (cols_apply (d := ![32, 6144]) (tsz := S32x128.size) (n := 48) rfl rfl (fun j => k0_pay58 (scA c f7 f8 w1 w2 w3 w4 w6) (gB (gFin (actW c f7 f8 w1 w2 w3 w4 w6)) j)) _
    (⟨k.val / 128, by omega⟩ : Fin 48) (ix2 (⟨r.val, by omega⟩ : Fin 32) (⟨k.val % 128, Nat.mod_lt _ (by decide)⟩ : Fin 128)) rfl hk.symm).trans ?_
  rw [code_top2, gB_apply _ _ (fun p r x q h => actW_eq c f7 f8 w1 w2 w3 w4 w6 p r x q h) _ r _ k hk.symm, scA_scR, codR_apply]

theorem top2_eq (c : Dev nD) (f7 : C7 (F := Ideal) c) (f8 : C8 (F := Ideal) c) (w1 : Vec Ideal S12 .f32) (w2 : Vec Ideal S1x3072 .f32) (w3 w4 : Vec Ideal S1x6144 .f32) (w6 : Vec Ideal S24x3072 .f32) :
    top2 (lhsA c f7 f8 w1 w2 w3 w4 w6) = codR (mul0 w1) w2 w6 w3 w4 f7 f8 := by
  refine ext_mat (n := 24) (m := 6144) _ _ fun r k => ?_
  rw [← lhsA_top]
  exact congrArg (lhsA c f7 f8 w1 w2 w3 w4 w6) (funext fun a => Fin.ext (by
    match a with
    | ⟨0, _⟩ => show 0 + 1 * r.val = r.val; omega
    | ⟨1, _⟩ => show 0 + 1 * k.val = k.val; omega))

/-! ### The result -/

theorem dotB_apply (l : Vec Ideal S32x6144 .fp8e4m3) (s s' : Vec Ideal S3072x512 .fp8e4m3) (r : Fin 32) (x : Fin 512) :
    dotB l s s' (ix2 r x) = ∑ k : Fin 3072, l (ix2 r (⟨k.val, by omega⟩ : Fin 6144)) * s (ix2 k x) + ∑ k : Fin 3072, l (ix2 r (⟨3072 + k.val, by omega⟩ : Fin 6144)) * s' (ix2 k x) := by
  have e0 : ∀ k : Fin 3072, (VecWindow.window l ![0, 0] S32x3072.size inb_S32x6144_S32x3072_0_0 : Vec Ideal S32x3072 .fp8e4m3) (ix2 r k) = l (ix2 r (⟨k.val, by omega⟩ : Fin 6144)) := fun k =>
    congrArg l (funext fun a => Fin.ext (by
      match a with
      | ⟨0, _⟩ => show 0 + 1 * r.val = r.val; omega
      | ⟨1, _⟩ => show 0 + 1 * k.val = k.val; omega))
  have e1 : ∀ k : Fin 3072, (VecWindow.window l ![0, 3072] S32x3072.size inb_S32x6144_S32x3072_0_3072 : Vec Ideal S32x3072 .fp8e4m3) (ix2 r k) = l (ix2 r (⟨3072 + k.val, by omega⟩ : Fin 6144)) := fun k =>
    congrArg l (funext fun a => Fin.ext (by
      match a with
      | ⟨0, _⟩ => show 0 + 1 * r.val = r.val; omega
      | ⟨1, _⟩ => show 3072 + 1 * k.val = 3072 + k.val; omega))
  unfold dotB
  rw [← Finset.sum_congr rfl fun k _ => congrArg (· * s (ix2 k x)) (e0 k), ← Finset.sum_congr rfl fun k _ => congrArg (· * s' (ix2 k x)) (e1 k)]
  generalize (VecWindow.window l ![0, 0] S32x3072.size inb_S32x6144_S32x3072_0_0 : Vec Ideal S32x3072 .fp8e4m3) = A
  generalize (VecWindow.window l ![0, 3072] S32x3072.size inb_S32x6144_S32x3072_0_3072 : Vec Ideal S32x3072 .fp8e4m3) = B
  pointwise

theorem src9_apply (c : Dev nD) (f : C9 (F := Ideal) c) (o o' : ℕ) (h : InD ![o', o]) (k : Fin 3072) (x : Fin 512) (k' : Fin 6144) (hk : k'.val = o' + k.val) (q : Fin 3072) (hq : q.val = o + x.val) :
    ((src9 ![o', o] h).view.read (Elt Ideal) f : Vec Ideal S3072x512 .fp8e4m3) (ix2 k x) = (f : Vec Ideal S6144x3072 .fp8e4m3) (ix2 k' q) :=
  congrArg (f : Vec Ideal S6144x3072 .fp8e4m3) (funext fun a => Fin.ext (by
    match a with
    | ⟨0, _⟩ => show o' + 1 * k.val = k'.val; omega
    | ⟨1, _⟩ => show o + 1 * x.val = q.val; omega))

/-- The reference's result, from its arguments. -/
def outF (m0 m1 : Ideal .f32) (w2 : Vec Ideal S1x3072 .f32) (w6 : Vec Ideal S24x3072 .f32) (w3 w4 : Vec Ideal S1x6144 .f32) (W7 W8 : Vec Ideal S3072x6144 .fp8e4m3) (W9 : Vec Ideal S6144x3072 .fp8e4m3)
    (w5 : Vec Ideal S1x3072 .f32) : FVec Ideal S24x3072 .bf16 :=
  Cert.ReferenceIdeal.Gen.k0_pay11 m0 m1 w6 (Cert.ReferenceIdeal.Gen.k0_pay4 w6 w2) (Cert.ReferenceIdeal.Gen.k0_pay5 w6 w2) (Cert.ReferenceIdeal.Gen.k0_pay6 w6 w2 W7) (Cert.ReferenceIdeal.Gen.k0_pay7 w3) W8 w4 W9 w5

theorem outF_apply (m0 m1 : Ideal .f32) (w2 : Vec Ideal S1x3072 .f32) (w6 : Vec Ideal S24x3072 .f32) (w3 w4 : Vec Ideal S1x6144 .f32) (W7 W8 : Vec Ideal S3072x6144 .fp8e4m3) (W9 : Vec Ideal S6144x3072 .fp8e4m3)
    (w5 : Vec Ideal S1x3072 .f32) (r : Fin 24) (q : Fin 3072) :
    outF m0 m1 w2 w6 w3 w4 W7 W8 W9 w5 (ix2 r q)
      = w6 (ix2 r q) + (∑ k : Fin 6144, codR m0 w2 w6 w3 w4 W7 W8 (ix2 r k) * W9 (ix2 k q)) * scR m0 w2 w6 w3 w4 W7 W8 (ix2 r 0) * w5 (ix2 0 q) * m1 := by
  unfold outF codR scR
  pointwise [Cert.ReferenceIdeal.Gen.k0_pay11]

theorem outT_apply (m1 : Ideal .f32) (R : FVec Ideal S24x1 .f32) (D : FVec Ideal S32x512 .f32) (h : Vec Ideal S24x512 .f32) (n : Vec Ideal S1x512 .f32) (r : Fin 24) (x : Fin 512) :
    k0_pay118 m1 R D h n (ix2 r x) = h (ix2 r x) + D (ix2 (⟨r.val, by omega⟩ : Fin 32) x) * R (ix2 r 0) * n (ix2 0 x) * m1 := by
  pointwise [k0_pay118]

theorem win_mat (w : Vec Ideal S24x3072 .f32) (off : Fin 2 → ℕ) (o : ℕ) (hoff : off = ![0, o]) (h : ∀ a : Fin 2, off a + S24x512.size a ≤ S24x3072.size a) (r : Fin 24) (x : Fin 512) (q : Fin 3072) (hq : q.val = o + x.val) :
    (VecWindow.window w off S24x512.size h : Vec Ideal S24x512 .f32) (ix2 r x) = w (ix2 r q) := by
  subst hoff
  exact congrArg w (funext fun a => Fin.ext (by
    match a with
    | ⟨0, _⟩ => show 0 + 1 * r.val = r.val; omega
    | ⟨1, _⟩ => show o + 1 * x.val = q.val; omega))

theorem outR_eq (c : Dev nD) (f7 : C7 (F := Ideal) c) (f8 : C8 (F := Ideal) c) (f9 : C9 (F := Ideal) c) (w1 : Vec Ideal S12 .f32) (w2 : Vec Ideal S1x3072 .f32) (w3 w4 : Vec Ideal S1x6144 .f32)
    (w5 : Vec Ideal S1x3072 .f32) (w6 : Vec Ideal S24x3072 .f32) :
    outR c f7 f8 f9 w1 w2 w3 w4 w5 w6 = outF (mul0 w1) (mul1 w1) w2 w6 w3 w4 f7 f8 f9 w5 := by
  refine ext_mat (n := 24) (m := 3072) _ _ fun r q => ?_
  have hq := Nat.div_add_mod q.val 512
  refine (cols_apply (d := ![24, 3072]) (tsz := S24x512.size) (n := 6) rfl rfl _ _
    (⟨q.val / 512, by omega⟩ : Fin 6) (ix2 r (⟨q.val % 512, Nat.mod_lt _ (by decide)⟩ : Fin 512)) rfl hq.symm).trans ?_
  have hlt : q.val / 512 < k0_t2_loop.trips := by show q.val / 512 < 6; omega
  generalize hx : (⟨q.val % 512, Nat.mod_lt _ (by decide)⟩ : Fin 512) = x
  have hqx : q.val = 512 * (q.val / 512) + x.val := by rw [← hx]; exact hq.symm
  show outT c f9 (mul1 w1) (scA c f7 f8 w1 w2 w3 w4 w6) (lhsA c f7 f8 w1 w2 w3 w4 w6) w5 w6 ⟨q.val / 512, hlt⟩ (ix2 r x) = _
  unfold outT tileB
  rw [outT_apply, outF_apply, dotB_apply, scA_scR]
  rw [win_row w5 _ _ (k0_off27_eq ⟨q.val / 512, hlt⟩) (k0_off27_inb ⟨q.val / 512, hlt⟩) x q hqx]
  have e6 := win_mat w6 _ _ (k0_off26_eq ⟨q.val / 512, hlt⟩) (k0_off26_inb ⟨q.val / 512, hlt⟩) r x q hqx
  rw [e6]
  refine congrArg (fun z => w6 (ix2 r q) + z * scR (mul0 w1) w2 w6 w3 w4 f7 f8 (ix2 r 0) * w5 (ix2 0 q) * mul1 w1) ?_
  refine Eq.trans ?_ (Fin.sum_univ_add (a := 3072) (b := 3072) fun k => codR (mul0 w1) w2 w6 w3 w4 f7 f8 (ix2 r k) * (f9 : Vec Ideal S6144x3072 .fp8e4m3) (ix2 k q)).symm
  refine congrArg₂ (· + ·) (Finset.sum_congr rfl fun k _ => ?_) (Finset.sum_congr rfl fun k _ => ?_)
  · rw [lhsA_top]
    exact congrArg _ (src9_apply c f9 _ _ _ k x (Fin.castAdd 3072 k) (Nat.zero_add _).symm q hqx)
  · rw [lhsA_top]
    exact congrArg _ (src9_apply c f9 _ _ _ k x (Fin.natAdd 3072 k) rfl q hqx)

theorem ext_row {α : Type} (a b : S1x24.Idx → α) (h : ∀ r : Fin 24, a (ix2 0 r) = b (ix2 0 r)) : a = b := by
  funext j
  have e : j = ix2 (0 : Fin 1) (j 1 : Fin 24) := funext fun i => by
    match i with
    | ⟨0, _⟩ => exact Subsingleton.elim (α := Fin 1) _ _
    | ⟨1, _⟩ => rfl
  rw [e]; exact h _

theorem pay120_eq (a b : FVec Ideal S24x1 .f32) : k0_pay120 a b = Cert.ReferenceIdeal.Gen.k0_pay1 a := by
  refine ext_row _ _ fun r => ?_
  pointwise [k0_pay120, k0_pay119, Cert.ReferenceIdeal.Gen.k0_pay1]
  rfl

theorem pay1_119_eq (a b : FVec Ideal S24x1 .f32) : k0_pay1 (k0_pay119 a b) = Cert.ReferenceIdeal.Gen.k0_pay2 b := by
  refine ext_row _ _ fun r => ?_
  pointwise [k0_pay1, k0_pay119, Cert.ReferenceIdeal.Gen.k0_pay2]

end Cert.KernelIdeal.Hand
end
-- ==== Proof.ValueArrIdeal.lean ====
module

public import proofs.«01_k».proof.Proof.FrameIdeal
public import Idealize.ShloMosaic.Lib.Pipeline.Value

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

/-! ### The windows: each block is its whole array -/

theorem idx_zero0 : ∀ t : Fin cfg0.N, win0_0.index t (0 : Fin 1) = 0 := (by decide +kernel : ∀ t : Fin grid0.N, _)
theorem idx_zero1 : ∀ t : Fin cfg0.N, win0_1.index t (0 : Fin 2) = 0 ∧ win0_1.index t (1 : Fin 2) = 0 := (by decide +kernel : ∀ t : Fin grid0.N, _)
theorem idx_zero2 : ∀ t : Fin cfg0.N, win0_2.index t (0 : Fin 2) = 0 ∧ win0_2.index t (1 : Fin 2) = 0 := (by decide +kernel : ∀ t : Fin grid0.N, _)
theorem idx_zero3 : ∀ t : Fin cfg0.N, win0_3.index t (0 : Fin 2) = 0 ∧ win0_3.index t (1 : Fin 2) = 0 := (by decide +kernel : ∀ t : Fin grid0.N, _)
theorem idx_zero4 : ∀ t : Fin cfg0.N, win0_4.index t (0 : Fin 2) = 0 ∧ win0_4.index t (1 : Fin 2) = 0 := (by decide +kernel : ∀ t : Fin grid0.N, _)
theorem idx_zero5 : ∀ t : Fin cfg0.N, win0_5.index t (0 : Fin 2) = 0 ∧ win0_5.index t (1 : Fin 2) = 0 := (by decide +kernel : ∀ t : Fin grid0.N, _)
theorem idx_zero6 : ∀ t : Fin cfg0.N, win0_6.index t (0 : Fin 2) = 0 ∧ win0_6.index t (1 : Fin 2) = 0 := (by decide +kernel : ∀ t : Fin grid0.N, _)
theorem idx_zero7 : ∀ t : Fin cfg0.N, win0_7.index t (0 : Fin 2) = 0 ∧ win0_7.index t (1 : Fin 2) = 0 := (by decide +kernel : ∀ t : Fin grid0.N, _)
theorem idx_zero8 : ∀ t : Fin cfg0.N, win0_8.index t (0 : Fin 2) = 0 ∧ win0_8.index t (1 : Fin 2) = 0 := (by decide +kernel : ∀ t : Fin grid0.N, _)
theorem idx_zero9 : ∀ t : Fin cfg0.N, win0_9.index t (0 : Fin 2) = 0 ∧ win0_9.index t (1 : Fin 2) = 0 := (by decide +kernel : ∀ t : Fin grid0.N, _)
theorem idx_zero10 : ∀ t : Fin cfg0.N, win0_10.index t (0 : Fin 2) = 0 ∧ win0_10.index t (1 : Fin 2) = 0 := (by decide +kernel : ∀ t : Fin grid0.N, _)

/-! So an index of a window's block is the same index of its array. -/

theorem emb0 (t : Fin cfg0.N) (j : S12.Idx) : ((cfg0.win 0).blk t).view.emb j = j := by
  have e0 := idx_zero0 t
  funext a; apply Fin.ext
  match a with
  | ⟨0, _⟩ => show win0_0.index t (0 : Fin 1) * 12 + 1 * (j 0).val = (j 0).val; omega
theorem emb1 (t : Fin cfg0.N) (j : S1x3072.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 3072 + 1 * (j 1).val = (j 1).val; omega
theorem emb2 (t : Fin cfg0.N) (j : S1x6144.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 6144 + 1 * (j 1).val = (j 1).val; omega
theorem emb3 (t : Fin cfg0.N) (j : S1x6144.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 6144 + 1 * (j 1).val = (j 1).val; omega
theorem emb4 (t : Fin cfg0.N) (j : S1x3072.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 3072 + 1 * (j 1).val = (j 1).val; omega
theorem emb5 (t : Fin cfg0.N) (j : S24x3072.Idx) : ((cfg0.win 5).blk t).view.emb j = j := by
  obtain ⟨e0, e1⟩ := idx_zero5 t
  funext a; apply Fin.ext
  match a with
  | ⟨0, _⟩ => show win0_5.index t (0 : Fin 2) * 24 + 1 * (j 0).val = (j 0).val; omega
  | ⟨1, _⟩ => show win0_5.index t (1 : Fin 2) * 3072 + 1 * (j 1).val = (j 1).val; omega
theorem emb6 (t : Fin cfg0.N) (j : S24x3072.Idx) : ((cfg0.win 6).blk t).view.emb j = j := by
  obtain ⟨e0, e1⟩ := idx_zero6 t
  funext a; apply Fin.ext
  match a with
  | ⟨0, _⟩ => show win0_6.index t (0 : Fin 2) * 24 + 1 * (j 0).val = (j 0).val; omega
  | ⟨1, _⟩ => show win0_6.index t (1 : Fin 2) * 3072 + 1 * (j 1).val = (j 1).val; omega
theorem emb7 (t : Fin cfg0.N) (j : S24x3072.Idx) : ((cfg0.win 7).blk t).view.emb j = j := by
  obtain ⟨e0, e1⟩ := idx_zero7 t
  funext a; apply Fin.ext
  match a with
  | ⟨0, _⟩ => show win0_7.index t (0 : Fin 2) * 24 + 1 * (j 0).val = (j 0).val; omega
  | ⟨1, _⟩ => show win0_7.index t (1 : Fin 2) * 3072 + 1 * (j 1).val = (j 1).val; omega
theorem emb8 (t : Fin cfg0.N) (j : S1x24.Idx) : ((cfg0.win 8).blk t).view.emb j = j := by
  obtain ⟨e0, e1⟩ := idx_zero8 t
  funext a; apply Fin.ext
  match a with
  | ⟨0, _⟩ => show win0_8.index t (0 : Fin 2) * 1 + 1 * (j 0).val = (j 0).val; omega
  | ⟨1, _⟩ => show win0_8.index t (1 : Fin 2) * 24 + 1 * (j 1).val = (j 1).val; omega
theorem emb9 (t : Fin cfg0.N) (j : S24x6144.Idx) : ((cfg0.win 9).blk t).view.emb j = j := by
  obtain ⟨e0, e1⟩ := idx_zero9 t
  funext a; apply Fin.ext
  match a with
  | ⟨0, _⟩ => show win0_9.index t (0 : Fin 2) * 24 + 1 * (j 0).val = (j 0).val; omega
  | ⟨1, _⟩ => show win0_9.index t (1 : Fin 2) * 6144 + 1 * (j 1).val = (j 1).val; omega
theorem emb10 (t : Fin cfg0.N) (j : S1x24.Idx) : ((cfg0.win 10).blk t).view.emb j = j := by
  obtain ⟨e0, e1⟩ := idx_zero10 t
  funext a; apply Fin.ext
  match a with
  | ⟨0, _⟩ => show win0_10.index t (0 : Fin 2) * 1 + 1 * (j 0).val = (j 0).val; omega
  | ⟨1, _⟩ => show win0_10.index t (1 : Fin 2) * 24 + 1 * (j 1).val = (j 1).val; omega

/-! An input window's block is its array as the region finds it. -/

theorem iblk0_eq (c : Dev nD) (t : Fin cfg0.N) : iblk m c 0 t = V m c main_arg2 := by
  funext j; show V m c main_arg2 (((cfg0.win 0).blk t).view.emb j) = V m c main_arg2 j; rw [emb0]
theorem iblk1_eq (c : Dev nD) (t : Fin cfg0.N) : iblk m c 1 t = V m c main_v0 := by
  funext j; show V m c main_v0 (((cfg0.win 1).blk t).view.emb j) = V m c main_v0 j; rw [emb1]
theorem iblk2_eq (c : Dev nD) (t : Fin cfg0.N) : iblk m c 2 t = V m c main_v1 := by
  funext j; show V m c main_v1 (((cfg0.win 2).blk t).view.emb j) = V m c main_v1 j; rw [emb2]
theorem iblk3_eq (c : Dev nD) (t : Fin cfg0.N) : iblk m c 3 t = V m c main_v2 := by
  funext j; show V m c main_v2 (((cfg0.win 3).blk t).view.emb j) = V m c main_v2 j; rw [emb3]
theorem iblk4_eq (c : Dev nD) (t : Fin cfg0.N) : iblk m c 4 t = V m c main_v3 := by
  funext j; show V m c main_v3 (((cfg0.win 4).blk t).view.emb j) = V m c main_v3 j; rw [emb4]
theorem iblk5_eq (c : Dev nD) (t : Fin cfg0.N) : iblk m c 5 t = V m c main_arg0 := by
  funext j; show V m c main_arg0 (((cfg0.win 5).blk t).view.emb j) = V m c main_arg0 j; rw [emb5]

/-! An output window's block, cut out of `X` or read out of `X`, is the same; and it is the whole array. -/

theorem cut6_eq (t : Fin cfg0.N) (X : Vec F S24x3072 .bf16) : (cfg0.win 6).cut (grid0.coords t) X = ((cfg0.win 6).blk t).view.read (Elt F) X := by
  funext j
  show X j = X (((cfg0.win 6).blk t).view.emb j)
  rw [emb6]
theorem covered6 (i : S24x3072.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩
theorem cut7_eq (t : Fin cfg0.N) (X : Vec F S24x3072 .fp8e4m3) : (cfg0.win 7).cut (grid0.coords t) X = ((cfg0.win 7).blk t).view.read (Elt F) X := by
  funext j
  show X j = X (((cfg0.win 7).blk t).view.emb j)
  rw [emb7]
theorem covered7 (i : S24x3072.Idx) : ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩
theorem cut8_eq (t : Fin cfg0.N) (X : Vec F S1x24 .f32) : (cfg0.win 8).cut (grid0.coords t) X = ((cfg0.win 8).blk t).view.read (Elt F) X := by
  funext j
  show X j = X (((cfg0.win 8).blk t).view.emb j)
  rw [emb8]
theorem covered8 (i : S1x24.Idx) : ∃ t : Fin cfg0.N, (cfg0.win 8).flush t = true ∧ i ∈ ((cfg0.win 8).blk t).view.set :=
  ⟨(⟨0, by decide⟩ : Fin cfg0.N), flush0_8 _, by
    have h := ((cfg0.win 8).blk (⟨0, by decide⟩ : Fin cfg0.N)).view.emb_mem_set i; rwa [emb8] at h⟩
theorem cut9_eq (t : Fin cfg0.N) (X : Vec F S24x6144 .fp8e4m3) : (cfg0.win 9).cut (grid0.coords t) X = ((cfg0.win 9).blk t).view.read (Elt F) X := by
  funext j
  show X j = X (((cfg0.win 9).blk t).view.emb j)
  rw [emb9]
theorem covered9 (i : S24x6144.Idx) : ∃ t : Fin cfg0.N, (cfg0.win 9).flush t = true ∧ i ∈ ((cfg0.win 9).blk t).view.set :=
  ⟨(⟨0, by decide⟩ : Fin cfg0.N), flush0_9 _, by
    have h := ((cfg0.win 9).blk (⟨0, by decide⟩ : Fin cfg0.N)).view.emb_mem_set i; rwa [emb9] at h⟩
theorem cut10_eq (t : Fin cfg0.N) (X : Vec F S1x24 .f32) : (cfg0.win 10).cut (grid0.coords t) X = ((cfg0.win 10).blk t).view.read (Elt F) X := by
  funext j
  show X j = X (((cfg0.win 10).blk t).view.emb j)
  rw [emb10]
theorem covered10 (i : S1x24.Idx) : ∃ t : Fin cfg0.N, (cfg0.win 10).flush t = true ∧ i ∈ ((cfg0.win 10).blk t).view.set :=
  ⟨(⟨0, by decide⟩ : Fin cfg0.N), flush0_10 _, by
    have h := ((cfg0.win 10).blk (⟨0, by decide⟩ : Fin cfg0.N)).view.emb_mem_set i; rwa [emb10] at h⟩

/-! The four rows that the host reshapes, as the region finds them. -/

theorem V_v0 (c : Dev nD) : V m c main_v0 = shapeCast S1x3072 (m ((c : Thread nD τ).loc main_arg1)) shapeCasts_S3072_S1x3072 := by
  show StableHlo.after hostOps0 _ (Proc.devRef .tc main_v0) = _
  after_results
  rfl
theorem V_v1 (c : Dev nD) : V m c main_v1 = shapeCast S1x6144 (m ((c : Thread nD τ).loc main_arg4)) shapeCasts_S6144_S1x6144 := by
  show StableHlo.after hostOps0 _ (Proc.devRef .tc main_v1) = _
  after_results
  rfl
theorem V_v2 (c : Dev nD) : V m c main_v2 = shapeCast S1x6144 (m ((c : Thread nD τ).loc main_arg6)) shapeCasts_S6144_S1x6144 := by
  show StableHlo.after hostOps0 _ (Proc.devRef .tc main_v2) = _
  after_results
  rfl
theorem V_v3 (c : Dev nD) : V m c main_v3 = shapeCast S1x3072 (m ((c : Thread nD τ).loc main_arg8)) shapeCasts_S3072_S1x3072 := by
  show StableHlo.after hostOps0 _ (Proc.devRef .tc main_v3) = _
  after_results
  rfl

/-! ### The arrays after the run -/

theorem final6 (c : Dev nD) : (dats m 0 c).arrAt 6 cfg0.N = outR c (V m c main_arg3) (V m c main_arg5) (V m c main_arg7) (V m c main_arg2) (V m c main_v0) (V m c main_v1) (V m c main_v2) (V m c main_v3) (V m c main_arg0) :=
  (dats m 0 c).arrAt_eq_of_cover 6 (outR c (V m c main_arg3) (V m c main_arg5) (V m c main_arg7) (V m c main_arg2) (V m c main_v0) (V m c main_v1) (V m c main_v2) (V m c main_v3) (V m c main_arg0)) (fun t _ => by
    have e : (dats m 0 c).after 6 t = outR c (V m c main_arg3) (V m c main_arg5) (V m c main_arg7) (V m c main_arg2) (V m c main_v0) (V m c main_v1) (V m c main_v2) (V m c main_v3) (V m c main_arg0) := by
      rw [show (dats m 0 c).after 6 t = res6 m c t from by dsimp only [dats]]
      unfold res6 bl0 bl1 bl2 bl3 bl4 bl5
      rw [iblk0_eq, iblk1_eq, iblk2_eq, iblk3_eq, iblk4_eq, iblk5_eq]
    show (cfg0.win 6).cut (grid0.coords t) ((dats m 0 c).after 6 t) = _
    rw [e]
    exact cut6_eq t _) covered6
theorem final7 (c : Dev nD) : (dats m 0 c).arrAt 7 cfg0.N = top1 (lhs1 (V m c main_v0) (V m c main_arg0)) :=
  (dats m 0 c).arrAt_eq_of_cover 7 (top1 (lhs1 (V m c main_v0) (V m c main_arg0))) (fun t _ => by
    have e : (dats m 0 c).after 7 t = top1 (lhs1 (V m c main_v0) (V m c main_arg0)) := by
      rw [show (dats m 0 c).after 7 t = res7 m c t from by dsimp only [dats]]
      unfold res7 bl1 bl5
      rw [iblk1_eq, iblk5_eq]
    show (cfg0.win 7).cut (grid0.coords t) ((dats m 0 c).after 7 t) = _
    rw [e]
    exact cut7_eq t _) covered7
theorem final8 (c : Dev nD) : (dats m 0 c).arrAt 8 cfg0.N = s1R c (V m c main_arg3) (V m c main_arg5) (V m c main_arg2) (V m c main_v0) (V m c main_v1) (V m c main_v2) (V m c main_arg0) :=
  (dats m 0 c).arrAt_eq_of_cover 8 (s1R c (V m c main_arg3) (V m c main_arg5) (V m c main_arg2) (V m c main_v0) (V m c main_v1) (V m c main_v2) (V m c main_arg0)) (fun t _ => by
    have e : (dats m 0 c).after 8 t = s1R c (V m c main_arg3) (V m c main_arg5) (V m c main_arg2) (V m c main_v0) (V m c main_v1) (V m c main_v2) (V m c main_arg0) := by
      rw [show (dats m 0 c).after 8 t = res8 m c t from by dsimp only [dats]]
      unfold res8 bl0 bl1 bl2 bl3 bl5
      rw [iblk0_eq, iblk1_eq, iblk2_eq, iblk3_eq, iblk5_eq]
    show (cfg0.win 8).cut (grid0.coords t) ((dats m 0 c).after 8 t) = _
    rw [e]
    exact cut8_eq t _) covered8
theorem final9 (c : Dev nD) : (dats m 0 c).arrAt 9 cfg0.N = top2 (lhsA c (V m c main_arg3) (V m c main_arg5) (V m c main_arg2) (V m c main_v0) (V m c main_v1) (V m c main_v2) (V m c main_arg0)) :=
  (dats m 0 c).arrAt_eq_of_cover 9 (top2 (lhsA c (V m c main_arg3) (V m c main_arg5) (V m c main_arg2) (V m c main_v0) (V m c main_v1) (V m c main_v2) (V m c main_arg0))) (fun t _ => by
    have e : (dats m 0 c).after 9 t = top2 (lhsA c (V m c main_arg3) (V m c main_arg5) (V m c main_arg2) (V m c main_v0) (V m c main_v1) (V m c main_v2) (V m c main_arg0)) := by
      rw [show (dats m 0 c).after 9 t = res9 m c t from by dsimp only [dats]]
      unfold res9 bl0 bl1 bl2 bl3 bl5
      rw [iblk0_eq, iblk1_eq, iblk2_eq, iblk3_eq, iblk5_eq]
    show (cfg0.win 9).cut (grid0.coords t) ((dats m 0 c).after 9 t) = _
    rw [e]
    exact cut9_eq t _) covered9
theorem final10 (c : Dev nD) : (dats m 0 c).arrAt 10 cfg0.N = s2R c (V m c main_arg3) (V m c main_arg5) (V m c main_arg2) (V m c main_v0) (V m c main_v1) (V m c main_v2) (V m c main_arg0) :=
  (dats m 0 c).arrAt_eq_of_cover 10 (s2R c (V m c main_arg3) (V m c main_arg5) (V m c main_arg2) (V m c main_v0) (V m c main_v1) (V m c main_v2) (V m c main_arg0)) (fun t _ => by
    have e : (dats m 0 c).after 10 t = s2R c (V m c main_arg3) (V m c main_arg5) (V m c main_arg2) (V m c main_v0) (V m c main_v1) (V m c main_v2) (V m c main_arg0) := by
      rw [show (dats m 0 c).after 10 t = res10 m c t from by dsimp only [dats]]
      unfold res10 bl0 bl1 bl2 bl3 bl5
      rw [iblk0_eq, iblk1_eq, iblk2_eq, iblk3_eq, iblk5_eq]
    show (cfg0.win 10).cut (grid0.coords t) ((dats m 0 c).after 10 t) = _
    rw [e]
    exact cut10_eq t _) covered10

end Cert.KernelIdeal.Hand
end
-- ==== Proof.ValueRefIdeal.lean ====
module

public import proofs.«01_k».proof.Proof.Gen.ReferenceIdeal.Value
public import Idealize.ShloMosaic.Lib.Pipeline.Value

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe Idealize.SL.Sem
open Idealize.ShloMosaic.Pipeline (Dat)

variable {F : FTy → Type} [FloatOps F]

/-! ### What the body leaves -/

/-- What the program leaves in each of its five results, as a function of what it loads: the two factors, the residual
    stream, the gain of the norm, and the weights with their scales. -/
def G9 (v0 v1 : Elt F .f32) (v2 : Vec F S24x3072 .f32) (v3 : Vec F S1x3072 .f32) (v33 : Vec F S3072x6144 .fp8e4m3) (v34 : Vec F S1x6144 .f32) (v43 : Vec F S3072x6144 .fp8e4m3) (v44 : Vec F S1x6144 .f32) (v70 : Vec F S6144x3072 .fp8e4m3) (v71 : Vec F S1x3072 .f32) : FVec F S24x3072 .bf16 :=
  k0_pay11 v0 v1 v2 (k0_pay4 v2 v3) (k0_pay5 v2 v3) (k0_pay6 v2 v3 v33) (k0_pay7 v34) v43 v44 v70 v71
def G10 (v2 : Vec F S24x3072 .f32) (v3 : Vec F S1x3072 .f32) : FVec F S24x3072 .fp8e4m3 := k0_pay5 v2 v3
def G11 (v2 : Vec F S24x3072 .f32) (v3 : Vec F S1x3072 .f32) : FVec F S1x24 .f32 := k0_pay1 (k0_pay4 v2 v3)
def G12 (v0 : Elt F .f32) (v2 : Vec F S24x3072 .f32) (v3 : Vec F S1x3072 .f32) (v33 : Vec F S3072x6144 .fp8e4m3) (v34 : Vec F S1x6144 .f32) (v43 : Vec F S3072x6144 .fp8e4m3) (v44 : Vec F S1x6144 .f32) : FVec F S24x6144 .fp8e4m3 :=
  k0_pay10 v0 (k0_pay4 v2 v3) (k0_pay5 v2 v3) (k0_pay6 v2 v3 v33) (k0_pay7 v34) v43 v44
def G13 (v0 : Elt F .f32) (v2 : Vec F S24x3072 .f32) (v3 : Vec F S1x3072 .f32) (v33 : Vec F S3072x6144 .fp8e4m3) (v34 : Vec F S1x6144 .f32) (v43 : Vec F S3072x6144 .fp8e4m3) (v44 : Vec F S1x6144 .f32) : FVec F S1x24 .f32 :=
  k0_pay2 (k0_pay9 v0 (k0_pay4 v2 v3) (k0_pay5 v2 v3) (k0_pay6 v2 v3 v33) (k0_pay7 v34) v43 v44)

theorem hz : (![0, 0] : Fin 2 → Nat) = fun _ => 0 := funext fun a => by fin_cases a <;> rfl

/-- Factor `k` of the twelve. -/
def fac (k : Fin 12) (x : Vec F S12 .f32) : Elt F .f32 := x (fun a => match a with | ⟨0, _⟩ => k)

/-- A load of the whole of a block reads the block. -/
theorem ld_all {a b : ℕ} {e : EltTy} (x : (⟨2, ![a, b]⟩ : Shape).Idx → Elt F e) (inb : ∀ i : Fin 2, (![0, 0] : Fin 2 → ℕ) i + (![a, b] : Fin 2 → ℕ) i ≤ (![a, b] : Fin 2 → ℕ) i) :
    View.ld x (Rect.unit (s := ⟨2, ![a, b]⟩) ![0, 0] ![a, b] inb) = x := View.ld_unit_zero (S := ⟨2, ![a, b]⟩) hz inb x

theorem out9_eq (c : Dev nD) (arg0 : Memref sig .tc .smem S12 .f32) (h0 : arg0.IsWhole) (arg1 : Memref sig .tc .vmem S24x3072 .f32) (h1 : arg1.IsWhole) (arg2 : Memref sig .tc .vmem S1x3072 .f32) (h2 : arg2.IsWhole) (arg3 : Memref sig .tc .vmem S3072x6144 .fp8e4m3) (h3 : arg3.IsWhole) (arg4 : Memref sig .tc .vmem S1x6144 .f32) (h4 : arg4.IsWhole) (arg5 : Memref sig .tc .vmem S3072x6144 .fp8e4m3) (h5 : arg5.IsWhole) (arg6 : Memref sig .tc .vmem S1x6144 .f32) (h6 : arg6.IsWhole) (arg7 : Memref sig .tc .vmem S6144x3072 .fp8e4m3) (h7 : arg7.IsWhole) (arg8 : Memref sig .tc .vmem S1x3072 .f32) (h8 : arg8.IsWhole) (arg9 : Memref sig .tc .vmem S24x3072 .bf16) (h9 : arg9.IsWhole) (arg10 : Memref sig .tc .vmem S24x3072 .fp8e4m3) (h10 : arg10.IsWhole) (arg11 : Memref sig .tc .vmem S1x24 .f32) (h11 : arg11.IsWhole) (arg12 : Memref sig .tc .vmem S24x6144 .fp8e4m3) (h12 : arg12.IsWhole) (arg13 : Memref sig .tc .vmem S1x24 .f32) (h13 : arg13.IsWhole) (x0 : Vec F S12 .f32) (x1 : Vec F S24x3072 .f32) (x2 : Vec F S1x3072 .f32) (x3 : Vec F S3072x6144 .fp8e4m3) (x4 : Vec F S1x6144 .f32) (x5 : Vec F S3072x6144 .fp8e4m3) (x6 : Vec F S1x6144 .f32) (x7 : Vec F S6144x3072 .fp8e4m3) (x8 : Vec F S1x3072 .f32) :
    out0_A_9 c arg0 h0 arg1 h1 arg2 h2 arg3 h3 arg4 h4 arg5 h5 arg6 h6 arg7 h7 arg8 h8 arg9 h9 arg10 h10 arg11 h11 arg12 h12 arg13 h13 x0 x1 x2 x3 x4 x5 x6 x7 x8 = G9 (fac 5 x0) (fac 6 x0) x1 x2 x3 x4 x5 x6 x7 x8 := by
  unfold out0_A_9
  rw [View.read_writes_junk_eq_canon]
  show View.canon ([⟨Rect.unit ![0, 0] S24x3072.size inb_S24x3072_S24x3072_0_0,
    G9 (View.readAt (Elt F) arg0.view (Rect.unit (s := S12) ![5] S1.size inb_S12_S1_5).toLoadRect (h0.unread x0) _) (View.readAt (Elt F) arg0.view (Rect.unit (s := S12) ![6] S1.size inb_S12_S1_6).toLoadRect (h0.unread x0) _) (View.readAt (Elt F) arg1.view (Rect.unit (s := S24x3072) ![0, 0] S24x3072.size inb_S24x3072_S24x3072_0_0).toLoadRect (h1.unread x1)) (View.readAt (Elt F) arg2.view (Rect.unit (s := S1x3072) ![0, 0] S1x3072.size inb_S1x3072_S1x3072_0_0).toLoadRect (h2.unread x2)) (View.readAt (Elt F) arg3.view (Rect.unit (s := S3072x6144) ![0, 0] S3072x6144.size inb_S3072x6144_S3072x6144_0_0).toLoadRect (h3.unread x3)) (View.readAt (Elt F) arg4.view (Rect.unit (s := S1x6144) ![0, 0] S1x6144.size inb_S1x6144_S1x6144_0_0).toLoadRect (h4.unread x4)) (View.readAt (Elt F) arg5.view (Rect.unit (s := S3072x6144) ![0, 0] S3072x6144.size inb_S3072x6144_S3072x6144_0_0).toLoadRect (h5.unread x5)) (View.readAt (Elt F) arg6.view (Rect.unit (s := S1x6144) ![0, 0] S1x6144.size inb_S1x6144_S1x6144_0_0).toLoadRect (h6.unread x6)) (View.readAt (Elt F) arg7.view (Rect.unit (s := S6144x3072) ![0, 0] S6144x3072.size inb_S6144x3072_S6144x3072_0_0).toLoadRect (h7.unread x7)) (View.readAt (Elt F) arg8.view (Rect.unit (s := S1x3072) ![0, 0] S1x3072.size inb_S1x3072_S1x3072_0_0).toLoadRect (h8.unread x8))⟩] : List (View.Piece (Elt F) S24x3072 .bf16)) = _
  rw [View.canon_unit_zero hz]
  simp only [View.readAt_eq_ld, h0.read_unread, h1.read_unread, h2.read_unread, h3.read_unread, h4.read_unread, h5.read_unread, h6.read_unread, h7.read_unread, h8.read_unread, ld_all]
  exact congrArg₂ (fun a b => G9 a b x1 x2 x3 x4 x5 x6 x7 x8) (congrArg x0 (funext fun a => by match a with | ⟨0, _⟩ => rfl)) (congrArg x0 (funext fun a => by match a with | ⟨0, _⟩ => rfl))
theorem out10_eq (c : Dev nD) (arg0 : Memref sig .tc .smem S12 .f32) (h0 : arg0.IsWhole) (arg1 : Memref sig .tc .vmem S24x3072 .f32) (h1 : arg1.IsWhole) (arg2 : Memref sig .tc .vmem S1x3072 .f32) (h2 : arg2.IsWhole) (arg3 : Memref sig .tc .vmem S3072x6144 .fp8e4m3) (h3 : arg3.IsWhole) (arg4 : Memref sig .tc .vmem S1x6144 .f32) (h4 : arg4.IsWhole) (arg5 : Memref sig .tc .vmem S3072x6144 .fp8e4m3) (h5 : arg5.IsWhole) (arg6 : Memref sig .tc .vmem S1x6144 .f32) (h6 : arg6.IsWhole) (arg7 : Memref sig .tc .vmem S6144x3072 .fp8e4m3) (h7 : arg7.IsWhole) (arg8 : Memref sig .tc .vmem S1x3072 .f32) (h8 : arg8.IsWhole) (arg9 : Memref sig .tc .vmem S24x3072 .bf16) (h9 : arg9.IsWhole) (arg10 : Memref sig .tc .vmem S24x3072 .fp8e4m3) (h10 : arg10.IsWhole) (arg11 : Memref sig .tc .vmem S1x24 .f32) (h11 : arg11.IsWhole) (arg12 : Memref sig .tc .vmem S24x6144 .fp8e4m3) (h12 : arg12.IsWhole) (arg13 : Memref sig .tc .vmem S1x24 .f32) (h13 : arg13.IsWhole) (x0 : Vec F S12 .f32) (x1 : Vec F S24x3072 .f32) (x2 : Vec F S1x3072 .f32) (x3 : Vec F S3072x6144 .fp8e4m3) (x4 : Vec F S1x6144 .f32) (x5 : Vec F S3072x6144 .fp8e4m3) (x6 : Vec F S1x6144 .f32) (x7 : Vec F S6144x3072 .fp8e4m3) (x8 : Vec F S1x3072 .f32) :
    out0_A_10 c arg0 h0 arg1 h1 arg2 h2 arg3 h3 arg4 h4 arg5 h5 arg6 h6 arg7 h7 arg8 h8 arg9 h9 arg10 h10 arg11 h11 arg12 h12 arg13 h13 x0 x1 x2 x3 x4 x5 x6 x7 x8 = G10 x1 x2 := by
  unfold out0_A_10
  rw [View.read_writes_junk_eq_canon]
  show View.canon ([⟨Rect.unit ![0, 0] S24x3072.size inb_S24x3072_S24x3072_0_0,
    G10 (View.readAt (Elt F) arg1.view (Rect.unit (s := S24x3072) ![0, 0] S24x3072.size inb_S24x3072_S24x3072_0_0).toLoadRect (h1.unread x1)) (View.readAt (Elt F) arg2.view (Rect.unit (s := S1x3072) ![0, 0] S1x3072.size inb_S1x3072_S1x3072_0_0).toLoadRect (h2.unread x2))⟩] : List (View.Piece (Elt F) S24x3072 .fp8e4m3)) = _
  rw [View.canon_unit_zero hz]
  simp only [View.readAt_eq_ld, h1.read_unread, h2.read_unread, ld_all]

theorem out11_eq (c : Dev nD) (arg0 : Memref sig .tc .smem S12 .f32) (h0 : arg0.IsWhole) (arg1 : Memref sig .tc .vmem S24x3072 .f32) (h1 : arg1.IsWhole) (arg2 : Memref sig .tc .vmem S1x3072 .f32) (h2 : arg2.IsWhole) (arg3 : Memref sig .tc .vmem S3072x6144 .fp8e4m3) (h3 : arg3.IsWhole) (arg4 : Memref sig .tc .vmem S1x6144 .f32) (h4 : arg4.IsWhole) (arg5 : Memref sig .tc .vmem S3072x6144 .fp8e4m3) (h5 : arg5.IsWhole) (arg6 : Memref sig .tc .vmem S1x6144 .f32) (h6 : arg6.IsWhole) (arg7 : Memref sig .tc .vmem S6144x3072 .fp8e4m3) (h7 : arg7.IsWhole) (arg8 : Memref sig .tc .vmem S1x3072 .f32) (h8 : arg8.IsWhole) (arg9 : Memref sig .tc .vmem S24x3072 .bf16) (h9 : arg9.IsWhole) (arg10 : Memref sig .tc .vmem S24x3072 .fp8e4m3) (h10 : arg10.IsWhole) (arg11 : Memref sig .tc .vmem S1x24 .f32) (h11 : arg11.IsWhole) (arg12 : Memref sig .tc .vmem S24x6144 .fp8e4m3) (h12 : arg12.IsWhole) (arg13 : Memref sig .tc .vmem S1x24 .f32) (h13 : arg13.IsWhole) (x0 : Vec F S12 .f32) (x1 : Vec F S24x3072 .f32) (x2 : Vec F S1x3072 .f32) (x3 : Vec F S3072x6144 .fp8e4m3) (x4 : Vec F S1x6144 .f32) (x5 : Vec F S3072x6144 .fp8e4m3) (x6 : Vec F S1x6144 .f32) (x7 : Vec F S6144x3072 .fp8e4m3) (x8 : Vec F S1x3072 .f32) :
    out0_A_11 c arg0 h0 arg1 h1 arg2 h2 arg3 h3 arg4 h4 arg5 h5 arg6 h6 arg7 h7 arg8 h8 arg9 h9 arg10 h10 arg11 h11 arg12 h12 arg13 h13 x0 x1 x2 x3 x4 x5 x6 x7 x8 = G11 x1 x2 := by
  unfold out0_A_11
  rw [View.read_writes_junk_eq_canon]
  show View.canon ([⟨Rect.unit ![0, 0] S1x24.size inb_S1x24_S1x24_0_0,
    G11 (View.readAt (Elt F) arg1.view (Rect.unit (s := S24x3072) ![0, 0] S24x3072.size inb_S24x3072_S24x3072_0_0).toLoadRect (h1.unread x1)) (View.readAt (Elt F) arg2.view (Rect.unit (s := S1x3072) ![0, 0] S1x3072.size inb_S1x3072_S1x3072_0_0).toLoadRect (h2.unread x2))⟩] : List (View.Piece (Elt F) S1x24 .f32)) = _
  rw [View.canon_unit_zero hz]
  simp only [View.readAt_eq_ld, h1.read_unread, h2.read_unread, ld_all]

theorem out12_eq (c : Dev nD) (arg0 : Memref sig .tc .smem S12 .f32) (h0 : arg0.IsWhole) (arg1 : Memref sig .tc .vmem S24x3072 .f32) (h1 : arg1.IsWhole) (arg2 : Memref sig .tc .vmem S1x3072 .f32) (h2 : arg2.IsWhole) (arg3 : Memref sig .tc .vmem S3072x6144 .fp8e4m3) (h3 : arg3.IsWhole) (arg4 : Memref sig .tc .vmem S1x6144 .f32) (h4 : arg4.IsWhole) (arg5 : Memref sig .tc .vmem S3072x6144 .fp8e4m3) (h5 : arg5.IsWhole) (arg6 : Memref sig .tc .vmem S1x6144 .f32) (h6 : arg6.IsWhole) (arg7 : Memref sig .tc .vmem S6144x3072 .fp8e4m3) (h7 : arg7.IsWhole) (arg8 : Memref sig .tc .vmem S1x3072 .f32) (h8 : arg8.IsWhole) (arg9 : Memref sig .tc .vmem S24x3072 .bf16) (h9 : arg9.IsWhole) (arg10 : Memref sig .tc .vmem S24x3072 .fp8e4m3) (h10 : arg10.IsWhole) (arg11 : Memref sig .tc .vmem S1x24 .f32) (h11 : arg11.IsWhole) (arg12 : Memref sig .tc .vmem S24x6144 .fp8e4m3) (h12 : arg12.IsWhole) (arg13 : Memref sig .tc .vmem S1x24 .f32) (h13 : arg13.IsWhole) (x0 : Vec F S12 .f32) (x1 : Vec F S24x3072 .f32) (x2 : Vec F S1x3072 .f32) (x3 : Vec F S3072x6144 .fp8e4m3) (x4 : Vec F S1x6144 .f32) (x5 : Vec F S3072x6144 .fp8e4m3) (x6 : Vec F S1x6144 .f32) (x7 : Vec F S6144x3072 .fp8e4m3) (x8 : Vec F S1x3072 .f32) :
    out0_A_12 c arg0 h0 arg1 h1 arg2 h2 arg3 h3 arg4 h4 arg5 h5 arg6 h6 arg7 h7 arg8 h8 arg9 h9 arg10 h10 arg11 h11 arg12 h12 arg13 h13 x0 x1 x2 x3 x4 x5 x6 x7 x8 = G12 (fac 5 x0) x1 x2 x3 x4 x5 x6 := by
  unfold out0_A_12
  rw [View.read_writes_junk_eq_canon]
  show View.canon ([⟨Rect.unit ![0, 0] S24x6144.size inb_S24x6144_S24x6144_0_0,
    G12 (View.readAt (Elt F) arg0.view (Rect.unit (s := S12) ![5] S1.size inb_S12_S1_5).toLoadRect (h0.unread x0) _) (View.readAt (Elt F) arg1.view (Rect.unit (s := S24x3072) ![0, 0] S24x3072.size inb_S24x3072_S24x3072_0_0).toLoadRect (h1.unread x1)) (View.readAt (Elt F) arg2.view (Rect.unit (s := S1x3072) ![0, 0] S1x3072.size inb_S1x3072_S1x3072_0_0).toLoadRect (h2.unread x2)) (View.readAt (Elt F) arg3.view (Rect.unit (s := S3072x6144) ![0, 0] S3072x6144.size inb_S3072x6144_S3072x6144_0_0).toLoadRect (h3.unread x3)) (View.readAt (Elt F) arg4.view (Rect.unit (s := S1x6144) ![0, 0] S1x6144.size inb_S1x6144_S1x6144_0_0).toLoadRect (h4.unread x4)) (View.readAt (Elt F) arg5.view (Rect.unit (s := S3072x6144) ![0, 0] S3072x6144.size inb_S3072x6144_S3072x6144_0_0).toLoadRect (h5.unread x5)) (View.readAt (Elt F) arg6.view (Rect.unit (s := S1x6144) ![0, 0] S1x6144.size inb_S1x6144_S1x6144_0_0).toLoadRect (h6.unread x6))⟩] : List (View.Piece (Elt F) S24x6144 .fp8e4m3)) = _
  rw [View.canon_unit_zero hz]
  simp only [View.readAt_eq_ld, h0.read_unread, h1.read_unread, h2.read_unread, h3.read_unread, h4.read_unread, h5.read_unread, h6.read_unread, ld_all]
  exact congrArg (fun a => G12 a x1 x2 x3 x4 x5 x6) (congrArg x0 (funext fun a => by match a with | ⟨0, _⟩ => rfl))
theorem out13_eq (c : Dev nD) (arg0 : Memref sig .tc .smem S12 .f32) (h0 : arg0.IsWhole) (arg1 : Memref sig .tc .vmem S24x3072 .f32) (h1 : arg1.IsWhole) (arg2 : Memref sig .tc .vmem S1x3072 .f32) (h2 : arg2.IsWhole) (arg3 : Memref sig .tc .vmem S3072x6144 .fp8e4m3) (h3 : arg3.IsWhole) (arg4 : Memref sig .tc .vmem S1x6144 .f32) (h4 : arg4.IsWhole) (arg5 : Memref sig .tc .vmem S3072x6144 .fp8e4m3) (h5 : arg5.IsWhole) (arg6 : Memref sig .tc .vmem S1x6144 .f32) (h6 : arg6.IsWhole) (arg7 : Memref sig .tc .vmem S6144x3072 .fp8e4m3) (h7 : arg7.IsWhole) (arg8 : Memref sig .tc .vmem S1x3072 .f32) (h8 : arg8.IsWhole) (arg9 : Memref sig .tc .vmem S24x3072 .bf16) (h9 : arg9.IsWhole) (arg10 : Memref sig .tc .vmem S24x3072 .fp8e4m3) (h10 : arg10.IsWhole) (arg11 : Memref sig .tc .vmem S1x24 .f32) (h11 : arg11.IsWhole) (arg12 : Memref sig .tc .vmem S24x6144 .fp8e4m3) (h12 : arg12.IsWhole) (arg13 : Memref sig .tc .vmem S1x24 .f32) (h13 : arg13.IsWhole) (x0 : Vec F S12 .f32) (x1 : Vec F S24x3072 .f32) (x2 : Vec F S1x3072 .f32) (x3 : Vec F S3072x6144 .fp8e4m3) (x4 : Vec F S1x6144 .f32) (x5 : Vec F S3072x6144 .fp8e4m3) (x6 : Vec F S1x6144 .f32) (x7 : Vec F S6144x3072 .fp8e4m3) (x8 : Vec F S1x3072 .f32) :
    out0_A_13 c arg0 h0 arg1 h1 arg2 h2 arg3 h3 arg4 h4 arg5 h5 arg6 h6 arg7 h7 arg8 h8 arg9 h9 arg10 h10 arg11 h11 arg12 h12 arg13 h13 x0 x1 x2 x3 x4 x5 x6 x7 x8 = G13 (fac 5 x0) x1 x2 x3 x4 x5 x6 := by
  unfold out0_A_13
  rw [View.read_writes_junk_eq_canon]
  show View.canon ([⟨Rect.unit ![0, 0] S1x24.size inb_S1x24_S1x24_0_0,
    G13 (View.readAt (Elt F) arg0.view (Rect.unit (s := S12) ![5] S1.size inb_S12_S1_5).toLoadRect (h0.unread x0) _) (View.readAt (Elt F) arg1.view (Rect.unit (s := S24x3072) ![0, 0] S24x3072.size inb_S24x3072_S24x3072_0_0).toLoadRect (h1.unread x1)) (View.readAt (Elt F) arg2.view (Rect.unit (s := S1x3072) ![0, 0] S1x3072.size inb_S1x3072_S1x3072_0_0).toLoadRect (h2.unread x2)) (View.readAt (Elt F) arg3.view (Rect.unit (s := S3072x6144) ![0, 0] S3072x6144.size inb_S3072x6144_S3072x6144_0_0).toLoadRect (h3.unread x3)) (View.readAt (Elt F) arg4.view (Rect.unit (s := S1x6144) ![0, 0] S1x6144.size inb_S1x6144_S1x6144_0_0).toLoadRect (h4.unread x4)) (View.readAt (Elt F) arg5.view (Rect.unit (s := S3072x6144) ![0, 0] S3072x6144.size inb_S3072x6144_S3072x6144_0_0).toLoadRect (h5.unread x5)) (View.readAt (Elt F) arg6.view (Rect.unit (s := S1x6144) ![0, 0] S1x6144.size inb_S1x6144_S1x6144_0_0).toLoadRect (h6.unread x6))⟩] : List (View.Piece (Elt F) S1x24 .f32)) = _
  rw [View.canon_unit_zero hz]
  simp only [View.readAt_eq_ld, h0.read_unread, h1.read_unread, h2.read_unread, h3.read_unread, h4.read_unread, h5.read_unread, h6.read_unread, ld_all]
  exact congrArg (fun a => G13 a x1 x2 x3 x4 x5 x6) (congrArg x0 (funext fun a => by match a with | ⟨0, _⟩ => rfl))

variable (m : (ℓ : Loc nD τ sig) → Buf (Elt F) ℓ) (ρ : Dev nD → PrngReg)

/-! ### The windows: each block is its whole array -/

theorem idx_zero0 : ∀ t : Fin cfg0.N, win0_0.index t (0 : Fin 1) = 0 := (by decide +kernel : ∀ t : Fin grid0.N, _)
theorem idx_zero1 : ∀ t : Fin cfg0.N, win0_1.index t (0 : Fin 2) = 0 ∧ win0_1.index t (1 : Fin 2) = 0 := (by decide +kernel : ∀ t : Fin grid0.N, _)
theorem idx_zero2 : ∀ t : Fin cfg0.N, win0_2.index t (0 : Fin 2) = 0 ∧ win0_2.index t (1 : Fin 2) = 0 := (by decide +kernel : ∀ t : Fin grid0.N, _)
theorem idx_zero3 : ∀ t : Fin cfg0.N, win0_3.index t (0 : Fin 2) = 0 ∧ win0_3.index t (1 : Fin 2) = 0 := (by decide +kernel : ∀ t : Fin grid0.N, _)
theorem idx_zero4 : ∀ t : Fin cfg0.N, win0_4.index t (0 : Fin 2) = 0 ∧ win0_4.index t (1 : Fin 2) = 0 := (by decide +kernel : ∀ t : Fin grid0.N, _)
theorem idx_zero5 : ∀ t : Fin cfg0.N, win0_5.index t (0 : Fin 2) = 0 ∧ win0_5.index t (1 : Fin 2) = 0 := (by decide +kernel : ∀ t : Fin grid0.N, _)
theorem idx_zero6 : ∀ t : Fin cfg0.N, win0_6.index t (0 : Fin 2) = 0 ∧ win0_6.index t (1 : Fin 2) = 0 := (by decide +kernel : ∀ t : Fin grid0.N, _)
theorem idx_zero7 : ∀ t : Fin cfg0.N, win0_7.index t (0 : Fin 2) = 0 ∧ win0_7.index t (1 : Fin 2) = 0 := (by decide +kernel : ∀ t : Fin grid0.N, _)
theorem idx_zero8 : ∀ t : Fin cfg0.N, win0_8.index t (0 : Fin 2) = 0 ∧ win0_8.index t (1 : Fin 2) = 0 := (by decide +kernel : ∀ t : Fin grid0.N, _)
theorem idx_zero9 : ∀ t : Fin cfg0.N, win0_9.index t (0 : Fin 2) = 0 ∧ win0_9.index t (1 : Fin 2) = 0 := (by decide +kernel : ∀ t : Fin grid0.N, _)
theorem idx_zero10 : ∀ t : Fin cfg0.N, win0_10.index t (0 : Fin 2) = 0 ∧ win0_10.index t (1 : Fin 2) = 0 := (by decide +kernel : ∀ t : Fin grid0.N, _)
theorem idx_zero11 : ∀ t : Fin cfg0.N, win0_11.index t (0 : Fin 2) = 0 ∧ win0_11.index t (1 : Fin 2) = 0 := (by decide +kernel : ∀ t : Fin grid0.N, _)
theorem idx_zero12 : ∀ t : Fin cfg0.N, win0_12.index t (0 : Fin 2) = 0 ∧ win0_12.index t (1 : Fin 2) = 0 := (by decide +kernel : ∀ t : Fin grid0.N, _)
theorem idx_zero13 : ∀ t : Fin cfg0.N, win0_13.index t (0 : Fin 2) = 0 ∧ win0_13.index t (1 : Fin 2) = 0 := (by decide +kernel : ∀ t : Fin grid0.N, _)

/-! So an index of a window's block is the same index of its array. -/

theorem emb0 (t : Fin cfg0.N) (j : S12.Idx) : ((cfg0.win 0).blk t).view.emb j = j := by
  have e0 := idx_zero0 t
  funext a; apply Fin.ext
  match a with
  | ⟨0, _⟩ => show win0_0.index t (0 : Fin 1) * 12 + 1 * (j 0).val = (j 0).val; omega
theorem emb1 (t : Fin cfg0.N) (j : S24x3072.Idx) : ((cfg0.win 1).blk t).view.emb j = j := by
  obtain ⟨e0, e1⟩ := idx_zero1 t
  funext a; apply Fin.ext
  match a with
  | ⟨0, _⟩ => show win0_1.index t (0 : Fin 2) * 24 + 1 * (j 0).val = (j 0).val; omega
  | ⟨1, _⟩ => show win0_1.index t (1 : Fin 2) * 3072 + 1 * (j 1).val = (j 1).val; omega
theorem emb2 (t : Fin cfg0.N) (j : S1x3072.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 3072 + 1 * (j 1).val = (j 1).val; omega
theorem emb3 (t : Fin cfg0.N) (j : S3072x6144.Idx) : ((cfg0.win 3).blk t).view.emb j = j := by
  obtain ⟨e0, e1⟩ := idx_zero3 t
  funext a; apply Fin.ext
  match a with
  | ⟨0, _⟩ => show win0_3.index t (0 : Fin 2) * 3072 + 1 * (j 0).val = (j 0).val; omega
  | ⟨1, _⟩ => show win0_3.index t (1 : Fin 2) * 6144 + 1 * (j 1).val = (j 1).val; omega
theorem emb4 (t : Fin cfg0.N) (j : S1x6144.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 6144 + 1 * (j 1).val = (j 1).val; omega
theorem emb5 (t : Fin cfg0.N) (j : S3072x6144.Idx) : ((cfg0.win 5).blk t).view.emb j = j := by
  obtain ⟨e0, e1⟩ := idx_zero5 t
  funext a; apply Fin.ext
  match a with
  | ⟨0, _⟩ => show win0_5.index t (0 : Fin 2) * 3072 + 1 * (j 0).val = (j 0).val; omega
  | ⟨1, _⟩ => show win0_5.index t (1 : Fin 2) * 6144 + 1 * (j 1).val = (j 1).val; omega
theorem emb6 (t : Fin cfg0.N) (j : S1x6144.Idx) : ((cfg0.win 6).blk t).view.emb j = j := by
  obtain ⟨e0, e1⟩ := idx_zero6 t
  funext a; apply Fin.ext
  match a with
  | ⟨0, _⟩ => show win0_6.index t (0 : Fin 2) * 1 + 1 * (j 0).val = (j 0).val; omega
  | ⟨1, _⟩ => show win0_6.index t (1 : Fin 2) * 6144 + 1 * (j 1).val = (j 1).val; omega
theorem emb7 (t : Fin cfg0.N) (j : S6144x3072.Idx) : ((cfg0.win 7).blk t).view.emb j = j := by
  obtain ⟨e0, e1⟩ := idx_zero7 t
  funext a; apply Fin.ext
  match a with
  | ⟨0, _⟩ => show win0_7.index t (0 : Fin 2) * 6144 + 1 * (j 0).val = (j 0).val; omega
  | ⟨1, _⟩ => show win0_7.index t (1 : Fin 2) * 3072 + 1 * (j 1).val = (j 1).val; omega
theorem emb8 (t : Fin cfg0.N) (j : S1x3072.Idx) : ((cfg0.win 8).blk t).view.emb j = j := by
  obtain ⟨e0, e1⟩ := idx_zero8 t
  funext a; apply Fin.ext
  match a with
  | ⟨0, _⟩ => show win0_8.index t (0 : Fin 2) * 1 + 1 * (j 0).val = (j 0).val; omega
  | ⟨1, _⟩ => show win0_8.index t (1 : Fin 2) * 3072 + 1 * (j 1).val = (j 1).val; omega
theorem emb9 (t : Fin cfg0.N) (j : S24x3072.Idx) : ((cfg0.win 9).blk t).view.emb j = j := by
  obtain ⟨e0, e1⟩ := idx_zero9 t
  funext a; apply Fin.ext
  match a with
  | ⟨0, _⟩ => show win0_9.index t (0 : Fin 2) * 24 + 1 * (j 0).val = (j 0).val; omega
  | ⟨1, _⟩ => show win0_9.index t (1 : Fin 2) * 3072 + 1 * (j 1).val = (j 1).val; omega
theorem emb10 (t : Fin cfg0.N) (j : S24x3072.Idx) : ((cfg0.win 10).blk t).view.emb j = j := by
  obtain ⟨e0, e1⟩ := idx_zero10 t
  funext a; apply Fin.ext
  match a with
  | ⟨0, _⟩ => show win0_10.index t (0 : Fin 2) * 24 + 1 * (j 0).val = (j 0).val; omega
  | ⟨1, _⟩ => show win0_10.index t (1 : Fin 2) * 3072 + 1 * (j 1).val = (j 1).val; omega
theorem emb11 (t : Fin cfg0.N) (j : S1x24.Idx) : ((cfg0.win 11).blk t).view.emb j = j := by
  obtain ⟨e0, e1⟩ := idx_zero11 t
  funext a; apply Fin.ext
  match a with
  | ⟨0, _⟩ => show win0_11.index t (0 : Fin 2) * 1 + 1 * (j 0).val = (j 0).val; omega
  | ⟨1, _⟩ => show win0_11.index t (1 : Fin 2) * 24 + 1 * (j 1).val = (j 1).val; omega
theorem emb12 (t : Fin cfg0.N) (j : S24x6144.Idx) : ((cfg0.win 12).blk t).view.emb j = j := by
  obtain ⟨e0, e1⟩ := idx_zero12 t
  funext a; apply Fin.ext
  match a with
  | ⟨0, _⟩ => show win0_12.index t (0 : Fin 2) * 24 + 1 * (j 0).val = (j 0).val; omega
  | ⟨1, _⟩ => show win0_12.index t (1 : Fin 2) * 6144 + 1 * (j 1).val = (j 1).val; omega
theorem emb13 (t : Fin cfg0.N) (j : S1x24.Idx) : ((cfg0.win 13).blk t).view.emb j = j := by
  obtain ⟨e0, e1⟩ := idx_zero13 t
  funext a; apply Fin.ext
  match a with
  | ⟨0, _⟩ => show win0_13.index t (0 : Fin 2) * 1 + 1 * (j 0).val = (j 0).val; omega
  | ⟨1, _⟩ => show win0_13.index t (1 : Fin 2) * 24 + 1 * (j 1).val = (j 1).val; omega

/-! An input window's block is its array as the region finds it. -/

theorem iblk0_eq (c : Dev nD) (t : Fin cfg0.N) : iblk m c 0 t = V m c main_arg2 := by
  funext j; show V m c main_arg2 (((cfg0.win 0).blk t).view.emb j) = V m c main_arg2 j; rw [emb0]
theorem iblk1_eq (c : Dev nD) (t : Fin cfg0.N) : iblk m c 1 t = V m c main_arg0 := by
  funext j; show V m c main_arg0 (((cfg0.win 1).blk t).view.emb j) = V m c main_arg0 j; rw [emb1]
theorem iblk2_eq (c : Dev nD) (t : Fin cfg0.N) : iblk m c 2 t = V m c main_v0 := by
  funext j; show V m c main_v0 (((cfg0.win 2).blk t).view.emb j) = V m c main_v0 j; rw [emb2]
theorem iblk3_eq (c : Dev nD) (t : Fin cfg0.N) : iblk m c 3 t = V m c main_arg3 := by
  funext j; show V m c main_arg3 (((cfg0.win 3).blk t).view.emb j) = V m c main_arg3 j; rw [emb3]
theorem iblk4_eq (c : Dev nD) (t : Fin cfg0.N) : iblk m c 4 t = V m c main_v1 := by
  funext j; show V m c main_v1 (((cfg0.win 4).blk t).view.emb j) = V m c main_v1 j; rw [emb4]
theorem iblk5_eq (c : Dev nD) (t : Fin cfg0.N) : iblk m c 5 t = V m c main_arg5 := by
  funext j; show V m c main_arg5 (((cfg0.win 5).blk t).view.emb j) = V m c main_arg5 j; rw [emb5]
theorem iblk6_eq (c : Dev nD) (t : Fin cfg0.N) : iblk m c 6 t = V m c main_v2 := by
  funext j; show V m c main_v2 (((cfg0.win 6).blk t).view.emb j) = V m c main_v2 j; rw [emb6]
theorem iblk7_eq (c : Dev nD) (t : Fin cfg0.N) : iblk m c 7 t = V m c main_arg7 := by
  funext j; show V m c main_arg7 (((cfg0.win 7).blk t).view.emb j) = V m c main_arg7 j; rw [emb7]
theorem iblk8_eq (c : Dev nD) (t : Fin cfg0.N) : iblk m c 8 t = V m c main_v3 := by
  funext j; show V m c main_v3 (((cfg0.win 8).blk t).view.emb j) = V m c main_v3 j; rw [emb8]

/-! An output window's block, cut out of `X` or read out of `X`, is the same; and it is the whole array. -/

theorem cut9_eq (t : Fin cfg0.N) (X : Vec F S24x3072 .bf16) : (cfg0.win 9).cut (grid0.coords t) X = ((cfg0.win 9).blk t).view.read (Elt F) X := by
  funext j
  show X j = X (((cfg0.win 9).blk t).view.emb j)
  rw [emb9]
theorem covered9 (i : S24x3072.Idx) : ∃ t : Fin cfg0.N, (cfg0.win 9).flush t = true ∧ i ∈ ((cfg0.win 9).blk t).view.set :=
  ⟨(⟨0, by decide⟩ : Fin cfg0.N), flush0_9 _, by
    have h := ((cfg0.win 9).blk (⟨0, by decide⟩ : Fin cfg0.N)).view.emb_mem_set i; rwa [emb9] at h⟩
theorem cut10_eq (t : Fin cfg0.N) (X : Vec F S24x3072 .fp8e4m3) : (cfg0.win 10).cut (grid0.coords t) X = ((cfg0.win 10).blk t).view.read (Elt F) X := by
  funext j
  show X j = X (((cfg0.win 10).blk t).view.emb j)
  rw [emb10]
theorem covered10 (i : S24x3072.Idx) : ∃ t : Fin cfg0.N, (cfg0.win 10).flush t = true ∧ i ∈ ((cfg0.win 10).blk t).view.set :=
  ⟨(⟨0, by decide⟩ : Fin cfg0.N), flush0_10 _, by
    have h := ((cfg0.win 10).blk (⟨0, by decide⟩ : Fin cfg0.N)).view.emb_mem_set i; rwa [emb10] at h⟩
theorem cut11_eq (t : Fin cfg0.N) (X : Vec F S1x24 .f32) : (cfg0.win 11).cut (grid0.coords t) X = ((cfg0.win 11).blk t).view.read (Elt F) X := by
  funext j
  show X j = X (((cfg0.win 11).blk t).view.emb j)
  rw [emb11]
theorem covered11 (i : S1x24.Idx) : ∃ t : Fin cfg0.N, (cfg0.win 11).flush t = true ∧ i ∈ ((cfg0.win 11).blk t).view.set :=
  ⟨(⟨0, by decide⟩ : Fin cfg0.N), flush0_11 _, by
    have h := ((cfg0.win 11).blk (⟨0, by decide⟩ : Fin cfg0.N)).view.emb_mem_set i; rwa [emb11] at h⟩
theorem cut12_eq (t : Fin cfg0.N) (X : Vec F S24x6144 .fp8e4m3) : (cfg0.win 12).cut (grid0.coords t) X = ((cfg0.win 12).blk t).view.read (Elt F) X := by
  funext j
  show X j = X (((cfg0.win 12).blk t).view.emb j)
  rw [emb12]
theorem covered12 (i : S24x6144.Idx) : ∃ t : Fin cfg0.N, (cfg0.win 12).flush t = true ∧ i ∈ ((cfg0.win 12).blk t).view.set :=
  ⟨(⟨0, by decide⟩ : Fin cfg0.N), flush0_12 _, by
    have h := ((cfg0.win 12).blk (⟨0, by decide⟩ : Fin cfg0.N)).view.emb_mem_set i; rwa [emb12] at h⟩
theorem cut13_eq (t : Fin cfg0.N) (X : Vec F S1x24 .f32) : (cfg0.win 13).cut (grid0.coords t) X = ((cfg0.win 13).blk t).view.read (Elt F) X := by
  funext j
  show X j = X (((cfg0.win 13).blk t).view.emb j)
  rw [emb13]
theorem covered13 (i : S1x24.Idx) : ∃ t : Fin cfg0.N, (cfg0.win 13).flush t = true ∧ i ∈ ((cfg0.win 13).blk t).view.set :=
  ⟨(⟨0, by decide⟩ : Fin cfg0.N), flush0_13 _, by
    have h := ((cfg0.win 13).blk (⟨0, by decide⟩ : Fin cfg0.N)).view.emb_mem_set i; rwa [emb13] at h⟩

/-! The four rows that the host reshapes, as the region finds them. -/

theorem V_v0 (c : Dev nD) : V m c main_v0 = shapeCast S1x3072 (m ((c : Thread nD τ).loc main_arg1)) shapeCasts_S3072_S1x3072 := by
  show StableHlo.after hostOps0 _ (Proc.devRef .tc main_v0) = _
  after_results
  rfl
theorem V_v1 (c : Dev nD) : V m c main_v1 = shapeCast S1x6144 (m ((c : Thread nD τ).loc main_arg4)) shapeCasts_S6144_S1x6144 := by
  show StableHlo.after hostOps0 _ (Proc.devRef .tc main_v1) = _
  after_results
  rfl
theorem V_v2 (c : Dev nD) : V m c main_v2 = shapeCast S1x6144 (m ((c : Thread nD τ).loc main_arg6)) shapeCasts_S6144_S1x6144 := by
  show StableHlo.after hostOps0 _ (Proc.devRef .tc main_v2) = _
  after_results
  rfl
theorem V_v3 (c : Dev nD) : V m c main_v3 = shapeCast S1x3072 (m ((c : Thread nD τ).loc main_arg8)) shapeCasts_S3072_S1x3072 := by
  show StableHlo.after hostOps0 _ (Proc.devRef .tc main_v3) = _
  after_results
  rfl

/-! ### The arrays after the run -/

theorem final9 (c : Dev nD) : (dats m 0 c).arrAt 9 cfg0.N = G9 (fac 5 (V m c main_arg2)) (fac 6 (V m c main_arg2)) (V m c main_arg0) (V m c main_v0) (V m c main_arg3) (V m c main_v1) (V m c main_arg5) (V m c main_v2) (V m c main_arg7) (V m c main_v3) :=
  (dats m 0 c).arrAt_eq_of_cover 9 (G9 (fac 5 (V m c main_arg2)) (fac 6 (V m c main_arg2)) (V m c main_arg0) (V m c main_v0) (V m c main_arg3) (V m c main_v1) (V m c main_arg5) (V m c main_v2) (V m c main_arg7) (V m c main_v3)) (fun t _ => by
    rw [flushed9_A, out9_eq, iblk0_eq, iblk1_eq, iblk2_eq, iblk3_eq, iblk4_eq, iblk5_eq, iblk6_eq, iblk7_eq, iblk8_eq]
    exact cut9_eq t _) covered9
theorem final10 (c : Dev nD) : (dats m 0 c).arrAt 10 cfg0.N = G10 (V m c main_arg0) (V m c main_v0) :=
  (dats m 0 c).arrAt_eq_of_cover 10 (G10 (V m c main_arg0) (V m c main_v0)) (fun t _ => by
    rw [flushed10_A, out10_eq, iblk1_eq, iblk2_eq]
    exact cut10_eq t _) covered10
theorem final11 (c : Dev nD) : (dats m 0 c).arrAt 11 cfg0.N = G11 (V m c main_arg0) (V m c main_v0) :=
  (dats m 0 c).arrAt_eq_of_cover 11 (G11 (V m c main_arg0) (V m c main_v0)) (fun t _ => by
    rw [flushed11_A, out11_eq, iblk1_eq, iblk2_eq]
    exact cut11_eq t _) covered11
theorem final12 (c : Dev nD) : (dats m 0 c).arrAt 12 cfg0.N = G12 (fac 5 (V m c main_arg2)) (V m c main_arg0) (V m c main_v0) (V m c main_arg3) (V m c main_v1) (V m c main_arg5) (V m c main_v2) :=
  (dats m 0 c).arrAt_eq_of_cover 12 (G12 (fac 5 (V m c main_arg2)) (V m c main_arg0) (V m c main_v0) (V m c main_arg3) (V m c main_v1) (V m c main_arg5) (V m c main_v2)) (fun t _ => by
    rw [flushed12_A, out12_eq, iblk0_eq, iblk1_eq, iblk2_eq, iblk3_eq, iblk4_eq, iblk5_eq, iblk6_eq]
    exact cut12_eq t _) covered12
theorem final13 (c : Dev nD) : (dats m 0 c).arrAt 13 cfg0.N = G13 (fac 5 (V m c main_arg2)) (V m c main_arg0) (V m c main_v0) (V m c main_arg3) (V m c main_v1) (V m c main_arg5) (V m c main_v2) :=
  (dats m 0 c).arrAt_eq_of_cover 13 (G13 (fac 5 (V m c main_arg2)) (V m c main_arg0) (V m c main_v0) (V m c main_arg3) (V m c main_v1) (V m c main_arg5) (V m c main_v2)) (fun t _ => by
    rw [flushed13_A, out13_eq, iblk0_eq, iblk1_eq, iblk2_eq, iblk3_eq, iblk4_eq, iblk5_eq, iblk6_eq]
    exact cut13_eq t _) covered13

end Cert.ReferenceIdeal.Hand
end
-- ==== Proof.AlgebraicIdeal.lean ====
module

public import proofs.«01_k».proof.Defs
public import proofs.«01_k».proof.Proof.ValueOutIdeal
public import proofs.«01_k».proof.Proof.ValueArrIdeal
public import proofs.«01_k».proof.Proof.ValueRefIdeal

@[expose] public section

set_option maxRecDepth 16384

noncomputable section

namespace Cert.KernelIdeal.Hand

open Idealize.ShloMosaic Idealize.ShloMosaic.TcCoe Idealize.SL.Sem
open Cert.KernelIdeal Cert.KernelIdeal.Gen

/-! ### What the kernel leaves is what the reference leaves, of the same arrays -/

section Values

variable (c : Dev nD) (f7 : C7 (F := Ideal) c) (f8 : C8 (F := Ideal) c) (f9 : C9 (F := Ideal) c) (w1 : Vec Ideal S12 .f32) (w2 : Vec Ideal S1x3072 .f32) (w3 w4 : Vec Ideal S1x6144 .f32)
  (w5 : Vec Ideal S1x3072 .f32) (w6 : Vec Ideal S24x3072 .f32)

theorem mul0_fac : mul0 w1 = Cert.ReferenceIdeal.Hand.fac 5 w1 := congrArg w1 (funext fun a => by match a with | ⟨0, _⟩ => rfl)
theorem mul1_fac : mul1 w1 = Cert.ReferenceIdeal.Hand.fac 6 w1 := congrArg w1 (funext fun a => by match a with | ⟨0, _⟩ => rfl)

theorem outR_G : outR c f7 f8 f9 w1 w2 w3 w4 w5 w6 = Cert.ReferenceIdeal.Hand.G9 (Cert.ReferenceIdeal.Hand.fac 5 w1) (Cert.ReferenceIdeal.Hand.fac 6 w1) w6 w2 f7 w3 f8 w4 f9 w5 := by
  rw [outR_eq, mul0_fac, mul1_fac]; rfl
theorem top1_G : top1 (lhs1 w2 w6) = Cert.ReferenceIdeal.Hand.G10 w6 w2 := top1_eq w2 w6
theorem s1R_G : s1R c f7 f8 w1 w2 w3 w4 w6 = Cert.ReferenceIdeal.Hand.G11 w6 w2 := by
  unfold s1R
  rw [pay120_eq, sc1_eq]; rfl
theorem top2_G : top2 (lhsA c f7 f8 w1 w2 w3 w4 w6) = Cert.ReferenceIdeal.Hand.G12 (Cert.ReferenceIdeal.Hand.fac 5 w1) w6 w2 f7 w3 f8 w4 := by
  rw [top2_eq, mul0_fac]; rfl
theorem s2R_G : s2R c f7 f8 w1 w2 w3 w4 w6 = Cert.ReferenceIdeal.Hand.G13 (Cert.ReferenceIdeal.Hand.fac 5 w1) w6 w2 f7 w3 f8 w4 := by
  unfold s2R
  rw [pay1_119_eq, scA_scR, mul0_fac]; rfl

end Values

/-! ### The arrays of the two programs, from memories that agree on the arguments -/

section Arrays

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ) (ρ' : Dev Cert.ReferenceIdeal.nD → PrngReg)

/-- The two memories hold the same arguments on device `c`. -/
abbrev Same (c : Dev nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

variable {m m'}

theorem same_arg0 (c : Dev nD) (h : Same m m' c) : (Cert.ReferenceIdeal.Gen.V m' c Cert.ReferenceIdeal.main_arg0 : Vec Ideal S24x3072 .f32) = V m c main_arg0 :=
  (Cert.ReferenceIdeal.Gen.V_main_arg0 m' c).trans ((h.1).trans (V_main_arg0 m c).symm)
theorem same_arg2 (c : Dev nD) (h : Same m m' c) : (Cert.ReferenceIdeal.Gen.V m' c Cert.ReferenceIdeal.main_arg2 : Vec Ideal S12 .f32) = V m c main_arg2 :=
  (Cert.ReferenceIdeal.Gen.V_main_arg2 m' c).trans ((h.2.2.1).trans (V_main_arg2 m c).symm)
theorem same_arg3 (c : Dev nD) (h : Same m m' c) : (Cert.ReferenceIdeal.Gen.V m' c Cert.ReferenceIdeal.main_arg3 : Vec Ideal S3072x6144 .fp8e4m3) = V m c main_arg3 :=
  (Cert.ReferenceIdeal.Gen.V_main_arg3 m' c).trans ((h.2.2.2.1).trans (V_main_arg3 m c).symm)
theorem same_arg5 (c : Dev nD) (h : Same m m' c) : (Cert.ReferenceIdeal.Gen.V m' c Cert.ReferenceIdeal.main_arg5 : Vec Ideal S3072x6144 .fp8e4m3) = V m c main_arg5 :=
  (Cert.ReferenceIdeal.Gen.V_main_arg5 m' c).trans ((h.2.2.2.2.2.1).trans (V_main_arg5 m c).symm)
theorem same_arg7 (c : Dev nD) (h : Same m m' c) : (Cert.ReferenceIdeal.Gen.V m' c Cert.ReferenceIdeal.main_arg7 : Vec Ideal S6144x3072 .fp8e4m3) = V m c main_arg7 :=
  (Cert.ReferenceIdeal.Gen.V_main_arg7 m' c).trans ((h.2.2.2.2.2.2.2.1).trans (V_main_arg7 m c).symm)
theorem same_v0 (c : Dev nD) (h : Same m m' c) : (Cert.ReferenceIdeal.Gen.V m' c Cert.ReferenceIdeal.main_v0 : Vec Ideal S1x3072 .f32) = V m c main_v0 :=
  (Cert.ReferenceIdeal.Hand.V_v0 m' c).trans ((congrArg (fun x : Vec Ideal S3072 .f32 => (shapeCast S1x3072 x shapeCasts_S3072_S1x3072 : Vec Ideal S1x3072 .f32)) (h.2.1)).trans (V_v0 m c).symm)
theorem same_v1 (c : Dev nD) (h : Same m m' c) : (Cert.ReferenceIdeal.Gen.V m' c Cert.ReferenceIdeal.main_v1 : Vec Ideal S1x6144 .f32) = V m c main_v1 :=
  (Cert.ReferenceIdeal.Hand.V_v1 m' c).trans ((congrArg (fun x : Vec Ideal S6144 .f32 => (shapeCast S1x6144 x shapeCasts_S6144_S1x6144 : Vec Ideal S1x6144 .f32)) (h.2.2.2.2.1)).trans (V_v1 m c).symm)
theorem same_v2 (c : Dev nD) (h : Same m m' c) : (Cert.ReferenceIdeal.Gen.V m' c Cert.ReferenceIdeal.main_v2 : Vec Ideal S1x6144 .f32) = V m c main_v2 :=
  (Cert.ReferenceIdeal.Hand.V_v2 m' c).trans ((congrArg (fun x : Vec Ideal S6144 .f32 => (shapeCast S1x6144 x shapeCasts_S6144_S1x6144 : Vec Ideal S1x6144 .f32)) (h.2.2.2.2.2.2.1)).trans (V_v2 m c).symm)
theorem same_v3 (c : Dev nD) (h : Same m m' c) : (Cert.ReferenceIdeal.Gen.V m' c Cert.ReferenceIdeal.main_v3 : Vec Ideal S1x3072 .f32) = V m c main_v3 :=
  (Cert.ReferenceIdeal.Hand.V_v3 m' c).trans ((congrArg (fun x : Vec Ideal S3072 .f32 => (shapeCast S1x3072 x shapeCasts_S3072_S1x3072 : Vec Ideal S1x3072 .f32)) (h.2.2.2.2.2.2.2.2)).trans (V_v3 m c).symm)

/-! So each result array of the reference is the kernel's. -/

theorem same_res0 (c : Dev nD) (h : Same m m' c) : ((Cert.ReferenceIdeal.Gen.dats m' 0 c).arrAt 9 Cert.ReferenceIdeal.cfg0.N : Vec Ideal S24x3072 .bf16) = (dats m 0 c).arrAt 6 cfg0.N := by
  refine (Cert.ReferenceIdeal.Hand.final9 m' c).trans (Eq.trans ?_ (final6 m c).symm)
  rw [outR_G, same_arg2 c h, same_arg0 c h, same_v0 c h, same_arg3 c h, same_v1 c h, same_arg5 c h, same_v2 c h, same_arg7 c h, same_v3 c h]
theorem same_res1 (c : Dev nD) (h : Same m m' c) : ((Cert.ReferenceIdeal.Gen.dats m' 0 c).arrAt 10 Cert.ReferenceIdeal.cfg0.N : Vec Ideal S24x3072 .fp8e4m3) = (dats m 0 c).arrAt 7 cfg0.N := by
  refine (Cert.ReferenceIdeal.Hand.final10 m' c).trans (Eq.trans ?_ (final7 m c).symm)
  rw [top1_G, same_arg0 c h, same_v0 c h]
theorem same_res2 (c : Dev nD) (h : Same m m' c) : ((Cert.ReferenceIdeal.Gen.dats m' 0 c).arrAt 11 Cert.ReferenceIdeal.cfg0.N : Vec Ideal S1x24 .f32) = (dats m 0 c).arrAt 8 cfg0.N := by
  refine (Cert.ReferenceIdeal.Hand.final11 m' c).trans (Eq.trans ?_ (final8 m c).symm)
  rw [s1R_G, same_arg0 c h, same_v0 c h]
theorem same_res3 (c : Dev nD) (h : Same m m' c) : ((Cert.ReferenceIdeal.Gen.dats m' 0 c).arrAt 12 Cert.ReferenceIdeal.cfg0.N : Vec Ideal S24x6144 .fp8e4m3) = (dats m 0 c).arrAt 9 cfg0.N := by
  refine (Cert.ReferenceIdeal.Hand.final12 m' c).trans (Eq.trans ?_ (final9 m c).symm)
  rw [top2_G, same_arg2 c h, same_arg0 c h, same_v0 c h, same_arg3 c h, same_v1 c h, same_arg5 c h, same_v2 c h]
theorem same_res4 (c : Dev nD) (h : Same m m' c) : ((Cert.ReferenceIdeal.Gen.dats m' 0 c).arrAt 13 Cert.ReferenceIdeal.cfg0.N : Vec Ideal S1x24 .f32) = (dats m 0 c).arrAt 10 cfg0.N := by
  refine (Cert.ReferenceIdeal.Hand.final13 m' c).trans (Eq.trans ?_ (final10 m c).symm)
  rw [s2R_G, same_arg2 c h, same_arg0 c h, same_v0 c h, same_arg3 c h, same_v1 c h, same_arg5 c h, same_v2 c h]

end Arrays

/-! ### The claim -/

/-- The kernel's run with its five result arrays named. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4_0) = (dats m 0 c).arrAt 6 cfg0.N
      ∧ r.2.mem ((c.tc : Thread nD τ).loc main_v4_1) = (dats m 0 c).arrAt 7 cfg0.N
      ∧ r.2.mem ((c.tc : Thread nD τ).loc main_v4_2) = (dats m 0 c).arrAt 8 cfg0.N
      ∧ r.2.mem ((c.tc : Thread nD τ).loc main_v4_3) = (dats m 0 c).arrAt 9 cfg0.N
      ∧ r.2.mem ((c.tc : Thread nD τ).loc main_v4_4) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c => ⟨(h.1 c).1 6, (h.1 c).1 7, (h.1 c).1 8, (h.1 c).1 9, (h.1 c).1 10,
      ((h.1 c).1 5).trans (((dats m 0 c).arrAt_in 5 rfl _).trans ((A_eq m c 5).trans (V_main_arg0 m c))),
      ((h.1 c).2 main_arg1 (Pipeline.mem_restRefs_of main_arg1 (by decide) (by decide))).trans (V_main_arg1 m c),
      ((h.1 c).1 0).trans (((dats m 0 c).arrAt_in 0 rfl _).trans ((A_eq m c 0).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩) (run_main m ρ)

/-- From memories that agree on the arguments, the kernel and the reference leave the same five results. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, run_values m g, ?_⟩
  refine (θ_run (Cert.ReferenceIdeal.defs (F := Ideal)) _ _).mono (fun r k c => ?_) (Cert.ReferenceIdeal.Value.run_blocks m' g')
  obtain ⟨k0, k1, k2, k3, k4, ka⟩ := k c
  exact ⟨k0.trans (same_res0 c (h c)), k1.trans (same_res1 c (h c)), k2.trans (same_res2 c (h c)), k3.trans (same_res3 c (h c)), k4.trans (same_res4 c (h c)), ka⟩

end Cert.KernelIdeal.Hand
end
-- ==== Proof.ValueHIdeal.lean ====
module

public import proofs.«01_k».proof.Proof.ValueNormIdeal
public import proofs.«01_k».proof.Proof.Gen.KernelHIdeal.Value

@[expose] public section

set_option maxRecDepth 16384

noncomputable section

namespace Cert.KernelHIdeal.Hand

open Cert.KernelHIdeal Cert.KernelHIdeal.Gen Cert.KernelHIdeal.Value Idealize.ShloMosaic Idealize.ShloMosaic.TcCoe Idealize.SL.Sem
open Idealize.ShloMosaic.Pipeline (Dat)
open Cert.KernelIdeal.Hand (cols read_cols ld_cols consN consL inbH inbL hB nB rms nrm sc1 lhs1 top1)

/-! ### The first quantiser computes as the second does

The two run the same code; the first reads its rows in bf16 and widens them, which at the reals changes nothing. -/

theorem pay5_nrm (v44 : FVec Ideal S24x128 .f32) (v47 : FVec Ideal S24x512 .f32) (v56 h : Vec Ideal S24x512 .bf16) (n : Vec Ideal S1x512 .f32) :
    k0_pay5 v44 v47 v56 h n = Cert.KernelIdeal.Gen.k0_pay20 (F := Ideal) (k0_pay3 v44 v47 v56) h n := rfl
theorem pay8_nrm (R : FVec Ideal S24x1 .f32) (h : Vec Ideal S24x512 .bf16) (n : Vec Ideal S1x512 .f32) : k0_pay8 R h n = Cert.KernelIdeal.Gen.k0_pay20 (F := Ideal) R h n := rfl
theorem pay10_nrm (R : FVec Ideal S24x1 .f32) (h : Vec Ideal S24x512 .bf16) (n : Vec Ideal S1x512 .f32) : k0_pay10 R h n = Cert.KernelIdeal.Gen.k0_pay20 (F := Ideal) R h n := rfl
theorem pay14_nrm (R : FVec Ideal S24x1 .f32) (h : Vec Ideal S24x512 .bf16) (n : Vec Ideal S1x512 .f32) : k0_pay14 (k0_pay12 R h) n = Cert.KernelIdeal.Gen.k0_pay20 (F := Ideal) R h n := rfl
theorem pay16_nrm (R : FVec Ideal S24x1 .f32) (h : Vec Ideal S24x512 .bf16) (n : Vec Ideal S1x512 .f32) : k0_pay16 R h n = Cert.KernelIdeal.Gen.k0_pay20 (F := Ideal) R h n := rfl
theorem pay19_nrm (R : FVec Ideal S24x1 .f32) (h : Vec Ideal S24x512 .bf16) (n : Vec Ideal S1x512 .f32) : k0_pay19 (k0_pay18 R h n) = Cert.KernelIdeal.Gen.k0_pay20 (F := Ideal) R h n := rfl

theorem rms_same (a b c d e f : Vec Ideal S24x512 .bf16) :
    k0_pay3 (k0_pay1 a b c d) (k0_pay2 e) f
      = Cert.KernelIdeal.Gen.k0_pay15 (F := Ideal) (Cert.KernelIdeal.Gen.k0_pay12 (F := Ideal) a b c) (Cert.KernelIdeal.Gen.k0_pay13 (F := Ideal) d) (Cert.KernelIdeal.Gen.k0_pay14 (F := Ideal) d) e f := rfl

theorem code21 (a : FVec Ideal S24x128 .f32) (b x : FVec Ideal S24x512 .f32) : k0_pay21 a b x = Cert.KernelIdeal.Gen.k0_pay40 (F := Ideal) (k0_pay20 a b) x := rfl
theorem code23 (a : FVec Ideal S24x128 .f32) (b x : FVec Ideal S24x512 .f32) :
    k0_pay23 (k0_pay22 a b x) (Scalar.ofBits .f32 0x00000000#32) = Cert.KernelIdeal.Gen.k0_pay40 (F := Ideal) (k0_pay20 a b) x := rfl
theorem code24 (s : FVec Ideal S24x1 .f32) (x : FVec Ideal S24x512 .f32) : k0_pay24 s x = Cert.KernelIdeal.Gen.k0_pay40 (F := Ideal) s x := rfl
theorem code25 (s : FVec Ideal S24x1 .f32) (x : FVec Ideal S24x512 .f32) : k0_pay25 s x = Cert.KernelIdeal.Gen.k0_pay40 (F := Ideal) s x := rfl
theorem code27 (s : FVec Ideal S24x1 .f32) (x : FVec Ideal S24x512 .f32) :
    k0_pay27 (Scalar.ofBits .f32 0x43E00000#32) (k0_pay26 s x) = Cert.KernelIdeal.Gen.k0_pay40 (F := Ideal) s x := rfl
theorem code28 (s : FVec Ideal S24x1 .f32) (x : FVec Ideal S24x512 .f32) : k0_pay28 s x = Cert.KernelIdeal.Gen.k0_pay40 (F := Ideal) s x := rfl

section Run

variable (c : Dev nD) (arg1 : Memref sig .tc .vmem S24x3072 .bf16) (harg1 : arg1.IsWhole) (arg2 : Memref sig .tc .vmem S1x3072 .f32) (harg2 : arg2.IsWhole)
  (arg6 : Memref sig .tc .vmem S24x3072 .f32) (x0 : Vec Ideal S24x3072 .bf16) (x1 : Vec Ideal S1x3072 .f32)

/-- The rows and the gain, as the run's loads find them. -/
abbrev W6 : Vec Ideal S24x3072 .f32 := arg1.view.read (Elt Ideal) (harg1.unread x0)
abbrev W2 : Vec Ideal S1x3072 .f32 := arg2.view.read (Elt Ideal) (harg2.unread x1)

theorem r2_eq : kernelRun0_A.sl.r_2 c arg1 harg1 x0 = rms (W6 arg1 harg1 x0) := rms_same _ _ _ _ _ _

theorem r8_eq : kernelRun0_A.sl.r_8 c arg1 harg1 arg2 harg2 x0 x1 = sc1 (W2 arg2 harg2 x1) (W6 arg1 harg1 x0) := rfl

/-- The buffer of normalised rows, after the first sweep. -/
theorem read_rows : arg6.view.read (Elt Ideal) (arg6.view.writes (Elt Ideal) arg6.view.junk (kernelRun0_A.sl.HS1_6 c arg1 harg1 arg2 harg2 x0 x1))
    = cols (d := ![24, 3072]) (tsz := S24x512.size) (n := 6) rfl rfl (nrm (W2 arg2 harg2 x1) (W6 arg1 harg1 x0)) := by
  have hL : kernelRun0_A.sl.HS1_6 c arg1 harg1 arg2 harg2 x0 x1
      = View.tilePieces (s := S24x3072) S24x512.size (fun j : Fin 6 => ![0, 512 * j.val]) inbH (nrm (W2 arg2 harg2 x1) (W6 arg1 harg1 x0)) 6 le_rfl := by
    unfold kernelRun0_A.sl.HS1_6
    refine consN (F := Ideal) (nrm (W2 arg2 harg2 x1) (W6 arg1 harg1 x0)) 5 (by decide) _ rfl _ _ (pay19_nrm _ _ _) _ ?_
    refine consN (F := Ideal) (nrm (W2 arg2 harg2 x1) (W6 arg1 harg1 x0)) 4 (by decide) _ rfl _ _ (pay16_nrm _ _ _) _ ?_
    refine consN (F := Ideal) (nrm (W2 arg2 harg2 x1) (W6 arg1 harg1 x0)) 3 (by decide) _ rfl _ _ (pay14_nrm _ _ _) _ ?_
    refine consN (F := Ideal) (nrm (W2 arg2 harg2 x1) (W6 arg1 harg1 x0)) 2 (by decide) _ rfl _ _ (pay10_nrm _ _ _) _ ?_
    refine consN (F := Ideal) (nrm (W2 arg2 harg2 x1) (W6 arg1 harg1 x0)) 1 (by decide) _ rfl _ _ (pay8_nrm _ _ _) _ ?_
    refine consN (F := Ideal) (nrm (W2 arg2 harg2 x1) (W6 arg1 harg1 x0)) 0 (by decide) _ rfl _ _ (pay5_nrm _ _ _ _ _) _ ?_
    rfl
  rw [hL]
  exact read_cols (d := ![24, 3072]) (tsz := S24x512.size) (n := 6) (Val := Elt Ideal) (e := .f32) rfl rfl arg6.view arg6.view.junk (fun j => ![0, 512 * j.val]) (fun _ => rfl) inbH _

theorem read_row (j : Fin 6) (o : Fin 2 → ℕ) (ho : o = ![0, 512 * j.val]) (inb : ∀ a, o a + S24x512.size a ≤ S24x3072.size a) :
    View.readCov arg6.view (kernelRun0_A.sl.HS1_6 c arg1 harg1 arg2 harg2 x0 x1) (Rect.unit (s := S24x3072) o S24x512.size inb).toLoadRect
      = nrm (W2 arg2 harg2 x1) (W6 arg1 harg1 x0) j := by
  show VecWindow.window (arg6.view.read (Elt Ideal) (arg6.view.writes (Elt Ideal) arg6.view.junk _)) o S24x512.size inb = _
  rw [read_rows]
  exact ld_cols (d := ![24, 3072]) (tsz := S24x512.size) (n := 6) rfl rfl _ j o ho _

/-- The buffer of codes, after the second sweep. -/
theorem read_codes (arg5 : Memref sig .tc .vmem S32x3072 .fp8e4m3) :
    arg5.view.read (Elt Ideal) (arg5.view.writes (Elt Ideal) arg5.view.junk (kernelRun0_A.sl.HS0_6 c arg1 harg1 arg2 harg2 arg6 x0 x1))
      = lhs1 (W2 arg2 harg2 x1) (W6 arg1 harg1 x0) := by
  have y0 : kernelRun0_A.sl.v203 c arg1 harg1 arg2 harg2 arg6 x0 x1 = nrm (W2 arg2 harg2 x1) (W6 arg1 harg1 x0) 0 := read_row c arg1 harg1 arg2 harg2 arg6 x0 x1 0 _ rfl _
  have y1 : kernelRun0_A.sl.v216 c arg1 harg1 arg2 harg2 arg6 x0 x1 = nrm (W2 arg2 harg2 x1) (W6 arg1 harg1 x0) 1 := read_row c arg1 harg1 arg2 harg2 arg6 x0 x1 1 _ rfl _
  have y2 : kernelRun0_A.sl.v229 c arg1 harg1 arg2 harg2 arg6 x0 x1 = nrm (W2 arg2 harg2 x1) (W6 arg1 harg1 x0) 2 := read_row c arg1 harg1 arg2 harg2 arg6 x0 x1 2 _ rfl _
  have y3 : kernelRun0_A.sl.v242 c arg1 harg1 arg2 harg2 arg6 x0 x1 = nrm (W2 arg2 harg2 x1) (W6 arg1 harg1 x0) 3 := read_row c arg1 harg1 arg2 harg2 arg6 x0 x1 3 _ rfl _
  have y4 : kernelRun0_A.sl.v255 c arg1 harg1 arg2 harg2 arg6 x0 x1 = nrm (W2 arg2 harg2 x1) (W6 arg1 harg1 x0) 4 := read_row c arg1 harg1 arg2 harg2 arg6 x0 x1 4 _ rfl _
  have y5 : kernelRun0_A.sl.v268 c arg1 harg1 arg2 harg2 arg6 x0 x1 = nrm (W2 arg2 harg2 x1) (W6 arg1 harg1 x0) 5 := read_row c arg1 harg1 arg2 harg2 arg6 x0 x1 5 _ rfl _
  have es : k0_pay20 (kernelRun0_A.sl.r_6 c arg1 harg1 arg2 harg2 x0 x1) (kernelRun0_A.sl.r_7 c arg1 harg1 arg2 harg2 x0 x1) = sc1 (W2 arg2 harg2 x1) (W6 arg1 harg1 x0) := r8_eq c arg1 harg1 arg2 harg2 x0 x1
  have hL : kernelRun0_A.sl.HS0_6 c arg1 harg1 arg2 harg2 arg6 x0 x1
      = View.tilePieces (s := S32x3072) S32x512.size (fun j : Fin 6 => ![0, 512 * j.val]) inbL
          (fun j => Cert.KernelIdeal.Gen.k0_pay40 (F := Ideal) (sc1 (W2 arg2 harg2 x1) (W6 arg1 harg1 x0)) (nrm (W2 arg2 harg2 x1) (W6 arg1 harg1 x0) j)) 6 le_rfl := by
    unfold kernelRun0_A.sl.HS0_6 kernelRun0_A.sl.r_9 kernelRun0_A.sl.r_10 kernelRun0_A.sl.cst_61 kernelRun0_A.sl.cst_81
    rw [y0, y1, y2, y3, y4, y5, r8_eq, code21, code23, code24, code25, code27, code28, es]
    refine consL (F := Ideal) (fun j => Cert.KernelIdeal.Gen.k0_pay40 (F := Ideal) (sc1 (W2 arg2 harg2 x1) (W6 arg1 harg1 x0)) (nrm (W2 arg2 harg2 x1) (W6 arg1 harg1 x0) j)) 5 (by decide) _ rfl _ _ rfl _ ?_
    refine consL (F := Ideal) (fun j => Cert.KernelIdeal.Gen.k0_pay40 (F := Ideal) (sc1 (W2 arg2 harg2 x1) (W6 arg1 harg1 x0)) (nrm (W2 arg2 harg2 x1) (W6 arg1 harg1 x0) j)) 4 (by decide) _ rfl _ _ rfl _ ?_
    refine consL (F := Ideal) (fun j => Cert.KernelIdeal.Gen.k0_pay40 (F := Ideal) (sc1 (W2 arg2 harg2 x1) (W6 arg1 harg1 x0)) (nrm (W2 arg2 harg2 x1) (W6 arg1 harg1 x0) j)) 3 (by decide) _ rfl _ _ rfl _ ?_
    refine consL (F := Ideal) (fun j => Cert.KernelIdeal.Gen.k0_pay40 (F := Ideal) (sc1 (W2 arg2 harg2 x1) (W6 arg1 harg1 x0)) (nrm (W2 arg2 harg2 x1) (W6 arg1 harg1 x0) j)) 2 (by decide) _ rfl _ _ rfl _ ?_
    refine consL (F := Ideal) (fun j => Cert.KernelIdeal.Gen.k0_pay40 (F := Ideal) (sc1 (W2 arg2 harg2 x1) (W6 arg1 harg1 x0)) (nrm (W2 arg2 harg2 x1) (W6 arg1 harg1 x0) j)) 1 (by decide) _ rfl _ _ rfl _ ?_
    refine consL (F := Ideal) (fun j => Cert.KernelIdeal.Gen.k0_pay40 (F := Ideal) (sc1 (W2 arg2 harg2 x1) (W6 arg1 harg1 x0)) (nrm (W2 arg2 harg2 x1) (W6 arg1 harg1 x0) j)) 0 (by decide) _ rfl _ _ rfl _ ?_
    rfl
  rw [hL]
  exact read_cols (d := ![32, 3072]) (tsz := S32x512.size) (n := 6) (Val := Elt Ideal) (e := .fp8e4m3) rfl rfl arg5.view arg5.view.junk (fun j => ![0, 512 * j.val]) (fun _ => rfl) inbL _

end Run

end Cert.KernelHIdeal.Hand

end
-- ==== Proof.ValueRefHIdeal.lean ====
module

public import proofs.«01_k».proof.Proof.Gen.ReferenceHIdeal.Value
public import Idealize.ShloMosaic.Lib.Pipeline.Value

@[expose] public section

set_option maxRecDepth 16384

noncomputable section

namespace Cert.ReferenceHIdeal.Hand

open Cert.ReferenceHIdeal Cert.ReferenceHIdeal.Gen Cert.ReferenceHIdeal.Value Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- A load of the whole of a block reads the block. -/
theorem ld_all {a b : ℕ} {e : EltTy} (x : (⟨2, ![a, b]⟩ : Shape).Idx → Elt F e) (inb : ∀ i : Fin 2, (![0, 0] : Fin 2 → ℕ) i + (![a, b] : Fin 2 → ℕ) i ≤ (![a, b] : Fin 2 → ℕ) i) :
    View.ld x (Rect.unit (s := ⟨2, ![a, b]⟩) ![0, 0] ![a, b] inb) = x := View.ld_unit_zero (S := ⟨2, ![a, b]⟩) hz inb x

/-! ### What the body leaves: the codes and the scales -/

theorem out2_eq (x0 : Vec F S24x3072 .bf16) (x1 : Vec F S1x3072 .f32) : out0_2 x0 x1 = k0_pay3 x0 x1 := by
  unfold out0_2
  show View.canon ([⟨Rect.unit ![0, 0] S24x3072.size inb_S24x3072_S24x3072_0_0, k0_pay3 (View.ld x0 (Rect.unit (s := S24x3072) ![0, 0] S24x3072.size inb_S24x3072_S24x3072_0_0)) (View.ld x1 (Rect.unit (s := S1x3072) ![0, 0] S1x3072.size inb_S1x3072_S1x3072_0_0))⟩] : List (View.Piece (Elt F) S24x3072 .fp8e4m3)) = _
  rw [View.canon_unit_zero hz, ld_all, ld_all]

theorem out3_eq (x0 : Vec F S24x3072 .bf16) (x1 : Vec F S1x3072 .f32) : out0_3 x0 x1 = k0_pay4 x0 x1 := by
  unfold out0_3
  show View.canon ([⟨Rect.unit ![0, 0] S1x24.size inb_S1x24_S1x24_0_0, k0_pay4 (View.ld x0 (Rect.unit (s := S24x3072) ![0, 0] S24x3072.size inb_S24x3072_S24x3072_0_0)) (View.ld x1 (Rect.unit (s := S1x3072) ![0, 0] S1x3072.size inb_S1x3072_S1x3072_0_0))⟩] : List (View.Piece (Elt F) S1x24 .f32)) = _
  rw [View.canon_unit_zero hz, ld_all, ld_all]

variable (m : (ℓ : Loc nD τ sig) → Buf (Elt F) ℓ) (ρ : Dev nD → PrngReg)

/-! ### The windows: each block is its whole array -/

theorem idx_zero0 : ∀ t : Fin cfg0.N, win0_0.index t (0 : Fin 2) = 0 ∧ win0_0.index t (1 : Fin 2) = 0 := (by decide +kernel : ∀ t : Fin grid0.N, _)
theorem idx_zero1 : ∀ t : Fin cfg0.N, win0_1.index t (0 : Fin 2) = 0 ∧ win0_1.index t (1 : Fin 2) = 0 := (by decide +kernel : ∀ t : Fin grid0.N, _)
theorem idx_zero2 : ∀ t : Fin cfg0.N, win0_2.index t (0 : Fin 2) = 0 ∧ win0_2.index t (1 : Fin 2) = 0 := (by decide +kernel : ∀ t : Fin grid0.N, _)
theorem idx_zero3 : ∀ t : Fin cfg0.N, win0_3.index t (0 : Fin 2) = 0 ∧ win0_3.index t (1 : Fin 2) = 0 := (by decide +kernel : ∀ t : Fin grid0.N, _)

/-! So an index of a window's block is the same index of its array. -/

theorem emb0 (t : Fin cfg0.N) (j : S24x3072.Idx) : ((cfg0.win 0).blk t).view.emb j = j := by
  obtain ⟨e0, e1⟩ := idx_zero0 t
  funext a; apply Fin.ext
  match a with
  | ⟨0, _⟩ => show win0_0.index t (0 : Fin 2) * 24 + 1 * (j 0).val = (j 0).val; omega
  | ⟨1, _⟩ => show win0_0.index t (1 : Fin 2) * 3072 + 1 * (j 1).val = (j 1).val; omega
theorem emb1 (t : Fin cfg0.N) (j : S1x3072.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 3072 + 1 * (j 1).val = (j 1).val; omega
theorem emb2 (t : Fin cfg0.N) (j : S24x3072.Idx) : ((cfg0.win 2).blk t).view.emb j = j := by
  obtain ⟨e0, e1⟩ := idx_zero2 t
  funext a; apply Fin.ext
  match a with
  | ⟨0, _⟩ => show win0_2.index t (0 : Fin 2) * 24 + 1 * (j 0).val = (j 0).val; omega
  | ⟨1, _⟩ => show win0_2.index t (1 : Fin 2) * 3072 + 1 * (j 1).val = (j 1).val; omega
theorem emb3 (t : Fin cfg0.N) (j : S1x24.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 24 + 1 * (j 1).val = (j 1).val; omega

/-! An input window's block is its array as the region finds it. -/

theorem iblk0_eq (c : Dev nD) (t : Fin cfg0.N) : iblk m c 0 t = V m c main_arg0 := by
  funext j; show V m c main_arg0 (((cfg0.win 0).blk t).view.emb j) = V m c main_arg0 j; rw [emb0]
theorem iblk1_eq (c : Dev nD) (t : Fin cfg0.N) : iblk m c 1 t = V m c main_v0 := by
  funext j; show V m c main_v0 (((cfg0.win 1).blk t).view.emb j) = V m c main_v0 j; rw [emb1]

/-! An output window's block, cut out of `X` or read out of `X`, is the same; and it is the whole array. -/

theorem cut2_eq (t : Fin cfg0.N) (X : Vec F S24x3072 .fp8e4m3) : (cfg0.win 2).cut (grid0.coords t) X = ((cfg0.win 2).blk t).view.read (Elt F) X := by
  funext j
  show X j = X (((cfg0.win 2).blk t).view.emb j)
  rw [emb2]
theorem covered2 (i : S24x3072.Idx) : ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb2] at h⟩
theorem cut3_eq (t : Fin cfg0.N) (X : Vec F S1x24 .f32) : (cfg0.win 3).cut (grid0.coords t) X = ((cfg0.win 3).blk t).view.read (Elt F) X := by
  funext j
  show X j = X (((cfg0.win 3).blk t).view.emb j)
  rw [emb3]
theorem covered3 (i : S1x24.Idx) : ∃ t : Fin cfg0.N, (cfg0.win 3).flush t = true ∧ i ∈ ((cfg0.win 3).blk t).view.set :=
  ⟨(⟨0, by decide⟩ : Fin cfg0.N), flush0_3 _, by
    have h := ((cfg0.win 3).blk (⟨0, by decide⟩ : Fin cfg0.N)).view.emb_mem_set i; rwa [emb3] at h⟩

/-! The gain, which the host lays out as a row, as the region finds it. -/

theorem V_v0 (c : Dev nD) : V m c main_v0 = shapeCast S1x3072 (m ((c : Thread nD τ).loc main_arg1)) shapeCasts_S3072_S1x3072 := by
  show StableHlo.after hostOps0 _ (Proc.devRef .tc main_v0) = _
  after_results
  rfl

/-! ### The arrays after the run -/

theorem final2 (c : Dev nD) : (dats m 0 c).arrAt 2 cfg0.N = k0_pay3 (V m c main_arg0) (V m c main_v0) :=
  (dats m 0 c).arrAt_eq_of_cover 2 (k0_pay3 (V m c main_arg0) (V m c main_v0)) (fun t _ => by
    rw [flushed2, out2_eq, iblk0_eq, iblk1_eq]
    exact cut2_eq t _) covered2
theorem final3 (c : Dev nD) : (dats m 0 c).arrAt 3 cfg0.N = k0_pay4 (V m c main_arg0) (V m c main_v0) :=
  (dats m 0 c).arrAt_eq_of_cover 3 (k0_pay4 (V m c main_arg0) (V m c main_v0)) (fun t _ => by
    rw [flushed3, out3_eq, iblk0_eq, iblk1_eq]
    exact cut3_eq t _) covered3

end Cert.ReferenceHIdeal.Hand
end
-- ==== Proof.AlgebraicHIdeal.lean ====
module

public import proofs.«01_k».proof.Defs
public import proofs.«01_k».proof.Proof.ValueHIdeal
public import proofs.«01_k».proof.Proof.ValueOutIdeal
public import proofs.«01_k».proof.Proof.ValueRefHIdeal
public import Idealize.ShloMosaic.Lib.Pipeline.Value

@[expose] public section

set_option maxRecDepth 16384

noncomputable section

namespace Cert.KernelHIdeal.Hand

open Cert.KernelHIdeal Cert.KernelHIdeal.Gen Cert.KernelHIdeal.Value Idealize.ShloMosaic Idealize.ShloMosaic.TcCoe Idealize.SL.Sem
open Idealize.ShloMosaic.Pipeline (Dat)

theorem hz : (![0, 0] : Fin 2 → Nat) = fun _ => 0 := funext fun a => by fin_cases a <;> rfl

open Cert.KernelIdeal.Hand (sc1 lhs1 top1 sc1_eq top1_eq)

/-! ### The payloads of the two programs -/

theorem ref_codes (x : Vec Ideal S24x3072 .bf16) (n : Vec Ideal S1x3072 .f32) :
    Cert.ReferenceIdeal.Gen.k0_pay5 (F := Ideal) x n = Cert.ReferenceHIdeal.Gen.k0_pay3 (F := Ideal) x n := rfl
theorem pay29_eq (a : FVec Ideal S24x1 .f32) : k0_pay29 a = Cert.ReferenceIdeal.Gen.k0_pay1 (F := Ideal) a := by
  refine Cert.KernelIdeal.Hand.ext_row _ _ fun r => ?_
  pointwise [k0_pay29, Cert.ReferenceIdeal.Gen.k0_pay1]
theorem ref_scales (x : Vec Ideal S24x3072 .bf16) (n : Vec Ideal S1x3072 .f32) :
    Cert.ReferenceIdeal.Gen.k0_pay1 (F := Ideal) (Cert.ReferenceIdeal.Gen.k0_pay4 (F := Ideal) x n) = Cert.ReferenceHIdeal.Gen.k0_pay4 (F := Ideal) x n := rfl

/-- The codes the body leaves are the reference's. -/
theorem out2_eq (c : Dev nD) (i : grid0.Coords) (arg1 : Memref sig .tc .vmem S24x3072 .bf16) (harg1 : arg1.IsWhole) (arg2 : Memref sig .tc .vmem S1x3072 .f32) (harg2 : arg2.IsWhole) (arg3 : Memref sig .tc .vmem S24x3072 .fp8e4m3) (harg3 : arg3.IsWhole) (arg4 : Memref sig .tc .vmem S1x24 .f32) (harg4 : arg4.IsWhole) (arg5 : Memref sig .tc .vmem S32x3072 .fp8e4m3) (harg5 : arg5.IsWhole) (arg6 : Memref sig .tc .vmem S24x3072 .f32) (harg6 : arg6.IsWhole) (x0 : Vec Ideal S24x3072 .bf16) (x1 : Vec Ideal S1x3072 .f32) :
    out0_A_2 c i arg1 harg1 arg2 harg2 arg3 harg3 arg4 harg4 arg5 harg5 arg6 harg6 x0 x1 = Cert.ReferenceHIdeal.Gen.k0_pay3 (F := Ideal) x0 x1 := by
  unfold out0_A_2
  rw [View.read_writes_junk_eq_canon]
  show View.canon ([⟨Rect.unit ![0, 0] S24x3072.size inb_S24x3072_S24x3072_0_0,
    VecWindow.window (arg5.view.read (Elt Ideal) (arg5.view.writes (Elt Ideal) arg5.view.junk (kernelRun0_A.sl.HS0_6 c arg1 harg1 arg2 harg2 arg6 x0 x1))) ![0, 0] S24x3072.size inb_S32x3072_S24x3072_0_0⟩] : List (View.Piece (Elt Ideal) S24x3072 .fp8e4m3)) = _
  rw [View.canon_unit_zero hz, read_codes]
  show top1 (lhs1 (arg2.view.read (Elt Ideal) (harg2.unread x1)) (arg1.view.read (Elt Ideal) (harg1.unread x0))) = _
  rw [harg1.read_unread, harg2.read_unread, top1_eq]
  exact ref_codes x0 x1

/-- So are the scales. -/
theorem out3_eq (c : Dev nD) (i : grid0.Coords) (arg1 : Memref sig .tc .vmem S24x3072 .bf16) (harg1 : arg1.IsWhole) (arg2 : Memref sig .tc .vmem S1x3072 .f32) (harg2 : arg2.IsWhole) (arg3 : Memref sig .tc .vmem S24x3072 .fp8e4m3) (harg3 : arg3.IsWhole) (arg4 : Memref sig .tc .vmem S1x24 .f32) (harg4 : arg4.IsWhole) (arg5 : Memref sig .tc .vmem S32x3072 .fp8e4m3) (harg5 : arg5.IsWhole) (arg6 : Memref sig .tc .vmem S24x3072 .f32) (harg6 : arg6.IsWhole) (x0 : Vec Ideal S24x3072 .bf16) (x1 : Vec Ideal S1x3072 .f32) :
    out0_A_3 c i arg1 harg1 arg2 harg2 arg3 harg3 arg4 harg4 arg5 harg5 arg6 harg6 x0 x1 = Cert.ReferenceHIdeal.Gen.k0_pay4 (F := Ideal) x0 x1 := by
  unfold out0_A_3
  rw [View.read_writes_junk_eq_canon]
  show View.canon ([⟨Rect.unit ![0, 0] S1x24.size inb_S1x24_S1x24_0_0, k0_pay29 (kernelRun0_A.sl.r_8 c arg1 harg1 arg2 harg2 x0 x1)⟩] : List (View.Piece (Elt Ideal) S1x24 .f32)) = _
  rw [View.canon_unit_zero hz, r8_eq]
  show k0_pay29 (sc1 (arg2.view.read (Elt Ideal) (harg2.unread x1)) (arg1.view.read (Elt Ideal) (harg1.unread x0))) = _
  rw [harg1.read_unread, harg2.read_unread, sc1_eq, pay29_eq]
  exact ref_scales x0 x1

section Windows

variable {F : FTy → Type} [FloatOps F]
variable (m : (ℓ : Loc nD τ sig) → Buf (Elt F) ℓ) (ρ : Dev nD → PrngReg)

/-! ### The windows: each block is its whole array -/

theorem idx_zero0 : ∀ t : Fin cfg0.N, win0_0.index t (0 : Fin 2) = 0 ∧ win0_0.index t (1 : Fin 2) = 0 := (by decide +kernel : ∀ t : Fin grid0.N, _)
theorem idx_zero1 : ∀ t : Fin cfg0.N, win0_1.index t (0 : Fin 2) = 0 ∧ win0_1.index t (1 : Fin 2) = 0 := (by decide +kernel : ∀ t : Fin grid0.N, _)
theorem idx_zero2 : ∀ t : Fin cfg0.N, win0_2.index t (0 : Fin 2) = 0 ∧ win0_2.index t (1 : Fin 2) = 0 := (by decide +kernel : ∀ t : Fin grid0.N, _)
theorem idx_zero3 : ∀ t : Fin cfg0.N, win0_3.index t (0 : Fin 2) = 0 ∧ win0_3.index t (1 : Fin 2) = 0 := (by decide +kernel : ∀ t : Fin grid0.N, _)

/-! So an index of a window's block is the same index of its array. -/

theorem emb0 (t : Fin cfg0.N) (j : S24x3072.Idx) : ((cfg0.win 0).blk t).view.emb j = j := by
  obtain ⟨e0, e1⟩ := idx_zero0 t
  funext a; apply Fin.ext
  match a with
  | ⟨0, _⟩ => show win0_0.index t (0 : Fin 2) * 24 + 1 * (j 0).val = (j 0).val; omega
  | ⟨1, _⟩ => show win0_0.index t (1 : Fin 2) * 3072 + 1 * (j 1).val = (j 1).val; omega
theorem emb1 (t : Fin cfg0.N) (j : S1x3072.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 3072 + 1 * (j 1).val = (j 1).val; omega
theorem emb2 (t : Fin cfg0.N) (j : S24x3072.Idx) : ((cfg0.win 2).blk t).view.emb j = j := by
  obtain ⟨e0, e1⟩ := idx_zero2 t
  funext a; apply Fin.ext
  match a with
  | ⟨0, _⟩ => show win0_2.index t (0 : Fin 2) * 24 + 1 * (j 0).val = (j 0).val; omega
  | ⟨1, _⟩ => show win0_2.index t (1 : Fin 2) * 3072 + 1 * (j 1).val = (j 1).val; omega
theorem emb3 (t : Fin cfg0.N) (j : S1x24.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 24 + 1 * (j 1).val = (j 1).val; omega

/-! An input window's block is its array as the region finds it. -/

theorem iblk0_eq (c : Dev nD) (t : Fin cfg0.N) : iblk m c 0 t = V m c main_arg0 := by
  funext j; show V m c main_arg0 (((cfg0.win 0).blk t).view.emb j) = V m c main_arg0 j; rw [emb0]
theorem iblk1_eq (c : Dev nD) (t : Fin cfg0.N) : iblk m c 1 t = V m c main_v0 := by
  funext j; show V m c main_v0 (((cfg0.win 1).blk t).view.emb j) = V m c main_v0 j; rw [emb1]

/-! An output window's block, cut out of `X` or read out of `X`, is the same; and it is the whole array. -/

theorem cut2_eq (t : Fin cfg0.N) (X : Vec F S24x3072 .fp8e4m3) : (cfg0.win 2).cut (grid0.coords t) X = ((cfg0.win 2).blk t).view.read (Elt F) X := by
  funext j
  show X j = X (((cfg0.win 2).blk t).view.emb j)
  rw [emb2]
theorem covered2 (i : S24x3072.Idx) : ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb2] at h⟩
theorem cut3_eq (t : Fin cfg0.N) (X : Vec F S1x24 .f32) : (cfg0.win 3).cut (grid0.coords t) X = ((cfg0.win 3).blk t).view.read (Elt F) X := by
  funext j
  show X j = X (((cfg0.win 3).blk t).view.emb j)
  rw [emb3]
theorem covered3 (i : S1x24.Idx) : ∃ t : Fin cfg0.N, (cfg0.win 3).flush t = true ∧ i ∈ ((cfg0.win 3).blk t).view.set :=
  ⟨(⟨0, by decide⟩ : Fin cfg0.N), flush0_3 _, by
    have h := ((cfg0.win 3).blk (⟨0, by decide⟩ : Fin cfg0.N)).view.emb_mem_set i; rwa [emb3] at h⟩

/-! The gain, which the host lays out as a row, as the region finds it. -/

theorem V_v0 (c : Dev nD) : V m c main_v0 = shapeCast S1x3072 (m ((c : Thread nD τ).loc main_arg1)) shapeCasts_S3072_S1x3072 := by
  show StableHlo.after hostOps0 _ (Proc.devRef .tc main_v0) = _
  after_results
  rfl

end Windows

/-! ### The arrays after the run, from memories that agree on the arguments -/

section Arrays

variable (m : (ℓ : Loc nD τ sig) → Buf (Elt Ideal) ℓ) (m' : (ℓ : Loc Cert.ReferenceHIdeal.nD Cert.ReferenceHIdeal.τ Cert.ReferenceHIdeal.sig) → Buf (Elt Ideal) ℓ)

theorem final2 (c : Dev nD) : (dats m 0 c).arrAt 2 cfg0.N = Cert.ReferenceHIdeal.Gen.k0_pay3 (F := Ideal) (V m c main_arg0) (V m c main_v0) :=
  (dats m 0 c).arrAt_eq_of_cover 2 (Cert.ReferenceHIdeal.Gen.k0_pay3 (F := Ideal) (V m c main_arg0) (V m c main_v0)) (fun t _ => by
    rw [flushed2_A, out2_eq, iblk0_eq, iblk1_eq]
    exact cut2_eq (F := Ideal) t (Cert.ReferenceHIdeal.Gen.k0_pay3 (F := Ideal) (V m c main_arg0) (V m c main_v0))) covered2
theorem final3 (c : Dev nD) : (dats m 0 c).arrAt 3 cfg0.N = Cert.ReferenceHIdeal.Gen.k0_pay4 (F := Ideal) (V m c main_arg0) (V m c main_v0) :=
  (dats m 0 c).arrAt_eq_of_cover 3 (Cert.ReferenceHIdeal.Gen.k0_pay4 (F := Ideal) (V m c main_arg0) (V m c main_v0)) (fun t _ => by
    rw [flushed3_A, out3_eq, iblk0_eq, iblk1_eq]
    exact cut3_eq (F := Ideal) t (Cert.ReferenceHIdeal.Gen.k0_pay4 (F := Ideal) (V m c main_arg0) (V m c main_v0))) covered3

/-- The two memories hold the same arguments on device `c`. -/
abbrev Same (c : Dev nD) : Prop :=
  m' ((c.tc : Thread Cert.ReferenceHIdeal.nD Cert.ReferenceHIdeal.τ).loc Cert.ReferenceHIdeal.main_arg0) = m ((c.tc : Thread Cert.KernelHIdeal.nD Cert.KernelHIdeal.τ).loc Cert.KernelHIdeal.main_arg0)
  ∧ m' ((c.tc : Thread Cert.ReferenceHIdeal.nD Cert.ReferenceHIdeal.τ).loc Cert.ReferenceHIdeal.main_arg1) = m ((c.tc : Thread Cert.KernelHIdeal.nD Cert.KernelHIdeal.τ).loc Cert.KernelHIdeal.main_arg1)

variable {m m'}

theorem same_arg0 (c : Dev nD) (h : Same m m' c) : (Cert.ReferenceHIdeal.Gen.V m' c Cert.ReferenceHIdeal.main_arg0 : Vec Ideal S24x3072 .bf16) = V m c main_arg0 :=
  (Cert.ReferenceHIdeal.Gen.V_main_arg0 m' c).trans ((h.1).trans (V_main_arg0 m c).symm)
theorem same_v0 (c : Dev nD) (h : Same m m' c) : (Cert.ReferenceHIdeal.Gen.V m' c Cert.ReferenceHIdeal.main_v0 : Vec Ideal S1x3072 .f32) = V m c main_v0 :=
  (Cert.ReferenceHIdeal.Hand.V_v0 m' c).trans ((congrArg (fun x : Vec Ideal S3072 .f32 => (shapeCast S1x3072 x shapeCasts_S3072_S1x3072 : Vec Ideal S1x3072 .f32)) (h.2)).trans (V_v0 m c).symm)
theorem same_res0 (c : Dev nD) (h : Same m m' c) : ((Cert.ReferenceHIdeal.Gen.dats m' 0 c).arrAt 2 Cert.ReferenceHIdeal.cfg0.N : Vec Ideal S24x3072 .fp8e4m3) = (dats m 0 c).arrAt 2 cfg0.N := by
  have e : Cert.ReferenceHIdeal.Gen.k0_pay3 (F := Ideal) (Cert.ReferenceHIdeal.Gen.V m' c Cert.ReferenceHIdeal.main_arg0) (Cert.ReferenceHIdeal.Gen.V m' c Cert.ReferenceHIdeal.main_v0)
      = Cert.ReferenceHIdeal.Gen.k0_pay3 (F := Ideal) (V m c main_arg0) (V m c main_v0) := congrArg₂ (fun x n => Cert.ReferenceHIdeal.Gen.k0_pay3 (F := Ideal) x n) (same_arg0 c h) (same_v0 c h)
  exact (Cert.ReferenceHIdeal.Hand.final2 m' c).trans (e.trans (final2 m c).symm)
theorem same_res1 (c : Dev nD) (h : Same m m' c) : ((Cert.ReferenceHIdeal.Gen.dats m' 0 c).arrAt 3 Cert.ReferenceHIdeal.cfg0.N : Vec Ideal S1x24 .f32) = (dats m 0 c).arrAt 3 cfg0.N := by
  have e : Cert.ReferenceHIdeal.Gen.k0_pay4 (F := Ideal) (Cert.ReferenceHIdeal.Gen.V m' c Cert.ReferenceHIdeal.main_arg0) (Cert.ReferenceHIdeal.Gen.V m' c Cert.ReferenceHIdeal.main_v0)
      = Cert.ReferenceHIdeal.Gen.k0_pay4 (F := Ideal) (V m c main_arg0) (V m c main_v0) := congrArg₂ (fun x n => Cert.ReferenceHIdeal.Gen.k0_pay4 (F := Ideal) x n) (same_arg0 c h) (same_v0 c h)
  exact (Cert.ReferenceHIdeal.Hand.final3 m' c).trans (e.trans (final3 m c).symm)

end Arrays

/-- From memories that agree on the arguments, the first quantiser and its reference leave the same codes and scales. -/
theorem algebraic : Cert.algebraic_KernelHIdeal_ReferenceHIdeal (hKernelHIdeal := Cert.KernelHIdeal.Gen.facts) (hReferenceHIdeal := Cert.ReferenceHIdeal.Gen.facts) := by
  intro m g m' g' _ h
  refine ⟨fun c => (dats m 0 c).arrAt 2 cfg0.N, fun c => (dats m 0 c).arrAt 3 cfg0.N, run_blocks m g, ?_⟩
  refine (θ_run (Cert.ReferenceHIdeal.defs (F := Ideal)) _ _).mono (fun r k c => ?_) (Cert.ReferenceHIdeal.Value.run_blocks m' g')
  obtain ⟨k0, k1, ka⟩ := k c
  exact ⟨k0.trans (same_res0 c (h c)), k1.trans (same_res1 c (h c)), ka⟩

end Cert.KernelHIdeal.Hand
end
-- ==== Proof.SpecCIdeal.lean ====
module

public import proofs.«01_k».proof.Proof.Gen.KernelCIdeal.Value
public import proofs.«01_k».proof.Proof.Gen.ReferenceCIdeal.Value
public import proofs.«01_k».proof.Proof.ValueNormIdeal
public import Idealize.ShloMosaic.Lib.Pointwise
public import Idealize.ShloMosaic.Lib.Pipeline.ValueKit.Tiles
public import Idealize.ShloMosaic.Lib.Pipeline.Value

@[expose] public section

set_option maxRecDepth 16384

noncomputable section

namespace Cert.KernelCIdeal.Hand

open Cert.KernelCIdeal Cert.KernelCIdeal.Gen Cert.KernelCIdeal.Value Idealize.ShloMosaic Idealize.ShloMosaic.TcCoe Idealize.SL.Sem
open Idealize.ShloMosaic.Pipeline (Dat)

/-- Entry `n` of the multipliers. -/
def mul (x0 : Vec Ideal S12 .f32) (n : Fin 12) : EReal := x0 (ix1 n)

/-- The multiplier of a column of the convolution's input: three stretches of columns, a multiplier each. -/
def colMul (x0 : Vec Ideal S12 .f32) (l : ℕ) : EReal := if l < 1536 then mul x0 8 else if l < 1792 then mul x0 9 else mul x0 10

/-- The plane after plane `k`. -/
def next (k : Fin 3) : Fin 3 := k + 1

/-- The new convolution tail: the last two planes of the old state, then the new column block, which lies in planes of
    128 columns, scaled by its two multipliers. -/
def tail (x0 : Vec Ideal S12 .f32) (x3 : Vec Ideal S37x24x128 .f32) (x6 : Vec Ideal S3x24x2048 .f32) : Vec Ideal S3x24x2048 .f32 :=
  fun y => if (y 0).val = 2 then
      x3 (ix3 (⟨20 + (y 2).val / 128, by have h : (y 2).val < 2048 := (y 2).isLt; omega⟩ : Fin 37) (y 1) (⟨(y 2).val % 128, by omega⟩ : Fin 128))
        * mul x0 3 * colMul x0 (y 2).val
    else x6 (ix3 (next (y 0)) (y 1) (y 2))

/-! ### Loads of single words and of single planes -/

theorem ld_mul (x0 : Vec Ideal S12 .f32) (n : Fin 12) (inb : ∀ a : Fin 1, (![n.val] : Fin 1 → ℕ) a + S1.size a ≤ S12.size a) (j : S1.Idx) :
    View.ld (S := S12) x0 (Rect.unit (s := S12) ![n.val] S1.size inb) j = mul x0 n := by
  refine View.ld_unit_apply_of (S := S12) x0 _ _ _ j (ix1 n) fun a => ?_
  match a with
  | ⟨0, _⟩ =>
    have h : (j 0).val < 1 := (j 0).isLt
    show n.val = n.val + (j 0).val
    omega
theorem ld_plane (x3 : Vec Ideal S37x24x128 .f32) (k : Fin 37) (inb : ∀ a : Fin 3, (![k.val, 0, 0] : Fin 3 → ℕ) a + S1x24x128.size a ≤ S37x24x128.size a) (j : S1x24x128.Idx) :
    View.ld (S := S37x24x128) x3 (Rect.unit (s := S37x24x128) ![k.val, 0, 0] S1x24x128.size inb) j = x3 (ix3 k (j 1) (j 2)) := by
  refine View.ld_unit_apply_of (S := S37x24x128) x3 _ _ _ j (ix3 k (j 1) (j 2)) fun a => ?_
  match a with
  | ⟨0, _⟩ =>
    have h : (j 0).val < 1 := (j 0).isLt
    show k.val = k.val + (j 0).val
    omega
  | ⟨1, _⟩ => show (j 1).val = 0 + (j 1).val; omega
  | ⟨2, _⟩ => show (j 2).val = 0 + (j 2).val; omega
theorem ld_state (x6 : Vec Ideal S3x24x2048 .f32) (k : Fin 3) (inb : ∀ a : Fin 3, (![k.val, 0, 0] : Fin 3 → ℕ) a + S1x24x2048.size a ≤ S3x24x2048.size a) (j : S1x24x2048.Idx) :
    View.ld (S := S3x24x2048) x6 (Rect.unit (s := S3x24x2048) ![k.val, 0, 0] S1x24x2048.size inb) j = x6 (ix3 k (j 1) (j 2)) := by
  refine View.ld_unit_apply_of (S := S3x24x2048) x6 _ _ _ j (ix3 k (j 1) (j 2)) fun a => ?_
  match a with
  | ⟨0, _⟩ =>
    have h : (j 0).val < 1 := (j 0).isLt
    show k.val = k.val + (j 0).val
    omega
  | ⟨1, _⟩ => show (j 1).val = 0 + (j 1).val; omega
  | ⟨2, _⟩ => show (j 2).val = 0 + (j 2).val; omega

/-! ### The tail, a stored piece at a time -/

theorem tail_old (x0 : Vec Ideal S12 .f32) (x3 : Vec Ideal S37x24x128 .f32) (x6 : Vec Ideal S3x24x2048 .f32) (y : S3x24x2048.Idx) (k : Fin 3) (hk : k.val < 2)
    (x : S1x24x2048.Idx) (h : ∀ a : Fin 3, (y a).val = (![k.val, 0, 0] : Fin 3 → ℕ) a + (x a).val) :
    x6 (ix3 (next k) (x 1) (x 2)) = tail x0 x3 x6 y := by
  have h0 : (y 0).val = k.val + (x 0).val := h 0
  have h1 : (y 1).val = 0 + (x 1).val := h 1
  have h2 : (y 2).val = 0 + (x 2).val := h 2
  have hx : (x 0).val < 1 := (x 0).isLt
  unfold tail
  rw [if_neg (by omega)]
  have e0 : (y 0 : Fin 3) = k := Fin.ext (by omega)
  have e1 : (y 1 : Fin 24) = x 1 := Fin.ext (by omega)
  have e2 : (y 2 : Fin 2048) = x 2 := Fin.ext (by omega)
  exact congrArg x6 (by rw [e0, e1, e2])

theorem tail_new (x0 : Vec Ideal S12 .f32) (x3 : Vec Ideal S37x24x128 .f32) (x6 : Vec Ideal S3x24x2048 .f32) (y : S3x24x2048.Idx) (o k : ℕ) (p : Fin 37) (ho : o = 128 * k) (hp : p.val = 20 + k)
    (x : S1x24x128.Idx) (h : ∀ a : Fin 3, (y a).val = (![2, 0, o] : Fin 3 → ℕ) a + (x a).val) (s : EReal) (hs : ∀ l : ℕ, l < 128 → colMul x0 (o + l) = s) :
    x3 (ix3 p (x 1) (x 2)) * mul x0 3 * s = tail x0 x3 x6 y := by
  have h0 : (y 0).val = 2 + (x 0).val := h 0
  have h1 : (y 1).val = 0 + (x 1).val := h 1
  have h2 : (y 2).val = o + (x 2).val := h 2
  have hx : (x 0).val < 1 := (x 0).isLt
  have hl : (x 2).val < 128 := (x 2).isLt
  unfold tail
  rw [if_pos (by omega)]
  have e0 : (⟨20 + (y 2).val / 128, by have h : (y 2).val < 2048 := (y 2).isLt; omega⟩ : Fin 37) = p := Fin.ext (by show 20 + (y 2).val / 128 = p.val; omega)
  have e1 : (y 1 : Fin 24) = x 1 := Fin.ext (by omega)
  have e2 : (⟨(y 2).val % 128, by omega⟩ : Fin 128) = x 2 := Fin.ext (by show (y 2).val % 128 = (x 2).val; omega)
  rw [e0, e1, e2, h2, hs _ hl]

theorem colMul_lo (x0 : Vec Ideal S12 .f32) (o : ℕ) (ho : o + 128 ≤ 1536) (l : ℕ) (h : l < 128) : colMul x0 (o + l) = mul x0 8 := by
  unfold colMul; rw [if_pos (by omega)]
theorem colMul_mid (x0 : Vec Ideal S12 .f32) (o : ℕ) (h1 : 1536 ≤ o) (ho : o + 128 ≤ 1792) (l : ℕ) (h : l < 128) : colMul x0 (o + l) = mul x0 9 := by
  unfold colMul; rw [if_neg (by omega), if_pos (by omega)]
theorem colMul_hi (x0 : Vec Ideal S12 .f32) (o : ℕ) (h1 : 1792 ≤ o) (l : ℕ) (h : l < 128) : colMul x0 (o + l) = mul x0 10 := by
  unfold colMul; rw [if_neg (by omega), if_neg (by omega)]

/-! ### The rotary keys: the rolled form is the two halves' -/

theorem keys_eq (v0 v1 n : EReal) (p : Vec Ideal S1x24x128 .f32) (c s : Vec Ideal S24x1x64 .f32) :
    k0_pay3 (F := Ideal) v0 v1 c s p n = Cert.ReferenceCIdeal.Gen.k0_pay2 (F := Ideal) v0 v1 p c s n := by
  refine Cert.KernelIdeal.Hand.ext_mat _ _ fun r l => ?_
  pointwise [k0_pay3, Cert.ReferenceCIdeal.Gen.k0_pay2]
  refine congrArg (fun z : EReal => min (Ideal.ofBits FTy.f32 1138753536#32) (max (Ideal.ofBits FTy.f32 3286237184#32) (Ideal.div z n))) ?_
  by_cases h : l.val < 64
  · have e : ∀ h1 h2, (⟨(l.val + 128 - 64) % 128, h1⟩ : Fin 128) = ⟨64 + l.val, h2⟩ := fun _ _ => Fin.ext (by show (l.val + 128 - 64) % 128 = 64 + l.val; omega)
    rw [dif_pos h, dif_pos h, dif_pos h, zero_sub, mul_neg, ← sub_eq_add_neg, e _ (by omega)]
  · have e : ∀ h1 h2, (⟨(l.val + 128 - 64) % 128, h1⟩ : Fin 128) = ⟨l.val - 64, h2⟩ := fun _ _ => Fin.ext (by show (l.val + 128 - 64) % 128 = l.val - 64; omega)
    have e' : ∀ h1, (⟨64 + (l.val - 64), h1⟩ : Fin 128) = l := fun _ => Fin.ext (by show 64 + (l.val - 64) = l.val; omega)
    rw [dif_neg h, dif_neg h, dif_neg h, e _ (by omega), e']

/-- The keys' codes, of the words and planes the body loads. -/
def keys (x0 : Vec Ideal S12 .f32) (x1 : Vec Ideal S1 .f32) (x3 : Vec Ideal S37x24x128 .f32) (x4 x5 : Vec Ideal S24x1x64 .f32) : Vec Ideal S24x128 .fp8e4m3 :=
  Cert.ReferenceCIdeal.Gen.k0_pay2 (F := Ideal) (View.ld (S := S12) x0 (Rect.unit (s := S12) ![0] S1.size inb_S12_S1_0) (Shape.Idx.first (by decide)))
    (View.ld (S := S12) x0 (Rect.unit (s := S12) ![1] S1.size inb_S12_S1_1) (Shape.Idx.first (by decide)))
    (View.ld (S := S37x24x128) x3 (Rect.unit (s := S37x24x128) ![6, 0, 0] S1x24x128.size inb_S37x24x128_S1x24x128_6_0_0))
    (View.ld (S := S24x1x64) x4 (Rect.unit (s := S24x1x64) ![0, 0, 0] S24x1x64.size inb_S24x1x64_S24x1x64_0_0_0))
    (View.ld (S := S24x1x64) x5 (Rect.unit (s := S24x1x64) ![0, 0, 0] S24x1x64.size inb_S24x1x64_S24x1x64_0_0_0))
    (View.ld (S := S1) x1 (Rect.unit (s := S1) ![0] S1.size inb_S1_S1_0) (Shape.Idx.first (by decide)))

/-- The values' codes. -/
def vals (x0 : Vec Ideal S12 .f32) (x2 : Vec Ideal S1 .f32) (x3 : Vec Ideal S37x24x128 .f32) : Vec Ideal S24x128 .fp8e4m3 :=
  Cert.ReferenceCIdeal.Gen.k0_pay4 (F := Ideal) (Cert.ReferenceCIdeal.Gen.k0_pay3 (F := Ideal)
    (View.ld (S := S12) x0 (Rect.unit (s := S12) ![0] S1.size inb_S12_S1_0) (Shape.Idx.first (by decide)))
    (View.ld (S := S37x24x128) x3 (Rect.unit (s := S37x24x128) ![7, 0, 0] S1x24x128.size inb_S37x24x128_S1x24x128_7_0_0))
    (View.ld (S := S1) x2 (Rect.unit (s := S1) ![0] S1.size inb_S1_S1_0) (Shape.Idx.first (by decide))))

theorem keys_congr {x0 x0' : Vec Ideal S12 .f32} {x1 x1' : Vec Ideal S1 .f32} {x3 x3' : Vec Ideal S37x24x128 .f32} {x4 x4' x5 x5' : Vec Ideal S24x1x64 .f32}
    (h0 : x0 = x0') (h1 : x1 = x1') (h3 : x3 = x3') (h4 : x4 = x4') (h5 : x5 = x5') : keys x0 x1 x3 x4 x5 = keys x0' x1' x3' x4' x5' := by
  subst h0 h1 h3 h4 h5; rfl
theorem vals_congr {x0 x0' : Vec Ideal S12 .f32} {x2 x2' : Vec Ideal S1 .f32} {x3 x3' : Vec Ideal S37x24x128 .f32}
    (h0 : x0 = x0') (h2 : x2 = x2') (h3 : x3 = x3') : vals x0 x2 x3 = vals x0' x2' x3' := by
  subst h0 h2 h3; rfl
theorem tail_congr {x0 x0' : Vec Ideal S12 .f32} {x3 x3' : Vec Ideal S37x24x128 .f32} {x6 x6' : Vec Ideal S3x24x2048 .f32}
    (h0 : x0 = x0') (h3 : x3 = x3') (h6 : x6 = x6') : tail x0 x3 x6 = tail x0' x3' x6' := by
  subst h0 h3 h6; rfl

theorem hz2 : (![0, 0] : Fin 2 → Nat) = fun _ => 0 := funext fun a => by fin_cases a <;> rfl

end Cert.KernelCIdeal.Hand
end
-- ==== Proof.ValueCIdeal.lean ====
module

public import proofs.«01_k».proof.Proof.SpecCIdeal
public import Idealize.ShloMosaic.Lib.Pipeline.Value

@[expose] public section

set_option maxRecDepth 16384

noncomputable section

namespace Cert.KernelCIdeal.Hand

open Cert.KernelCIdeal Cert.KernelCIdeal.Gen Cert.KernelCIdeal.Value Idealize.ShloMosaic Idealize.ShloMosaic.TcCoe Idealize.SL.Sem
open Idealize.ShloMosaic.Pipeline (Dat)

/-! ### The payloads, read at an index -/

theorem pay7_apply (p : Vec Ideal S1x24x2048 .f32) (x : S1x24x2048.Idx) : k0_pay7 p x = p x := by
  obtain ⟨u, r, l, rfl⟩ : ∃ (u : Fin 1) (r : Fin 24) (l : Fin 2048), x = ix3 u r l := ⟨x 0, x 1, x 2, (ix3_eta x).symm⟩
  obtain rfl : u = 0 := Subsingleton.elim _ _
  pointwise [k0_pay7]
theorem pay6_apply (p : Vec Ideal S1x24x2048 .f32) (x : S1x24x2048.Idx) : k0_pay6 p x = p x := pay7_apply p x
theorem pay8_apply (a b : EReal) (p : Vec Ideal S1x24x128 .f32) (x : S1x24x128.Idx) : k0_pay8 (F := Ideal) a b p x = p x * a * b := by
  obtain ⟨u, r, l, rfl⟩ : ∃ (u : Fin 1) (r : Fin 24) (l : Fin 128), x = ix3 u r l := ⟨x 0, x 1, x 2, (ix3_eta x).symm⟩
  obtain rfl : u = 0 := Subsingleton.elim _ _
  pointwise [k0_pay8]

/-- A block of 128 columns of the new plane, as the body stores it, is the tail's. -/
theorem new_piece (x0 : Vec Ideal S12 .f32) (x3 : Vec Ideal S37x24x128 .f32) (x6 : Vec Ideal S3x24x2048 .f32) (y : S3x24x2048.Idx)
    (o k : ℕ) (p : Fin 37) (q : Fin 12) (ho : o = 128 * k) (hp : p.val = 20 + k) (hs : ∀ l : ℕ, l < 128 → colMul x0 (o + l) = mul x0 q)
    (x : S1x24x128.Idx) (h : ∀ a : Fin 3, (y a).val = (![2, 0, o] : Fin 3 → ℕ) a + (x a).val)
    (j3 jq : S1.Idx) (inbq : ∀ a : Fin 1, (![q.val] : Fin 1 → ℕ) a + S1.size a ≤ S12.size a)
    (inbp : ∀ a : Fin 3, (![p.val, 0, 0] : Fin 3 → ℕ) a + S1x24x128.size a ≤ S37x24x128.size a) :
    k0_pay8 (F := Ideal) (View.ld (S := S12) x0 (Rect.unit (s := S12) ![3] S1.size inb_S12_S1_3) j3)
      (View.ld (S := S12) x0 (Rect.unit (s := S12) ![q.val] S1.size inbq) jq)
      (View.ld (S := S37x24x128) x3 (Rect.unit (s := S37x24x128) ![p.val, 0, 0] S1x24x128.size inbp)) x = tail x0 x3 x6 y := by
  have m3 : View.ld (S := S12) x0 (Rect.unit (s := S12) ![3] S1.size inb_S12_S1_3) j3 = mul x0 3 := ld_mul x0 3 _ _
  rw [pay8_apply, m3, ld_mul, ld_plane]
  exact tail_new x0 x3 x6 y o k p ho hp x h _ hs

theorem vals_eq (v0 n : EReal) (p : Vec Ideal S1x24x128 .f32) :
    k0_pay5 (F := Ideal) (k0_pay4 (F := Ideal) v0 p n) (Ideal.ofBits .f32 0xC3E00000#32) (Ideal.ofBits .f32 0x43E00000#32)
      = Cert.ReferenceCIdeal.Gen.k0_pay4 (F := Ideal) (Cert.ReferenceCIdeal.Gen.k0_pay3 (F := Ideal) v0 p n) := rfl

/-! ### What the body leaves -/

theorem out8_eq (c : Dev nD) (i : grid0.Coords) (arg1 : Memref sig .tc .smem S12 .f32) (harg1 : arg1.IsWhole) (arg2 : Memref sig .tc .smem S1 .f32) (harg2 : arg2.IsWhole) (arg3 : Memref sig .tc .smem S1 .f32) (harg3 : arg3.IsWhole) (arg4 : Memref sig .tc .vmem S37x24x128 .f32) (harg4 : arg4.IsWhole) (arg5 : Memref sig .tc .vmem S24x1x64 .f32) (harg5 : arg5.IsWhole) (arg6 : Memref sig .tc .vmem S24x1x64 .f32) (harg6 : arg6.IsWhole) (arg7 : Memref sig .tc .vmem S3x24x2048 .f32) (harg7 : arg7.IsWhole) (arg8 : Memref sig .tc .vmem S3x24x2048 .f32) (harg8 : arg8.IsWhole) (arg9 : Memref sig .tc .vmem S24x128 .fp8e4m3) (harg9 : arg9.IsWhole) (arg10 : Memref sig .tc .vmem S24x128 .fp8e4m3) (harg10 : arg10.IsWhole)
    (x0 : Vec Ideal S12 .f32) (x1 : Vec Ideal S1 .f32) (x2 : Vec Ideal S1 .f32) (x3 : Vec Ideal S37x24x128 .f32) (x4 : Vec Ideal S24x1x64 .f32) (x5 : Vec Ideal S24x1x64 .f32) (x6 : Vec Ideal S3x24x2048 .f32) :
    out0_A_8 c i arg1 harg1 arg2 harg2 arg3 harg3 arg4 harg4 arg5 harg5 arg6 harg6 arg7 harg7 arg8 harg8 arg9 harg9 arg10 harg10 x0 x1 x2 x3 x4 x5 x6 = keys x0 x1 x3 x4 x5 := by
  unfold out0_A_8
  rw [View.read_writes_junk_eq_canon]
  unfold kernelRun0_A
  dsimp only [kernelRun0_A.sl.r, kernelRun0_A.sl.r_1, kernelRun0_A.sl.r_2, kernelRun0_A.sl.r_3, kernelRun0_A.sl.r_4, kernelRun0_A.sl.r_5]
  simp only [View.readAt_eq_ld, harg1.read_unread, harg2.read_unread, harg3.read_unread, harg4.read_unread, harg5.read_unread, harg6.read_unread, harg7.read_unread]
  exact (View.canon_unit_zero (S := S24x128) hz2 _ _).trans (keys_eq _ _ _ _ _ _)
theorem out9_eq (c : Dev nD) (i : grid0.Coords) (arg1 : Memref sig .tc .smem S12 .f32) (harg1 : arg1.IsWhole) (arg2 : Memref sig .tc .smem S1 .f32) (harg2 : arg2.IsWhole) (arg3 : Memref sig .tc .smem S1 .f32) (harg3 : arg3.IsWhole) (arg4 : Memref sig .tc .vmem S37x24x128 .f32) (harg4 : arg4.IsWhole) (arg5 : Memref sig .tc .vmem S24x1x64 .f32) (harg5 : arg5.IsWhole) (arg6 : Memref sig .tc .vmem S24x1x64 .f32) (harg6 : arg6.IsWhole) (arg7 : Memref sig .tc .vmem S3x24x2048 .f32) (harg7 : arg7.IsWhole) (arg8 : Memref sig .tc .vmem S3x24x2048 .f32) (harg8 : arg8.IsWhole) (arg9 : Memref sig .tc .vmem S24x128 .fp8e4m3) (harg9 : arg9.IsWhole) (arg10 : Memref sig .tc .vmem S24x128 .fp8e4m3) (harg10 : arg10.IsWhole)
    (x0 : Vec Ideal S12 .f32) (x1 : Vec Ideal S1 .f32) (x2 : Vec Ideal S1 .f32) (x3 : Vec Ideal S37x24x128 .f32) (x4 : Vec Ideal S24x1x64 .f32) (x5 : Vec Ideal S24x1x64 .f32) (x6 : Vec Ideal S3x24x2048 .f32) :
    out0_A_9 c i arg1 harg1 arg2 harg2 arg3 harg3 arg4 harg4 arg5 harg5 arg6 harg6 arg7 harg7 arg8 harg8 arg9 harg9 arg10 harg10 x0 x1 x2 x3 x4 x5 x6 = vals x0 x2 x3 := by
  unfold out0_A_9
  rw [View.read_writes_junk_eq_canon]
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.cst_14, kernelRun0_A.sl.cst_15]
  simp only [View.readAt_eq_ld, harg1.read_unread, harg2.read_unread, harg3.read_unread, harg4.read_unread, harg5.read_unread, harg6.read_unread, harg7.read_unread]
  exact (View.canon_unit_zero (S := S24x128) hz2 _ _).trans (vals_eq _ _ _)
theorem out7_eq (c : Dev nD) (i : grid0.Coords) (arg1 : Memref sig .tc .smem S12 .f32) (harg1 : arg1.IsWhole) (arg2 : Memref sig .tc .smem S1 .f32) (harg2 : arg2.IsWhole) (arg3 : Memref sig .tc .smem S1 .f32) (harg3 : arg3.IsWhole) (arg4 : Memref sig .tc .vmem S37x24x128 .f32) (harg4 : arg4.IsWhole) (arg5 : Memref sig .tc .vmem S24x1x64 .f32) (harg5 : arg5.IsWhole) (arg6 : Memref sig .tc .vmem S24x1x64 .f32) (harg6 : arg6.IsWhole) (arg7 : Memref sig .tc .vmem S3x24x2048 .f32) (harg7 : arg7.IsWhole) (arg8 : Memref sig .tc .vmem S3x24x2048 .f32) (harg8 : arg8.IsWhole) (arg9 : Memref sig .tc .vmem S24x128 .fp8e4m3) (harg9 : arg9.IsWhole) (arg10 : Memref sig .tc .vmem S24x128 .fp8e4m3) (harg10 : arg10.IsWhole)
    (x0 : Vec Ideal S12 .f32) (x1 : Vec Ideal S1 .f32) (x2 : Vec Ideal S1 .f32) (x3 : Vec Ideal S37x24x128 .f32) (x4 : Vec Ideal S24x1x64 .f32) (x5 : Vec Ideal S24x1x64 .f32) (x6 : Vec Ideal S3x24x2048 .f32) :
    out0_A_7 c i arg1 harg1 arg2 harg2 arg3 harg3 arg4 harg4 arg5 harg5 arg6 harg6 arg7 harg7 arg8 harg8 arg9 harg9 arg10 harg10 x0 x1 x2 x3 x4 x5 x6 = tail x0 x3 x6 := by
  funext y
  have hc := cover0_A_7 c i arg1 harg1 arg2 harg2 arg3 harg3 arg4 harg4 arg5 harg5 arg6 harg6 arg7 harg7 arg8 harg8 arg9 harg9 arg10 harg10 x0 x1 x2 x3 x4 x5 x6 y
  unfold out0_A_7
  rw [View.read_writes_junk_eq_canon]
  refine View.canon_eq_of_allAt _ y _ hc ?_
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13]
  simp only [View.readAt_eq_ld, harg1.read_unread, harg2.read_unread, harg3.read_unread, harg4.read_unread, harg5.read_unread, harg6.read_unread, harg7.read_unread]
  refine View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_nil _ _))))))))))))))))))
  · exact new_piece x0 x3 x6 y 1920 15 35 10 rfl rfl (colMul_hi x0 1920 (by decide)) x h _ _ _ _
  · exact new_piece x0 x3 x6 y 1792 14 34 10 rfl rfl (colMul_hi x0 1792 (by decide)) x h _ _ _ _
  · exact new_piece x0 x3 x6 y 1664 13 33 9 rfl rfl (colMul_mid x0 1664 (by decide) (by decide)) x h _ _ _ _
  · exact new_piece x0 x3 x6 y 1536 12 32 9 rfl rfl (colMul_mid x0 1536 (by decide) (by decide)) x h _ _ _ _
  · exact new_piece x0 x3 x6 y 1408 11 31 8 rfl rfl (colMul_lo x0 1408 (by decide)) x h _ _ _ _
  · exact new_piece x0 x3 x6 y 1280 10 30 8 rfl rfl (colMul_lo x0 1280 (by decide)) x h _ _ _ _
  · exact new_piece x0 x3 x6 y 1152 9 29 8 rfl rfl (colMul_lo x0 1152 (by decide)) x h _ _ _ _
  · exact new_piece x0 x3 x6 y 1024 8 28 8 rfl rfl (colMul_lo x0 1024 (by decide)) x h _ _ _ _
  · exact new_piece x0 x3 x6 y 896 7 27 8 rfl rfl (colMul_lo x0 896 (by decide)) x h _ _ _ _
  · exact new_piece x0 x3 x6 y 768 6 26 8 rfl rfl (colMul_lo x0 768 (by decide)) x h _ _ _ _
  · exact new_piece x0 x3 x6 y 640 5 25 8 rfl rfl (colMul_lo x0 640 (by decide)) x h _ _ _ _
  · exact new_piece x0 x3 x6 y 512 4 24 8 rfl rfl (colMul_lo x0 512 (by decide)) x h _ _ _ _
  · exact new_piece x0 x3 x6 y 384 3 23 8 rfl rfl (colMul_lo x0 384 (by decide)) x h _ _ _ _
  · exact new_piece x0 x3 x6 y 256 2 22 8 rfl rfl (colMul_lo x0 256 (by decide)) x h _ _ _ _
  · exact new_piece x0 x3 x6 y 128 1 21 8 rfl rfl (colMul_lo x0 128 (by decide)) x h _ _ _ _
  · exact new_piece x0 x3 x6 y 0 0 20 8 rfl rfl (colMul_lo x0 0 (by decide)) x h _ _ _ _
  · rw [pay7_apply]
    exact (ld_state x6 2 _ x).trans (tail_old x0 x3 x6 y 1 (by decide) x h)
  · rw [pay6_apply]
    exact (ld_state x6 1 _ x).trans (tail_old x0 x3 x6 y 0 (by decide) x h)

end Cert.KernelCIdeal.Hand
end
-- ==== Proof.ValueRefCIdeal.lean ====
module

public import proofs.«01_k».proof.Proof.SpecCIdeal
public import Idealize.ShloMosaic.Lib.WordCmp
public import Idealize.ShloMosaic.Lib.Pipeline.Value

@[expose] public section

set_option maxRecDepth 16384

noncomputable section

namespace Cert.ReferenceCIdeal.Hand

open Cert.ReferenceCIdeal Cert.ReferenceCIdeal.Gen Cert.ReferenceCIdeal.Value Idealize.ShloMosaic Idealize.ShloMosaic.TcCoe Idealize.SL.Sem
open Idealize.ShloMosaic.Pipeline (Dat)

open Cert.KernelCIdeal.Hand (mul colMul tail next keys vals ld_mul ld_plane ld_state tail_old hz2)

/-! ### The payloads of the tail, read at an index -/

theorem pay8_apply (p : Vec Ideal S1x24x2048 .f32) (x : S1x24x2048.Idx) : k0_pay8 p x = p x := by
  have hx : x = ix3 (0 : Fin 1) (x 1 : Fin 24) (x 2 : Fin 2048) := funext fun i => by
    match i with
    | ⟨0, _⟩ => exact Subsingleton.elim (α := Fin 1) _ _
    | ⟨1, _⟩ => rfl
    | ⟨2, _⟩ => rfl
  rw [hx]
  pointwise [k0_pay8]
theorem pay7_apply (p : Vec Ideal S1x24x2048 .f32) (x : S1x24x2048.Idx) : k0_pay7 p x = p x := pay8_apply p x
theorem new_apply (p : Vec Ideal S16x24x128 .f32) (a b c d : EReal) (r : Fin 24) (l : Fin 2048) :
    k0_pay1 (F := Ideal) (k0_pay5 p) (k0_pay6 b c d) (k0_pay9 a) (ix3 0 r l)
      = p (ix3 (⟨l.val / 128, by omega⟩ : Fin 16) r (⟨l.val % 128, by omega⟩ : Fin 128)) * a
        * (if l.val < 1536 then b else if l.val < 1792 then c else d) := by
  pointwise [k0_pay1, k0_pay5, k0_pay6, k0_pay9]
  have hl : l.val < 2048 := l.isLt
  rw [WordCmp.cmpi_slt_ofNat (w := 32) (a := l.val) (b := 1536) (by omega) (by omega), WordCmp.cmpi_slt_ofNat (w := 32) (a := l.val) (b := 1792) (by omega) (by omega),
    Scalar.select_decide, Scalar.select_decide]

theorem ld_planes (x3 : Vec Ideal S37x24x128 .f32) (inb : ∀ a : Fin 3, (![20, 0, 0] : Fin 3 → ℕ) a + S16x24x128.size a ≤ S37x24x128.size a) (k : Fin 16) (r : Fin 24) (l : Fin 128) :
    View.ld (S := S37x24x128) x3 (Rect.unit (s := S37x24x128) ![20, 0, 0] S16x24x128.size inb) (ix3 k r l) = x3 (ix3 (⟨20 + k.val, by omega⟩ : Fin 37) r l) := by
  refine View.ld_unit_apply_of (S := S37x24x128) x3 _ _ _ (ix3 k r l) (ix3 (⟨20 + k.val, by omega⟩ : Fin 37) r l) fun a => ?_
  match a with
  | ⟨0, _⟩ => rfl
  | ⟨1, _⟩ => show r.val = 0 + r.val; omega
  | ⟨2, _⟩ => show l.val = 0 + l.val; omega

theorem new_piece (x0 : Vec Ideal S12 .f32) (x3 : Vec Ideal S37x24x128 .f32) (x6 : Vec Ideal S3x24x2048 .f32) (y : S3x24x2048.Idx)
    (x : S1x24x2048.Idx) (h : ∀ a : Fin 3, (y a).val = (![2, 0, 0] : Fin 3 → ℕ) a + (x a).val) :
    k0_pay1 (F := Ideal) (k0_pay5 (View.ld (S := S37x24x128) x3 (Rect.unit (s := S37x24x128) ![20, 0, 0] S16x24x128.size inb_S37x24x128_S16x24x128_20_0_0)))
      (k0_pay6 (View.ld (S := S12) x0 (Rect.unit (s := S12) ![8] S1.size inb_S12_S1_8) (Shape.Idx.first (by decide)))
        (View.ld (S := S12) x0 (Rect.unit (s := S12) ![9] S1.size inb_S12_S1_9) (Shape.Idx.first (by decide)))
        (View.ld (S := S12) x0 (Rect.unit (s := S12) ![10] S1.size inb_S12_S1_10) (Shape.Idx.first (by decide))))
      (k0_pay9 (View.ld (S := S12) x0 (Rect.unit (s := S12) ![3] S1.size inb_S12_S1_3) (Shape.Idx.first (by decide)))) x
      = tail x0 x3 x6 y := by
  have h0 : (y 0).val = 2 + (x 0).val := h 0
  have h1 : (y 1).val = 0 + (x 1).val := h 1
  have h2 : (y 2).val = 0 + (x 2).val := h 2
  obtain ⟨u, r, l, rfl⟩ : ∃ (u : Fin 1) (r : Fin 24) (l : Fin 2048), x = ix3 u r l := ⟨x 0, x 1, x 2, (ix3_eta x).symm⟩
  obtain rfl : u = 0 := Subsingleton.elim _ _
  obtain ⟨y0, y1, y2, rfl⟩ : ∃ (y0 : Fin 3) (y1 : Fin 24) (y2 : Fin 2048), y = ix3 y0 y1 y2 := ⟨y 0, y 1, y 2, (ix3_eta y).symm⟩
  obtain rfl : y0 = 2 := Fin.ext h0
  obtain rfl : y1 = r := Fin.ext (h1.trans (Nat.zero_add _))
  obtain rfl : y2 = l := Fin.ext (h2.trans (Nat.zero_add _))
  rw [new_apply, ld_planes]
  have m3 : View.ld (S := S12) x0 (Rect.unit (s := S12) ![3] S1.size inb_S12_S1_3) (Shape.Idx.first (by decide)) = mul x0 3 := ld_mul x0 3 _ _
  have m8 : View.ld (S := S12) x0 (Rect.unit (s := S12) ![8] S1.size inb_S12_S1_8) (Shape.Idx.first (by decide)) = mul x0 8 := ld_mul x0 8 _ _
  have m9 : View.ld (S := S12) x0 (Rect.unit (s := S12) ![9] S1.size inb_S12_S1_9) (Shape.Idx.first (by decide)) = mul x0 9 := ld_mul x0 9 _ _
  have m10 : View.ld (S := S12) x0 (Rect.unit (s := S12) ![10] S1.size inb_S12_S1_10) (Shape.Idx.first (by decide)) = mul x0 10 := ld_mul x0 10 _ _
  rw [m3, m8, m9, m10]
  unfold tail
  exact (if_pos rfl).symm

/-! ### What the body leaves -/

theorem out8_eq (c : Dev nD) (arg0 : Memref sig .tc .smem S12 .f32) (harg0 : arg0.IsWhole) (arg1 : Memref sig .tc .smem S1 .f32) (harg1 : arg1.IsWhole) (arg2 : Memref sig .tc .smem S1 .f32) (harg2 : arg2.IsWhole) (arg3 : Memref sig .tc .vmem S37x24x128 .f32) (harg3 : arg3.IsWhole) (arg4 : Memref sig .tc .vmem S24x1x64 .f32) (harg4 : arg4.IsWhole) (arg5 : Memref sig .tc .vmem S24x1x64 .f32) (harg5 : arg5.IsWhole) (arg6 : Memref sig .tc .vmem S3x24x2048 .f32) (harg6 : arg6.IsWhole) (arg7 : Memref sig .tc .vmem S3x24x2048 .f32) (harg7 : arg7.IsWhole) (arg8 : Memref sig .tc .vmem S24x128 .fp8e4m3) (harg8 : arg8.IsWhole) (arg9 : Memref sig .tc .vmem S24x128 .fp8e4m3) (harg9 : arg9.IsWhole)
    (x0 : Vec Ideal S12 .f32) (x1 : Vec Ideal S1 .f32) (x2 : Vec Ideal S1 .f32) (x3 : Vec Ideal S37x24x128 .f32) (x4 : Vec Ideal S24x1x64 .f32) (x5 : Vec Ideal S24x1x64 .f32) (x6 : Vec Ideal S3x24x2048 .f32) :
    out0_A_8 c arg0 harg0 arg1 harg1 arg2 harg2 arg3 harg3 arg4 harg4 arg5 harg5 arg6 harg6 arg7 harg7 arg8 harg8 arg9 harg9 x0 x1 x2 x3 x4 x5 x6 = keys x0 x1 x3 x4 x5 := by
  unfold out0_A_8
  rw [View.read_writes_junk_eq_canon]
  unfold kernelRun0_A
  dsimp only [kernelRun0_A.sl.r, kernelRun0_A.sl.r_1, kernelRun0_A.sl.r_2, kernelRun0_A.sl.r_3, kernelRun0_A.sl.r_4, kernelRun0_A.sl.r_5]
  simp only [View.readAt_eq_ld, harg0.read_unread, harg1.read_unread, harg2.read_unread, harg3.read_unread, harg4.read_unread, harg5.read_unread, harg6.read_unread]
  exact View.canon_unit_zero (S := S24x128) hz2 _ _
theorem out9_eq (c : Dev nD) (arg0 : Memref sig .tc .smem S12 .f32) (harg0 : arg0.IsWhole) (arg1 : Memref sig .tc .smem S1 .f32) (harg1 : arg1.IsWhole) (arg2 : Memref sig .tc .smem S1 .f32) (harg2 : arg2.IsWhole) (arg3 : Memref sig .tc .vmem S37x24x128 .f32) (harg3 : arg3.IsWhole) (arg4 : Memref sig .tc .vmem S24x1x64 .f32) (harg4 : arg4.IsWhole) (arg5 : Memref sig .tc .vmem S24x1x64 .f32) (harg5 : arg5.IsWhole) (arg6 : Memref sig .tc .vmem S3x24x2048 .f32) (harg6 : arg6.IsWhole) (arg7 : Memref sig .tc .vmem S3x24x2048 .f32) (harg7 : arg7.IsWhole) (arg8 : Memref sig .tc .vmem S24x128 .fp8e4m3) (harg8 : arg8.IsWhole) (arg9 : Memref sig .tc .vmem S24x128 .fp8e4m3) (harg9 : arg9.IsWhole)
    (x0 : Vec Ideal S12 .f32) (x1 : Vec Ideal S1 .f32) (x2 : Vec Ideal S1 .f32) (x3 : Vec Ideal S37x24x128 .f32) (x4 : Vec Ideal S24x1x64 .f32) (x5 : Vec Ideal S24x1x64 .f32) (x6 : Vec Ideal S3x24x2048 .f32) :
    out0_A_9 c arg0 harg0 arg1 harg1 arg2 harg2 arg3 harg3 arg4 harg4 arg5 harg5 arg6 harg6 arg7 harg7 arg8 harg8 arg9 harg9 x0 x1 x2 x3 x4 x5 x6 = vals x0 x2 x3 := by
  unfold out0_A_9
  rw [View.read_writes_junk_eq_canon]
  unfold kernelRun0_A
  dsimp only [kernelRun0_A.sl.r, kernelRun0_A.sl.r_1, kernelRun0_A.sl.r_2, kernelRun0_A.sl.r_3, kernelRun0_A.sl.r_4, kernelRun0_A.sl.r_5]
  simp only [View.readAt_eq_ld, harg0.read_unread, harg1.read_unread, harg2.read_unread, harg3.read_unread, harg4.read_unread, harg5.read_unread, harg6.read_unread]
  exact View.canon_unit_zero (S := S24x128) hz2 _ _
theorem out7_eq (c : Dev nD) (arg0 : Memref sig .tc .smem S12 .f32) (harg0 : arg0.IsWhole) (arg1 : Memref sig .tc .smem S1 .f32) (harg1 : arg1.IsWhole) (arg2 : Memref sig .tc .smem S1 .f32) (harg2 : arg2.IsWhole) (arg3 : Memref sig .tc .vmem S37x24x128 .f32) (harg3 : arg3.IsWhole) (arg4 : Memref sig .tc .vmem S24x1x64 .f32) (harg4 : arg4.IsWhole) (arg5 : Memref sig .tc .vmem S24x1x64 .f32) (harg5 : arg5.IsWhole) (arg6 : Memref sig .tc .vmem S3x24x2048 .f32) (harg6 : arg6.IsWhole) (arg7 : Memref sig .tc .vmem S3x24x2048 .f32) (harg7 : arg7.IsWhole) (arg8 : Memref sig .tc .vmem S24x128 .fp8e4m3) (harg8 : arg8.IsWhole) (arg9 : Memref sig .tc .vmem S24x128 .fp8e4m3) (harg9 : arg9.IsWhole)
    (x0 : Vec Ideal S12 .f32) (x1 : Vec Ideal S1 .f32) (x2 : Vec Ideal S1 .f32) (x3 : Vec Ideal S37x24x128 .f32) (x4 : Vec Ideal S24x1x64 .f32) (x5 : Vec Ideal S24x1x64 .f32) (x6 : Vec Ideal S3x24x2048 .f32) :
    out0_A_7 c arg0 harg0 arg1 harg1 arg2 harg2 arg3 harg3 arg4 harg4 arg5 harg5 arg6 harg6 arg7 harg7 arg8 harg8 arg9 harg9 x0 x1 x2 x3 x4 x5 x6 = tail x0 x3 x6 := by
  funext y
  have hc := cover0_A_7 c arg0 harg0 arg1 harg1 arg2 harg2 arg3 harg3 arg4 harg4 arg5 harg5 arg6 harg6 arg7 harg7 arg8 harg8 arg9 harg9 x0 x1 x2 x3 x4 x5 x6 y
  unfold out0_A_7
  rw [View.read_writes_junk_eq_canon]
  refine View.canon_eq_of_allAt _ y _ hc ?_
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11]
  simp only [View.readAt_eq_ld, harg0.read_unread, harg1.read_unread, harg2.read_unread, harg3.read_unread, harg4.read_unread, harg5.read_unread, harg6.read_unread]
  refine View.allAt_cons_unit _ _ _ _ _ (fun x h => ?_) (View.allAt_cons_unit _ _ _ _ _ (fun x h => ?_) (View.allAt_cons_unit _ _ _ _ _ (fun x h => ?_) (View.allAt_nil _ _)))
  · exact new_piece x0 x3 x6 y x h
  · rw [pay8_apply]
    exact (ld_state x6 2 _ x).trans (tail_old x0 x3 x6 y 1 (by decide) x h)
  · rw [pay7_apply]
    exact (ld_state x6 1 _ x).trans (tail_old x0 x3 x6 y 0 (by decide) x h)

section Windows

variable {F : FTy → Type} [FloatOps F]
variable (m : (ℓ : Loc nD τ sig) → Buf (Elt F) ℓ) (ρ : Dev nD → PrngReg)

/-! ### The windows: each block is its whole array -/

theorem idx_zero0 : ∀ t : Fin cfg0.N, win0_0.index t (0 : Fin 1) = 0 := (by decide +kernel : ∀ t : Fin grid0.N, _)
theorem idx_zero1 : ∀ t : Fin cfg0.N, win0_1.index t (0 : Fin 1) = 0 := (by decide +kernel : ∀ t : Fin grid0.N, _)
theorem idx_zero2 : ∀ t : Fin cfg0.N, win0_2.index t (0 : Fin 1) = 0 := (by decide +kernel : ∀ t : Fin grid0.N, _)
theorem idx_zero3 : ∀ t : Fin cfg0.N, win0_3.index t (0 : Fin 3) = 0 ∧ win0_3.index t (1 : Fin 3) = 0 ∧ win0_3.index t (2 : Fin 3) = 0 := (by decide +kernel : ∀ t : Fin grid0.N, _)
theorem idx_zero4 : ∀ t : Fin cfg0.N, win0_4.index t (0 : Fin 3) = 0 ∧ win0_4.index t (1 : Fin 3) = 0 ∧ win0_4.index t (2 : Fin 3) = 0 := (by decide +kernel : ∀ t : Fin grid0.N, _)
theorem idx_zero5 : ∀ t : Fin cfg0.N, win0_5.index t (0 : Fin 3) = 0 ∧ win0_5.index t (1 : Fin 3) = 0 ∧ win0_5.index t (2 : Fin 3) = 0 := (by decide +kernel : ∀ t : Fin grid0.N, _)
theorem idx_zero6 : ∀ t : Fin cfg0.N, win0_6.index t (0 : Fin 3) = 0 ∧ win0_6.index t (1 : Fin 3) = 0 ∧ win0_6.index t (2 : Fin 3) = 0 := (by decide +kernel : ∀ t : Fin grid0.N, _)
theorem idx_zero7 : ∀ t : Fin cfg0.N, win0_7.index t (0 : Fin 3) = 0 ∧ win0_7.index t (1 : Fin 3) = 0 ∧ win0_7.index t (2 : Fin 3) = 0 := (by decide +kernel : ∀ t : Fin grid0.N, _)
theorem idx_zero8 : ∀ t : Fin cfg0.N, win0_8.index t (0 : Fin 2) = 0 ∧ win0_8.index t (1 : Fin 2) = 0 := (by decide +kernel : ∀ t : Fin grid0.N, _)
theorem idx_zero9 : ∀ t : Fin cfg0.N, win0_9.index t (0 : Fin 2) = 0 ∧ win0_9.index t (1 : Fin 2) = 0 := (by decide +kernel : ∀ t : Fin grid0.N, _)

/-! So an index of a window's block is the same index of its array. -/

theorem emb0 (t : Fin cfg0.N) (j : S12.Idx) : ((cfg0.win 0).blk t).view.emb j = j := by
  obtain e0 := idx_zero0 t
  funext a; apply Fin.ext
  match a with
  | ⟨0, _⟩ => show win0_0.index t (0 : Fin 1) * 12 + 1 * (j 0).val = (j 0).val; omega
theorem emb1 (t : Fin cfg0.N) (j : S1.Idx) : ((cfg0.win 1).blk t).view.emb j = j := by
  obtain e0 := idx_zero1 t
  funext a; apply Fin.ext
  match a with
  | ⟨0, _⟩ => show win0_1.index t (0 : Fin 1) * 1 + 1 * (j 0).val = (j 0).val; omega
theorem emb2 (t : Fin cfg0.N) (j : S1.Idx) : ((cfg0.win 2).blk t).view.emb j = j := by
  obtain e0 := idx_zero2 t
  funext a; apply Fin.ext
  match a with
  | ⟨0, _⟩ => show win0_2.index t (0 : Fin 1) * 1 + 1 * (j 0).val = (j 0).val; omega
theorem emb3 (t : Fin cfg0.N) (j : S37x24x128.Idx) : ((cfg0.win 3).blk t).view.emb j = j := by
  obtain ⟨e0, e1, e2⟩ := idx_zero3 t
  funext a; apply Fin.ext
  match a with
  | ⟨0, _⟩ => show win0_3.index t (0 : Fin 3) * 37 + 1 * (j 0).val = (j 0).val; omega
  | ⟨1, _⟩ => show win0_3.index t (1 : Fin 3) * 24 + 1 * (j 1).val = (j 1).val; omega
  | ⟨2, _⟩ => show win0_3.index t (2 : Fin 3) * 128 + 1 * (j 2).val = (j 2).val; omega
theorem emb4 (t : Fin cfg0.N) (j : S24x1x64.Idx) : ((cfg0.win 4).blk t).view.emb j = j := by
  obtain ⟨e0, e1, e2⟩ := idx_zero4 t
  funext a; apply Fin.ext
  match a with
  | ⟨0, _⟩ => show win0_4.index t (0 : Fin 3) * 24 + 1 * (j 0).val = (j 0).val; omega
  | ⟨1, _⟩ => show win0_4.index t (1 : Fin 3) * 1 + 1 * (j 1).val = (j 1).val; omega
  | ⟨2, _⟩ => show win0_4.index t (2 : Fin 3) * 64 + 1 * (j 2).val = (j 2).val; omega
theorem emb5 (t : Fin cfg0.N) (j : S24x1x64.Idx) : ((cfg0.win 5).blk t).view.emb j = j := by
  obtain ⟨e0, e1, e2⟩ := idx_zero5 t
  funext a; apply Fin.ext
  match a with
  | ⟨0, _⟩ => show win0_5.index t (0 : Fin 3) * 24 + 1 * (j 0).val = (j 0).val; omega
  | ⟨1, _⟩ => show win0_5.index t (1 : Fin 3) * 1 + 1 * (j 1).val = (j 1).val; omega
  | ⟨2, _⟩ => show win0_5.index t (2 : Fin 3) * 64 + 1 * (j 2).val = (j 2).val; omega
theorem emb6 (t : Fin cfg0.N) (j : S3x24x2048.Idx) : ((cfg0.win 6).blk t).view.emb j = j := by
  obtain ⟨e0, e1, e2⟩ := idx_zero6 t
  funext a; apply Fin.ext
  match a with
  | ⟨0, _⟩ => show win0_6.index t (0 : Fin 3) * 3 + 1 * (j 0).val = (j 0).val; omega
  | ⟨1, _⟩ => show win0_6.index t (1 : Fin 3) * 24 + 1 * (j 1).val = (j 1).val; omega
  | ⟨2, _⟩ => show win0_6.index t (2 : Fin 3) * 2048 + 1 * (j 2).val = (j 2).val; omega
theorem emb7 (t : Fin cfg0.N) (j : S3x24x2048.Idx) : ((cfg0.win 7).blk t).view.emb j = j := by
  obtain ⟨e0, e1, e2⟩ := idx_zero7 t
  funext a; apply Fin.ext
  match a with
  | ⟨0, _⟩ => show win0_7.index t (0 : Fin 3) * 3 + 1 * (j 0).val = (j 0).val; omega
  | ⟨1, _⟩ => show win0_7.index t (1 : Fin 3) * 24 + 1 * (j 1).val = (j 1).val; omega
  | ⟨2, _⟩ => show win0_7.index t (2 : Fin 3) * 2048 + 1 * (j 2).val = (j 2).val; omega
theorem emb8 (t : Fin cfg0.N) (j : S24x128.Idx) : ((cfg0.win 8).blk t).view.emb j = j := by
  obtain ⟨e0, e1⟩ := idx_zero8 t
  funext a; apply Fin.ext
  match a with
  | ⟨0, _⟩ => show win0_8.index t (0 : Fin 2) * 24 + 1 * (j 0).val = (j 0).val; omega
  | ⟨1, _⟩ => show win0_8.index t (1 : Fin 2) * 128 + 1 * (j 1).val = (j 1).val; omega
theorem emb9 (t : Fin cfg0.N) (j : S24x128.Idx) : ((cfg0.win 9).blk t).view.emb j = j := by
  obtain ⟨e0, e1⟩ := idx_zero9 t
  funext a; apply Fin.ext
  match a with
  | ⟨0, _⟩ => show win0_9.index t (0 : Fin 2) * 24 + 1 * (j 0).val = (j 0).val; omega
  | ⟨1, _⟩ => show win0_9.index t (1 : Fin 2) * 128 + 1 * (j 1).val = (j 1).val; omega

/-! An input window's block is its array as the region finds it. -/

theorem iblk0_eq (c : Dev nD) (t : Fin cfg0.N) : iblk m c 0 t = V m c main_arg1 := by
  funext j; show V m c main_arg1 (((cfg0.win 0).blk t).view.emb j) = V m c main_arg1 j; rw [emb0]
theorem iblk1_eq (c : Dev nD) (t : Fin cfg0.N) : iblk m c 1 t = V m c main_arg4 := by
  funext j; show V m c main_arg4 (((cfg0.win 1).blk t).view.emb j) = V m c main_arg4 j; rw [emb1]
theorem iblk2_eq (c : Dev nD) (t : Fin cfg0.N) : iblk m c 2 t = V m c main_arg5 := by
  funext j; show V m c main_arg5 (((cfg0.win 2).blk t).view.emb j) = V m c main_arg5 j; rw [emb2]
theorem iblk3_eq (c : Dev nD) (t : Fin cfg0.N) : iblk m c 3 t = V m c main_arg0 := by
  funext j; show V m c main_arg0 (((cfg0.win 3).blk t).view.emb j) = V m c main_arg0 j; rw [emb3]
theorem iblk4_eq (c : Dev nD) (t : Fin cfg0.N) : iblk m c 4 t = V m c main_arg2 := by
  funext j; show V m c main_arg2 (((cfg0.win 4).blk t).view.emb j) = V m c main_arg2 j; rw [emb4]
theorem iblk5_eq (c : Dev nD) (t : Fin cfg0.N) : iblk m c 5 t = V m c main_arg3 := by
  funext j; show V m c main_arg3 (((cfg0.win 5).blk t).view.emb j) = V m c main_arg3 j; rw [emb5]
theorem iblk6_eq (c : Dev nD) (t : Fin cfg0.N) : iblk m c 6 t = V m c main_v0 := by
  funext j; show V m c main_v0 (((cfg0.win 6).blk t).view.emb j) = V m c main_v0 j; rw [emb6]

/-! An output window's block, cut out of `X` or read out of `X`, is the same; and it is the whole array. -/

theorem cut7_eq (t : Fin cfg0.N) (X : Vec F S3x24x2048 .f32) : (cfg0.win 7).cut (grid0.coords t) X = ((cfg0.win 7).blk t).view.read (Elt F) X := by
  funext j
  show X j = X (((cfg0.win 7).blk t).view.emb j)
  rw [emb7]
theorem covered7 (i : S3x24x2048.Idx) : ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩
theorem cut8_eq (t : Fin cfg0.N) (X : Vec F S24x128 .fp8e4m3) : (cfg0.win 8).cut (grid0.coords t) X = ((cfg0.win 8).blk t).view.read (Elt F) X := by
  funext j
  show X j = X (((cfg0.win 8).blk t).view.emb j)
  rw [emb8]
theorem covered8 (i : S24x128.Idx) : ∃ t : Fin cfg0.N, (cfg0.win 8).flush t = true ∧ i ∈ ((cfg0.win 8).blk t).view.set :=
  ⟨(⟨0, by decide⟩ : Fin cfg0.N), flush0_8 _, by
    have h := ((cfg0.win 8).blk (⟨0, by decide⟩ : Fin cfg0.N)).view.emb_mem_set i; rwa [emb8] at h⟩
theorem cut9_eq (t : Fin cfg0.N) (X : Vec F S24x128 .fp8e4m3) : (cfg0.win 9).cut (grid0.coords t) X = ((cfg0.win 9).blk t).view.read (Elt F) X := by
  funext j
  show X j = X (((cfg0.win 9).blk t).view.emb j)
  rw [emb9]
theorem covered9 (i : S24x128.Idx) : ∃ t : Fin cfg0.N, (cfg0.win 9).flush t = true ∧ i ∈ ((cfg0.win 9).blk t).view.set :=
  ⟨(⟨0, by decide⟩ : Fin cfg0.N), flush0_9 _, by
    have h := ((cfg0.win 9).blk (⟨0, by decide⟩ : Fin cfg0.N)).view.emb_mem_set i; rwa [emb9] at h⟩

/-! The old state, which the host transposes, as the region finds it. -/

theorem V_v0 (c : Dev nD) : V m c main_v0 = transpose S3x24x2048 [1, 0, 2] (m ((c : Thread nD τ).loc main_arg6)) transposes_S24x3x2048_S3x24x2048_1_0_2 := by
  show StableHlo.after hostOps0 _ (Proc.devRef .tc main_v0) = _
  after_results

end Windows

/-! ### The arrays after the run -/

section Arrays

variable (m : (ℓ : Loc nD τ sig) → Buf (Elt Ideal) ℓ)

theorem final7 (c : Dev nD) : (dats m 0 c).arrAt 7 cfg0.N = tail (V m c main_arg1) (V m c main_arg0) (V m c main_v0) :=
  (dats m 0 c).arrAt_eq_of_cover 7 (tail (V m c main_arg1) (V m c main_arg0) (V m c main_v0)) (fun t _ => by
    rw [flushed7_A, out7_eq, iblk0_eq, iblk3_eq, iblk6_eq]
    exact cut7_eq (F := Ideal) t (tail (V m c main_arg1) (V m c main_arg0) (V m c main_v0))) covered7
theorem final8 (c : Dev nD) : (dats m 0 c).arrAt 8 cfg0.N = keys (V m c main_arg1) (V m c main_arg4) (V m c main_arg0) (V m c main_arg2) (V m c main_arg3) :=
  (dats m 0 c).arrAt_eq_of_cover 8 (keys (V m c main_arg1) (V m c main_arg4) (V m c main_arg0) (V m c main_arg2) (V m c main_arg3)) (fun t _ => by
    rw [flushed8_A, out8_eq, iblk0_eq, iblk1_eq, iblk3_eq, iblk4_eq, iblk5_eq]
    exact cut8_eq (F := Ideal) t (keys (V m c main_arg1) (V m c main_arg4) (V m c main_arg0) (V m c main_arg2) (V m c main_arg3))) covered8
theorem final9 (c : Dev nD) : (dats m 0 c).arrAt 9 cfg0.N = vals (V m c main_arg1) (V m c main_arg5) (V m c main_arg0) :=
  (dats m 0 c).arrAt_eq_of_cover 9 (vals (V m c main_arg1) (V m c main_arg5) (V m c main_arg0)) (fun t _ => by
    rw [flushed9_A, out9_eq, iblk0_eq, iblk2_eq, iblk3_eq]
    exact cut9_eq (F := Ideal) t (vals (V m c main_arg1) (V m c main_arg5) (V m c main_arg0))) covered9

end Arrays

end Cert.ReferenceCIdeal.Hand
end
-- ==== Proof.AlgebraicCIdeal.lean ====
module

public import proofs.«01_k».proof.Defs
public import proofs.«01_k».proof.Proof.ValueCIdeal
public import proofs.«01_k».proof.Proof.ValueRefCIdeal
public import Idealize.ShloMosaic.Lib.Pipeline.Value

@[expose] public section

set_option maxRecDepth 16384

noncomputable section

namespace Cert.KernelCIdeal.Hand

open Cert.KernelCIdeal Cert.KernelCIdeal.Gen Cert.KernelCIdeal.Value Idealize.ShloMosaic Idealize.ShloMosaic.TcCoe Idealize.SL.Sem
open Idealize.ShloMosaic.Pipeline (Dat)

section Windows

variable {F : FTy → Type} [FloatOps F]
variable (m : (ℓ : Loc nD τ sig) → Buf (Elt F) ℓ) (ρ : Dev nD → PrngReg)

/-! ### The windows: each block is its whole array -/

theorem idx_zero0 : ∀ t : Fin cfg0.N, win0_0.index t (0 : Fin 1) = 0 := (by decide +kernel : ∀ t : Fin grid0.N, _)
theorem idx_zero1 : ∀ t : Fin cfg0.N, win0_1.index t (0 : Fin 1) = 0 := (by decide +kernel : ∀ t : Fin grid0.N, _)
theorem idx_zero2 : ∀ t : Fin cfg0.N, win0_2.index t (0 : Fin 1) = 0 := (by decide +kernel : ∀ t : Fin grid0.N, _)
theorem idx_zero3 : ∀ t : Fin cfg0.N, win0_3.index t (0 : Fin 3) = 0 ∧ win0_3.index t (1 : Fin 3) = 0 ∧ win0_3.index t (2 : Fin 3) = 0 := (by decide +kernel : ∀ t : Fin grid0.N, _)
theorem idx_zero4 : ∀ t : Fin cfg0.N, win0_4.index t (0 : Fin 3) = 0 ∧ win0_4.index t (1 : Fin 3) = 0 ∧ win0_4.index t (2 : Fin 3) = 0 := (by decide +kernel : ∀ t : Fin grid0.N, _)
theorem idx_zero5 : ∀ t : Fin cfg0.N, win0_5.index t (0 : Fin 3) = 0 ∧ win0_5.index t (1 : Fin 3) = 0 ∧ win0_5.index t (2 : Fin 3) = 0 := (by decide +kernel : ∀ t : Fin grid0.N, _)
theorem idx_zero6 : ∀ t : Fin cfg0.N, win0_6.index t (0 : Fin 3) = 0 ∧ win0_6.index t (1 : Fin 3) = 0 ∧ win0_6.index t (2 : Fin 3) = 0 := (by decide +kernel : ∀ t : Fin grid0.N, _)
theorem idx_zero7 : ∀ t : Fin cfg0.N, win0_7.index t (0 : Fin 3) = 0 ∧ win0_7.index t (1 : Fin 3) = 0 ∧ win0_7.index t (2 : Fin 3) = 0 := (by decide +kernel : ∀ t : Fin grid0.N, _)
theorem idx_zero8 : ∀ t : Fin cfg0.N, win0_8.index t (0 : Fin 2) = 0 ∧ win0_8.index t (1 : Fin 2) = 0 := (by decide +kernel : ∀ t : Fin grid0.N, _)
theorem idx_zero9 : ∀ t : Fin cfg0.N, win0_9.index t (0 : Fin 2) = 0 ∧ win0_9.index t (1 : Fin 2) = 0 := (by decide +kernel : ∀ t : Fin grid0.N, _)

/-! So an index of a window's block is the same index of its array. -/

theorem emb0 (t : Fin cfg0.N) (j : S12.Idx) : ((cfg0.win 0).blk t).view.emb j = j := by
  obtain e0 := idx_zero0 t
  funext a; apply Fin.ext
  match a with
  | ⟨0, _⟩ => show win0_0.index t (0 : Fin 1) * 12 + 1 * (j 0).val = (j 0).val; omega
theorem emb1 (t : Fin cfg0.N) (j : S1.Idx) : ((cfg0.win 1).blk t).view.emb j = j := by
  obtain e0 := idx_zero1 t
  funext a; apply Fin.ext
  match a with
  | ⟨0, _⟩ => show win0_1.index t (0 : Fin 1) * 1 + 1 * (j 0).val = (j 0).val; omega
theorem emb2 (t : Fin cfg0.N) (j : S1.Idx) : ((cfg0.win 2).blk t).view.emb j = j := by
  obtain e0 := idx_zero2 t
  funext a; apply Fin.ext
  match a with
  | ⟨0, _⟩ => show win0_2.index t (0 : Fin 1) * 1 + 1 * (j 0).val = (j 0).val; omega
theorem emb3 (t : Fin cfg0.N) (j : S37x24x128.Idx) : ((cfg0.win 3).blk t).view.emb j = j := by
  obtain ⟨e0, e1, e2⟩ := idx_zero3 t
  funext a; apply Fin.ext
  match a with
  | ⟨0, _⟩ => show win0_3.index t (0 : Fin 3) * 37 + 1 * (j 0).val = (j 0).val; omega
  | ⟨1, _⟩ => show win0_3.index t (1 : Fin 3) * 24 + 1 * (j 1).val = (j 1).val; omega
  | ⟨2, _⟩ => show win0_3.index t (2 : Fin 3) * 128 + 1 * (j 2).val = (j 2).val; omega
theorem emb4 (t : Fin cfg0.N) (j : S24x1x64.Idx) : ((cfg0.win 4).blk t).view.emb j = j := by
  obtain ⟨e0, e1, e2⟩ := idx_zero4 t
  funext a; apply Fin.ext
  match a with
  | ⟨0, _⟩ => show win0_4.index t (0 : Fin 3) * 24 + 1 * (j 0).val = (j 0).val; omega
  | ⟨1, _⟩ => show win0_4.index t (1 : Fin 3) * 1 + 1 * (j 1).val = (j 1).val; omega
  | ⟨2, _⟩ => show win0_4.index t (2 : Fin 3) * 64 + 1 * (j 2).val = (j 2).val; omega
theorem emb5 (t : Fin cfg0.N) (j : S24x1x64.Idx) : ((cfg0.win 5).blk t).view.emb j = j := by
  obtain ⟨e0, e1, e2⟩ := idx_zero5 t
  funext a; apply Fin.ext
  match a with
  | ⟨0, _⟩ => show win0_5.index t (0 : Fin 3) * 24 + 1 * (j 0).val = (j 0).val; omega
  | ⟨1, _⟩ => show win0_5.index t (1 : Fin 3) * 1 + 1 * (j 1).val = (j 1).val; omega
  | ⟨2, _⟩ => show win0_5.index t (2 : Fin 3) * 64 + 1 * (j 2).val = (j 2).val; omega
theorem emb6 (t : Fin cfg0.N) (j : S3x24x2048.Idx) : ((cfg0.win 6).blk t).view.emb j = j := by
  obtain ⟨e0, e1, e2⟩ := idx_zero6 t
  funext a; apply Fin.ext
  match a with
  | ⟨0, _⟩ => show win0_6.index t (0 : Fin 3) * 3 + 1 * (j 0).val = (j 0).val; omega
  | ⟨1, _⟩ => show win0_6.index t (1 : Fin 3) * 24 + 1 * (j 1).val = (j 1).val; omega
  | ⟨2, _⟩ => show win0_6.index t (2 : Fin 3) * 2048 + 1 * (j 2).val = (j 2).val; omega
theorem emb7 (t : Fin cfg0.N) (j : S3x24x2048.Idx) : ((cfg0.win 7).blk t).view.emb j = j := by
  obtain ⟨e0, e1, e2⟩ := idx_zero7 t
  funext a; apply Fin.ext
  match a with
  | ⟨0, _⟩ => show win0_7.index t (0 : Fin 3) * 3 + 1 * (j 0).val = (j 0).val; omega
  | ⟨1, _⟩ => show win0_7.index t (1 : Fin 3) * 24 + 1 * (j 1).val = (j 1).val; omega
  | ⟨2, _⟩ => show win0_7.index t (2 : Fin 3) * 2048 + 1 * (j 2).val = (j 2).val; omega
theorem emb8 (t : Fin cfg0.N) (j : S24x128.Idx) : ((cfg0.win 8).blk t).view.emb j = j := by
  obtain ⟨e0, e1⟩ := idx_zero8 t
  funext a; apply Fin.ext
  match a with
  | ⟨0, _⟩ => show win0_8.index t (0 : Fin 2) * 24 + 1 * (j 0).val = (j 0).val; omega
  | ⟨1, _⟩ => show win0_8.index t (1 : Fin 2) * 128 + 1 * (j 1).val = (j 1).val; omega
theorem emb9 (t : Fin cfg0.N) (j : S24x128.Idx) : ((cfg0.win 9).blk t).view.emb j = j := by
  obtain ⟨e0, e1⟩ := idx_zero9 t
  funext a; apply Fin.ext
  match a with
  | ⟨0, _⟩ => show win0_9.index t (0 : Fin 2) * 24 + 1 * (j 0).val = (j 0).val; omega
  | ⟨1, _⟩ => show win0_9.index t (1 : Fin 2) * 128 + 1 * (j 1).val = (j 1).val; omega

/-! An input window's block is its array as the region finds it. -/

theorem iblk0_eq (c : Dev nD) (t : Fin cfg0.N) : iblk m c 0 t = V m c main_arg1 := by
  funext j; show V m c main_arg1 (((cfg0.win 0).blk t).view.emb j) = V m c main_arg1 j; rw [emb0]
theorem iblk1_eq (c : Dev nD) (t : Fin cfg0.N) : iblk m c 1 t = V m c main_arg4 := by
  funext j; show V m c main_arg4 (((cfg0.win 1).blk t).view.emb j) = V m c main_arg4 j; rw [emb1]
theorem iblk2_eq (c : Dev nD) (t : Fin cfg0.N) : iblk m c 2 t = V m c main_arg5 := by
  funext j; show V m c main_arg5 (((cfg0.win 2).blk t).view.emb j) = V m c main_arg5 j; rw [emb2]
theorem iblk3_eq (c : Dev nD) (t : Fin cfg0.N) : iblk m c 3 t = V m c main_arg0 := by
  funext j; show V m c main_arg0 (((cfg0.win 3).blk t).view.emb j) = V m c main_arg0 j; rw [emb3]
theorem iblk4_eq (c : Dev nD) (t : Fin cfg0.N) : iblk m c 4 t = V m c main_arg2 := by
  funext j; show V m c main_arg2 (((cfg0.win 4).blk t).view.emb j) = V m c main_arg2 j; rw [emb4]
theorem iblk5_eq (c : Dev nD) (t : Fin cfg0.N) : iblk m c 5 t = V m c main_arg3 := by
  funext j; show V m c main_arg3 (((cfg0.win 5).blk t).view.emb j) = V m c main_arg3 j; rw [emb5]
theorem iblk6_eq (c : Dev nD) (t : Fin cfg0.N) : iblk m c 6 t = V m c main_v0 := by
  funext j; show V m c main_v0 (((cfg0.win 6).blk t).view.emb j) = V m c main_v0 j; rw [emb6]

/-! An output window's block, cut out of `X` or read out of `X`, is the same; and it is the whole array. -/

theorem cut7_eq (t : Fin cfg0.N) (X : Vec F S3x24x2048 .f32) : (cfg0.win 7).cut (grid0.coords t) X = ((cfg0.win 7).blk t).view.read (Elt F) X := by
  funext j
  show X j = X (((cfg0.win 7).blk t).view.emb j)
  rw [emb7]
theorem covered7 (i : S3x24x2048.Idx) : ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩
theorem cut8_eq (t : Fin cfg0.N) (X : Vec F S24x128 .fp8e4m3) : (cfg0.win 8).cut (grid0.coords t) X = ((cfg0.win 8).blk t).view.read (Elt F) X := by
  funext j
  show X j = X (((cfg0.win 8).blk t).view.emb j)
  rw [emb8]
theorem covered8 (i : S24x128.Idx) : ∃ t : Fin cfg0.N, (cfg0.win 8).flush t = true ∧ i ∈ ((cfg0.win 8).blk t).view.set :=
  ⟨(⟨0, by decide⟩ : Fin cfg0.N), flush0_8 _, by
    have h := ((cfg0.win 8).blk (⟨0, by decide⟩ : Fin cfg0.N)).view.emb_mem_set i; rwa [emb8] at h⟩
theorem cut9_eq (t : Fin cfg0.N) (X : Vec F S24x128 .fp8e4m3) : (cfg0.win 9).cut (grid0.coords t) X = ((cfg0.win 9).blk t).view.read (Elt F) X := by
  funext j
  show X j = X (((cfg0.win 9).blk t).view.emb j)
  rw [emb9]
theorem covered9 (i : S24x128.Idx) : ∃ t : Fin cfg0.N, (cfg0.win 9).flush t = true ∧ i ∈ ((cfg0.win 9).blk t).view.set :=
  ⟨(⟨0, by decide⟩ : Fin cfg0.N), flush0_9 _, by
    have h := ((cfg0.win 9).blk (⟨0, by decide⟩ : Fin cfg0.N)).view.emb_mem_set i; rwa [emb9] at h⟩

/-! The old state, which the host transposes, as the region finds it. -/

theorem V_v0 (c : Dev nD) : V m c main_v0 = transpose S3x24x2048 [1, 0, 2] (m ((c : Thread nD τ).loc main_arg6)) transposes_S24x3x2048_S3x24x2048_1_0_2 := by
  show StableHlo.after hostOps0 _ (Proc.devRef .tc main_v0) = _
  after_results

end Windows

/-! ### The arrays after the run -/

section Arrays

variable (m : (ℓ : Loc nD τ sig) → Buf (Elt Ideal) ℓ)

theorem final7 (c : Dev nD) : (dats m 0 c).arrAt 7 cfg0.N = tail (V m c main_arg1) (V m c main_arg0) (V m c main_v0) :=
  (dats m 0 c).arrAt_eq_of_cover 7 (tail (V m c main_arg1) (V m c main_arg0) (V m c main_v0)) (fun t _ => by
    rw [flushed7_A, out7_eq, iblk0_eq, iblk3_eq, iblk6_eq]
    exact cut7_eq (F := Ideal) t (tail (V m c main_arg1) (V m c main_arg0) (V m c main_v0))) covered7
theorem final8 (c : Dev nD) : (dats m 0 c).arrAt 8 cfg0.N = keys (V m c main_arg1) (V m c main_arg4) (V m c main_arg0) (V m c main_arg2) (V m c main_arg3) :=
  (dats m 0 c).arrAt_eq_of_cover 8 (keys (V m c main_arg1) (V m c main_arg4) (V m c main_arg0) (V m c main_arg2) (V m c main_arg3)) (fun t _ => by
    rw [flushed8_A, out8_eq, iblk0_eq, iblk1_eq, iblk3_eq, iblk4_eq, iblk5_eq]
    exact cut8_eq (F := Ideal) t (keys (V m c main_arg1) (V m c main_arg4) (V m c main_arg0) (V m c main_arg2) (V m c main_arg3))) covered8
theorem final9 (c : Dev nD) : (dats m 0 c).arrAt 9 cfg0.N = vals (V m c main_arg1) (V m c main_arg5) (V m c main_arg0) :=
  (dats m 0 c).arrAt_eq_of_cover 9 (vals (V m c main_arg1) (V m c main_arg5) (V m c main_arg0)) (fun t _ => by
    rw [flushed9_A, out9_eq, iblk0_eq, iblk2_eq, iblk3_eq]
    exact cut9_eq (F := Ideal) t (vals (V m c main_arg1) (V m c main_arg5) (V m c main_arg0))) covered9

end Arrays

/-! ### From memories that agree on the arguments -/

section Same

variable (m : (ℓ : Loc nD τ sig) → Buf (Elt Ideal) ℓ) (m' : (ℓ : Loc Cert.ReferenceCIdeal.nD Cert.ReferenceCIdeal.τ Cert.ReferenceCIdeal.sig) → Buf (Elt Ideal) ℓ)

/-- The two memories hold the same arguments on device `c`. -/
abbrev Same (c : Dev nD) : Prop :=
  m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
  ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
  ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
  ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)
  ∧ m' ((c.tc : Thread Cert.ReferenceCIdeal.nD Cert.ReferenceCIdeal.τ).loc Cert.ReferenceCIdeal.main_arg4) = m ((c.tc : Thread Cert.KernelCIdeal.nD Cert.KernelCIdeal.τ).loc Cert.KernelCIdeal.main_arg4)
  ∧ m' ((c.tc : Thread Cert.ReferenceCIdeal.nD Cert.ReferenceCIdeal.τ).loc Cert.ReferenceCIdeal.main_arg5) = m ((c.tc : Thread Cert.KernelCIdeal.nD Cert.KernelCIdeal.τ).loc Cert.KernelCIdeal.main_arg5)
  ∧ m' ((c.tc : Thread Cert.ReferenceCIdeal.nD Cert.ReferenceCIdeal.τ).loc Cert.ReferenceCIdeal.main_arg6) = m ((c.tc : Thread Cert.KernelCIdeal.nD Cert.KernelCIdeal.τ).loc Cert.KernelCIdeal.main_arg6)

variable {m m'}

theorem same_arg0 (c : Dev nD) (h : Same m m' c) : (Cert.ReferenceCIdeal.Gen.V m' c Cert.ReferenceCIdeal.main_arg0 : Vec Ideal S37x24x128 .f32) = V m c main_arg0 :=
  (Cert.ReferenceCIdeal.Gen.V_main_arg0 m' c).trans ((h.1).trans (V_main_arg0 m c).symm)
theorem same_arg1 (c : Dev nD) (h : Same m m' c) : (Cert.ReferenceCIdeal.Gen.V m' c Cert.ReferenceCIdeal.main_arg1 : Vec Ideal S12 .f32) = V m c main_arg1 :=
  (Cert.ReferenceCIdeal.Gen.V_main_arg1 m' c).trans ((h.2.1).trans (V_main_arg1 m c).symm)
theorem same_arg2 (c : Dev nD) (h : Same m m' c) : (Cert.ReferenceCIdeal.Gen.V m' c Cert.ReferenceCIdeal.main_arg2 : Vec Ideal S24x1x64 .f32) = V m c main_arg2 :=
  (Cert.ReferenceCIdeal.Gen.V_main_arg2 m' c).trans ((h.2.2.1).trans (V_main_arg2 m c).symm)
theorem same_arg3 (c : Dev nD) (h : Same m m' c) : (Cert.ReferenceCIdeal.Gen.V m' c Cert.ReferenceCIdeal.main_arg3 : Vec Ideal S24x1x64 .f32) = V m c main_arg3 :=
  (Cert.ReferenceCIdeal.Gen.V_main_arg3 m' c).trans ((h.2.2.2.1).trans (V_main_arg3 m c).symm)
theorem same_arg4 (c : Dev nD) (h : Same m m' c) : (Cert.ReferenceCIdeal.Gen.V m' c Cert.ReferenceCIdeal.main_arg4 : Vec Ideal S1 .f32) = V m c main_arg4 :=
  (Cert.ReferenceCIdeal.Gen.V_main_arg4 m' c).trans ((h.2.2.2.2.1).trans (V_main_arg4 m c).symm)
theorem same_arg5 (c : Dev nD) (h : Same m m' c) : (Cert.ReferenceCIdeal.Gen.V m' c Cert.ReferenceCIdeal.main_arg5 : Vec Ideal S1 .f32) = V m c main_arg5 :=
  (Cert.ReferenceCIdeal.Gen.V_main_arg5 m' c).trans ((h.2.2.2.2.2.1).trans (V_main_arg5 m c).symm)
theorem same_v0 (c : Dev nD) (h : Same m m' c) : (Cert.ReferenceCIdeal.Gen.V m' c Cert.ReferenceCIdeal.main_v0 : Vec Ideal S3x24x2048 .f32) = V m c main_v0 :=
  (Cert.ReferenceCIdeal.Hand.V_v0 m' c).trans ((congrArg (fun x : Vec Ideal S24x3x2048 .f32 => (transpose S3x24x2048 [1, 0, 2] x transposes_S24x3x2048_S3x24x2048_1_0_2 : Vec Ideal S3x24x2048 .f32)) (h.2.2.2.2.2.2)).trans (V_v0 m c).symm)
theorem same_res0 (c : Dev nD) (h : Same m m' c) : ((Cert.ReferenceCIdeal.Gen.dats m' 0 c).arrAt 7 Cert.ReferenceCIdeal.cfg0.N : Vec Ideal S3x24x2048 .f32) = (dats m 0 c).arrAt 7 cfg0.N := by
  have e : tail (Cert.ReferenceCIdeal.Gen.V m' c Cert.ReferenceCIdeal.main_arg1) (Cert.ReferenceCIdeal.Gen.V m' c Cert.ReferenceCIdeal.main_arg0) (Cert.ReferenceCIdeal.Gen.V m' c Cert.ReferenceCIdeal.main_v0)
      = tail (V m c main_arg1) (V m c main_arg0) (V m c main_v0) := tail_congr (same_arg1 c h) (same_arg0 c h) (same_v0 c h)
  exact (Cert.ReferenceCIdeal.Hand.final7 m' c).trans (e.trans (final7 m c).symm)
theorem same_res1 (c : Dev nD) (h : Same m m' c) : ((Cert.ReferenceCIdeal.Gen.dats m' 0 c).arrAt 8 Cert.ReferenceCIdeal.cfg0.N : Vec Ideal S24x128 .fp8e4m3) = (dats m 0 c).arrAt 8 cfg0.N := by
  have e : keys (Cert.ReferenceCIdeal.Gen.V m' c Cert.ReferenceCIdeal.main_arg1) (Cert.ReferenceCIdeal.Gen.V m' c Cert.ReferenceCIdeal.main_arg4) (Cert.ReferenceCIdeal.Gen.V m' c Cert.ReferenceCIdeal.main_arg0) (Cert.ReferenceCIdeal.Gen.V m' c Cert.ReferenceCIdeal.main_arg2) (Cert.ReferenceCIdeal.Gen.V m' c Cert.ReferenceCIdeal.main_arg3)
      = keys (V m c main_arg1) (V m c main_arg4) (V m c main_arg0) (V m c main_arg2) (V m c main_arg3) := keys_congr (same_arg1 c h) (same_arg4 c h) (same_arg0 c h) (same_arg2 c h) (same_arg3 c h)
  exact (Cert.ReferenceCIdeal.Hand.final8 m' c).trans (e.trans (final8 m c).symm)
theorem same_res2 (c : Dev nD) (h : Same m m' c) : ((Cert.ReferenceCIdeal.Gen.dats m' 0 c).arrAt 9 Cert.ReferenceCIdeal.cfg0.N : Vec Ideal S24x128 .fp8e4m3) = (dats m 0 c).arrAt 9 cfg0.N := by
  have e : vals (Cert.ReferenceCIdeal.Gen.V m' c Cert.ReferenceCIdeal.main_arg1) (Cert.ReferenceCIdeal.Gen.V m' c Cert.ReferenceCIdeal.main_arg5) (Cert.ReferenceCIdeal.Gen.V m' c Cert.ReferenceCIdeal.main_arg0)
      = vals (V m c main_arg1) (V m c main_arg5) (V m c main_arg0) := vals_congr (same_arg1 c h) (same_arg5 c h) (same_arg0 c h)
  exact (Cert.ReferenceCIdeal.Hand.final9 m' c).trans (e.trans (final9 m c).symm)

end Same

/-- From memories that agree on the arguments, the keys' and values' codes and the convolution tail that the body leaves are
    the reference's. -/
theorem algebraic : Cert.algebraic_KernelCIdeal_ReferenceCIdeal (hKernelCIdeal := Cert.KernelCIdeal.Gen.facts) (hReferenceCIdeal := Cert.ReferenceCIdeal.Gen.facts) := by
  intro m g m' g' _ h
  refine ⟨fun c => (dats m 0 c).arrAt 7 cfg0.N, fun c => (dats m 0 c).arrAt 8 cfg0.N, fun c => (dats m 0 c).arrAt 9 cfg0.N, run_blocks m g, ?_⟩
  refine (θ_run (Cert.ReferenceCIdeal.defs (F := Ideal)) _ _).mono (fun r k c => ?_) (Cert.ReferenceCIdeal.Value.run_blocks m' g')
  obtain ⟨k0, k1, k2, ka⟩ := k c
  exact ⟨k0.trans (same_res0 c (h c)), k1.trans (same_res1 c (h c)), k2.trans (same_res2 c (h c)), ka⟩

end Cert.KernelCIdeal.Hand
end
-- ==== Proof.ValueOIdeal.lean ====
module

public import proofs.«01_k».proof.Proof.ValueOutIdeal
public import proofs.«01_k».proof.Proof.Gen.KernelOIdeal.Value
public import proofs.«01_k».proof.Proof.Gen.ReferenceOIdeal.Value
public import Idealize.ShloMosaic.Lib.Pipeline.ValueKit.Tiles
public import Idealize.ShloMosaic.Lib.Pipeline.Value

@[expose] public section

set_option maxRecDepth 16384

noncomputable section

namespace Cert.KernelOIdeal.Hand

open Cert.KernelOIdeal Cert.KernelOIdeal.Gen Cert.KernelOIdeal.Value Idealize.ShloMosaic Idealize.ShloMosaic.TcCoe Idealize.SL.Sem
open Idealize.ShloMosaic.Pipeline (Dat)
open Cert.KernelIdeal.Hand (cols read_cols ld_cols cols_apply maxTo max_lanes absf_nonneg ofBits_negInf ext_col ext_mat ext_row lit0 lit1 lit2 lit3 lit4 lit5)

theorem inbO : ∀ (h : Fin 6) (a : Fin 3), (![0, h.val, 0] : Fin 3 → ℕ) a + S24x1x128.size a ≤ S24x8x128.size a := by decide
theorem inbA : ∀ (h : Fin 6) (a : Fin 2), (![0, 128 * h.val] : Fin 2 → ℕ) a + S32x128.size a ≤ S32x768.size a := by decide

/-- Head `h` of the attention, the scales of the rows, and the codes with their padding. -/
def head (x : Vec Ideal S24x8x128 .f32) (h : Fin 6) : Vec Ideal S24x1x128 .f32 := View.ld x (Rect.unit (s := S24x8x128) ![0, h.val, 0] S24x1x128.size (inbO h))
def sc (x : Vec Ideal S24x8x128 .f32) : FVec Ideal S24x1 .f32 := k0_pay3 (head x 0) (head x 1) (head x 2) (head x 3) (head x 4) (head x 5)
def lhsA (x : Vec Ideal S24x8x128 .f32) : Vec Ideal S32x768 .fp8e4m3 :=
  cols (d := ![32, 768]) (tsz := S32x128.size) (n := 6) rfl rfl (fun h => k0_pay4 (sc x) (head x h))
def top (y : Vec Ideal S32x768 .fp8e4m3) : Vec Ideal S24x768 .fp8e4m3 := View.ld y (Rect.unit (s := S32x768) ![0, 0] S24x768.size (by decide))

theorem hz2 : (![0, 0] : Fin 2 → Nat) = fun _ => 0 := funext fun a => by fin_cases a <;> rfl

theorem consL (P : Fin 6 → Vec Ideal S32x128 .fp8e4m3) (k : ℕ) (hk : k < 6) (o : Fin 2 → ℕ) (ho : o = ![0, 128 * k]) (inb' : ∀ a, o a + S32x128.size a ≤ S32x768.size a)
    (p : Vec Ideal S32x128 .fp8e4m3) (hp : p = P ⟨k, hk⟩) (L : List (View.Piece (Elt Ideal) S32x768 .fp8e4m3)) (hL : L = View.tilePieces (s := S32x768) S32x128.size (fun j : Fin 6 => ![0, 128 * j.val]) inbA P k (Nat.le_of_lt hk)) :
    ⟨Rect.unit (s := S32x768) o S32x128.size inb', p⟩ :: L = View.tilePieces (s := S32x768) S32x128.size (fun j : Fin 6 => ![0, 128 * j.val]) inbA P (k + 1) hk := by
  subst ho hp hL; rfl

section Run

variable (c : Dev nD) (i : grid0.Coords) (arg1 : Memref sig .tc .vmem S24x8x128 .f32) (harg1 : arg1.IsWhole) (arg2 : Memref sig .tc .vmem S24x768 .fp8e4m3) (harg2 : arg2.IsWhole) (arg3 : Memref sig .tc .vmem S1x24 .f32) (harg3 : arg3.IsWhole) (arg4 : Memref sig .tc .vmem S32x768 .fp8e4m3) (harg4 : arg4.IsWhole)
    (x0 : Vec Ideal S24x8x128 .f32)

theorem r_eq : kernelRun0_A.sl.r c arg1 harg1 x0 = sc x0 := by
  unfold kernelRun0_A.sl.r
  simp only [View.readAt_eq_ld, harg1.read_unread]
  rfl

/-- The buffer of codes, after the sweep. -/
theorem read_codes : arg4.view.read (Elt Ideal) (arg4.view.writes (Elt Ideal) arg4.view.junk (kernelRun0_A.sl.HS0_6 c arg1 harg1 x0)) = lhsA x0 := by
  have hL : kernelRun0_A.sl.HS0_6 c arg1 harg1 x0
      = View.tilePieces (s := S32x768) S32x128.size (fun j : Fin 6 => ![0, 128 * j.val]) inbA (fun h => k0_pay4 (sc x0) (head x0 h)) 6 le_rfl := by
    unfold kernelRun0_A.sl.HS0_6
    dsimp only [kernelRun0_A.sl.r_1, kernelRun0_A.sl.r_2]
    simp only [View.readAt_eq_ld, harg1.read_unread, r_eq]
    refine consL (fun h => k0_pay4 (sc x0) (head x0 h)) 5 (by decide) _ rfl _ _ rfl _ ?_
    refine consL (fun h => k0_pay4 (sc x0) (head x0 h)) 4 (by decide) _ rfl _ _ rfl _ ?_
    refine consL (fun h => k0_pay4 (sc x0) (head x0 h)) 3 (by decide) _ rfl _ _ rfl _ ?_
    refine consL (fun h => k0_pay4 (sc x0) (head x0 h)) 2 (by decide) _ rfl _ _ rfl _ ?_
    refine consL (fun h => k0_pay4 (sc x0) (head x0 h)) 1 (by decide) _ rfl _ _ rfl _ ?_
    refine consL (fun h => k0_pay4 (sc x0) (head x0 h)) 0 (by decide) _ rfl _ _ rfl _ ?_
    rfl
  rw [hL]
  exact read_cols (d := ![32, 768]) (tsz := S32x128.size) (n := 6) (Val := Elt Ideal) (e := .fp8e4m3) rfl rfl arg4.view arg4.view.junk (fun j => ![0, 128 * j.val]) (fun _ => rfl) inbA _

theorem out1_eq : out0_A_1 c i arg1 harg1 arg2 harg2 arg3 harg3 arg4 harg4 x0 = top (lhsA x0) := by
  unfold out0_A_1; rw [View.read_writes_junk_eq_canon]
  show View.canon ([⟨Rect.unit ![0, 0] S24x768.size inb_S24x768_S24x768_0_0,
    VecWindow.window (arg4.view.read (Elt Ideal) (arg4.view.writes (Elt Ideal) arg4.view.junk (kernelRun0_A.sl.HS0_6 c arg1 harg1 x0))) ![0, 0] S24x768.size (by decide)⟩] : List (View.Piece (Elt Ideal) S24x768 .fp8e4m3)) = _
  rw [View.canon_unit_zero hz2, read_codes]
  rfl

theorem out2_eq : out0_A_2 c i arg1 harg1 arg2 harg2 arg3 harg3 arg4 harg4 x0 = k0_pay2 (sc x0) := by
  unfold out0_A_2; rw [View.read_writes_junk_eq_canon]; unfold kernelRun0_A
  dsimp only
  rw [r_eq]
  exact View.canon_unit_zero (S := S1x24) hz2 _ _

end Run

/-! ### The same values, on the whole row -/

theorem head_apply (x : Vec Ideal S24x8x128 .f32) (h : Fin 6) (r : Fin 24) (l : Fin 128) : head x h (ix3 r (0 : Fin 1) l) = x (ix3 r (⟨h.val, by omega⟩ : Fin 8) l) := by
  refine View.ld_unit_apply_of (S := S24x8x128) x _ _ _ (ix3 r (0 : Fin 1) l) (ix3 r (⟨h.val, by omega⟩ : Fin 8) l) fun a => ?_
  match a with
  | ⟨0, _⟩ => show r.val = 0 + r.val; omega
  | ⟨1, _⟩ => show h.val = h.val + 0; omega
  | ⟨2, _⟩ => show l.val = 0 + l.val; omega

/-- The six heads, as the reference's load finds them. -/
def six (x : Vec Ideal S24x8x128 .f32) : Vec Ideal Cert.ReferenceOIdeal.S24x6x128 .f32 :=
  View.ld x (Rect.unit (s := S24x8x128) ![0, 0, 0] Cert.ReferenceOIdeal.S24x6x128.size (by decide))

theorem six_apply (x : Vec Ideal S24x8x128 .f32) (h : Fin 6) (r : Fin 24) (l : Fin 128) : six x (ix3 r h l) = x (ix3 r (⟨h.val, by omega⟩ : Fin 8) l) := by
  refine View.ld_unit_apply_of (S := S24x8x128) x _ _ _ (ix3 r h l) (ix3 r (⟨h.val, by omega⟩ : Fin 8) l) fun a => ?_
  match a with
  | ⟨0, _⟩ => show r.val = 0 + r.val; omega
  | ⟨1, _⟩ => show h.val = 0 + h.val; omega
  | ⟨2, _⟩ => show l.val = 0 + l.val; omega

theorem row_apply (v : Vec Ideal Cert.ReferenceOIdeal.S24x6x128 .f32) (r : Fin 24) (k : Fin 768) (h : Fin 6) (l : Fin 128) (e : k.val = 128 * h.val + l.val) :
    Cert.ReferenceOIdeal.Gen.k0_pay1 v (ix2 r k) = v (ix3 r h l) := by
  have p : Cert.ReferenceOIdeal.Gen.k0_pay1 v (ix2 r k) = v (ix3 r (⟨k.val / 128, by omega⟩ : Fin 6) (⟨k.val % 128, by omega⟩ : Fin 128)) := by
    pointwise [Cert.ReferenceOIdeal.Gen.k0_pay1]
  exact p.trans (congrArg₂ (fun (a : Fin 6) (b : Fin 128) => v (ix3 r a b)) (Fin.ext (by show k.val / 128 = h.val; omega)) (Fin.ext (by show k.val % 128 = l.val; omega)))

/-- The row of heads, in natural numbers. -/
def rowN (x : Vec Ideal S24x8x128 .f32) (r : Fin 24) (k : ℕ) : EReal := if h : k < 768 then Cert.ReferenceOIdeal.Gen.k0_pay1 (six x) (ix2 r ⟨k, h⟩) else 0

theorem head_row (x : Vec Ideal S24x8x128 .f32) (h : Fin 6) (r : Fin 24) (l : Fin 128) : head x h (ix3 r (0 : Fin 1) l) = rowN x r (128 * h.val + l.val) := by
  have hk : 128 * h.val + l.val < 768 := by omega
  rw [rowN, dif_pos hk, row_apply (six x) r ⟨_, hk⟩ h l rfl, six_apply, head_apply]

/-- The greatest absolute values of the rows, as the two programs take them. -/
def amaxK (a b c d e f : Vec Ideal S24x1x128 .f32) : FVec Ideal S24x1 .f32 :=
  shapeCast S24x1 (multiReduction (F := Ideal) .maximumf [1] S24 (maximumf (maximumf (maximumf (maximumf (maximumf (maximumf (broadcast S24x128 (Scalar.ofBits .f32 0x00000000#32))
    (absf (shapeCast S24x128 a shapeCasts_S24x1x128_S24x128))) (absf (shapeCast S24x128 b shapeCasts_S24x1x128_S24x128))) (absf (shapeCast S24x128 c shapeCasts_S24x1x128_S24x128)))
    (absf (shapeCast S24x128 d shapeCasts_S24x1x128_S24x128))) (absf (shapeCast S24x128 e shapeCasts_S24x1x128_S24x128))) (absf (shapeCast S24x128 f shapeCasts_S24x1x128_S24x128)))
    0xFF800000#32 reduces_S24x128_S24 (.inl rfl) rfl) shapeCasts_S24_S24x1
def amaxR (v : FVec Ideal Cert.ReferenceOIdeal.S24x768 .f32) : FVec Ideal S24x1 .f32 :=
  shapeCast S24x1 (multiReduction (F := Ideal) .maximumf [1] S24 (absf v) 0xFF800000#32 Cert.ReferenceOIdeal.Facts₀.reduces_S24x768_S24 (.inl rfl) rfl) shapeCasts_S24_S24x1

theorem sc_eq (x : Vec Ideal S24x8x128 .f32) : sc x = Cert.ReferenceOIdeal.Gen.k0_pay2 (six x) := by
  have key : ∀ (r : Fin 24) (f : Fin 128 → EReal), (∀ l : Fin 128, f l = maxTo (fun t => FloatOps.absf (F := Ideal) (φ := .f32) (rowN x r (128 * t + l.val))) 6) →
      Finset.univ.fold max (Ideal.ofBits .f32 0xFF800000#32) f
        = Finset.univ.fold max (Ideal.ofBits .f32 0xFF800000#32) fun k : Fin 768 => FloatOps.absf (F := Ideal) (φ := .f32) (Cert.ReferenceOIdeal.Gen.k0_pay1 (six x) (ix2 r k)) := fun r f hf => by
    rw [show f = _ from funext hf, ofBits_negInf,
      max_lanes (fun k => FloatOps.absf (F := Ideal) (φ := .f32) (rowN x r k)) (fun _ => absf_nonneg _) 6 (by decide) 768 rfl]
    refine congrArg (fun h => Finset.univ.fold max (⊥ : EReal) h) (funext fun k => ?_)
    simp only [rowN, dif_pos k.isLt]
  have e : ∀ a b : FVec Ideal S24x1 .f32, a = b → Cert.KernelIdeal.Hand.scaleOf a = Cert.KernelIdeal.Hand.scaleOf b := fun _ _ h => congrArg _ h
  refine e (amaxK (head x 0) (head x 1) (head x 2) (head x 3) (head x 4) (head x 5)) (amaxR (Cert.ReferenceOIdeal.Gen.k0_pay1 (six x))) (ext_col _ _ fun r => ?_)
  pointwise [amaxK, amaxR]
  refine key r _ fun l => ?_
  simp only [maxTo, head_row, lit0, lit1, lit2, lit3, lit4, lit5, Nat.reduceMul, zero_add]

theorem code_top (R : FVec Ideal S24x1 .f32) (x : Vec Ideal S24x1x128 .f32) (r : Fin 24) (l : Fin 128) :
    k0_pay4 R x (ix2 (⟨r.val, by omega⟩ : Fin 32) l) = min (Ideal.ofBits .f32 0x43E00000#32) (max (Ideal.ofBits .f32 0xC3E00000#32) (Ideal.div (x (ix3 r (0 : Fin 1) l)) (R (ix2 r 0)))) := by
  pointwise [k0_pay4]

theorem code_ref (v : Vec Ideal Cert.ReferenceOIdeal.S24x6x128 .f32) (r : Fin 24) (k : Fin 768) :
    Cert.ReferenceOIdeal.Gen.k0_pay3 v (ix2 r k) = min (Ideal.ofBits .f32 0x43E00000#32) (max (Ideal.ofBits .f32 0xC3E00000#32)
      (Ideal.div (Cert.ReferenceOIdeal.Gen.k0_pay1 v (ix2 r k)) (Cert.ReferenceOIdeal.Gen.k0_pay2 v (ix2 r 0)))) := by
  pointwise [Cert.ReferenceOIdeal.Gen.k0_pay3]

theorem codes_eq (x : Vec Ideal S24x8x128 .f32) : top (lhsA x) = Cert.ReferenceOIdeal.Gen.k0_pay3 (six x) := by
  refine ext_mat (n := 24) (m := 768) _ _ fun r k => ?_
  have h : top (lhsA x) (ix2 r k) = lhsA x (ix2 (⟨r.val, by omega⟩ : Fin 32) k) := by
    refine View.ld_unit_apply_of (S := S32x768) (lhsA x) _ _ _ (ix2 r k) (ix2 (⟨r.val, by omega⟩ : Fin 32) k) fun a => ?_
    match a with
    | ⟨0, _⟩ => show r.val = 0 + r.val; omega
    | ⟨1, _⟩ => show k.val = 0 + k.val; omega
  have hk := Nat.div_add_mod k.val 128
  rw [h, code_ref, ← sc_eq]
  refine (cols_apply (d := ![32, 768]) (tsz := S32x128.size) (n := 6) rfl rfl (fun h => k0_pay4 (sc x) (head x h)) _
    (⟨k.val / 128, by omega⟩ : Fin 6) (ix2 (⟨r.val, by omega⟩ : Fin 32) (⟨k.val % 128, by omega⟩ : Fin 128)) rfl hk.symm).trans ?_
  rw [code_top, head_row, rowN, dif_pos (show 128 * (k.val / 128) + k.val % 128 < 768 by omega)]
  simp only [hk]

theorem scales_eq (x : Vec Ideal S24x8x128 .f32) : k0_pay2 (sc x) = Cert.ReferenceOIdeal.Gen.k0_pay4 (six x) := by
  rw [sc_eq]
  refine ext_row _ _ fun r => ?_
  pointwise [k0_pay2, Cert.ReferenceOIdeal.Gen.k0_pay4]

end Cert.KernelOIdeal.Hand
end
-- ==== Proof.ValueRefOIdeal.lean ====
module

public import proofs.«01_k».proof.Proof.ValueOIdeal
public import Idealize.ShloMosaic.Lib.Pipeline.Value

@[expose] public section

set_option maxRecDepth 16384

noncomputable section

namespace Cert.ReferenceOIdeal.Hand

open Cert.ReferenceOIdeal Cert.ReferenceOIdeal.Gen Cert.ReferenceOIdeal.Value Idealize.ShloMosaic Idealize.ShloMosaic.TcCoe Idealize.SL.Sem
open Idealize.ShloMosaic.Pipeline (Dat)
open Cert.KernelOIdeal.Hand (six)

/-! ### What the body leaves -/

theorem out1_eq (x0 : Vec Ideal S24x8x128 .f32) : out0_1 x0 = k0_pay3 (six x0) := by
  unfold out0_1
  exact View.canon_unit_zero (S := S24x768) Cert.KernelOIdeal.Hand.hz2 _ _
theorem out2_eq (x0 : Vec Ideal S24x8x128 .f32) : out0_2 x0 = k0_pay4 (six x0) := by
  unfold out0_2
  exact View.canon_unit_zero (S := S1x24) Cert.KernelOIdeal.Hand.hz2 _ _

section Windows

variable {F : FTy → Type} [FloatOps F]
variable (m : (ℓ : Loc nD τ sig) → Buf (Elt F) ℓ) (ρ : Dev nD → PrngReg)

/-! ### The windows: each block is its whole array -/

theorem idx_zero0 : ∀ t : Fin cfg0.N, win0_0.index t (0 : Fin 3) = 0 ∧ win0_0.index t (1 : Fin 3) = 0 ∧ win0_0.index t (2 : Fin 3) = 0 := (by decide +kernel : ∀ t : Fin grid0.N, _)
theorem idx_zero1 : ∀ t : Fin cfg0.N, win0_1.index t (0 : Fin 2) = 0 ∧ win0_1.index t (1 : Fin 2) = 0 := (by decide +kernel : ∀ t : Fin grid0.N, _)
theorem idx_zero2 : ∀ t : Fin cfg0.N, win0_2.index t (0 : Fin 2) = 0 ∧ win0_2.index t (1 : Fin 2) = 0 := (by decide +kernel : ∀ t : Fin grid0.N, _)

/-! So an index of a window's block is the same index of its array. -/

theorem emb0 (t : Fin cfg0.N) (j : S24x8x128.Idx) : ((cfg0.win 0).blk t).view.emb j = j := by
  obtain ⟨e0, e1, e2⟩ := idx_zero0 t
  funext a; apply Fin.ext
  match a with
  | ⟨0, _⟩ => show win0_0.index t (0 : Fin 3) * 24 + 1 * (j 0).val = (j 0).val; omega
  | ⟨1, _⟩ => show win0_0.index t (1 : Fin 3) * 8 + 1 * (j 1).val = (j 1).val; omega
  | ⟨2, _⟩ => show win0_0.index t (2 : Fin 3) * 128 + 1 * (j 2).val = (j 2).val; omega
theorem emb1 (t : Fin cfg0.N) (j : S24x768.Idx) : ((cfg0.win 1).blk t).view.emb j = j := by
  obtain ⟨e0, e1⟩ := idx_zero1 t
  funext a; apply Fin.ext
  match a with
  | ⟨0, _⟩ => show win0_1.index t (0 : Fin 2) * 24 + 1 * (j 0).val = (j 0).val; omega
  | ⟨1, _⟩ => show win0_1.index t (1 : Fin 2) * 768 + 1 * (j 1).val = (j 1).val; omega
theorem emb2 (t : Fin cfg0.N) (j : S1x24.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 24 + 1 * (j 1).val = (j 1).val; omega

/-! The input window's block is its array as the region finds it. -/

theorem iblk0_eq (c : Dev nD) (t : Fin cfg0.N) : iblk m c 0 t = V m c main_arg0 := by
  funext j; show V m c main_arg0 (((cfg0.win 0).blk t).view.emb j) = V m c main_arg0 j; rw [emb0]

/-! An output window's block, cut out of `X` or read out of `X`, is the same; and it is the whole array. -/

theorem cut1_eq (t : Fin cfg0.N) (X : Vec F S24x768 .fp8e4m3) : (cfg0.win 1).cut (grid0.coords t) X = ((cfg0.win 1).blk t).view.read (Elt F) X := by
  funext j
  show X j = X (((cfg0.win 1).blk t).view.emb j)
  rw [emb1]
theorem covered1 (i : S24x768.Idx) : ∃ t : Fin cfg0.N, (cfg0.win 1).flush t = true ∧ i ∈ ((cfg0.win 1).blk t).view.set :=
  ⟨(⟨0, by decide⟩ : Fin cfg0.N), flush0_1 _, by
    have h := ((cfg0.win 1).blk (⟨0, by decide⟩ : Fin cfg0.N)).view.emb_mem_set i; rwa [emb1] at h⟩
theorem cut2_eq (t : Fin cfg0.N) (X : Vec F S1x24 .f32) : (cfg0.win 2).cut (grid0.coords t) X = ((cfg0.win 2).blk t).view.read (Elt F) X := by
  funext j
  show X j = X (((cfg0.win 2).blk t).view.emb j)
  rw [emb2]
theorem covered2 (i : S1x24.Idx) : ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb2] at h⟩

end Windows

/-! ### The arrays after the run -/

section Arrays

variable (m : (ℓ : Loc nD τ sig) → Buf (Elt Ideal) ℓ)

theorem final1 (c : Dev nD) : (dats m 0 c).arrAt 1 cfg0.N = Cert.ReferenceOIdeal.Gen.k0_pay3 (F := Ideal) (six (V m c main_arg0)) :=
  (dats m 0 c).arrAt_eq_of_cover 1 (Cert.ReferenceOIdeal.Gen.k0_pay3 (F := Ideal) (six (V m c main_arg0))) (fun t _ => by
    rw [flushed1, out1_eq, iblk0_eq]
    exact cut1_eq (F := Ideal) t (Cert.ReferenceOIdeal.Gen.k0_pay3 (F := Ideal) (six (V m c main_arg0)))) covered1
theorem final2 (c : Dev nD) : (dats m 0 c).arrAt 2 cfg0.N = Cert.ReferenceOIdeal.Gen.k0_pay4 (F := Ideal) (six (V m c main_arg0)) :=
  (dats m 0 c).arrAt_eq_of_cover 2 (Cert.ReferenceOIdeal.Gen.k0_pay4 (F := Ideal) (six (V m c main_arg0))) (fun t _ => by
    rw [flushed2, out2_eq, iblk0_eq]
    exact cut2_eq (F := Ideal) t (Cert.ReferenceOIdeal.Gen.k0_pay4 (F := Ideal) (six (V m c main_arg0)))) covered2

end Arrays

end Cert.ReferenceOIdeal.Hand
end
-- ==== Proof.AlgebraicOIdeal.lean ====
module

public import proofs.«01_k».proof.Defs
public import proofs.«01_k».proof.Proof.ValueOIdeal
public import proofs.«01_k».proof.Proof.ValueRefOIdeal
public import Idealize.ShloMosaic.Lib.Pipeline.Value

@[expose] public section

set_option maxRecDepth 16384

noncomputable section

namespace Cert.KernelOIdeal.Hand

open Cert.KernelOIdeal Cert.KernelOIdeal.Gen Cert.KernelOIdeal.Value Idealize.ShloMosaic Idealize.ShloMosaic.TcCoe Idealize.SL.Sem
open Idealize.ShloMosaic.Pipeline (Dat)

section Run

variable (c : Dev nD) (i : grid0.Coords) (arg1 : Memref sig .tc .vmem S24x8x128 .f32) (harg1 : arg1.IsWhole) (arg2 : Memref sig .tc .vmem S24x768 .fp8e4m3) (harg2 : arg2.IsWhole) (arg3 : Memref sig .tc .vmem S1x24 .f32) (harg3 : arg3.IsWhole) (arg4 : Memref sig .tc .vmem S32x768 .fp8e4m3) (harg4 : arg4.IsWhole)
    (x0 : Vec Ideal S24x8x128 .f32)

/-! ### What the body leaves is what the reference leaves -/

theorem out1w_eq : out0_A_1 c i arg1 harg1 arg2 harg2 arg3 harg3 arg4 harg4 x0 = Cert.ReferenceOIdeal.Gen.k0_pay3 (F := Ideal) (six x0) :=
  (out1_eq c i arg1 harg1 arg2 harg2 arg3 harg3 arg4 harg4 x0).trans (codes_eq x0)
theorem out2w_eq : out0_A_2 c i arg1 harg1 arg2 harg2 arg3 harg3 arg4 harg4 x0 = Cert.ReferenceOIdeal.Gen.k0_pay4 (F := Ideal) (six x0) :=
  (out2_eq c i arg1 harg1 arg2 harg2 arg3 harg3 arg4 harg4 x0).trans (scales_eq x0)

end Run

section Windows

variable {F : FTy → Type} [FloatOps F]
variable (m : (ℓ : Loc nD τ sig) → Buf (Elt F) ℓ) (ρ : Dev nD → PrngReg)

/-! ### The windows: each block is its whole array -/

theorem idx_zero0 : ∀ t : Fin cfg0.N, win0_0.index t (0 : Fin 3) = 0 ∧ win0_0.index t (1 : Fin 3) = 0 ∧ win0_0.index t (2 : Fin 3) = 0 := (by decide +kernel : ∀ t : Fin grid0.N, _)
theorem idx_zero1 : ∀ t : Fin cfg0.N, win0_1.index t (0 : Fin 2) = 0 ∧ win0_1.index t (1 : Fin 2) = 0 := (by decide +kernel : ∀ t : Fin grid0.N, _)
theorem idx_zero2 : ∀ t : Fin cfg0.N, win0_2.index t (0 : Fin 2) = 0 ∧ win0_2.index t (1 : Fin 2) = 0 := (by decide +kernel : ∀ t : Fin grid0.N, _)

/-! So an index of a window's block is the same index of its array. -/

theorem emb0 (t : Fin cfg0.N) (j : S24x8x128.Idx) : ((cfg0.win 0).blk t).view.emb j = j := by
  obtain ⟨e0, e1, e2⟩ := idx_zero0 t
  funext a; apply Fin.ext
  match a with
  | ⟨0, _⟩ => show win0_0.index t (0 : Fin 3) * 24 + 1 * (j 0).val = (j 0).val; omega
  | ⟨1, _⟩ => show win0_0.index t (1 : Fin 3) * 8 + 1 * (j 1).val = (j 1).val; omega
  | ⟨2, _⟩ => show win0_0.index t (2 : Fin 3) * 128 + 1 * (j 2).val = (j 2).val; omega
theorem emb1 (t : Fin cfg0.N) (j : S24x768.Idx) : ((cfg0.win 1).blk t).view.emb j = j := by
  obtain ⟨e0, e1⟩ := idx_zero1 t
  funext a; apply Fin.ext
  match a with
  | ⟨0, _⟩ => show win0_1.index t (0 : Fin 2) * 24 + 1 * (j 0).val = (j 0).val; omega
  | ⟨1, _⟩ => show win0_1.index t (1 : Fin 2) * 768 + 1 * (j 1).val = (j 1).val; omega
theorem emb2 (t : Fin cfg0.N) (j : S1x24.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 24 + 1 * (j 1).val = (j 1).val; omega

/-! The input window's block is its array as the region finds it. -/

theorem iblk0_eq (c : Dev nD) (t : Fin cfg0.N) : iblk m c 0 t = V m c main_arg0 := by
  funext j; show V m c main_arg0 (((cfg0.win 0).blk t).view.emb j) = V m c main_arg0 j; rw [emb0]

/-! An output window's block, cut out of `X` or read out of `X`, is the same; and it is the whole array. -/

theorem cut1_eq (t : Fin cfg0.N) (X : Vec F S24x768 .fp8e4m3) : (cfg0.win 1).cut (grid0.coords t) X = ((cfg0.win 1).blk t).view.read (Elt F) X := by
  funext j
  show X j = X (((cfg0.win 1).blk t).view.emb j)
  rw [emb1]
theorem covered1 (i : S24x768.Idx) : ∃ t : Fin cfg0.N, (cfg0.win 1).flush t = true ∧ i ∈ ((cfg0.win 1).blk t).view.set :=
  ⟨(⟨0, by decide⟩ : Fin cfg0.N), flush0_1 _, by
    have h := ((cfg0.win 1).blk (⟨0, by decide⟩ : Fin cfg0.N)).view.emb_mem_set i; rwa [emb1] at h⟩
theorem cut2_eq (t : Fin cfg0.N) (X : Vec F S1x24 .f32) : (cfg0.win 2).cut (grid0.coords t) X = ((cfg0.win 2).blk t).view.read (Elt F) X := by
  funext j
  show X j = X (((cfg0.win 2).blk t).view.emb j)
  rw [emb2]
theorem covered2 (i : S1x24.Idx) : ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb2] at h⟩

end Windows

/-! ### The arrays after the run -/

section Arrays

variable (m : (ℓ : Loc nD τ sig) → Buf (Elt Ideal) ℓ)

theorem final1 (c : Dev nD) : (dats m 0 c).arrAt 1 cfg0.N = Cert.ReferenceOIdeal.Gen.k0_pay3 (F := Ideal) (six (V m c main_arg0)) :=
  (dats m 0 c).arrAt_eq_of_cover 1 (Cert.ReferenceOIdeal.Gen.k0_pay3 (F := Ideal) (six (V m c main_arg0))) (fun t _ => by
    rw [flushed1_A, out1w_eq, iblk0_eq]
    exact cut1_eq (F := Ideal) t (Cert.ReferenceOIdeal.Gen.k0_pay3 (F := Ideal) (six (V m c main_arg0)))) covered1
theorem final2 (c : Dev nD) : (dats m 0 c).arrAt 2 cfg0.N = Cert.ReferenceOIdeal.Gen.k0_pay4 (F := Ideal) (six (V m c main_arg0)) :=
  (dats m 0 c).arrAt_eq_of_cover 2 (Cert.ReferenceOIdeal.Gen.k0_pay4 (F := Ideal) (six (V m c main_arg0))) (fun t _ => by
    rw [flushed2_A, out2w_eq, iblk0_eq]
    exact cut2_eq (F := Ideal) t (Cert.ReferenceOIdeal.Gen.k0_pay4 (F := Ideal) (six (V m c main_arg0)))) covered2

end Arrays

/-! ### From memories that agree on the argument -/

section Same

variable (m : (ℓ : Loc nD τ sig) → Buf (Elt Ideal) ℓ) (m' : (ℓ : Loc Cert.ReferenceOIdeal.nD Cert.ReferenceOIdeal.τ Cert.ReferenceOIdeal.sig) → Buf (Elt Ideal) ℓ)

/-- The two memories hold the same attention on device `c`. -/
abbrev Same (c : Dev nD) : Prop :=
  m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)

variable {m m'}

theorem same_arg0 (c : Dev nD) (h : Same m m' c) : (Cert.ReferenceOIdeal.Gen.V m' c Cert.ReferenceOIdeal.main_arg0 : Vec Ideal S24x8x128 .f32) = V m c main_arg0 :=
  (Cert.ReferenceOIdeal.Gen.V_main_arg0 m' c).trans (h.trans (V_main_arg0 m c).symm)
theorem same_res0 (c : Dev nD) (h : Same m m' c) : ((Cert.ReferenceOIdeal.Gen.dats m' 0 c).arrAt 1 Cert.ReferenceOIdeal.cfg0.N : Vec Ideal S24x768 .fp8e4m3) = (dats m 0 c).arrAt 1 cfg0.N := by
  have e : Cert.ReferenceOIdeal.Gen.k0_pay3 (F := Ideal) (six (Cert.ReferenceOIdeal.Gen.V m' c Cert.ReferenceOIdeal.main_arg0)) = Cert.ReferenceOIdeal.Gen.k0_pay3 (F := Ideal) (six (V m c main_arg0)) := congrArg (fun x : Vec Ideal S24x8x128 .f32 => Cert.ReferenceOIdeal.Gen.k0_pay3 (F := Ideal) (six x)) (same_arg0 c h)
  exact (Cert.ReferenceOIdeal.Hand.final1 m' c).trans (e.trans (final1 m c).symm)
theorem same_res1 (c : Dev nD) (h : Same m m' c) : ((Cert.ReferenceOIdeal.Gen.dats m' 0 c).arrAt 2 Cert.ReferenceOIdeal.cfg0.N : Vec Ideal S1x24 .f32) = (dats m 0 c).arrAt 2 cfg0.N := by
  have e : Cert.ReferenceOIdeal.Gen.k0_pay4 (F := Ideal) (six (Cert.ReferenceOIdeal.Gen.V m' c Cert.ReferenceOIdeal.main_arg0)) = Cert.ReferenceOIdeal.Gen.k0_pay4 (F := Ideal) (six (V m c main_arg0)) := congrArg (fun x : Vec Ideal S24x8x128 .f32 => Cert.ReferenceOIdeal.Gen.k0_pay4 (F := Ideal) (six x)) (same_arg0 c h)
  exact (Cert.ReferenceOIdeal.Hand.final2 m' c).trans (e.trans (final2 m c).symm)

end Same

/-- From memories that agree on the attention, the codes and scales that the body leaves are the reference's. -/
theorem algebraic : Cert.algebraic_KernelOIdeal_ReferenceOIdeal (hKernelOIdeal := Cert.KernelOIdeal.Gen.facts) (hReferenceOIdeal := Cert.ReferenceOIdeal.Gen.facts) := by
  intro m g m' g' _ h
  refine ⟨fun c => (dats m 0 c).arrAt 1 cfg0.N, fun c => (dats m 0 c).arrAt 2 cfg0.N, run_blocks m g, ?_⟩
  refine (θ_run (Cert.ReferenceOIdeal.defs (F := Ideal)) _ _).mono (fun r k c => ?_) (Cert.ReferenceOIdeal.Value.run_blocks m' g')
  obtain ⟨k0, k1, ka⟩ := k c
  exact ⟨k0.trans (same_res0 c (h c)), k1.trans (same_res1 c (h c)), ka⟩

end Cert.KernelOIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.FrameIdeal
public import proofs.«01_k».proof.Proof.FrameBits
public import proofs.«01_k».proof.Proof.Gen.ReferenceIdeal.Value
public import proofs.«01_k».proof.Proof.AlgebraicIdeal
public import proofs.«01_k».proof.Proof.Gen.KernelH
public import proofs.«01_k».proof.Proof.Gen.KernelH.Skeleton
public import proofs.«01_k».proof.Proof.Gen.KernelH.Launch
public import proofs.«01_k».proof.Proof.Gen.KernelH.Points
public import proofs.«01_k».proof.Proof.Gen.KernelH.Frame
public import proofs.«01_k».proof.Proof.Gen.KernelHIdeal
public import proofs.«01_k».proof.Proof.Gen.KernelHIdeal.Skeleton
public import proofs.«01_k».proof.Proof.Gen.KernelHIdeal.Launch
public import proofs.«01_k».proof.Proof.Gen.KernelHIdeal.Points
public import proofs.«01_k».proof.Proof.Gen.KernelHIdeal.Frame
public import proofs.«01_k».proof.Proof.Gen.KernelHIdeal.Value
public import proofs.«01_k».proof.Proof.Gen.ReferenceHIdeal
public import proofs.«01_k».proof.Proof.Gen.ReferenceHIdeal.Skeleton
public import proofs.«01_k».proof.Proof.Gen.ReferenceHIdeal.Launch
public import proofs.«01_k».proof.Proof.Gen.ReferenceHIdeal.Points
public import proofs.«01_k».proof.Proof.Gen.ReferenceHIdeal.Frame
public import proofs.«01_k».proof.Proof.Gen.ReferenceHIdeal.Value
public import proofs.«01_k».proof.Proof.AlgebraicHIdeal
public import proofs.«01_k».proof.Proof.AlgebraicCIdeal
public import proofs.«01_k».proof.Proof.AlgebraicOIdeal
public import proofs.«01_k».proof.Proof.Gen.KernelC
public import proofs.«01_k».proof.Proof.Gen.KernelC.Skeleton
public import proofs.«01_k».proof.Proof.Gen.KernelC.Launch
public import proofs.«01_k».proof.Proof.Gen.KernelC.Points
public import proofs.«01_k».proof.Proof.Gen.KernelC.Frame
public import proofs.«01_k».proof.Proof.Gen.KernelCIdeal
public import proofs.«01_k».proof.Proof.Gen.KernelCIdeal.Skeleton
public import proofs.«01_k».proof.Proof.Gen.KernelCIdeal.Launch
public import proofs.«01_k».proof.Proof.Gen.KernelCIdeal.Points
public import proofs.«01_k».proof.Proof.Gen.KernelCIdeal.Frame
public import proofs.«01_k».proof.Proof.Gen.KernelCIdeal.Value
public import proofs.«01_k».proof.Proof.Gen.ReferenceCIdeal
public import proofs.«01_k».proof.Proof.Gen.ReferenceCIdeal.Skeleton
public import proofs.«01_k».proof.Proof.Gen.ReferenceCIdeal.Launch
public import proofs.«01_k».proof.Proof.Gen.ReferenceCIdeal.Points
public import proofs.«01_k».proof.Proof.Gen.ReferenceCIdeal.Frame
public import proofs.«01_k».proof.Proof.Gen.ReferenceCIdeal.Value
public import proofs.«01_k».proof.Proof.Gen.KernelO
public import proofs.«01_k».proof.Proof.Gen.KernelO.Skeleton
public import proofs.«01_k».proof.Proof.Gen.KernelO.Launch
public import proofs.«01_k».proof.Proof.Gen.KernelO.Points
public import proofs.«01_k».proof.Proof.Gen.KernelO.Frame
public import proofs.«01_k».proof.Proof.Gen.KernelOIdeal
public import proofs.«01_k».proof.Proof.Gen.KernelOIdeal.Skeleton
public import proofs.«01_k».proof.Proof.Gen.KernelOIdeal.Launch
public import proofs.«01_k».proof.Proof.Gen.KernelOIdeal.Points
public import proofs.«01_k».proof.Proof.Gen.KernelOIdeal.Frame
public import proofs.«01_k».proof.Proof.Gen.KernelOIdeal.Value
public import proofs.«01_k».proof.Proof.Gen.ReferenceOIdeal
public import proofs.«01_k».proof.Proof.Gen.ReferenceOIdeal.Skeleton
public import proofs.«01_k».proof.Proof.Gen.ReferenceOIdeal.Launch
public import proofs.«01_k».proof.Proof.Gen.ReferenceOIdeal.Points
public import proofs.«01_k».proof.Proof.Gen.ReferenceOIdeal.Frame
public import proofs.«01_k».proof.Proof.Gen.ReferenceOIdeal.Value
public import Idealize.ShloMosaic.Adequacy
public import Idealize.ShloMosaic.Init

@[expose] public section

noncomputable section

namespace Cert.Proof

open Idealize.ShloMosaic Idealize.SL.Sem Cert.Kernel

/-- The frames of the programs; each kernel idealized is the kernel; and it leaves what its reference leaves. -/
theorem claim : Cert.Claim := ⟨Cert.Kernel.Gen.facts, Cert.KernelIdeal.Gen.facts, Cert.ReferenceIdeal.Gen.facts,
  Cert.KernelH.Gen.facts, Cert.KernelHIdeal.Gen.facts, Cert.ReferenceHIdeal.Gen.facts,
  Cert.KernelC.Gen.facts, Cert.KernelCIdeal.Gen.facts, Cert.ReferenceCIdeal.Gen.facts,
  Cert.KernelO.Gen.facts, Cert.KernelOIdeal.Gen.facts, Cert.ReferenceOIdeal.Gen.facts,
  fun m ρ _ => Cert.Kernel.Hand.frame m ρ, fun m ρ _ => Cert.KernelIdeal.Hand.frame m ρ,
  fun m ρ _ => Cert.ReferenceIdeal.Gen.frame m ρ,
  fun m ρ _ => Cert.KernelH.Gen.frame m ρ, fun m ρ _ => Cert.KernelHIdeal.Gen.frame m ρ,
  fun m ρ _ => Cert.ReferenceHIdeal.Gen.frame m ρ,
  fun m ρ _ => Cert.KernelC.Gen.frame m ρ, fun m ρ _ => Cert.KernelCIdeal.Gen.frame m ρ,
  fun m ρ _ => Cert.ReferenceCIdeal.Gen.frame m ρ,
  fun m ρ _ => Cert.KernelO.Gen.frame m ρ, fun m ρ _ => Cert.KernelOIdeal.Gen.frame m ρ,
  fun m ρ _ => Cert.ReferenceOIdeal.Gen.frame m ρ,
  trivial, Cert.KernelIdeal.Hand.algebraic, trivial, Cert.KernelHIdeal.Hand.algebraic,
  trivial, Cert.KernelCIdeal.Hand.algebraic, trivial, Cert.KernelOIdeal.Hand.algebraic⟩

end Cert.Proof

end
